-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_merge_weights_finite [hPre_merge_weights_finite : Cert.Pre_merge_weights_finite.Facts] (m : (ℓ : Loc Cert.KernelIdeal.nD Cert.KernelIdeal.τ Cert.KernelIdeal.sig) → Buf (Elt Ideal) ℓ) : Prop :=
  ∀ c : Dev Cert.KernelIdeal.nD,
    (Cert.Pre_merge_weights_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).1 = (fun _ => 1#1)
    ∧ (Cert.Pre_merge_weights_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.1 = (fun _ => 1#1)
    ∧ (Cert.Pre_merge_weights_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_merge_weights_finite [hPre_merge_weights_finite : Cert.Pre_merge_weights_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_merge_weights_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).1 = (fun _ => 1#1)
    ∧ (Cert.Pre_merge_weights_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.1 = (fun _ => 1#1)
    ∧ (Cert.Pre_merge_weights_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_merge_weights_finite [hKernelIdeal : Cert.KernelIdeal.Facts] [hPre_merge_weights_finite : Cert.Pre_merge_weights_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_merge_weights_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_merge_weights_finite [hReferenceIdeal : Cert.ReferenceIdeal.Facts] [hPre_merge_weights_finite : Cert.Pre_merge_weights_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_merge_weights_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  IdealRules.named_const.Statement Cert.KernelIdeal.κ "inv_48" .f32 0x3CAAAAAB#32 ((48⁻¹ : ℝ) : EReal)
  ∧ IdealRules.named_const.Statement Cert.KernelIdeal.κ "inv_96" .f32 0x3C2AAAAB#32 ((96⁻¹ : ℝ) : EReal)

def algebraic_KernelIdeal_ReferenceIdeal_pre_merge_weights_finite [hKernelIdeal : Cert.KernelIdeal.Facts] [hReferenceIdeal : Cert.ReferenceIdeal.Facts] [hPre_merge_weights_finite : Cert.Pre_merge_weights_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_merge_weights_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v129)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v129) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v327) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_merge_weights_finite : Cert.Pre_merge_weights_finite.Facts),
    quiescent_Kernel (hKernel := hKernel)
    ∧ quiescent_KernelIdeal (hKernelIdeal := hKernelIdeal)
    ∧ quiescent_KernelIdeal_pre_merge_weights_finite (hKernelIdeal := hKernelIdeal) (hPre_merge_weights_finite := hPre_merge_weights_finite)
    ∧ quiescent_ReferenceIdeal (hReferenceIdeal := hReferenceIdeal)
    ∧ quiescent_ReferenceIdeal_pre_merge_weights_finite (hReferenceIdeal := hReferenceIdeal) (hPre_merge_weights_finite := hPre_merge_weights_finite)
    ∧ preserves_Kernel_KernelIdeal
    ∧ algebraic_KernelIdeal_ReferenceIdeal_pre_merge_weights_finite (hKernelIdeal := hKernelIdeal) (hReferenceIdeal := hReferenceIdeal) (hPre_merge_weights_finite := hPre_merge_weights_finite)
-- ==== Pre_merge_weights_finite.lean ====
abbrev S1x12x384x384 : Shape := ⟨4, ![1, 12, 384, 384]⟩
abbrev S12x12x3x3 : Shape := ⟨4, ![12, 12, 3, 3]⟩
abbrev S12 : Shape := ⟨1, ![12]⟩
abbrev S24x24x3x3 : Shape := ⟨4, ![24, 24, 3, 3]⟩
abbrev S24 : Shape := ⟨1, ![24]⟩
abbrev S1x12x3x3 : Shape := ⟨4, ![1, 12, 3, 3]⟩
abbrev S1 : Shape := ⟨1, ![1]⟩
abbrev S48 : Shape := ⟨1, ![48]⟩
abbrev S48x24 : Shape := ⟨2, ![48, 24]⟩
abbrev S96 : Shape := ⟨1, ![96]⟩
abbrev S96x48 : Shape := ⟨2, ![96, 48]⟩
abbrev S96x48x1x1 : Shape := ⟨4, ![96, 48, 1, 1]⟩
abbrev S48x24x1x1 : Shape := ⟨4, ![48, 24, 1, 1]⟩
abbrev S_ : Shape := ⟨0, ![]⟩

class Facts : Prop where
  bcast_S_S48 : S_.BroadcastsInDim S48 (![] : Fin 0 → Fin S48.rank)
  bcast_S_S48x24 : S_.BroadcastsInDim S48x24 (![] : Fin 0 → Fin S48x24.rank)

variable [Facts]

def fn {F : FTy → Type} [FloatOps F] (main_arg0 : FVec F S1x12x384x384 .f32) (main_arg1 : FVec F S12x12x3x3 .f32) (main_arg2 : FVec F S12 .f32) (main_arg3 : FVec F S24x24x3x3 .f32) (main_arg4 : FVec F S24 .f32) (main_arg5 : FVec F S12x12x3x3 .f32) (main_arg6 : FVec F S12 .f32) (main_arg7 : FVec F S1x12x3x3 .f32) (main_arg8 : FVec F S1 .f32) (main_arg9 : FVec F S48 .f32) (main_arg10 : FVec F S48 .f32) (main_arg11 : FVec F S48x24 .f32) (main_arg12 : FVec F S96 .f32) (main_arg13 : FVec F S96 .f32) (main_arg14 : FVec F S96x48 .f32) (main_arg15 : FVec F S96x48x1x1 .f32) (main_arg16 : FVec F S96 .f32) (main_arg17 : FVec F S48x24x1x1 .f32) (main_arg18 : FVec F S48 .f32) : IVec S48 1 × IVec S48 1 × IVec S48x24 1 :=
  let main_v0 : FVec F S48 .f32 := Host.absf main_arg9
  let main_cst : FVec F S_ .f32 := constant S_ .f32 0x7F800000#32
  let main_v1 : FVec F S48 .f32 := broadcastInDim S48 ![] bcast_S_S48 main_cst
  let main_v2 : IVec S48 1 := cmpf .olt main_v0 main_v1
  let main_v3 : FVec F S48 .f32 := Host.absf main_arg10
  let main_cst_0 : FVec F S_ .f32 := constant S_ .f32 0x7F800000#32
  let main_v4 : FVec F S48 .f32 := broadcastInDim S48 ![] bcast_S_S48 main_cst_0
  let main_v5 : IVec S48 1 := cmpf .olt main_v3 main_v4
  let main_v6 : FVec F S48x24 .f32 := Host.absf main_arg11
  let main_cst_1 : FVec F S_ .f32 := constant S_ .f32 0x7F800000#32
  let main_v7 : FVec F S48x24 .f32 := broadcastInDim S48x24 ![] bcast_S_S48x24 main_cst_1
  let main_v8 : IVec S48x24 1 := cmpf .olt main_v6 main_v7
  (main_v2, main_v5, main_v8)
-- ==== Kernel.lean ====
abbrev S1x12x384x384 : Shape := ⟨4, ![1, 12, 384, 384]⟩
abbrev S12x12x3x3 : Shape := ⟨4, ![12, 12, 3, 3]⟩
abbrev S12 : Shape := ⟨1, ![12]⟩
abbrev S24x24x3x3 : Shape := ⟨4, ![24, 24, 3, 3]⟩
abbrev S24 : Shape := ⟨1, ![24]⟩
abbrev S1x12x3x3 : Shape := ⟨4, ![1, 12, 3, 3]⟩
abbrev S1 : Shape := ⟨1, ![1]⟩
abbrev S48 : Shape := ⟨1, ![48]⟩
abbrev S48x24 : Shape := ⟨2, ![48, 24]⟩
abbrev S96 : Shape := ⟨1, ![96]⟩
abbrev S96x48 : Shape := ⟨2, ![96, 48]⟩
abbrev S96x48x1x1 : Shape := ⟨4, ![96, 48, 1, 1]⟩
abbrev S48x24x1x1 : Shape := ⟨4, ![48, 24, 1, 1]⟩
abbrev S12x384x384 : Shape := ⟨3, ![12, 384, 384]⟩
abbrev S_ : Shape := ⟨0, ![]⟩
abbrev S12x400x386 : Shape := ⟨3, ![12, 400, 386]⟩
abbrev S12x3x3x12 : Shape := ⟨4, ![12, 3, 3, 12]⟩
abbrev S108x12 : Shape := ⟨2, ![108, 12]⟩
abbrev S108x12x1 : Shape := ⟨3, ![108, 12, 1]⟩
abbrev S108x12x384 : Shape := ⟨3, ![108, 12, 384]⟩
abbrev S12x1 : Shape := ⟨2, ![12, 1]⟩
abbrev S12x384 : Shape := ⟨2, ![12, 384]⟩
abbrev S12x48x384 : Shape := ⟨3, ![12, 48, 384]⟩
abbrev S12x1x384 : Shape := ⟨3, ![12, 1, 384]⟩
abbrev S1x57x386 : Shape := ⟨3, ![1, 57, 386]⟩
abbrev S57x386 : Shape := ⟨2, ![57, 386]⟩
abbrev S1x12x384 : Shape := ⟨3, ![1, 12, 384]⟩
abbrev S48x384 : Shape := ⟨2, ![48, 384]⟩
abbrev S1x48x384 : Shape := ⟨3, ![1, 48, 384]⟩
abbrev S384 : Shape := ⟨1, ![384]⟩
abbrev S2x2x12 : Shape := ⟨3, ![2, 2, 12]⟩
abbrev S1x384 : Shape := ⟨2, ![1, 384]⟩
abbrev S1x2x12 : Shape := ⟨3, ![1, 2, 12]⟩
abbrev S2x12 : Shape := ⟨2, ![2, 12]⟩
abbrev S24x1 : Shape := ⟨2, ![24, 1]⟩
abbrev S24x384 : Shape := ⟨2, ![24, 384]⟩
abbrev S2x2x12x24 : Shape := ⟨4, ![2, 2, 12, 24]⟩
abbrev S1x1x384 : Shape := ⟨3, ![1, 1, 384]⟩
abbrev S1x2x12x24 : Shape := ⟨4, ![1, 2, 12, 24]⟩
abbrev S2x12x24 : Shape := ⟨3, ![2, 12, 24]⟩
abbrev S24x24 : Shape := ⟨2, ![24, 24]⟩
abbrev S24x24x1 : Shape := ⟨3, ![24, 24, 1]⟩
abbrev S24x24x384 : Shape := ⟨3, ![24, 24, 384]⟩
abbrev S24x192x384 : Shape := ⟨3, ![24, 192, 384]⟩
abbrev S12x24x2x384 : Shape := ⟨4, ![12, 24, 2, 384]⟩
abbrev S12x24x1x384 : Shape := ⟨4, ![12, 24, 1, 384]⟩
abbrev S12x24x384 : Shape := ⟨3, ![12, 24, 384]⟩
abbrev S24x383 : Shape := ⟨2, ![24, 383]⟩
abbrev S1x24x384 : Shape := ⟨3, ![1, 24, 384]⟩
abbrev S24x1x384 : Shape := ⟨3, ![24, 1, 384]⟩
abbrev S24x24x383 : Shape := ⟨3, ![24, 24, 383]⟩
abbrev S2x2x24 : Shape := ⟨3, ![2, 2, 24]⟩
abbrev S1x2x24 : Shape := ⟨3, ![1, 2, 24]⟩
abbrev S2x24 : Shape := ⟨2, ![2, 24]⟩
abbrev S48x1 : Shape := ⟨2, ![48, 1]⟩
abbrev S2x2x24x48 : Shape := ⟨4, ![2, 2, 24, 48]⟩
abbrev S1x2x24x48 : Shape := ⟨4, ![1, 2, 24, 48]⟩
abbrev S2x24x48 : Shape := ⟨3, ![2, 24, 48]⟩
abbrev S48x48 : Shape := ⟨2, ![48, 48]⟩
abbrev S48x48x1 : Shape := ⟨3, ![48, 48, 1]⟩
abbrev S48x48x384 : Shape := ⟨3, ![48, 48, 384]⟩
abbrev S48x96x384 : Shape := ⟨3, ![48, 96, 384]⟩
abbrev S48x16x384 : Shape := ⟨3, ![48, 16, 384]⟩
abbrev S24x32x384 : Shape := ⟨3, ![24, 32, 384]⟩
abbrev S24x16x2x384 : Shape := ⟨4, ![24, 16, 2, 384]⟩
abbrev S24x16x1x384 : Shape := ⟨4, ![24, 16, 1, 384]⟩
abbrev S24x16x384 : Shape := ⟨3, ![24, 16, 384]⟩
abbrev S16x384 : Shape := ⟨2, ![16, 384]⟩
abbrev S16x382 : Shape := ⟨2, ![16, 382]⟩
abbrev S16x2 : Shape := ⟨2, ![16, 2]⟩
abbrev S1x16x384 : Shape := ⟨3, ![1, 16, 384]⟩
abbrev S48x1x384 : Shape := ⟨3, ![48, 1, 384]⟩
abbrev S48x16x382 : Shape := ⟨3, ![48, 16, 382]⟩
abbrev S48x16x2 : Shape := ⟨3, ![48, 16, 2]⟩
abbrev S48x96 : Shape := ⟨2, ![48, 96]⟩
abbrev S48x96x1 : Shape := ⟨3, ![48, 96, 1]⟩
abbrev S96x1 : Shape := ⟨2, ![96, 1]⟩
abbrev S96x384 : Shape := ⟨2, ![96, 384]⟩
abbrev S24x208x388 : Shape := ⟨3, ![24, 208, 388]⟩
abbrev S96x16x384 : Shape := ⟨3, ![96, 16, 384]⟩
abbrev S24x8x388 : Shape := ⟨3, ![24, 8, 388]⟩
abbrev S24x208x2 : Shape := ⟨3, ![24, 208, 2]⟩
abbrev S96x1x384 : Shape := ⟨3, ![96, 1, 384]⟩
abbrev S1x96x384 : Shape := ⟨3, ![1, 96, 384]⟩
abbrev S16x1x384 : Shape := ⟨3, ![16, 1, 384]⟩
abbrev S16x2x384 : Shape := ⟨3, ![16, 2, 384]⟩
abbrev S32x384 : Shape := ⟨2, ![32, 384]⟩
abbrev S1x32x384 : Shape := ⟨3, ![1, 32, 384]⟩
abbrev S24x3x3x24 : Shape := ⟨4, ![24, 3, 3, 24]⟩
abbrev S216x24 : Shape := ⟨2, ![216, 24]⟩
abbrev S216x24x1 : Shape := ⟨3, ![216, 24, 1]⟩
abbrev S216x24x384 : Shape := ⟨3, ![216, 24, 384]⟩
abbrev S1x33x388 : Shape := ⟨3, ![1, 33, 388]⟩
abbrev S33x388 : Shape := ⟨2, ![33, 388]⟩
abbrev S24x48 : Shape := ⟨2, ![24, 48]⟩
abbrev S24x48x1 : Shape := ⟨3, ![24, 48, 1]⟩
abbrev S24x48x384 : Shape := ⟨3, ![24, 48, 384]⟩
abbrev S48x24x384 : Shape := ⟨3, ![48, 24, 384]⟩
abbrev S12x8x386 : Shape := ⟨3, ![12, 8, 386]⟩
abbrev S12x400x1 : Shape := ⟨3, ![12, 400, 1]⟩
abbrev S24x2x384 : Shape := ⟨3, ![24, 2, 384]⟩
abbrev S12x3x3x1 : Shape := ⟨4, ![12, 3, 3, 1]⟩
abbrev S108x1 : Shape := ⟨2, ![108, 1]⟩
abbrev S108x1x1 : Shape := ⟨3, ![108, 1, 1]⟩
abbrev S108x1x384 : Shape := ⟨3, ![108, 1, 384]⟩
abbrev S1x1 : Shape := ⟨2, ![1, 1]⟩
abbrev S1x384x384 : Shape := ⟨3, ![1, 384, 384]⟩
abbrev S1x1x384x384 : Shape := ⟨4, ![1, 1, 384, 384]⟩

abbrev nBuf : Space → Nat
  | .hbm => 247
  | .vmem => 47
  | .smem => 0
  | _ => 0

abbrev hbmTy0_0 (i : Nat) : BufTy := match i % 128 with
  | 0 => ⟨S1x12x384x384, .f32⟩
  | 1 => ⟨S12x12x3x3, .f32⟩
  | 2 => ⟨S12, .f32⟩
  | 3 => ⟨S24x24x3x3, .f32⟩
  | 4 => ⟨S24, .f32⟩
  | 5 => ⟨S12x12x3x3, .f32⟩
  | 6 => ⟨S12, .f32⟩
  | 7 => ⟨S1x12x3x3, .f32⟩
  | 8 => ⟨S1, .f32⟩
  | 9 => ⟨S48, .f32⟩
  | 10 => ⟨S48, .f32⟩
  | 11 => ⟨S48x24, .f32⟩
  | 12 => ⟨S96, .f32⟩
  | 13 => ⟨S96, .f32⟩
  | 14 => ⟨S96x48, .f32⟩
  | 15 => ⟨S96x48x1x1, .f32⟩
  | 16 => ⟨S96, .f32⟩
  | 17 => ⟨S48x24x1x1, .f32⟩
  | 18 => ⟨S48, .f32⟩
  | 19 => ⟨S12x384x384, .f32⟩
  | 20 => ⟨S_, .i32⟩
  | 21 => ⟨S_, .f32⟩
  | 22 => ⟨S12x400x386, .f32⟩
  | 23 => ⟨S12x3x3x12, .f32⟩
  | 24 => ⟨S108x12, .f32⟩
  | 25 => ⟨S108x12x1, .f32⟩
  | 26 => ⟨S108x12x384, .f32⟩
  | 27 => ⟨S12x1, .f32⟩
  | 28 => ⟨S12x384, .f32⟩
  | 29 => ⟨S12x384x384, .f32⟩
  | 30 => ⟨S384, .i32⟩
  | 31 => ⟨S_, .i32⟩
  | 32 => ⟨S_, .i32⟩
  | 33 => ⟨S384, .i32⟩
  | 34 => ⟨S384, .i32⟩
  | 35 => ⟨S384, .i32⟩
  | 36 => ⟨S_, .i32⟩
  | 37 => ⟨S384, .i32⟩
  | 38 => ⟨S384, .i1⟩
  | 39 => ⟨S384, .i32⟩
  | 40 => ⟨S384, .i32⟩
  | 41 => ⟨S_, .i32⟩
  | 42 => ⟨S384, .i32⟩
  | 43 => ⟨S384, .i1⟩
  | 44 => ⟨S384, .i1⟩
  | 45 => ⟨S_, .i32⟩
  | 46 => ⟨S384, .i32⟩
  | 47 => ⟨S384, .i32⟩
  | 48 => ⟨S384, .i32⟩
  | 49 => ⟨S_, .i32⟩
  | 50 => ⟨S_, .i32⟩
  | 51 => ⟨S_, .i32⟩
  | 52 => ⟨S_, .i1⟩
  | 53 => ⟨S_, .i32⟩
  | 54 => ⟨S_, .i32⟩
  | 55 => ⟨S384, .i32⟩
  | 56 => ⟨S384, .i32⟩
  | 57 => ⟨S_, .i32⟩
  | 58 => ⟨S384, .i32⟩
  | 59 => ⟨S384, .i1⟩
  | 60 => ⟨S_, .i32⟩
  | 61 => ⟨S384, .i32⟩
  | 62 => ⟨S384, .i1⟩
  | 63 => ⟨S_, .i32⟩
  | 64 => ⟨S_, .i1⟩
  | 65 => ⟨S384, .i1⟩
  | 66 => ⟨S384, .i1⟩
  | 67 => ⟨S384, .i1⟩
  | 68 => ⟨S384, .i32⟩
  | 69 => ⟨S384, .i32⟩
  | 70 => ⟨S384, .i32⟩
  | 71 => ⟨S_, .i32⟩
  | 72 => ⟨S384, .i32⟩
  | 73 => ⟨S384, .i1⟩
  | 74 => ⟨S2x2x12, .f32⟩
  | 75 => ⟨S1x384, .i1⟩
  | 76 => ⟨S1x2x12, .f32⟩
  | 77 => ⟨S2x12, .f32⟩
  | 78 => ⟨S24, .f32⟩
  | 79 => ⟨S24x1, .f32⟩
  | 80 => ⟨S1x2x12, .f32⟩
  | 81 => ⟨S2x12, .f32⟩
  | 82 => ⟨S24, .f32⟩
  | 83 => ⟨S24x1, .f32⟩
  | 84 => ⟨S24x384, .i1⟩
  | 85 => ⟨S24x384, .f32⟩
  | 86 => ⟨S24x384, .f32⟩
  | 87 => ⟨S24x384, .f32⟩
  | 88 => ⟨S2x2x12, .f32⟩
  | 89 => ⟨S1x384, .i1⟩
  | 90 => ⟨S1x2x12, .f32⟩
  | 91 => ⟨S2x12, .f32⟩
  | 92 => ⟨S24, .f32⟩
  | 93 => ⟨S24x1, .f32⟩
  | 94 => ⟨S1x2x12, .f32⟩
  | 95 => ⟨S2x12, .f32⟩
  | 96 => ⟨S24, .f32⟩
  | 97 => ⟨S24x1, .f32⟩
  | 98 => ⟨S24x384, .i1⟩
  | 99 => ⟨S24x384, .f32⟩
  | 100 => ⟨S24x384, .f32⟩
  | 101 => ⟨S24x384, .f32⟩
  | 102 => ⟨S2x2x12x24, .f32⟩
  | 103 => ⟨S1x1x384, .i1⟩
  | 104 => ⟨S1x2x12x24, .f32⟩
  | 105 => ⟨S2x12x24, .f32⟩
  | 106 => ⟨S24x24, .f32⟩
  | 107 => ⟨S24x24x1, .f32⟩
  | 108 => ⟨S1x2x12x24, .f32⟩
  | 109 => ⟨S2x12x24, .f32⟩
  | 110 => ⟨S24x24, .f32⟩
  | 111 => ⟨S24x24x1, .f32⟩
  | 112 => ⟨S24x24x384, .i1⟩
  | 113 => ⟨S24x24x384, .f32⟩
  | 114 => ⟨S24x24x384, .f32⟩
  | 115 => ⟨S24x24x384, .f32⟩
  | 116 => ⟨S24x192x384, .f32⟩
  | 117 => ⟨S384, .i32⟩
  | 118 => ⟨S_, .i32⟩
  | 119 => ⟨S_, .i32⟩
  | 120 => ⟨S384, .i32⟩
  | 121 => ⟨S384, .i32⟩
  | 122 => ⟨S384, .i32⟩
  | 123 => ⟨S_, .i32⟩
  | 124 => ⟨S384, .i32⟩
  | 125 => ⟨S384, .i1⟩
  | 126 => ⟨S384, .i32⟩
  | 127 => ⟨S384, .i32⟩
  | _ => ⟨S1x12x384x384, .f32⟩

abbrev hbmTy0_1 (i : Nat) : BufTy := match i % 128 with
  | 0 => ⟨S_, .i32⟩
  | 1 => ⟨S384, .i32⟩
  | 2 => ⟨S384, .i1⟩
  | 3 => ⟨S384, .i1⟩
  | 4 => ⟨S_, .i32⟩
  | 5 => ⟨S384, .i32⟩
  | 6 => ⟨S384, .i32⟩
  | 7 => ⟨S384, .i32⟩
  | 8 => ⟨S_, .i32⟩
  | 9 => ⟨S_, .i32⟩
  | 10 => ⟨S_, .i32⟩
  | 11 => ⟨S_, .i1⟩
  | 12 => ⟨S_, .i32⟩
  | 13 => ⟨S_, .i32⟩
  | 14 => ⟨S384, .i32⟩
  | 15 => ⟨S384, .i32⟩
  | 16 => ⟨S_, .i32⟩
  | 17 => ⟨S384, .i32⟩
  | 18 => ⟨S384, .i1⟩
  | 19 => ⟨S_, .i32⟩
  | 20 => ⟨S384, .i32⟩
  | 21 => ⟨S384, .i1⟩
  | 22 => ⟨S_, .i32⟩
  | 23 => ⟨S_, .i1⟩
  | 24 => ⟨S384, .i1⟩
  | 25 => ⟨S384, .i1⟩
  | 26 => ⟨S384, .i1⟩
  | 27 => ⟨S384, .i32⟩
  | 28 => ⟨S384, .i32⟩
  | 29 => ⟨S384, .i32⟩
  | 30 => ⟨S_, .i32⟩
  | 31 => ⟨S384, .i32⟩
  | 32 => ⟨S384, .i1⟩
  | 33 => ⟨S2x2x24, .f32⟩
  | 34 => ⟨S1x384, .i1⟩
  | 35 => ⟨S1x2x24, .f32⟩
  | 36 => ⟨S2x24, .f32⟩
  | 37 => ⟨S48, .f32⟩
  | 38 => ⟨S48x1, .f32⟩
  | 39 => ⟨S1x2x24, .f32⟩
  | 40 => ⟨S2x24, .f32⟩
  | 41 => ⟨S48, .f32⟩
  | 42 => ⟨S48x1, .f32⟩
  | 43 => ⟨S48x384, .i1⟩
  | 44 => ⟨S48x384, .f32⟩
  | 45 => ⟨S48x384, .f32⟩
  | 46 => ⟨S48x384, .f32⟩
  | 47 => ⟨S2x2x24, .f32⟩
  | 48 => ⟨S1x384, .i1⟩
  | 49 => ⟨S1x2x24, .f32⟩
  | 50 => ⟨S2x24, .f32⟩
  | 51 => ⟨S48, .f32⟩
  | 52 => ⟨S48x1, .f32⟩
  | 53 => ⟨S1x2x24, .f32⟩
  | 54 => ⟨S2x24, .f32⟩
  | 55 => ⟨S48, .f32⟩
  | 56 => ⟨S48x1, .f32⟩
  | 57 => ⟨S48x384, .i1⟩
  | 58 => ⟨S48x384, .f32⟩
  | 59 => ⟨S48x384, .f32⟩
  | 60 => ⟨S48x384, .f32⟩
  | 61 => ⟨S2x2x24x48, .f32⟩
  | 62 => ⟨S1x1x384, .i1⟩
  | 63 => ⟨S1x2x24x48, .f32⟩
  | 64 => ⟨S2x24x48, .f32⟩
  | 65 => ⟨S48x48, .f32⟩
  | 66 => ⟨S48x48x1, .f32⟩
  | 67 => ⟨S1x2x24x48, .f32⟩
  | 68 => ⟨S2x24x48, .f32⟩
  | 69 => ⟨S48x48, .f32⟩
  | 70 => ⟨S48x48x1, .f32⟩
  | 71 => ⟨S48x48x384, .i1⟩
  | 72 => ⟨S48x48x384, .f32⟩
  | 73 => ⟨S48x48x384, .f32⟩
  | 74 => ⟨S48x48x384, .f32⟩
  | 75 => ⟨S48x96x384, .f32⟩
  | 76 => ⟨S96x48, .f32⟩
  | 77 => ⟨S48x96, .f32⟩
  | 78 => ⟨S48x96x1, .f32⟩
  | 79 => ⟨S48x96x384, .f32⟩
  | 80 => ⟨S96x1, .f32⟩
  | 81 => ⟨S96x384, .f32⟩
  | 82 => ⟨S24x208x388, .f32⟩
  | 83 => ⟨S24x3x3x24, .f32⟩
  | 84 => ⟨S216x24, .f32⟩
  | 85 => ⟨S216x24x1, .f32⟩
  | 86 => ⟨S216x24x384, .f32⟩
  | 87 => ⟨S24x1, .f32⟩
  | 88 => ⟨S24x384, .f32⟩
  | 89 => ⟨S24x192x384, .f32⟩
  | 90 => ⟨S48x24, .f32⟩
  | 91 => ⟨S24x48, .f32⟩
  | 92 => ⟨S24x48x1, .f32⟩
  | 93 => ⟨S24x48x384, .f32⟩
  | 94 => ⟨S48x1, .f32⟩
  | 95 => ⟨S48x384, .f32⟩
  | 96 => ⟨S12x400x386, .f32⟩
  | 97 => ⟨S12x3x3x12, .f32⟩
  | 98 => ⟨S108x12, .f32⟩
  | 99 => ⟨S108x12x1, .f32⟩
  | 100 => ⟨S108x12x384, .f32⟩
  | 101 => ⟨S12x1, .f32⟩
  | 102 => ⟨S12x384, .f32⟩
  | 103 => ⟨S12x400x386, .f32⟩
  | 104 => ⟨S12x3x3x12, .f32⟩
  | 105 => ⟨S108x12, .f32⟩
  | 106 => ⟨S108x12x1, .f32⟩
  | 107 => ⟨S108x12x384, .f32⟩
  | 108 => ⟨S12x1, .f32⟩
  | 109 => ⟨S12x384, .f32⟩
  | 110 => ⟨S12x400x386, .f32⟩
  | 111 => ⟨S12x3x3x1, .f32⟩
  | 112 => ⟨S108x1, .f32⟩
  | 113 => ⟨S108x1x1, .f32⟩
  | 114 => ⟨S108x1x384, .f32⟩
  | 115 => ⟨S1x1, .f32⟩
  | 116 => ⟨S1x384, .f32⟩
  | 117 => ⟨S1x384x384, .f32⟩
  | 118 => ⟨S1x1x384x384, .f32⟩
  | _ => ⟨S1x12x384x384, .f32⟩

abbrev hbmTy (i : Nat) : BufTy := match i / 128 with
  | 0 => hbmTy0_0 i
  | 1 => hbmTy0_1 i
  | _ => ⟨S1x12x384x384, .f32⟩

abbrev bufTy : (tb : Table) → Fin (tcTables nBuf tb) → BufTy
  | .hbm, ⟨i, _⟩ => hbmTy i
  | .local _ .vmem, ⟨0, _⟩ => ⟨S12x400x386, .f32⟩
  | .local _ .vmem, ⟨1, _⟩ => ⟨S108x12x384, .f32⟩
  | .local _ .vmem, ⟨2, _⟩ => ⟨S12x384, .f32⟩
  | .local _ .vmem, ⟨3, _⟩ => ⟨S12x384x384, .f32⟩
  | .local _ .vmem, ⟨4, _⟩ => ⟨S12x48x384, .f32⟩
  | .local _ .vmem, ⟨5, _⟩ => ⟨S12x384x384, .f32⟩
  | .local _ .vmem, ⟨6, _⟩ => ⟨S24x384, .f32⟩
  | .local _ .vmem, ⟨7, _⟩ => ⟨S24x384, .f32⟩
  | .local _ .vmem, ⟨8, _⟩ => ⟨S24x24x384, .f32⟩
  | .local _ .vmem, ⟨9, _⟩ => ⟨S24x192x384, .f32⟩
  | .local _ .vmem, ⟨10, _⟩ => ⟨S24x24x384, .f32⟩
  | .local _ .vmem, ⟨11, _⟩ => ⟨S24x192x384, .f32⟩
  | .local _ .vmem, ⟨12, _⟩ => ⟨S48x384, .f32⟩
  | .local _ .vmem, ⟨13, _⟩ => ⟨S48x384, .f32⟩
  | .local _ .vmem, ⟨14, _⟩ => ⟨S48x48x384, .f32⟩
  | .local _ .vmem, ⟨15, _⟩ => ⟨S48x96x384, .f32⟩
  | .local _ .vmem, ⟨16, _⟩ => ⟨S48x16x384, .f32⟩
  | .local _ .vmem, ⟨17, _⟩ => ⟨S48x96x384, .f32⟩
  | .local _ .vmem, ⟨18, _⟩ => ⟨S48x96x384, .f32⟩
  | .local _ .vmem, ⟨19, _⟩ => ⟨S96x384, .f32⟩
  | .local _ .vmem, ⟨20, _⟩ => ⟨S24x208x388, .f32⟩
  | .local _ .vmem, ⟨21, _⟩ => ⟨S96x16x384, .f32⟩
  | .local _ .vmem, ⟨22, _⟩ => ⟨S24x208x388, .f32⟩
  | .local _ .vmem, ⟨23, _⟩ => ⟨S216x24x384, .f32⟩
  | .local _ .vmem, ⟨24, _⟩ => ⟨S24x384, .f32⟩
  | .local _ .vmem, ⟨25, _⟩ => ⟨S24x192x384, .f32⟩
  | .local _ .vmem, ⟨26, _⟩ => ⟨S24x24x384, .f32⟩
  | .local _ .vmem, ⟨27, _⟩ => ⟨S24x192x384, .f32⟩
  | .local _ .vmem, ⟨28, _⟩ => ⟨S24x48x384, .f32⟩
  | .local _ .vmem, ⟨29, _⟩ => ⟨S48x384, .f32⟩
  | .local _ .vmem, ⟨30, _⟩ => ⟨S12x400x386, .f32⟩
  | .local _ .vmem, ⟨31, _⟩ => ⟨S48x24x384, .f32⟩
  | .local _ .vmem, ⟨32, _⟩ => ⟨S12x400x386, .f32⟩
  | .local _ .vmem, ⟨33, _⟩ => ⟨S108x12x384, .f32⟩
  | .local _ .vmem, ⟨34, _⟩ => ⟨S12x384, .f32⟩
  | .local _ .vmem, ⟨35, _⟩ => ⟨S12x400x386, .f32⟩
  | .local _ .vmem, ⟨36, _⟩ => ⟨S12x48x384, .f32⟩
  | .local _ .vmem, ⟨37, _⟩ => ⟨S12x400x386, .f32⟩
  | .local _ .vmem, ⟨38, _⟩ => ⟨S108x12x384, .f32⟩
  | .local _ .vmem, ⟨39, _⟩ => ⟨S12x384, .f32⟩
  | .local _ .vmem, ⟨40, _⟩ => ⟨S12x400x386, .f32⟩
  | .local _ .vmem, ⟨41, _⟩ => ⟨S12x48x384, .f32⟩
  | .local _ .vmem, ⟨42, _⟩ => ⟨S12x400x386, .f32⟩
  | .local _ .vmem, ⟨43, _⟩ => ⟨S108x1x384, .f32⟩
  | .local _ .vmem, ⟨44, _⟩ => ⟨S1x384, .f32⟩
  | .local _ .vmem, ⟨45, _⟩ => ⟨S1x384x384, .f32⟩
  | .local _ .vmem, ⟨46, _⟩ => ⟨S1x48x384, .f32⟩
  | _, _ => ⟨S1x12x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_c : Ref sig .tc := ⟨.hbm, 20, rfl⟩
abbrev main_call0_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_c_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_c : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_0 : Ref sig .tc := ⟨.hbm, 45, rfl⟩
abbrev main_call1_v12 : Ref sig .tc := ⟨.hbm, 46, rfl⟩
abbrev main_call1_v13 : Ref sig .tc := ⟨.hbm, 47, rfl⟩
abbrev main_v10 : Ref sig .tc := ⟨.hbm, 48, rfl⟩
abbrev main_c_1 : Ref sig .tc := ⟨.hbm, 49, rfl⟩
abbrev main_call2_v0 : Ref sig .tc := ⟨.hbm, 50, rfl⟩
abbrev main_call2_c : Ref sig .tc := ⟨.hbm, 51, rfl⟩
abbrev main_call2_v1 : Ref sig .tc := ⟨.hbm, 52, rfl⟩
abbrev main_call2_c_0 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_c_1 : Ref sig .tc := ⟨.hbm, 57, rfl⟩
abbrev main_call2_v5 : Ref sig .tc := ⟨.hbm, 58, rfl⟩
abbrev main_call2_v6 : Ref sig .tc := ⟨.hbm, 59, rfl⟩
abbrev main_call2_c_2 : Ref sig .tc := ⟨.hbm, 60, rfl⟩
abbrev main_call2_v7 : Ref sig .tc := ⟨.hbm, 61, rfl⟩
abbrev main_call2_v8 : Ref sig .tc := ⟨.hbm, 62, rfl⟩
abbrev main_call2_c_3 : Ref sig .tc := ⟨.hbm, 63, rfl⟩
abbrev main_call2_v9 : Ref sig .tc := ⟨.hbm, 64, rfl⟩
abbrev main_call2_v10 : Ref sig .tc := ⟨.hbm, 65, rfl⟩
abbrev main_call2_v11 : Ref sig .tc := ⟨.hbm, 66, rfl⟩
abbrev main_call2_v12 : Ref sig .tc := ⟨.hbm, 67, rfl⟩
abbrev main_call2_v13 : Ref sig .tc := ⟨.hbm, 68, rfl⟩
abbrev main_call2_v14 : Ref sig .tc := ⟨.hbm, 69, rfl⟩
abbrev main_v11 : Ref sig .tc := ⟨.hbm, 70, rfl⟩
abbrev main_c_2 : Ref sig .tc := ⟨.hbm, 71, rfl⟩
abbrev main_v12 : Ref sig .tc := ⟨.hbm, 72, rfl⟩
abbrev main_v13 : Ref sig .tc := ⟨.hbm, 73, rfl⟩
abbrev main_v14 : Ref sig .tc := ⟨.hbm, 74, rfl⟩
abbrev main_v15 : Ref sig .tc := ⟨.hbm, 75, rfl⟩
abbrev main_v16 : Ref sig .tc := ⟨.hbm, 76, rfl⟩
abbrev main_v17 : Ref sig .tc := ⟨.hbm, 77, rfl⟩
abbrev main_v18 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev main_v22 : Ref sig .tc := ⟨.hbm, 82, rfl⟩
abbrev main_v23 : Ref sig .tc := ⟨.hbm, 83, rfl⟩
abbrev main_call3_v0 : Ref sig .tc := ⟨.hbm, 84, rfl⟩
abbrev main_call3_v1 : Ref sig .tc := ⟨.hbm, 85, rfl⟩
abbrev main_call3_v2 : Ref sig .tc := ⟨.hbm, 86, rfl⟩
abbrev main_v24 : Ref sig .tc := ⟨.hbm, 87, rfl⟩
abbrev main_v25 : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_v31 : Ref sig .tc := ⟨.hbm, 94, rfl⟩
abbrev main_v32 : Ref sig .tc := ⟨.hbm, 95, rfl⟩
abbrev main_v33 : Ref sig .tc := ⟨.hbm, 96, rfl⟩
abbrev main_v34 : Ref sig .tc := ⟨.hbm, 97, rfl⟩
abbrev main_call4_v0 : Ref sig .tc := ⟨.hbm, 98, rfl⟩
abbrev main_call4_v1 : Ref sig .tc := ⟨.hbm, 99, rfl⟩
abbrev main_call4_v2 : Ref sig .tc := ⟨.hbm, 100, rfl⟩
abbrev main_v35 : Ref sig .tc := ⟨.hbm, 101, rfl⟩
abbrev main_v36 : Ref sig .tc := ⟨.hbm, 102, rfl⟩
abbrev main_v37 : Ref sig .tc := ⟨.hbm, 103, rfl⟩
abbrev main_v38 : Ref sig .tc := ⟨.hbm, 104, rfl⟩
abbrev main_v39 : Ref sig .tc := ⟨.hbm, 105, rfl⟩
abbrev main_v40 : Ref sig .tc := ⟨.hbm, 106, rfl⟩
abbrev main_v41 : Ref sig .tc := ⟨.hbm, 107, rfl⟩
abbrev main_v42 : Ref sig .tc := ⟨.hbm, 108, rfl⟩
abbrev main_v43 : Ref sig .tc := ⟨.hbm, 109, rfl⟩
abbrev main_v44 : Ref sig .tc := ⟨.hbm, 110, rfl⟩
abbrev main_v45 : Ref sig .tc := ⟨.hbm, 111, rfl⟩
abbrev main_call5_v0 : Ref sig .tc := ⟨.hbm, 112, rfl⟩
abbrev main_call5_v1 : Ref sig .tc := ⟨.hbm, 113, rfl⟩
abbrev main_call5_v2 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev main_c_3 : Ref sig .tc := ⟨.hbm, 118, rfl⟩
abbrev main_call6_v0 : Ref sig .tc := ⟨.hbm, 119, rfl⟩
abbrev main_call6_v1 : Ref sig .tc := ⟨.hbm, 120, rfl⟩
abbrev main_call6_v2 : Ref sig .tc := ⟨.hbm, 121, rfl⟩
abbrev main_call6_v3 : Ref sig .tc := ⟨.hbm, 122, rfl⟩
abbrev main_call6_v4 : Ref sig .tc := ⟨.hbm, 123, rfl⟩
abbrev main_call6_v5 : Ref sig .tc := ⟨.hbm, 124, rfl⟩
abbrev main_call6_v6 : Ref sig .tc := ⟨.hbm, 125, rfl⟩
abbrev main_call6_v7 : Ref sig .tc := ⟨.hbm, 126, rfl⟩
abbrev main_call6_v8 : Ref sig .tc := ⟨.hbm, 127, rfl⟩
abbrev main_call6_c : Ref sig .tc := ⟨.hbm, 128, rfl⟩
abbrev main_call6_v9 : Ref sig .tc := ⟨.hbm, 129, rfl⟩
abbrev main_call6_v10 : Ref sig .tc := ⟨.hbm, 130, rfl⟩
abbrev main_call6_v11 : Ref sig .tc := ⟨.hbm, 131, rfl⟩
abbrev main_call6_c_0 : Ref sig .tc := ⟨.hbm, 132, rfl⟩
abbrev main_call6_v12 : Ref sig .tc := ⟨.hbm, 133, rfl⟩
abbrev main_call6_v13 : Ref sig .tc := ⟨.hbm, 134, rfl⟩
abbrev main_v49 : Ref sig .tc := ⟨.hbm, 135, rfl⟩
abbrev main_c_4 : Ref sig .tc := ⟨.hbm, 136, rfl⟩
abbrev main_call7_v0 : Ref sig .tc := ⟨.hbm, 137, rfl⟩
abbrev main_call7_c : Ref sig .tc := ⟨.hbm, 138, rfl⟩
abbrev main_call7_v1 : Ref sig .tc := ⟨.hbm, 139, rfl⟩
abbrev main_call7_c_0 : Ref sig .tc := ⟨.hbm, 140, rfl⟩
abbrev main_call7_v2 : Ref sig .tc := ⟨.hbm, 141, rfl⟩
abbrev main_call7_v3 : Ref sig .tc := ⟨.hbm, 142, rfl⟩
abbrev main_call7_v4 : Ref sig .tc := ⟨.hbm, 143, rfl⟩
abbrev main_call7_c_1 : Ref sig .tc := ⟨.hbm, 144, rfl⟩
abbrev main_call7_v5 : Ref sig .tc := ⟨.hbm, 145, rfl⟩
abbrev main_call7_v6 : Ref sig .tc := ⟨.hbm, 146, rfl⟩
abbrev main_call7_c_2 : Ref sig .tc := ⟨.hbm, 147, rfl⟩
abbrev main_call7_v7 : Ref sig .tc := ⟨.hbm, 148, rfl⟩
abbrev main_call7_v8 : Ref sig .tc := ⟨.hbm, 149, rfl⟩
abbrev main_call7_c_3 : Ref sig .tc := ⟨.hbm, 150, rfl⟩
abbrev main_call7_v9 : Ref sig .tc := ⟨.hbm, 151, rfl⟩
abbrev main_call7_v10 : Ref sig .tc := ⟨.hbm, 152, rfl⟩
abbrev main_call7_v11 : Ref sig .tc := ⟨.hbm, 153, rfl⟩
abbrev main_call7_v12 : Ref sig .tc := ⟨.hbm, 154, rfl⟩
abbrev main_call7_v13 : Ref sig .tc := ⟨.hbm, 155, rfl⟩
abbrev main_call7_v14 : Ref sig .tc := ⟨.hbm, 156, rfl⟩
abbrev main_v50 : Ref sig .tc := ⟨.hbm, 157, rfl⟩
abbrev main_c_5 : Ref sig .tc := ⟨.hbm, 158, rfl⟩
abbrev main_v51 : Ref sig .tc := ⟨.hbm, 159, rfl⟩
abbrev main_v52 : Ref sig .tc := ⟨.hbm, 160, rfl⟩
abbrev main_v53 : Ref sig .tc := ⟨.hbm, 161, rfl⟩
abbrev main_v54 : Ref sig .tc := ⟨.hbm, 162, rfl⟩
abbrev main_v55 : Ref sig .tc := ⟨.hbm, 163, rfl⟩
abbrev main_v56 : Ref sig .tc := ⟨.hbm, 164, rfl⟩
abbrev main_v57 : Ref sig .tc := ⟨.hbm, 165, rfl⟩
abbrev main_v58 : Ref sig .tc := ⟨.hbm, 166, rfl⟩
abbrev main_v59 : Ref sig .tc := ⟨.hbm, 167, rfl⟩
abbrev main_v60 : Ref sig .tc := ⟨.hbm, 168, rfl⟩
abbrev main_v61 : Ref sig .tc := ⟨.hbm, 169, rfl⟩
abbrev main_v62 : Ref sig .tc := ⟨.hbm, 170, rfl⟩
abbrev main_call8_v0 : Ref sig .tc := ⟨.hbm, 171, rfl⟩
abbrev main_call8_v1 : Ref sig .tc := ⟨.hbm, 172, rfl⟩
abbrev main_call8_v2 : Ref sig .tc := ⟨.hbm, 173, rfl⟩
abbrev main_v63 : Ref sig .tc := ⟨.hbm, 174, rfl⟩
abbrev main_v64 : Ref sig .tc := ⟨.hbm, 175, rfl⟩
abbrev main_v65 : Ref sig .tc := ⟨.hbm, 176, rfl⟩
abbrev main_v66 : Ref sig .tc := ⟨.hbm, 177, rfl⟩
abbrev main_v67 : Ref sig .tc := ⟨.hbm, 178, rfl⟩
abbrev main_v68 : Ref sig .tc := ⟨.hbm, 179, rfl⟩
abbrev main_v69 : Ref sig .tc := ⟨.hbm, 180, rfl⟩
abbrev main_v70 : Ref sig .tc := ⟨.hbm, 181, rfl⟩
abbrev main_v71 : Ref sig .tc := ⟨.hbm, 182, rfl⟩
abbrev main_v72 : Ref sig .tc := ⟨.hbm, 183, rfl⟩
abbrev main_v73 : Ref sig .tc := ⟨.hbm, 184, rfl⟩
abbrev main_call9_v0 : Ref sig .tc := ⟨.hbm, 185, rfl⟩
abbrev main_call9_v1 : Ref sig .tc := ⟨.hbm, 186, rfl⟩
abbrev main_call9_v2 : Ref sig .tc := ⟨.hbm, 187, rfl⟩
abbrev main_v74 : Ref sig .tc := ⟨.hbm, 188, rfl⟩
abbrev main_v75 : Ref sig .tc := ⟨.hbm, 189, rfl⟩
abbrev main_v76 : Ref sig .tc := ⟨.hbm, 190, rfl⟩
abbrev main_v77 : Ref sig .tc := ⟨.hbm, 191, rfl⟩
abbrev main_v78 : Ref sig .tc := ⟨.hbm, 192, rfl⟩
abbrev main_v79 : Ref sig .tc := ⟨.hbm, 193, rfl⟩
abbrev main_v80 : Ref sig .tc := ⟨.hbm, 194, rfl⟩
abbrev main_v81 : Ref sig .tc := ⟨.hbm, 195, rfl⟩
abbrev main_v82 : Ref sig .tc := ⟨.hbm, 196, rfl⟩
abbrev main_v83 : Ref sig .tc := ⟨.hbm, 197, rfl⟩
abbrev main_v84 : Ref sig .tc := ⟨.hbm, 198, rfl⟩
abbrev main_call10_v0 : Ref sig .tc := ⟨.hbm, 199, rfl⟩
abbrev main_call10_v1 : Ref sig .tc := ⟨.hbm, 200, rfl⟩
abbrev main_call10_v2 : Ref sig .tc := ⟨.hbm, 201, rfl⟩
abbrev main_v85 : Ref sig .tc := ⟨.hbm, 202, rfl⟩
abbrev main_v86 : Ref sig .tc := ⟨.hbm, 203, rfl⟩
abbrev main_v87 : Ref sig .tc := ⟨.hbm, 204, rfl⟩
abbrev main_v88 : Ref sig .tc := ⟨.hbm, 205, rfl⟩
abbrev main_v89 : Ref sig .tc := ⟨.hbm, 206, rfl⟩
abbrev main_v90 : Ref sig .tc := ⟨.hbm, 207, rfl⟩
abbrev main_v91 : Ref sig .tc := ⟨.hbm, 208, rfl⟩
abbrev main_v92 : Ref sig .tc := ⟨.hbm, 209, rfl⟩
abbrev main_v93 : Ref sig .tc := ⟨.hbm, 210, rfl⟩
abbrev main_v94 : Ref sig .tc := ⟨.hbm, 211, rfl⟩
abbrev main_v95 : Ref sig .tc := ⟨.hbm, 212, rfl⟩
abbrev main_v96 : Ref sig .tc := ⟨.hbm, 213, rfl⟩
abbrev main_v97 : Ref sig .tc := ⟨.hbm, 214, rfl⟩
abbrev main_v98 : Ref sig .tc := ⟨.hbm, 215, rfl⟩
abbrev main_v99 : Ref sig .tc := ⟨.hbm, 216, rfl⟩
abbrev main_v100 : Ref sig .tc := ⟨.hbm, 217, rfl⟩
abbrev main_v101 : Ref sig .tc := ⟨.hbm, 218, rfl⟩
abbrev main_v102 : Ref sig .tc := ⟨.hbm, 219, rfl⟩
abbrev main_v103 : Ref sig .tc := ⟨.hbm, 220, rfl⟩
abbrev main_v104 : Ref sig .tc := ⟨.hbm, 221, rfl⟩
abbrev main_v105 : Ref sig .tc := ⟨.hbm, 222, rfl⟩
abbrev main_v106 : Ref sig .tc := ⟨.hbm, 223, rfl⟩
abbrev main_v107 : Ref sig .tc := ⟨.hbm, 224, rfl⟩
abbrev main_v108 : Ref sig .tc := ⟨.hbm, 225, rfl⟩
abbrev main_v109 : Ref sig .tc := ⟨.hbm, 226, rfl⟩
abbrev main_v110 : Ref sig .tc := ⟨.hbm, 227, rfl⟩
abbrev main_v111 : Ref sig .tc := ⟨.hbm, 228, rfl⟩
abbrev main_v112 : Ref sig .tc := ⟨.hbm, 229, rfl⟩
abbrev main_v113 : Ref sig .tc := ⟨.hbm, 230, rfl⟩
abbrev main_v114 : Ref sig .tc := ⟨.hbm, 231, rfl⟩
abbrev main_v115 : Ref sig .tc := ⟨.hbm, 232, rfl⟩
abbrev main_v116 : Ref sig .tc := ⟨.hbm, 233, rfl⟩
abbrev main_v117 : Ref sig .tc := ⟨.hbm, 234, rfl⟩
abbrev main_v118 : Ref sig .tc := ⟨.hbm, 235, rfl⟩
abbrev main_v119 : Ref sig .tc := ⟨.hbm, 236, rfl⟩
abbrev main_v120 : Ref sig .tc := ⟨.hbm, 237, rfl⟩
abbrev main_v121 : Ref sig .tc := ⟨.hbm, 238, rfl⟩
abbrev main_v122 : Ref sig .tc := ⟨.hbm, 239, rfl⟩
abbrev main_v123 : Ref sig .tc := ⟨.hbm, 240, rfl⟩
abbrev main_v124 : Ref sig .tc := ⟨.hbm, 241, rfl⟩
abbrev main_v125 : Ref sig .tc := ⟨.hbm, 242, rfl⟩
abbrev main_v126 : Ref sig .tc := ⟨.hbm, 243, rfl⟩
abbrev main_v127 : Ref sig .tc := ⟨.hbm, 244, rfl⟩
abbrev main_v128 : Ref sig .tc := ⟨.hbm, 245, rfl⟩
abbrev main_v129 : Ref sig .tc := ⟨.hbm, 246, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_scratch0 : Ref sig .tc := ⟨.vmem, 10, rfl⟩
abbrev cc2_stg0_0 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_scratch0 : Ref sig .tc := ⟨.vmem, 16, rfl⟩
abbrev cc3_stg0_0 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_scratch0 : Ref sig .tc := ⟨.vmem, 21, rfl⟩
abbrev cc4_stg0_0 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg3_0 : Ref sig .tc := ⟨.vmem, 25, rfl⟩
abbrev cc4_scratch0 : Ref sig .tc := ⟨.vmem, 26, rfl⟩
abbrev cc5_stg0_0 : Ref sig .tc := ⟨.vmem, 27, rfl⟩
abbrev cc5_stg1_0 : Ref sig .tc := ⟨.vmem, 28, rfl⟩
abbrev cc5_stg2_0 : Ref sig .tc := ⟨.vmem, 29, rfl⟩
abbrev cc5_stg3_0 : Ref sig .tc := ⟨.vmem, 30, rfl⟩
abbrev cc5_scratch0 : Ref sig .tc := ⟨.vmem, 31, rfl⟩
abbrev cc6_stg0_0 : Ref sig .tc := ⟨.vmem, 32, rfl⟩
abbrev cc6_stg1_0 : Ref sig .tc := ⟨.vmem, 33, rfl⟩
abbrev cc6_stg2_0 : Ref sig .tc := ⟨.vmem, 34, rfl⟩
abbrev cc6_stg3_0 : Ref sig .tc := ⟨.vmem, 35, rfl⟩
abbrev cc6_scratch0 : Ref sig .tc := ⟨.vmem, 36, rfl⟩
abbrev cc7_stg0_0 : Ref sig .tc := ⟨.vmem, 37, rfl⟩
abbrev cc7_stg1_0 : Ref sig .tc := ⟨.vmem, 38, rfl⟩
abbrev cc7_stg2_0 : Ref sig .tc := ⟨.vmem, 39, rfl⟩
abbrev cc7_stg3_0 : Ref sig .tc := ⟨.vmem, 40, rfl⟩
abbrev cc7_scratch0 : Ref sig .tc := ⟨.vmem, 41, rfl⟩
abbrev cc8_stg0_0 : Ref sig .tc := ⟨.vmem, 42, rfl⟩
abbrev cc8_stg1_0 : Ref sig .tc := ⟨.vmem, 43, rfl⟩
abbrev cc8_stg2_0 : Ref sig .tc := ⟨.vmem, 44, rfl⟩
abbrev cc8_stg3_0 : Ref sig .tc := ⟨.vmem, 45, rfl⟩
abbrev cc8_scratch0 : Ref sig .tc := ⟨.vmem, 46, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc2_sem0_0 : DmaSem sig := 9
abbrev cc2_sem1_0 : DmaSem sig := 10
abbrev cc2_sem2_0 : DmaSem sig := 11
abbrev cc2_sem3_0 : DmaSem sig := 12
abbrev cc2_sem4_0 : DmaSem sig := 13
abbrev cc3_sem0_0 : DmaSem sig := 14
abbrev cc3_sem1_0 : DmaSem sig := 15
abbrev cc3_sem2_0 : DmaSem sig := 16
abbrev cc3_sem3_0 : DmaSem sig := 17
abbrev cc4_sem0_0 : DmaSem sig := 18
abbrev cc4_sem1_0 : DmaSem sig := 19
abbrev cc4_sem2_0 : DmaSem sig := 20
abbrev cc4_sem3_0 : DmaSem sig := 21
abbrev cc5_sem0_0 : DmaSem sig := 22
abbrev cc5_sem1_0 : DmaSem sig := 23
abbrev cc5_sem2_0 : DmaSem sig := 24
abbrev cc5_sem3_0 : DmaSem sig := 25
abbrev cc6_sem0_0 : DmaSem sig := 26
abbrev cc6_sem1_0 : DmaSem sig := 27
abbrev cc6_sem2_0 : DmaSem sig := 28
abbrev cc6_sem3_0 : DmaSem sig := 29
abbrev cc7_sem0_0 : DmaSem sig := 30
abbrev cc7_sem1_0 : DmaSem sig := 31
abbrev cc7_sem2_0 : DmaSem sig := 32
abbrev cc7_sem3_0 : DmaSem sig := 33
abbrev cc8_sem0_0 : DmaSem sig := 34
abbrev cc8_sem1_0 : DmaSem sig := 35
abbrev cc8_sem2_0 : DmaSem sig := 36
abbrev cc8_sem3_0 : DmaSem sig := 37

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
@[reducible] def k0_t2_loop : Scf.Loop 32 :=
  let c0_i32_5 : BitVec 32 := 0#32
  let c3_i32 : BitVec 32 := 3#32
  let v10 : BitVec 32 := Scalar.addi c0_i32_5 c3_i32
  let c1_i32_6 : BitVec 32 := 1#32
  ⟨c0_i32_5, v10, c1_i32_6⟩
def k0_off1 (k0_t1 : Fin k0_t1_loop.trips) (k0_t2 : Fin k0_t2_loop.trips) (c0_i32_16 : BitVec 32) : Fin 3 → Nat :=
  let c0_i32_5 : BitVec 32 := 0#32
  let c1_i32_6 : BitVec 32 := 1#32
  let arg6 : BitVec 32 := Scf.iv c0_i32_5 c1_i32_6 k0_t2
  let c4_i32 : BitVec 32 := 4#32
  let v21 : BitVec 32 := Scalar.muli arg6 c4_i32
  let v22 : BitVec 32 := Scalar.addi v21 c0_i32_16
  let v23 : Index := Scalar.indexCast v22
  let c0_i32 : BitVec 32 := 0#32
  let c1_i32 : BitVec 32 := 1#32
  let arg5 : BitVec 32 := Scf.iv c0_i32 c1_i32 k0_t1
  let c48_i32 : BitVec 32 := 48#32
  let v1 : BitVec 32 := Scalar.muli arg5 c48_i32
  let v24 : Index := Scalar.indexCast v1
  let c0_17 : Index := 0#32
  ![v23.toNat, v24.toNat, 0]
def k0_off2 (k0_t2 : Fin k0_t2_loop.trips) (c0_i32_16 : BitVec 32) (c0_i32_18 : BitVec 32) (c0_i32_19 : BitVec 32) : Fin 3 → Nat :=
  let c0_i32_5 : BitVec 32 := 0#32
  let c1_i32_6 : BitVec 32 := 1#32
  let arg6 : BitVec 32 := Scf.iv c0_i32_5 c1_i32_6 k0_t2
  let c4_i32 : BitVec 32 := 4#32
  let v21 : BitVec 32 := Scalar.muli arg6 c4_i32
  let v22 : BitVec 32 := Scalar.addi v21 c0_i32_16
  let c9_i32 : BitVec 32 := 9#32
  let v27 : BitVec 32 := Scalar.muli v22 c9_i32
  let v28 : BitVec 32 := Scalar.addi v27 c0_i32_18
  let v29 : BitVec 32 := Scalar.addi v28 c0_i32_19
  let v30 : Index := Scalar.indexCast v29
  let c0_20 : Index := 0#32
  let c0_21 : Index := 0#32
  ![v30.toNat, 0, 0]
def k0_off3 (k0_t1 : Fin k0_t1_loop.trips) : Fin 3 → Nat :=
  let c0_13 : Index := 0#32
  let c0_i32_12 : BitVec 32 := 0#32
  let c0_i32 : BitVec 32 := 0#32
  let c1_i32 : BitVec 32 := 1#32
  let arg5 : BitVec 32 := Scf.iv c0_i32 c1_i32 k0_t1
  let c48_i32 : BitVec 32 := 48#32
  let v1 : BitVec 32 := Scalar.muli arg5 c48_i32
  let v17 : BitVec 32 := Scalar.addi c0_i32_12 v1
  let v18 : Index := Scalar.indexCast v17
  let c0_14 : Index := 0#32
  ![0, v18.toNat, 0]
abbrev stage0_0 : Fin 1 → Memref sig .tc .vmem S12x400x386 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S108x12x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12x384x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := .none

@[reducible] def k1_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k1_off1 (k1_t1 : Fin k1_t1_loop.trips) : Fin 3 → Nat :=
  let c0 : Index := 0#32
  let c2_i32 : BitVec 32 := 2#32
  let c0_i32 : BitVec 32 := 0#32
  let c1_i32 : BitVec 32 := 1#32
  let arg6 : BitVec 32 := Scf.iv c0_i32 c1_i32 k1_t1
  let v1 : BitVec 32 := Scalar.muli c2_i32 arg6
  let c24_i32 : BitVec 32 := 24#32
  let v2 : BitVec 32 := Scalar.muli v1 c24_i32
  let v3 : Index := Scalar.indexCast v2
  let c0_1 : Index := 0#32
  ![0, v3.toNat, 0]
def k1_off2 (k1_t1 : Fin k1_t1_loop.trips) : Fin 3 → Nat :=
  let c0_29 : Index := 0#32
  let c0_i32 : BitVec 32 := 0#32
  let c1_i32 : BitVec 32 := 1#32
  let arg6 : BitVec 32 := Scf.iv c0_i32 c1_i32 k1_t1
  let c24_i32_27 : BitVec 32 := 24#32
  let v102 : BitVec 32 := Scalar.muli arg6 c24_i32_27
  let v104 : Index := Scalar.indexCast v102
  let c0_30 : Index := 0#32
  ![0, v104.toNat, 0]
@[reducible] def k1_t2_loop : Scf.Loop 32 :=
  let c0_i32_31 : BitVec 32 := 0#32
  let c6_i32 : BitVec 32 := 6#32
  let v106 : BitVec 32 := Scalar.addi c0_i32_31 c6_i32
  let c1_i32_32 : BitVec 32 := 1#32
  ⟨c0_i32_31, v106, c1_i32_32⟩
def k1_off3 (k1_t2 : Fin k1_t2_loop.trips) : Fin 3 → Nat :=
  let c0_i32_31 : BitVec 32 := 0#32
  let c1_i32_32 : BitVec 32 := 1#32
  let arg7 : BitVec 32 := Scf.iv c0_i32_31 c1_i32_32 k1_t2
  let c4_i32 : BitVec 32 := 4#32
  let v123 : BitVec 32 := Scalar.muli arg7 c4_i32
  let v124 : Index := Scalar.indexCast v123
  let c0_38 : Index := 0#32
  let c0_39 : Index := 0#32
  ![v124.toNat, 0, 0]
def k1_off4 (k1_t2 : Fin k1_t2_loop.trips) (c1_i32_42 : BitVec 32) : Fin 3 → Nat :=
  let c0_i32_31 : BitVec 32 := 0#32
  let c1_i32_32 : BitVec 32 := 1#32
  let arg7 : BitVec 32 := Scf.iv c0_i32_31 c1_i32_32 k1_t2
  let c4_i32 : BitVec 32 := 4#32
  let v123 : BitVec 32 := Scalar.muli arg7 c4_i32
  let v135 : BitVec 32 := Scalar.addi v123 c1_i32_42
  let v136 : Index := Scalar.indexCast v135
  let c0_43 : Index := 0#32
  let c0_44 : Index := 0#32
  ![v136.toNat, 0, 0]
def k1_off5 (k1_t1 : Fin k1_t1_loop.trips) : Fin 3 → Nat :=
  let c0_59 : Index := 0#32
  let c0_i32 : BitVec 32 := 0#32
  let c1_i32 : BitVec 32 := 1#32
  let arg6 : BitVec 32 := Scf.iv c0_i32 c1_i32 k1_t1
  let c24_i32_27 : BitVec 32 := 24#32
  let v102 : BitVec 32 := Scalar.muli arg6 c24_i32_27
  let v177 : Index := Scalar.indexCast v102
  let c0_60 : Index := 0#32
  ![0, v177.toNat, 0]
abbrev stage1_0 : Fin 1 → Memref sig .tc .vmem S12x384x384 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S24x384 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S24x384 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S24x24x384 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S24x192x384 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev grid2 : Pipeline.Grid := .none

@[reducible] def k2_t1_loop : Scf.Loop 32 :=
  let c0_i32 : BitVec 32 := 0#32
  let c6_i32 : BitVec 32 := 6#32
  let v0 : BitVec 32 := Scalar.addi c0_i32 c6_i32
  let c1_i32 : BitVec 32 := 1#32
  ⟨c0_i32, v0, c1_i32⟩
def k2_off1 (k2_t1 : Fin k2_t1_loop.trips) : Fin 3 → Nat :=
  let c0 : Index := 0#32
  let c2_i32 : BitVec 32 := 2#32
  let c0_i32 : BitVec 32 := 0#32
  let c1_i32 : BitVec 32 := 1#32
  let arg6 : BitVec 32 := Scf.iv c0_i32 c1_i32 k2_t1
  let v1 : BitVec 32 := Scalar.muli c2_i32 arg6
  let c16_i32 : BitVec 32 := 16#32
  let v2 : BitVec 32 := Scalar.muli v1 c16_i32
  let v3 : Index := Scalar.indexCast v2
  let c0_1 : Index := 0#32
  ![0, v3.toNat, 0]
def k2_off2 (k2_t1 : Fin k2_t1_loop.trips) : Fin 3 → Nat :=
  let c0_29 : Index := 0#32
  let c0_i32 : BitVec 32 := 0#32
  let c1_i32 : BitVec 32 := 1#32
  let arg6 : BitVec 32 := Scf.iv c0_i32 c1_i32 k2_t1
  let c16_i32_27 : BitVec 32 := 16#32
  let v102 : BitVec 32 := Scalar.muli arg6 c16_i32_27
  let v104 : Index := Scalar.indexCast v102
  let c0_30 : Index := 0#32
  ![0, v104.toNat, 0]
@[reducible] def k2_t2_loop : Scf.Loop 32 :=
  let c0_i32_31 : BitVec 32 := 0#32
  let c12_i32 : BitVec 32 := 12#32
  let v106 : BitVec 32 := Scalar.addi c0_i32_31 c12_i32
  let c1_i32_32 : BitVec 32 := 1#32
  ⟨c0_i32_31, v106, c1_i32_32⟩
def k2_off3 (k2_t2 : Fin k2_t2_loop.trips) : Fin 3 → Nat :=
  let c0_i32_31 : BitVec 32 := 0#32
  let c1_i32_32 : BitVec 32 := 1#32
  let arg7 : BitVec 32 := Scf.iv c0_i32_31 c1_i32_32 k2_t2
  let c4_i32 : BitVec 32 := 4#32
  let v123 : BitVec 32 := Scalar.muli arg7 c4_i32
  let v124 : Index := Scalar.indexCast v123
  let c0_38 : Index := 0#32
  let c0_39 : Index := 0#32
  ![v124.toNat, 0, 0]
def k2_off4 (k2_t2 : Fin k2_t2_loop.trips) : Fin 3 → Nat :=
  let c0_i32_31 : BitVec 32 := 0#32
  let c1_i32_32 : BitVec 32 := 1#32
  let arg7 : BitVec 32 := Scf.iv c0_i32_31 c1_i32_32 k2_t2
  let c4_i32 : BitVec 32 := 4#32
  let v123 : BitVec 32 := Scalar.muli arg7 c4_i32
  let v128 : Index := Scalar.indexCast v123
  let c0_40 : Index := 0#32
  let c0_41 : Index := 0#32
  ![v128.toNat, 0, 0]
def k2_off5 (k2_t2 : Fin k2_t2_loop.trips) (c1_i32_42 : BitVec 32) : Fin 3 → Nat :=
  let c0_i32_31 : BitVec 32 := 0#32
  let c1_i32_32 : BitVec 32 := 1#32
  let arg7 : BitVec 32 := Scf.iv c0_i32_31 c1_i32_32 k2_t2
  let c4_i32 : BitVec 32 := 4#32
  let v123 : BitVec 32 := Scalar.muli arg7 c4_i32
  let v135 : BitVec 32 := Scalar.addi v123 c1_i32_42
  let v136 : Index := Scalar.indexCast v135
  let c0_43 : Index := 0#32
  let c0_44 : Index := 0#32
  ![v136.toNat, 0, 0]
def k2_off6 (k2_t2 : Fin k2_t2_loop.trips) (c1_i32_45 : BitVec 32) : Fin 3 → Nat :=
  let c0_i32_31 : BitVec 32 := 0#32
  let c1_i32_32 : BitVec 32 := 1#32
  let arg7 : BitVec 32 := Scf.iv c0_i32_31 c1_i32_32 k2_t2
  let c4_i32 : BitVec 32 := 4#32
  let v123 : BitVec 32 := Scalar.muli arg7 c4_i32
  let v140 : BitVec 32 := Scalar.addi v123 c1_i32_45
  let v141 : Index := Scalar.indexCast v140
  let c0_46 : Index := 0#32
  let c0_47 : Index := 0#32
  ![v141.toNat, 0, 0]
def k2_off7 (k2_t1 : Fin k2_t1_loop.trips) : Fin 3 → Nat :=
  let c0_59 : Index := 0#32
  let c0_i32 : BitVec 32 := 0#32
  let c1_i32 : BitVec 32 := 1#32
  let arg6 : BitVec 32 := Scf.iv c0_i32 c1_i32 k2_t1
  let c16_i32_27 : BitVec 32 := 16#32
  let v102 : BitVec 32 := Scalar.muli arg6 c16_i32_27
  let v177 : Index := Scalar.indexCast v102
  let c0_60 : Index := 0#32
  ![0, v177.toNat, 0]
abbrev stage2_0 : Fin 1 → Memref sig .tc .vmem S24x192x384 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S48x384 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S48x384 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S48x48x384 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S48x96x384 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev grid3 : Pipeline.Grid := .none

@[reducible] def k3_t1_loop : Scf.Loop 32 :=
  let c0_i32 : BitVec 32 := 0#32
  let c6_i32 : BitVec 32 := 6#32
  let v8 : BitVec 32 := Scalar.addi c0_i32 c6_i32
  let c1_i32 : BitVec 32 := 1#32
  ⟨c0_i32, v8, c1_i32⟩
@[reducible] def k3_t2_loop : Scf.Loop 32 :=
  let c0_i32_18 : BitVec 32 := 0#32
  let c12_i32 : BitVec 32 := 12#32
  let v18 : BitVec 32 := Scalar.addi c0_i32_18 c12_i32
  let c1_i32_19 : BitVec 32 := 1#32
  ⟨c0_i32_18, v18, c1_i32_19⟩
def k3_off1 (k3_t2 : Fin k3_t2_loop.trips) : Fin 3 → Nat :=
  let c0_i32_18 : BitVec 32 := 0#32
  let c1_i32_19 : BitVec 32 := 1#32
  let arg6 : BitVec 32 := Scf.iv c0_i32_18 c1_i32_19 k3_t2
  let c4_i32 : BitVec 32 := 4#32
  let v566 : BitVec 32 := Scalar.muli arg6 c4_i32
  let v567 : Index := Scalar.indexCast v566
  let c0_346 : Index := 0#32
  let c0_347 : Index := 0#32
  ![v567.toNat, 0, 0]
def k3_off2 (k3_t1 : Fin k3_t1_loop.trips) (k3_t2 : Fin k3_t2_loop.trips) : Fin 3 → Nat :=
  let c0_i32_18 : BitVec 32 := 0#32
  let c1_i32_19 : BitVec 32 := 1#32
  let arg6 : BitVec 32 := Scf.iv c0_i32_18 c1_i32_19 k3_t2
  let c4_i32 : BitVec 32 := 4#32
  let v566 : BitVec 32 := Scalar.muli arg6 c4_i32
  let v571 : Index := Scalar.indexCast v566
  let c0_i32 : BitVec 32 := 0#32
  let c1_i32 : BitVec 32 := 1#32
  let arg5 : BitVec 32 := Scf.iv c0_i32 c1_i32 k3_t1
  let c16_i32 : BitVec 32 := 16#32
  let v9 : BitVec 32 := Scalar.muli arg5 c16_i32
  let v572 : Index := Scalar.indexCast v9
  let c0_348 : Index := 0#32
  ![v571.toNat, v572.toNat, 0]
def k3_off3 (k3_t2 : Fin k3_t2_loop.trips) (c1_i32_349 : BitVec 32) : Fin 3 → Nat :=
  let c0_i32_18 : BitVec 32 := 0#32
  let c1_i32_19 : BitVec 32 := 1#32
  let arg6 : BitVec 32 := Scf.iv c0_i32_18 c1_i32_19 k3_t2
  let c4_i32 : BitVec 32 := 4#32
  let v566 : BitVec 32 := Scalar.muli arg6 c4_i32
  let v579 : BitVec 32 := Scalar.addi v566 c1_i32_349
  let v580 : Index := Scalar.indexCast v579
  let c0_350 : Index := 0#32
  let c0_351 : Index := 0#32
  ![v580.toNat, 0, 0]
def k3_off4 (k3_t1 : Fin k3_t1_loop.trips) (k3_t2 : Fin k3_t2_loop.trips) (c1_i32_352 : BitVec 32) : Fin 3 → Nat :=
  let c0_i32_18 : BitVec 32 := 0#32
  let c1_i32_19 : BitVec 32 := 1#32
  let arg6 : BitVec 32 := Scf.iv c0_i32_18 c1_i32_19 k3_t2
  let c4_i32 : BitVec 32 := 4#32
  let v566 : BitVec 32 := Scalar.muli arg6 c4_i32
  let v584 : BitVec 32 := Scalar.addi v566 c1_i32_352
  let v585 : Index := Scalar.indexCast v584
  let c0_i32 : BitVec 32 := 0#32
  let c1_i32 : BitVec 32 := 1#32
  let arg5 : BitVec 32 := Scf.iv c0_i32 c1_i32 k3_t1
  let c16_i32 : BitVec 32 := 16#32
  let v9 : BitVec 32 := Scalar.muli arg5 c16_i32
  let v586 : Index := Scalar.indexCast v9
  let c0_353 : Index := 0#32
  ![v585.toNat, v586.toNat, 0]
def k3_off5 (k3_t1 : Fin k3_t1_loop.trips) : Fin 3 → Nat :=
  let c0_45 : Index := 0#32
  let c8_i32 : BitVec 32 := 8#32
  let c2_i32_43 : BitVec 32 := 2#32
  let c0_i32 : BitVec 32 := 0#32
  let c1_i32 : BitVec 32 := 1#32
  let arg5 : BitVec 32 := Scf.iv c0_i32 c1_i32 k3_t1
  let v76 : BitVec 32 := Scalar.muli c2_i32_43 arg5
  let c16_i32_44 : BitVec 32 := 16#32
  let v77 : BitVec 32 := Scalar.muli v76 c16_i32_44
  let v78 : BitVec 32 := Scalar.addi c8_i32 v77
  let v79 : Index := Scalar.indexCast v78
  let c2_46 : Index := 2#32
  ![0, v79.toNat, 2]
def k3_off6 (k3_t1 : Fin k3_t1_loop.trips) : Fin 3 → Nat :=
  let c1_58 : Index := 1#32
  let c8_i32_57 : BitVec 32 := 8#32
  let c2_i32_55 : BitVec 32 := 2#32
  let c0_i32 : BitVec 32 := 0#32
  let c1_i32 : BitVec 32 := 1#32
  let arg5 : BitVec 32 := Scf.iv c0_i32 c1_i32 k3_t1
  let v97 : BitVec 32 := Scalar.muli c2_i32_55 arg5
  let c16_i32_56 : BitVec 32 := 16#32
  let v98 : BitVec 32 := Scalar.muli v97 c16_i32_56
  let v99 : BitVec 32 := Scalar.addi c8_i32_57 v98
  let v100 : Index := Scalar.indexCast v99
  let c2_59 : Index := 2#32
  ![1, v100.toNat, 2]
def k3_off7 (k3_t1 : Fin k3_t1_loop.trips) : Fin 3 → Nat :=
  let c2_71 : Index := 2#32
  let c8_i32_70 : BitVec 32 := 8#32
  let c2_i32_68 : BitVec 32 := 2#32
  let c0_i32 : BitVec 32 := 0#32
  let c1_i32 : BitVec 32 := 1#32
  let arg5 : BitVec 32 := Scf.iv c0_i32 c1_i32 k3_t1
  let v118 : BitVec 32 := Scalar.muli c2_i32_68 arg5
  let c16_i32_69 : BitVec 32 := 16#32
  let v119 : BitVec 32 := Scalar.muli v118 c16_i32_69
  let v120 : BitVec 32 := Scalar.addi c8_i32_70 v119
  let v121 : Index := Scalar.indexCast v120
  let c2_72 : Index := 2#32
  ![2, v121.toNat, 2]
def k3_off8 (k3_t1 : Fin k3_t1_loop.trips) : Fin 3 → Nat :=
  let c3_84 : Index := 3#32
  let c8_i32_83 : BitVec 32 := 8#32
  let c2_i32_81 : BitVec 32 := 2#32
  let c0_i32 : BitVec 32 := 0#32
  let c1_i32 : BitVec 32 := 1#32
  let arg5 : BitVec 32 := Scf.iv c0_i32 c1_i32 k3_t1
  let v139 : BitVec 32 := Scalar.muli c2_i32_81 arg5
  let c16_i32_82 : BitVec 32 := 16#32
  let v140 : BitVec 32 := Scalar.muli v139 c16_i32_82
  let v141 : BitVec 32 := Scalar.addi c8_i32_83 v140
  let v142 : Index := Scalar.indexCast v141
  let c2_85 : Index := 2#32
  ![3, v142.toNat, 2]
def k3_off9 (k3_t1 : Fin k3_t1_loop.trips) : Fin 3 → Nat :=
  let c4_97 : Index := 4#32
  let c8_i32_96 : BitVec 32 := 8#32
  let c2_i32_94 : BitVec 32 := 2#32
  let c0_i32 : BitVec 32 := 0#32
  let c1_i32 : BitVec 32 := 1#32
  let arg5 : BitVec 32 := Scf.iv c0_i32 c1_i32 k3_t1
  let v160 : BitVec 32 := Scalar.muli c2_i32_94 arg5
  let c16_i32_95 : BitVec 32 := 16#32
  let v161 : BitVec 32 := Scalar.muli v160 c16_i32_95
  let v162 : BitVec 32 := Scalar.addi c8_i32_96 v161
  let v163 : Index := Scalar.indexCast v162
  let c2_98 : Index := 2#32
  ![4, v163.toNat, 2]
def k3_off10 (k3_t1 : Fin k3_t1_loop.trips) : Fin 3 → Nat :=
  let c5_110 : Index := 5#32
  let c8_i32_109 : BitVec 32 := 8#32
  let c2_i32_107 : BitVec 32 := 2#32
  let c0_i32 : BitVec 32 := 0#32
  let c1_i32 : BitVec 32 := 1#32
  let arg5 : BitVec 32 := Scf.iv c0_i32 c1_i32 k3_t1
  let v181 : BitVec 32 := Scalar.muli c2_i32_107 arg5
  let c16_i32_108 : BitVec 32 := 16#32
  let v182 : BitVec 32 := Scalar.muli v181 c16_i32_108
  let v183 : BitVec 32 := Scalar.addi c8_i32_109 v182
  let v184 : Index := Scalar.indexCast v183
  let c2_111 : Index := 2#32
  ![5, v184.toNat, 2]
def k3_off11 (k3_t1 : Fin k3_t1_loop.trips) : Fin 3 → Nat :=
  let c6_123 : Index := 6#32
  let c8_i32_122 : BitVec 32 := 8#32
  let c2_i32_120 : BitVec 32 := 2#32
  let c0_i32 : BitVec 32 := 0#32
  let c1_i32 : BitVec 32 := 1#32
  let arg5 : BitVec 32 := Scf.iv c0_i32 c1_i32 k3_t1
  let v202 : BitVec 32 := Scalar.muli c2_i32_120 arg5
  let c16_i32_121 : BitVec 32 := 16#32
  let v203 : BitVec 32 := Scalar.muli v202 c16_i32_121
  let v204 : BitVec 32 := Scalar.addi c8_i32_122 v203
  let v205 : Index := Scalar.indexCast v204
  let c2_124 : Index := 2#32
  ![6, v205.toNat, 2]
def k3_off12 (k3_t1 : Fin k3_t1_loop.trips) : Fin 3 → Nat :=
  let c7_136 : Index := 7#32
  let c8_i32_135 : BitVec 32 := 8#32
  let c2_i32_133 : BitVec 32 := 2#32
  let c0_i32 : BitVec 32 := 0#32
  let c1_i32 : BitVec 32 := 1#32
  let arg5 : BitVec 32 := Scf.iv c0_i32 c1_i32 k3_t1
  let v223 : BitVec 32 := Scalar.muli c2_i32_133 arg5
  let c16_i32_134 : BitVec 32 := 16#32
  let v224 : BitVec 32 := Scalar.muli v223 c16_i32_134
  let v225 : BitVec 32 := Scalar.addi c8_i32_135 v224
  let v226 : Index := Scalar.indexCast v225
  let c2_137 : Index := 2#32
  ![7, v226.toNat, 2]
def k3_off13 (k3_t1 : Fin k3_t1_loop.trips) : Fin 3 → Nat :=
  let c8_149 : Index := 8#32
  let c8_i32_148 : BitVec 32 := 8#32
  let c2_i32_146 : BitVec 32 := 2#32
  let c0_i32 : BitVec 32 := 0#32
  let c1_i32 : BitVec 32 := 1#32
  let arg5 : BitVec 32 := Scf.iv c0_i32 c1_i32 k3_t1
  let v244 : BitVec 32 := Scalar.muli c2_i32_146 arg5
  let c16_i32_147 : BitVec 32 := 16#32
  let v245 : BitVec 32 := Scalar.muli v244 c16_i32_147
  let v246 : BitVec 32 := Scalar.addi c8_i32_148 v245
  let v247 : Index := Scalar.indexCast v246
  let c2_150 : Index := 2#32
  ![8, v247.toNat, 2]
def k3_off14 (k3_t1 : Fin k3_t1_loop.trips) : Fin 3 → Nat :=
  let c9_162 : Index := 9#32
  let c8_i32_161 : BitVec 32 := 8#32
  let c2_i32_159 : BitVec 32 := 2#32
  let c0_i32 : BitVec 32 := 0#32
  let c1_i32 : BitVec 32 := 1#32
  let arg5 : BitVec 32 := Scf.iv c0_i32 c1_i32 k3_t1
  let v265 : BitVec 32 := Scalar.muli c2_i32_159 arg5
  let c16_i32_160 : BitVec 32 := 16#32
  let v266 : BitVec 32 := Scalar.muli v265 c16_i32_160
  let v267 : BitVec 32 := Scalar.addi c8_i32_161 v266
  let v268 : Index := Scalar.indexCast v267
  let c2_163 : Index := 2#32
  ![9, v268.toNat, 2]
def k3_off15 (k3_t1 : Fin k3_t1_loop.trips) : Fin 3 → Nat :=
  let c10_175 : Index := 10#32
  let c8_i32_174 : BitVec 32 := 8#32
  let c2_i32_172 : BitVec 32 := 2#32
  let c0_i32 : BitVec 32 := 0#32
  let c1_i32 : BitVec 32 := 1#32
  let arg5 : BitVec 32 := Scf.iv c0_i32 c1_i32 k3_t1
  let v286 : BitVec 32 := Scalar.muli c2_i32_172 arg5
  let c16_i32_173 : BitVec 32 := 16#32
  let v287 : BitVec 32 := Scalar.muli v286 c16_i32_173
  let v288 : BitVec 32 := Scalar.addi c8_i32_174 v287
  let v289 : Index := Scalar.indexCast v288
  let c2_176 : Index := 2#32
  ![10, v289.toNat, 2]
def k3_off16 (k3_t1 : Fin k3_t1_loop.trips) : Fin 3 → Nat :=
  let c11_188 : Index := 11#32
  let c8_i32_187 : BitVec 32 := 8#32
  let c2_i32_185 : BitVec 32 := 2#32
  let c0_i32 : BitVec 32 := 0#32
  let c1_i32 : BitVec 32 := 1#32
  let arg5 : BitVec 32 := Scf.iv c0_i32 c1_i32 k3_t1
  let v307 : BitVec 32 := Scalar.muli c2_i32_185 arg5
  let c16_i32_186 : BitVec 32 := 16#32
  let v308 : BitVec 32 := Scalar.muli v307 c16_i32_186
  let v309 : BitVec 32 := Scalar.addi c8_i32_187 v308
  let v310 : Index := Scalar.indexCast v309
  let c2_189 : Index := 2#32
  ![11, v310.toNat, 2]
def k3_off17 (k3_t1 : Fin k3_t1_loop.trips) : Fin 3 → Nat :=
  let c12_201 : Index := 12#32
  let c8_i32_200 : BitVec 32 := 8#32
  let c2_i32_198 : BitVec 32 := 2#32
  let c0_i32 : BitVec 32 := 0#32
  let c1_i32 : BitVec 32 := 1#32
  let arg5 : BitVec 32 := Scf.iv c0_i32 c1_i32 k3_t1
  let v328 : BitVec 32 := Scalar.muli c2_i32_198 arg5
  let c16_i32_199 : BitVec 32 := 16#32
  let v329 : BitVec 32 := Scalar.muli v328 c16_i32_199
  let v330 : BitVec 32 := Scalar.addi c8_i32_200 v329
  let v331 : Index := Scalar.indexCast v330
  let c2_202 : Index := 2#32
  ![12, v331.toNat, 2]
def k3_off18 (k3_t1 : Fin k3_t1_loop.trips) : Fin 3 → Nat :=
  let c13_214 : Index := 13#32
  let c8_i32_213 : BitVec 32 := 8#32
  let c2_i32_211 : BitVec 32 := 2#32
  let c0_i32 : BitVec 32 := 0#32
  let c1_i32 : BitVec 32 := 1#32
  let arg5 : BitVec 32 := Scf.iv c0_i32 c1_i32 k3_t1
  let v349 : BitVec 32 := Scalar.muli c2_i32_211 arg5
  let c16_i32_212 : BitVec 32 := 16#32
  let v350 : BitVec 32 := Scalar.muli v349 c16_i32_212
  let v351 : BitVec 32 := Scalar.addi c8_i32_213 v350
  let v352 : Index := Scalar.indexCast v351
  let c2_215 : Index := 2#32
  ![13, v352.toNat, 2]
def k3_off19 (k3_t1 : Fin k3_t1_loop.trips) : Fin 3 → Nat :=
  let c14_227 : Index := 14#32
  let c8_i32_226 : BitVec 32 := 8#32
  let c2_i32_224 : BitVec 32 := 2#32
  let c0_i32 : BitVec 32 := 0#32
  let c1_i32 : BitVec 32 := 1#32
  let arg5 : BitVec 32 := Scf.iv c0_i32 c1_i32 k3_t1
  let v370 : BitVec 32 := Scalar.muli c2_i32_224 arg5
  let c16_i32_225 : BitVec 32 := 16#32
  let v371 : BitVec 32 := Scalar.muli v370 c16_i32_225
  let v372 : BitVec 32 := Scalar.addi c8_i32_226 v371
  let v373 : Index := Scalar.indexCast v372
  let c2_228 : Index := 2#32
  ![14, v373.toNat, 2]
def k3_off20 (k3_t1 : Fin k3_t1_loop.trips) : Fin 3 → Nat :=
  let c15_240 : Index := 15#32
  let c8_i32_239 : BitVec 32 := 8#32
  let c2_i32_237 : BitVec 32 := 2#32
  let c0_i32 : BitVec 32 := 0#32
  let c1_i32 : BitVec 32 := 1#32
  let arg5 : BitVec 32 := Scf.iv c0_i32 c1_i32 k3_t1
  let v391 : BitVec 32 := Scalar.muli c2_i32_237 arg5
  let c16_i32_238 : BitVec 32 := 16#32
  let v392 : BitVec 32 := Scalar.muli v391 c16_i32_238
  let v393 : BitVec 32 := Scalar.addi c8_i32_239 v392
  let v394 : Index := Scalar.indexCast v393
  let c2_241 : Index := 2#32
  ![15, v394.toNat, 2]
def k3_off21 (k3_t1 : Fin k3_t1_loop.trips) : Fin 3 → Nat :=
  let c16_253 : Index := 16#32
  let c8_i32_252 : BitVec 32 := 8#32
  let c2_i32_250 : BitVec 32 := 2#32
  let c0_i32 : BitVec 32 := 0#32
  let c1_i32 : BitVec 32 := 1#32
  let arg5 : BitVec 32 := Scf.iv c0_i32 c1_i32 k3_t1
  let v412 : BitVec 32 := Scalar.muli c2_i32_250 arg5
  let c16_i32_251 : BitVec 32 := 16#32
  let v413 : BitVec 32 := Scalar.muli v412 c16_i32_251
  let v414 : BitVec 32 := Scalar.addi c8_i32_252 v413
  let v415 : Index := Scalar.indexCast v414
  let c2_254 : Index := 2#32
  ![16, v415.toNat, 2]
def k3_off22 (k3_t1 : Fin k3_t1_loop.trips) : Fin 3 → Nat :=
  let c17_266 : Index := 17#32
  let c8_i32_265 : BitVec 32 := 8#32
  let c2_i32_263 : BitVec 32 := 2#32
  let c0_i32 : BitVec 32 := 0#32
  let c1_i32 : BitVec 32 := 1#32
  let arg5 : BitVec 32 := Scf.iv c0_i32 c1_i32 k3_t1
  let v433 : BitVec 32 := Scalar.muli c2_i32_263 arg5
  let c16_i32_264 : BitVec 32 := 16#32
  let v434 : BitVec 32 := Scalar.muli v433 c16_i32_264
  let v435 : BitVec 32 := Scalar.addi c8_i32_265 v434
  let v436 : Index := Scalar.indexCast v435
  let c2_267 : Index := 2#32
  ![17, v436.toNat, 2]
def k3_off23 (k3_t1 : Fin k3_t1_loop.trips) : Fin 3 → Nat :=
  let c18_279 : Index := 18#32
  let c8_i32_278 : BitVec 32 := 8#32
  let c2_i32_276 : BitVec 32 := 2#32
  let c0_i32 : BitVec 32 := 0#32
  let c1_i32 : BitVec 32 := 1#32
  let arg5 : BitVec 32 := Scf.iv c0_i32 c1_i32 k3_t1
  let v454 : BitVec 32 := Scalar.muli c2_i32_276 arg5
  let c16_i32_277 : BitVec 32 := 16#32
  let v455 : BitVec 32 := Scalar.muli v454 c16_i32_277
  let v456 : BitVec 32 := Scalar.addi c8_i32_278 v455
  let v457 : Index := Scalar.indexCast v456
  let c2_280 : Index := 2#32
  ![18, v457.toNat, 2]
def k3_off24 (k3_t1 : Fin k3_t1_loop.trips) : Fin 3 → Nat :=
  let c19_292 : Index := 19#32
  let c8_i32_291 : BitVec 32 := 8#32
  let c2_i32_289 : BitVec 32 := 2#32
  let c0_i32 : BitVec 32 := 0#32
  let c1_i32 : BitVec 32 := 1#32
  let arg5 : BitVec 32 := Scf.iv c0_i32 c1_i32 k3_t1
  let v475 : BitVec 32 := Scalar.muli c2_i32_289 arg5
  let c16_i32_290 : BitVec 32 := 16#32
  let v476 : BitVec 32 := Scalar.muli v475 c16_i32_290
  let v477 : BitVec 32 := Scalar.addi c8_i32_291 v476
  let v478 : Index := Scalar.indexCast v477
  let c2_293 : Index := 2#32
  ![19, v478.toNat, 2]
def k3_off25 (k3_t1 : Fin k3_t1_loop.trips) : Fin 3 → Nat :=
  let c20_305 : Index := 20#32
  let c8_i32_304 : BitVec 32 := 8#32
  let c2_i32_302 : BitVec 32 := 2#32
  let c0_i32 : BitVec 32 := 0#32
  let c1_i32 : BitVec 32 := 1#32
  let arg5 : BitVec 32 := Scf.iv c0_i32 c1_i32 k3_t1
  let v496 : BitVec 32 := Scalar.muli c2_i32_302 arg5
  let c16_i32_303 : BitVec 32 := 16#32
  let v497 : BitVec 32 := Scalar.muli v496 c16_i32_303
  let v498 : BitVec 32 := Scalar.addi c8_i32_304 v497
  let v499 : Index := Scalar.indexCast v498
  let c2_306 : Index := 2#32
  ![20, v499.toNat, 2]
def k3_off26 (k3_t1 : Fin k3_t1_loop.trips) : Fin 3 → Nat :=
  let c21_318 : Index := 21#32
  let c8_i32_317 : BitVec 32 := 8#32
  let c2_i32_315 : BitVec 32 := 2#32
  let c0_i32 : BitVec 32 := 0#32
  let c1_i32 : BitVec 32 := 1#32
  let arg5 : BitVec 32 := Scf.iv c0_i32 c1_i32 k3_t1
  let v517 : BitVec 32 := Scalar.muli c2_i32_315 arg5
  let c16_i32_316 : BitVec 32 := 16#32
  let v518 : BitVec 32 := Scalar.muli v517 c16_i32_316
  let v519 : BitVec 32 := Scalar.addi c8_i32_317 v518
  let v520 : Index := Scalar.indexCast v519
  let c2_319 : Index := 2#32
  ![21, v520.toNat, 2]
def k3_off27 (k3_t1 : Fin k3_t1_loop.trips) : Fin 3 → Nat :=
  let c22_331 : Index := 22#32
  let c8_i32_330 : BitVec 32 := 8#32
  let c2_i32_328 : BitVec 32 := 2#32
  let c0_i32 : BitVec 32 := 0#32
  let c1_i32 : BitVec 32 := 1#32
  let arg5 : BitVec 32 := Scf.iv c0_i32 c1_i32 k3_t1
  let v538 : BitVec 32 := Scalar.muli c2_i32_328 arg5
  let c16_i32_329 : BitVec 32 := 16#32
  let v539 : BitVec 32 := Scalar.muli v538 c16_i32_329
  let v540 : BitVec 32 := Scalar.addi c8_i32_330 v539
  let v541 : Index := Scalar.indexCast v540
  let c2_332 : Index := 2#32
  ![22, v541.toNat, 2]
def k3_off28 (k3_t1 : Fin k3_t1_loop.trips) : Fin 3 → Nat :=
  let c23_344 : Index := 23#32
  let c8_i32_343 : BitVec 32 := 8#32
  let c2_i32_341 : BitVec 32 := 2#32
  let c0_i32 : BitVec 32 := 0#32
  let c1_i32 : BitVec 32 := 1#32
  let arg5 : BitVec 32 := Scf.iv c0_i32 c1_i32 k3_t1
  let v559 : BitVec 32 := Scalar.muli c2_i32_341 arg5
  let c16_i32_342 : BitVec 32 := 16#32
  let v560 : BitVec 32 := Scalar.muli v559 c16_i32_342
  let v561 : BitVec 32 := Scalar.addi c8_i32_343 v560
  let v562 : Index := Scalar.indexCast v561
  let c2_345 : Index := 2#32
  ![23, v562.toNat, 2]
abbrev stage3_0 : Fin 1 → Memref sig .tc .vmem S48x96x384 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S48x96x384 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S96x384 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S24x208x388 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev grid4 : Pipeline.Grid := .none

@[reducible] def k4_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
@[reducible] def k4_t2_loop : Scf.Loop 32 :=
  let c0_i32_5 : BitVec 32 := 0#32
  let c6_i32 : BitVec 32 := 6#32
  let v10 : BitVec 32 := Scalar.addi c0_i32_5 c6_i32
  let c1_i32_6 : BitVec 32 := 1#32
  ⟨c0_i32_5, v10, c1_i32_6⟩
def k4_off1 (k4_t1 : Fin k4_t1_loop.trips) (k4_t2 : Fin k4_t2_loop.trips) (c0_i32_14 : BitVec 32) : Fin 3 → Nat :=
  let c0_i32_5 : BitVec 32 := 0#32
  let c1_i32_6 : BitVec 32 := 1#32
  let arg6 : BitVec 32 := Scf.iv c0_i32_5 c1_i32_6 k4_t2
  let c4_i32 : BitVec 32 := 4#32
  let v16 : BitVec 32 := Scalar.muli arg6 c4_i32
  let v17 : BitVec 32 := Scalar.addi v16 c0_i32_14
  let v18 : Index := Scalar.indexCast v17
  let c0_i32 : BitVec 32 := 0#32
  let c1_i32 : BitVec 32 := 1#32
  let arg5 : BitVec 32 := Scf.iv c0_i32 c1_i32 k4_t1
  let c24_i32 : BitVec 32 := 24#32
  let v1 : BitVec 32 := Scalar.muli arg5 c24_i32
  let v19 : Index := Scalar.indexCast v1
  let c0_15 : Index := 0#32
  ![v18.toNat, v19.toNat, 0]
def k4_off2 (k4_t2 : Fin k4_t2_loop.trips) (c0_i32_14 : BitVec 32) (c0_i32_16 : BitVec 32) (c0_i32_17 : BitVec 32) : Fin 3 → Nat :=
  let c0_i32_5 : BitVec 32 := 0#32
  let c1_i32_6 : BitVec 32 := 1#32
  let arg6 : BitVec 32 := Scf.iv c0_i32_5 c1_i32_6 k4_t2
  let c4_i32 : BitVec 32 := 4#32
  let v16 : BitVec 32 := Scalar.muli arg6 c4_i32
  let v17 : BitVec 32 := Scalar.addi v16 c0_i32_14
  let c9_i32 : BitVec 32 := 9#32
  let v22 : BitVec 32 := Scalar.muli v17 c9_i32
  let v23 : BitVec 32 := Scalar.addi v22 c0_i32_16
  let v24 : BitVec 32 := Scalar.addi v23 c0_i32_17
  let v25 : Index := Scalar.indexCast v24
  let c0_18 : Index := 0#32
  let c0_19 : Index := 0#32
  ![v25.toNat, 0, 0]
def k4_off3 (k4_t1 : Fin k4_t1_loop.trips) : Fin 3 → Nat :=
  let c0_12 : Index := 0#32
  let c0_i32_11 : BitVec 32 := 0#32
  let c0_i32 : BitVec 32 := 0#32
  let c1_i32 : BitVec 32 := 1#32
  let arg5 : BitVec 32 := Scf.iv c0_i32 c1_i32 k4_t1
  let c24_i32 : BitVec 32 := 24#32
  let v1 : BitVec 32 := Scalar.muli arg5 c24_i32
  let v12 : BitVec 32 := Scalar.addi c0_i32_11 v1
  let v13 : Index := Scalar.indexCast v12
  let c0_13 : Index := 0#32
  ![0, v13.toNat, 0]
abbrev stage4_0 : Fin 1 → Memref sig .tc .vmem S24x208x388 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .vmem S216x24x384 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))

abbrev stage4_2 : Fin 1 → Memref sig .tc .vmem S24x384 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))

abbrev stage4_3 : Fin 1 → Memref sig .tc .vmem S24x192x384 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))

abbrev grid5 : Pipeline.Grid := .none

@[reducible] def k5_t1_loop : Scf.Loop 32 :=
  let c0_i32 : BitVec 32 := 0#32
  let c8_i32 : BitVec 32 := 8#32
  let v8 : BitVec 32 := Scalar.addi c0_i32 c8_i32
  let c1_i32 : BitVec 32 := 1#32
  ⟨c0_i32, v8, c1_i32⟩
@[reducible] def k5_t2_loop : Scf.Loop 32 :=
  let c0_i32_18 : BitVec 32 := 0#32
  let c6_i32 : BitVec 32 := 6#32
  let v18 : BitVec 32 := Scalar.addi c0_i32_18 c6_i32
  let c1_i32_19 : BitVec 32 := 1#32
  ⟨c0_i32_18, v18, c1_i32_19⟩
def k5_off1 (k5_t2 : Fin k5_t2_loop.trips) : Fin 3 → Nat :=
  let c0_i32_18 : BitVec 32 := 0#32
  let c1_i32_19 : BitVec 32 := 1#32
  let arg6 : BitVec 32 := Scf.iv c0_i32_18 c1_i32_19 k5_t2
  let c4_i32 : BitVec 32 := 4#32
  let v314 : BitVec 32 := Scalar.muli arg6 c4_i32
  let v315 : Index := Scalar.indexCast v314
  let c0_191 : Index := 0#32
  let c0_192 : Index := 0#32
  ![v315.toNat, 0, 0]
def k5_off2 (k5_t1 : Fin k5_t1_loop.trips) (k5_t2 : Fin k5_t2_loop.trips) : Fin 3 → Nat :=
  let c0_i32_18 : BitVec 32 := 0#32
  let c1_i32_19 : BitVec 32 := 1#32
  let arg6 : BitVec 32 := Scf.iv c0_i32_18 c1_i32_19 k5_t2
  let c4_i32 : BitVec 32 := 4#32
  let v314 : BitVec 32 := Scalar.muli arg6 c4_i32
  let v319 : Index := Scalar.indexCast v314
  let c0_i32 : BitVec 32 := 0#32
  let c1_i32 : BitVec 32 := 1#32
  let arg5 : BitVec 32 := Scf.iv c0_i32 c1_i32 k5_t1
  let c24_i32 : BitVec 32 := 24#32
  let v9 : BitVec 32 := Scalar.muli arg5 c24_i32
  let v320 : Index := Scalar.indexCast v9
  let c0_193 : Index := 0#32
  ![v319.toNat, v320.toNat, 0]
def k5_off3 (k5_t2 : Fin k5_t2_loop.trips) (c1_i32_194 : BitVec 32) : Fin 3 → Nat :=
  let c0_i32_18 : BitVec 32 := 0#32
  let c1_i32_19 : BitVec 32 := 1#32
  let arg6 : BitVec 32 := Scf.iv c0_i32_18 c1_i32_19 k5_t2
  let c4_i32 : BitVec 32 := 4#32
  let v314 : BitVec 32 := Scalar.muli arg6 c4_i32
  let v327 : BitVec 32 := Scalar.addi v314 c1_i32_194
  let v328 : Index := Scalar.indexCast v327
  let c0_195 : Index := 0#32
  let c0_196 : Index := 0#32
  ![v328.toNat, 0, 0]
def k5_off4 (k5_t1 : Fin k5_t1_loop.trips) (k5_t2 : Fin k5_t2_loop.trips) (c1_i32_197 : BitVec 32) : Fin 3 → Nat :=
  let c0_i32_18 : BitVec 32 := 0#32
  let c1_i32_19 : BitVec 32 := 1#32
  let arg6 : BitVec 32 := Scf.iv c0_i32_18 c1_i32_19 k5_t2
  let c4_i32 : BitVec 32 := 4#32
  let v314 : BitVec 32 := Scalar.muli arg6 c4_i32
  let v332 : BitVec 32 := Scalar.addi v314 c1_i32_197
  let v333 : Index := Scalar.indexCast v332
  let c0_i32 : BitVec 32 := 0#32
  let c1_i32 : BitVec 32 := 1#32
  let arg5 : BitVec 32 := Scf.iv c0_i32 c1_i32 k5_t1
  let c24_i32 : BitVec 32 := 24#32
  let v9 : BitVec 32 := Scalar.muli arg5 c24_i32
  let v334 : Index := Scalar.indexCast v9
  let c0_198 : Index := 0#32
  ![v333.toNat, v334.toNat, 0]
def k5_off5 (k5_t1 : Fin k5_t1_loop.trips) : Fin 3 → Nat :=
  let c0_46 : Index := 0#32
  let c8_i32_45 : BitVec 32 := 8#32
  let c2_i32_43 : BitVec 32 := 2#32
  let c0_i32 : BitVec 32 := 0#32
  let c1_i32 : BitVec 32 := 1#32
  let arg5 : BitVec 32 := Scf.iv c0_i32 c1_i32 k5_t1
  let v76 : BitVec 32 := Scalar.muli c2_i32_43 arg5
  let c24_i32_44 : BitVec 32 := 24#32
  let v77 : BitVec 32 := Scalar.muli v76 c24_i32_44
  let v78 : BitVec 32 := Scalar.addi c8_i32_45 v77
  let v79 : Index := Scalar.indexCast v78
  let c1_47 : Index := 1#32
  ![0, v79.toNat, 1]
def k5_off6 (k5_t1 : Fin k5_t1_loop.trips) : Fin 3 → Nat :=
  let c1_59 : Index := 1#32
  let c8_i32_58 : BitVec 32 := 8#32
  let c2_i32_56 : BitVec 32 := 2#32
  let c0_i32 : BitVec 32 := 0#32
  let c1_i32 : BitVec 32 := 1#32
  let arg5 : BitVec 32 := Scf.iv c0_i32 c1_i32 k5_t1
  let v97 : BitVec 32 := Scalar.muli c2_i32_56 arg5
  let c24_i32_57 : BitVec 32 := 24#32
  let v98 : BitVec 32 := Scalar.muli v97 c24_i32_57
  let v99 : BitVec 32 := Scalar.addi c8_i32_58 v98
  let v100 : Index := Scalar.indexCast v99
  let c1_60 : Index := 1#32
  ![1, v100.toNat, 1]
def k5_off7 (k5_t1 : Fin k5_t1_loop.trips) : Fin 3 → Nat :=
  let c2_72 : Index := 2#32
  let c8_i32_71 : BitVec 32 := 8#32
  let c2_i32_69 : BitVec 32 := 2#32
  let c0_i32 : BitVec 32 := 0#32
  let c1_i32 : BitVec 32 := 1#32
  let arg5 : BitVec 32 := Scf.iv c0_i32 c1_i32 k5_t1
  let v118 : BitVec 32 := Scalar.muli c2_i32_69 arg5
  let c24_i32_70 : BitVec 32 := 24#32
  let v119 : BitVec 32 := Scalar.muli v118 c24_i32_70
  let v120 : BitVec 32 := Scalar.addi c8_i32_71 v119
  let v121 : Index := Scalar.indexCast v120
  let c1_73 : Index := 1#32
  ![2, v121.toNat, 1]
def k5_off8 (k5_t1 : Fin k5_t1_loop.trips) : Fin 3 → Nat :=
  let c3_85 : Index := 3#32
  let c8_i32_84 : BitVec 32 := 8#32
  let c2_i32_82 : BitVec 32 := 2#32
  let c0_i32 : BitVec 32 := 0#32
  let c1_i32 : BitVec 32 := 1#32
  let arg5 : BitVec 32 := Scf.iv c0_i32 c1_i32 k5_t1
  let v139 : BitVec 32 := Scalar.muli c2_i32_82 arg5
  let c24_i32_83 : BitVec 32 := 24#32
  let v140 : BitVec 32 := Scalar.muli v139 c24_i32_83
  let v141 : BitVec 32 := Scalar.addi c8_i32_84 v140
  let v142 : Index := Scalar.indexCast v141
  let c1_86 : Index := 1#32
  ![3, v142.toNat, 1]
def k5_off9 (k5_t1 : Fin k5_t1_loop.trips) : Fin 3 → Nat :=
  let c4_98 : Index := 4#32
  let c8_i32_97 : BitVec 32 := 8#32
  let c2_i32_95 : BitVec 32 := 2#32
  let c0_i32 : BitVec 32 := 0#32
  let c1_i32 : BitVec 32 := 1#32
  let arg5 : BitVec 32 := Scf.iv c0_i32 c1_i32 k5_t1
  let v160 : BitVec 32 := Scalar.muli c2_i32_95 arg5
  let c24_i32_96 : BitVec 32 := 24#32
  let v161 : BitVec 32 := Scalar.muli v160 c24_i32_96
  let v162 : BitVec 32 := Scalar.addi c8_i32_97 v161
  let v163 : Index := Scalar.indexCast v162
  let c1_99 : Index := 1#32
  ![4, v163.toNat, 1]
def k5_off10 (k5_t1 : Fin k5_t1_loop.trips) : Fin 3 → Nat :=
  let c5_111 : Index := 5#32
  let c8_i32_110 : BitVec 32 := 8#32
  let c2_i32_108 : BitVec 32 := 2#32
  let c0_i32 : BitVec 32 := 0#32
  let c1_i32 : BitVec 32 := 1#32
  let arg5 : BitVec 32 := Scf.iv c0_i32 c1_i32 k5_t1
  let v181 : BitVec 32 := Scalar.muli c2_i32_108 arg5
  let c24_i32_109 : BitVec 32 := 24#32
  let v182 : BitVec 32 := Scalar.muli v181 c24_i32_109
  let v183 : BitVec 32 := Scalar.addi c8_i32_110 v182
  let v184 : Index := Scalar.indexCast v183
  let c1_112 : Index := 1#32
  ![5, v184.toNat, 1]
def k5_off11 (k5_t1 : Fin k5_t1_loop.trips) : Fin 3 → Nat :=
  let c6_124 : Index := 6#32
  let c8_i32_123 : BitVec 32 := 8#32
  let c2_i32_121 : BitVec 32 := 2#32
  let c0_i32 : BitVec 32 := 0#32
  let c1_i32 : BitVec 32 := 1#32
  let arg5 : BitVec 32 := Scf.iv c0_i32 c1_i32 k5_t1
  let v202 : BitVec 32 := Scalar.muli c2_i32_121 arg5
  let c24_i32_122 : BitVec 32 := 24#32
  let v203 : BitVec 32 := Scalar.muli v202 c24_i32_122
  let v204 : BitVec 32 := Scalar.addi c8_i32_123 v203
  let v205 : Index := Scalar.indexCast v204
  let c1_125 : Index := 1#32
  ![6, v205.toNat, 1]
def k5_off12 (k5_t1 : Fin k5_t1_loop.trips) : Fin 3 → Nat :=
  let c7_137 : Index := 7#32
  let c8_i32_136 : BitVec 32 := 8#32
  let c2_i32_134 : BitVec 32 := 2#32
  let c0_i32 : BitVec 32 := 0#32
  let c1_i32 : BitVec 32 := 1#32
  let arg5 : BitVec 32 := Scf.iv c0_i32 c1_i32 k5_t1
  let v223 : BitVec 32 := Scalar.muli c2_i32_134 arg5
  let c24_i32_135 : BitVec 32 := 24#32
  let v224 : BitVec 32 := Scalar.muli v223 c24_i32_135
  let v225 : BitVec 32 := Scalar.addi c8_i32_136 v224
  let v226 : Index := Scalar.indexCast v225
  let c1_138 : Index := 1#32
  ![7, v226.toNat, 1]
def k5_off13 (k5_t1 : Fin k5_t1_loop.trips) : Fin 3 → Nat :=
  let c8_150 : Index := 8#32
  let c8_i32_149 : BitVec 32 := 8#32
  let c2_i32_147 : BitVec 32 := 2#32
  let c0_i32 : BitVec 32 := 0#32
  let c1_i32 : BitVec 32 := 1#32
  let arg5 : BitVec 32 := Scf.iv c0_i32 c1_i32 k5_t1
  let v244 : BitVec 32 := Scalar.muli c2_i32_147 arg5
  let c24_i32_148 : BitVec 32 := 24#32
  let v245 : BitVec 32 := Scalar.muli v244 c24_i32_148
  let v246 : BitVec 32 := Scalar.addi c8_i32_149 v245
  let v247 : Index := Scalar.indexCast v246
  let c1_151 : Index := 1#32
  ![8, v247.toNat, 1]
def k5_off14 (k5_t1 : Fin k5_t1_loop.trips) : Fin 3 → Nat :=
  let c9_163 : Index := 9#32
  let c8_i32_162 : BitVec 32 := 8#32
  let c2_i32_160 : BitVec 32 := 2#32
  let c0_i32 : BitVec 32 := 0#32
  let c1_i32 : BitVec 32 := 1#32
  let arg5 : BitVec 32 := Scf.iv c0_i32 c1_i32 k5_t1
  let v265 : BitVec 32 := Scalar.muli c2_i32_160 arg5
  let c24_i32_161 : BitVec 32 := 24#32
  let v266 : BitVec 32 := Scalar.muli v265 c24_i32_161
  let v267 : BitVec 32 := Scalar.addi c8_i32_162 v266
  let v268 : Index := Scalar.indexCast v267
  let c1_164 : Index := 1#32
  ![9, v268.toNat, 1]
def k5_off15 (k5_t1 : Fin k5_t1_loop.trips) : Fin 3 → Nat :=
  let c10_176 : Index := 10#32
  let c8_i32_175 : BitVec 32 := 8#32
  let c2_i32_173 : BitVec 32 := 2#32
  let c0_i32 : BitVec 32 := 0#32
  let c1_i32 : BitVec 32 := 1#32
  let arg5 : BitVec 32 := Scf.iv c0_i32 c1_i32 k5_t1
  let v286 : BitVec 32 := Scalar.muli c2_i32_173 arg5
  let c24_i32_174 : BitVec 32 := 24#32
  let v287 : BitVec 32 := Scalar.muli v286 c24_i32_174
  let v288 : BitVec 32 := Scalar.addi c8_i32_175 v287
  let v289 : Index := Scalar.indexCast v288
  let c1_177 : Index := 1#32
  ![10, v289.toNat, 1]
def k5_off16 (k5_t1 : Fin k5_t1_loop.trips) : Fin 3 → Nat :=
  let c11_189 : Index := 11#32
  let c8_i32_188 : BitVec 32 := 8#32
  let c2_i32_186 : BitVec 32 := 2#32
  let c0_i32 : BitVec 32 := 0#32
  let c1_i32 : BitVec 32 := 1#32
  let arg5 : BitVec 32 := Scf.iv c0_i32 c1_i32 k5_t1
  let v307 : BitVec 32 := Scalar.muli c2_i32_186 arg5
  let c24_i32_187 : BitVec 32 := 24#32
  let v308 : BitVec 32 := Scalar.muli v307 c24_i32_187
  let v309 : BitVec 32 := Scalar.addi c8_i32_188 v308
  let v310 : Index := Scalar.indexCast v309
  let c1_190 : Index := 1#32
  ![11, v310.toNat, 1]
abbrev stage5_0 : Fin 1 → Memref sig .tc .vmem S24x192x384 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))

abbrev stage5_1 : Fin 1 → Memref sig .tc .vmem S24x48x384 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))

abbrev stage5_2 : Fin 1 → Memref sig .tc .vmem S48x384 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))

abbrev stage5_3 : Fin 1 → Memref sig .tc .vmem S12x400x386 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))

abbrev grid6 : Pipeline.Grid := .none

@[reducible] def k6_t1_loop : Scf.Loop 32 :=
  let c0_i32 : BitVec 32 := 0#32
  let c8_i32 : BitVec 32 := 8#32
  let v8 : BitVec 32 := Scalar.addi c0_i32 c8_i32
  let c1_i32 : BitVec 32 := 1#32
  ⟨c0_i32, v8, c1_i32⟩
@[reducible] def k6_t2_loop : Scf.Loop 32 :=
  let c0_i32_18 : BitVec 32 := 0#32
  let c3_i32 : BitVec 32 := 3#32
  let v18 : BitVec 32 := Scalar.addi c0_i32_18 c3_i32
  let c1_i32_19 : BitVec 32 := 1#32
  ⟨c0_i32_18, v18, c1_i32_19⟩
def k6_off1 (k6_t1 : Fin k6_t1_loop.trips) (k6_t2 : Fin k6_t2_loop.trips) (c0_i32_27 : BitVec 32) : Fin 3 → Nat :=
  let c0_i32_18 : BitVec 32 := 0#32
  let c1_i32_19 : BitVec 32 := 1#32
  let arg6 : BitVec 32 := Scf.iv c0_i32_18 c1_i32_19 k6_t2
  let c4_i32 : BitVec 32 := 4#32
  let v24 : BitVec 32 := Scalar.muli arg6 c4_i32
  let v25 : BitVec 32 := Scalar.addi v24 c0_i32_27
  let v26 : Index := Scalar.indexCast v25
  let c0_i32 : BitVec 32 := 0#32
  let c1_i32 : BitVec 32 := 1#32
  let arg5 : BitVec 32 := Scf.iv c0_i32 c1_i32 k6_t1
  let c48_i32 : BitVec 32 := 48#32
  let v9 : BitVec 32 := Scalar.muli arg5 c48_i32
  let v27 : Index := Scalar.indexCast v9
  let c0_28 : Index := 0#32
  ![v26.toNat, v27.toNat, 0]
def k6_off2 (k6_t2 : Fin k6_t2_loop.trips) (c0_i32_27 : BitVec 32) (c0_i32_29 : BitVec 32) (c0_i32_30 : BitVec 32) : Fin 3 → Nat :=
  let c0_i32_18 : BitVec 32 := 0#32
  let c1_i32_19 : BitVec 32 := 1#32
  let arg6 : BitVec 32 := Scf.iv c0_i32_18 c1_i32_19 k6_t2
  let c4_i32 : BitVec 32 := 4#32
  let v24 : BitVec 32 := Scalar.muli arg6 c4_i32
  let v25 : BitVec 32 := Scalar.addi v24 c0_i32_27
  let c9_i32 : BitVec 32 := 9#32
  let v30 : BitVec 32 := Scalar.muli v25 c9_i32
  let v31 : BitVec 32 := Scalar.addi v30 c0_i32_29
  let v32 : BitVec 32 := Scalar.addi v31 c0_i32_30
  let v33 : Index := Scalar.indexCast v32
  let c0_31 : Index := 0#32
  let c0_32 : Index := 0#32
  ![v33.toNat, 0, 0]
def k6_off3 (k6_t1 : Fin k6_t1_loop.trips) : Fin 3 → Nat :=
  let c0_25 : Index := 0#32
  let c8_i32_24 : BitVec 32 := 8#32
  let c0_i32 : BitVec 32 := 0#32
  let c1_i32 : BitVec 32 := 1#32
  let arg5 : BitVec 32 := Scf.iv c0_i32 c1_i32 k6_t1
  let c48_i32 : BitVec 32 := 48#32
  let v9 : BitVec 32 := Scalar.muli arg5 c48_i32
  let v20 : BitVec 32 := Scalar.addi c8_i32_24 v9
  let v21 : Index := Scalar.indexCast v20
  let c1 : Index := 1#32
  ![0, v21.toNat, 1]
abbrev stage6_0 : Fin 1 → Memref sig .tc .vmem S12x400x386 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))

abbrev stage6_1 : Fin 1 → Memref sig .tc .vmem S108x12x384 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))

abbrev stage6_2 : Fin 1 → Memref sig .tc .vmem S12x384 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))

abbrev stage6_3 : Fin 1 → Memref sig .tc .vmem S12x400x386 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))

abbrev grid7 : Pipeline.Grid := .none

@[reducible] def k7_t1_loop : Scf.Loop 32 :=
  let c0_i32 : BitVec 32 := 0#32
  let c8_i32 : BitVec 32 := 8#32
  let v8 : BitVec 32 := Scalar.addi c0_i32 c8_i32
  let c1_i32 : BitVec 32 := 1#32
  ⟨c0_i32, v8, c1_i32⟩
@[reducible] def k7_t2_loop : Scf.Loop 32 :=
  let c0_i32_18 : BitVec 32 := 0#32
  let c3_i32 : BitVec 32 := 3#32
  let v18 : BitVec 32 := Scalar.addi c0_i32_18 c3_i32
  let c1_i32_19 : BitVec 32 := 1#32
  ⟨c0_i32_18, v18, c1_i32_19⟩
def k7_off1 (k7_t1 : Fin k7_t1_loop.trips) (k7_t2 : Fin k7_t2_loop.trips) (c0_i32_27 : BitVec 32) : Fin 3 → Nat :=
  let c0_i32_18 : BitVec 32 := 0#32
  let c1_i32_19 : BitVec 32 := 1#32
  let arg6 : BitVec 32 := Scf.iv c0_i32_18 c1_i32_19 k7_t2
  let c4_i32 : BitVec 32 := 4#32
  let v24 : BitVec 32 := Scalar.muli arg6 c4_i32
  let v25 : BitVec 32 := Scalar.addi v24 c0_i32_27
  let v26 : Index := Scalar.indexCast v25
  let c0_i32 : BitVec 32 := 0#32
  let c1_i32 : BitVec 32 := 1#32
  let arg5 : BitVec 32 := Scf.iv c0_i32 c1_i32 k7_t1
  let c48_i32 : BitVec 32 := 48#32
  let v9 : BitVec 32 := Scalar.muli arg5 c48_i32
  let v27 : Index := Scalar.indexCast v9
  let c0_28 : Index := 0#32
  ![v26.toNat, v27.toNat, 0]
def k7_off2 (k7_t2 : Fin k7_t2_loop.trips) (c0_i32_27 : BitVec 32) (c0_i32_29 : BitVec 32) (c0_i32_30 : BitVec 32) : Fin 3 → Nat :=
  let c0_i32_18 : BitVec 32 := 0#32
  let c1_i32_19 : BitVec 32 := 1#32
  let arg6 : BitVec 32 := Scf.iv c0_i32_18 c1_i32_19 k7_t2
  let c4_i32 : BitVec 32 := 4#32
  let v24 : BitVec 32 := Scalar.muli arg6 c4_i32
  let v25 : BitVec 32 := Scalar.addi v24 c0_i32_27
  let c9_i32 : BitVec 32 := 9#32
  let v30 : BitVec 32 := Scalar.muli v25 c9_i32
  let v31 : BitVec 32 := Scalar.addi v30 c0_i32_29
  let v32 : BitVec 32 := Scalar.addi v31 c0_i32_30
  let v33 : Index := Scalar.indexCast v32
  let c0_31 : Index := 0#32
  let c0_32 : Index := 0#32
  ![v33.toNat, 0, 0]
def k7_off3 (k7_t1 : Fin k7_t1_loop.trips) : Fin 3 → Nat :=
  let c0_25 : Index := 0#32
  let c8_i32_24 : BitVec 32 := 8#32
  let c0_i32 : BitVec 32 := 0#32
  let c1_i32 : BitVec 32 := 1#32
  let arg5 : BitVec 32 := Scf.iv c0_i32 c1_i32 k7_t1
  let c48_i32 : BitVec 32 := 48#32
  let v9 : BitVec 32 := Scalar.muli arg5 c48_i32
  let v20 : BitVec 32 := Scalar.addi c8_i32_24 v9
  let v21 : Index := Scalar.indexCast v20
  let c1 : Index := 1#32
  ![0, v21.toNat, 1]
abbrev stage7_0 : Fin 1 → Memref sig .tc .vmem S12x400x386 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))

abbrev stage7_1 : Fin 1 → Memref sig .tc .vmem S108x12x384 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))

abbrev stage7_2 : Fin 1 → Memref sig .tc .vmem S12x384 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))

abbrev stage7_3 : Fin 1 → Memref sig .tc .vmem S12x400x386 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))

abbrev grid8 : Pipeline.Grid := .none

@[reducible] def k8_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
@[reducible] def k8_t2_loop : Scf.Loop 32 :=
  let c0_i32_5 : BitVec 32 := 0#32
  let c3_i32 : BitVec 32 := 3#32
  let v10 : BitVec 32 := Scalar.addi c0_i32_5 c3_i32
  let c1_i32_6 : BitVec 32 := 1#32
  ⟨c0_i32_5, v10, c1_i32_6⟩
def k8_off1 (k8_t1 : Fin k8_t1_loop.trips) (k8_t2 : Fin k8_t2_loop.trips) (c0_i32_14 : BitVec 32) : Fin 3 → Nat :=
  let c0_i32_5 : BitVec 32 := 0#32
  let c1_i32_6 : BitVec 32 := 1#32
  let arg6 : BitVec 32 := Scf.iv c0_i32_5 c1_i32_6 k8_t2
  let c4_i32 : BitVec 32 := 4#32
  let v16 : BitVec 32 := Scalar.muli arg6 c4_i32
  let v17 : BitVec 32 := Scalar.addi v16 c0_i32_14
  let v18 : Index := Scalar.indexCast v17
  let c0_i32 : BitVec 32 := 0#32
  let c1_i32 : BitVec 32 := 1#32
  let arg5 : BitVec 32 := Scf.iv c0_i32 c1_i32 k8_t1
  let c48_i32 : BitVec 32 := 48#32
  let v1 : BitVec 32 := Scalar.muli arg5 c48_i32
  let v19 : Index := Scalar.indexCast v1
  let c0_15 : Index := 0#32
  ![v18.toNat, v19.toNat, 0]
def k8_off2 (k8_t2 : Fin k8_t2_loop.trips) (c0_i32_14 : BitVec 32) (c0_i32_16 : BitVec 32) (c0_i32_17 : BitVec 32) : Fin 3 → Nat :=
  let c0_i32_5 : BitVec 32 := 0#32
  let c1_i32_6 : BitVec 32 := 1#32
  let arg6 : BitVec 32 := Scf.iv c0_i32_5 c1_i32_6 k8_t2
  let c4_i32 : BitVec 32 := 4#32
  let v16 : BitVec 32 := Scalar.muli arg6 c4_i32
  let v17 : BitVec 32 := Scalar.addi v16 c0_i32_14
  let c9_i32 : BitVec 32 := 9#32
  let v22 : BitVec 32 := Scalar.muli v17 c9_i32
  let v23 : BitVec 32 := Scalar.addi v22 c0_i32_16
  let v24 : BitVec 32 := Scalar.addi v23 c0_i32_17
  let v25 : Index := Scalar.indexCast v24
  let c0_18 : Index := 0#32
  let c0_19 : Index := 0#32
  ![v25.toNat, 0, 0]
def k8_off3 (k8_t1 : Fin k8_t1_loop.trips) : Fin 3 → Nat :=
  let c0_12 : Index := 0#32
  let c0_i32_11 : BitVec 32 := 0#32
  let c0_i32 : BitVec 32 := 0#32
  let c1_i32 : BitVec 32 := 1#32
  let arg5 : BitVec 32 := Scf.iv c0_i32 c1_i32 k8_t1
  let c48_i32 : BitVec 32 := 48#32
  let v1 : BitVec 32 := Scalar.muli arg5 c48_i32
  let v12 : BitVec 32 := Scalar.addi c0_i32_11 v1
  let v13 : Index := Scalar.indexCast v12
  let c0_13 : Index := 0#32
  ![0, v13.toNat, 0]
abbrev stage8_0 : Fin 1 → Memref sig .tc .vmem S12x400x386 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))

abbrev stage8_1 : Fin 1 → Memref sig .tc .vmem S108x1x384 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))

abbrev stage8_2 : Fin 1 → Memref sig .tc .vmem S1x384 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))

abbrev stage8_3 : Fin 1 → Memref sig .tc .vmem S1x384x384 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
-- ==== KernelIdeal.lean ====
variable {F : FTy → Type} [FloatOps F] [Named F]
def κ : String → Option EReal := fun
  | "inv_48" => some ((48⁻¹ : ℝ) : EReal)
  | "inv_96" => some ((96⁻¹ : ℝ) : EReal)
  | _ => none
-- ==== ReferenceIdeal.lean ====
abbrev S1x12x384x384 : Shape := ⟨4, ![1, 12, 384, 384]⟩
abbrev S12x12x3x3 : Shape := ⟨4, ![12, 12, 3, 3]⟩
abbrev S12 : Shape := ⟨1, ![12]⟩
abbrev S24x24x3x3 : Shape := ⟨4, ![24, 24, 3, 3]⟩
abbrev S24 : Shape := ⟨1, ![24]⟩
abbrev S1x12x3x3 : Shape := ⟨4, ![1, 12, 3, 3]⟩
abbrev S1 : Shape := ⟨1, ![1]⟩
abbrev S48 : Shape := ⟨1, ![48]⟩
abbrev S48x24 : Shape := ⟨2, ![48, 24]⟩
abbrev S96 : Shape := ⟨1, ![96]⟩
abbrev S96x48 : Shape := ⟨2, ![96, 48]⟩
abbrev S96x48x1x1 : Shape := ⟨4, ![96, 48, 1, 1]⟩
abbrev S48x24x1x1 : Shape := ⟨4, ![48, 24, 1, 1]⟩
abbrev S12x384x384 : Shape := ⟨3, ![12, 384, 384]⟩
abbrev S_ : Shape := ⟨0, ![]⟩
abbrev S12x386x386 : Shape := ⟨3, ![12, 386, 386]⟩
abbrev S12x12x1x1 : Shape := ⟨4, ![12, 12, 1, 1]⟩
abbrev S12x12 : Shape := ⟨2, ![12, 12]⟩
abbrev S12x1x1 : Shape := ⟨3, ![12, 1, 1]⟩
abbrev S12x192x192 : Shape := ⟨3, ![12, 192, 192]⟩
abbrev S48x192x192 : Shape := ⟨3, ![48, 192, 192]⟩
abbrev S192x192x48 : Shape := ⟨3, ![192, 192, 48]⟩
abbrev S192x192 : Shape := ⟨2, ![192, 192]⟩
abbrev S192x192x1 : Shape := ⟨3, ![192, 192, 1]⟩
abbrev S1x1x48 : Shape := ⟨3, ![1, 1, 48]⟩
abbrev S192x192x24 : Shape := ⟨3, ![192, 192, 24]⟩
abbrev S24x192x192 : Shape := ⟨3, ![24, 192, 192]⟩
abbrev S24x96x96 : Shape := ⟨3, ![24, 96, 96]⟩
abbrev S96x96x96 : Shape := ⟨3, ![96, 96, 96]⟩
abbrev S96x96 : Shape := ⟨2, ![96, 96]⟩
abbrev S96x96x1 : Shape := ⟨3, ![96, 96, 1]⟩
abbrev S1x1x96 : Shape := ⟨3, ![1, 1, 96]⟩
abbrev S96x96x48 : Shape := ⟨3, ![96, 96, 48]⟩
abbrev S48x96x96 : Shape := ⟨3, ![48, 96, 96]⟩
abbrev S96x1x1 : Shape := ⟨3, ![96, 1, 1]⟩
abbrev S24x2x2x96x96 : Shape := ⟨5, ![24, 2, 2, 96, 96]⟩
abbrev S24x96x2x96x2 : Shape := ⟨5, ![24, 96, 2, 96, 2]⟩
abbrev S24x194x194 : Shape := ⟨3, ![24, 194, 194]⟩
abbrev S24x24x1x1 : Shape := ⟨4, ![24, 24, 1, 1]⟩
abbrev S24x24 : Shape := ⟨2, ![24, 24]⟩
abbrev S24x1x1 : Shape := ⟨3, ![24, 1, 1]⟩
abbrev S48x1x1 : Shape := ⟨3, ![48, 1, 1]⟩
abbrev S12x2x2x192x192 : Shape := ⟨5, ![12, 2, 2, 192, 192]⟩
abbrev S12x192x2x192x2 : Shape := ⟨5, ![12, 192, 2, 192, 2]⟩
abbrev S1x12x1x1 : Shape := ⟨4, ![1, 12, 1, 1]⟩
abbrev S1x12 : Shape := ⟨2, ![1, 12]⟩
abbrev S1x384x384 : Shape := ⟨3, ![1, 384, 384]⟩
abbrev S1x1x1 : Shape := ⟨3, ![1, 1, 1]⟩
abbrev S1x1x384x384 : Shape := ⟨4, ![1, 1, 384, 384]⟩

abbrev nBuf : Space → Nat
  | .hbm => 426
  | .vmem => 0
  | .smem => 0
  | _ => 0

abbrev hbmTy0_0 (i : Nat) : BufTy := match i % 128 with
  | 0 => ⟨S1x12x384x384, .f32⟩
  | 1 => ⟨S12x12x3x3, .f32⟩
  | 2 => ⟨S12, .f32⟩
  | 3 => ⟨S24x24x3x3, .f32⟩
  | 4 => ⟨S24, .f32⟩
  | 5 => ⟨S12x12x3x3, .f32⟩
  | 6 => ⟨S12, .f32⟩
  | 7 => ⟨S1x12x3x3, .f32⟩
  | 8 => ⟨S1, .f32⟩
  | 9 => ⟨S48, .f32⟩
  | 10 => ⟨S48, .f32⟩
  | 11 => ⟨S48x24, .f32⟩
  | 12 => ⟨S96, .f32⟩
  | 13 => ⟨S96, .f32⟩
  | 14 => ⟨S96x48, .f32⟩
  | 15 => ⟨S96x48x1x1, .f32⟩
  | 16 => ⟨S96, .f32⟩
  | 17 => ⟨S48x24x1x1, .f32⟩
  | 18 => ⟨S48, .f32⟩
  | 19 => ⟨S12x384x384, .f32⟩
  | 20 => ⟨S_, .i32⟩
  | 21 => ⟨S_, .f32⟩
  | 22 => ⟨S12x386x386, .f32⟩
  | 23 => ⟨S12x12x1x1, .f32⟩
  | 24 => ⟨S12x12, .f32⟩
  | 25 => ⟨S12x384x384, .f32⟩
  | 26 => ⟨S12x384x384, .f32⟩
  | 27 => ⟨S_, .f32⟩
  | 28 => ⟨S12x384x384, .f32⟩
  | 29 => ⟨S12x384x384, .f32⟩
  | 30 => ⟨S12x12x1x1, .f32⟩
  | 31 => ⟨S12x12, .f32⟩
  | 32 => ⟨S12x384x384, .f32⟩
  | 33 => ⟨S12x384x384, .f32⟩
  | 34 => ⟨S12x384x384, .f32⟩
  | 35 => ⟨S12x12x1x1, .f32⟩
  | 36 => ⟨S12x12, .f32⟩
  | 37 => ⟨S12x384x384, .f32⟩
  | 38 => ⟨S12x384x384, .f32⟩
  | 39 => ⟨S12x384x384, .f32⟩
  | 40 => ⟨S12x12x1x1, .f32⟩
  | 41 => ⟨S12x12, .f32⟩
  | 42 => ⟨S12x384x384, .f32⟩
  | 43 => ⟨S12x384x384, .f32⟩
  | 44 => ⟨S12x384x384, .f32⟩
  | 45 => ⟨S12x12x1x1, .f32⟩
  | 46 => ⟨S12x12, .f32⟩
  | 47 => ⟨S12x384x384, .f32⟩
  | 48 => ⟨S12x384x384, .f32⟩
  | 49 => ⟨S12x384x384, .f32⟩
  | 50 => ⟨S12x12x1x1, .f32⟩
  | 51 => ⟨S12x12, .f32⟩
  | 52 => ⟨S12x384x384, .f32⟩
  | 53 => ⟨S12x384x384, .f32⟩
  | 54 => ⟨S12x384x384, .f32⟩
  | 55 => ⟨S12x12x1x1, .f32⟩
  | 56 => ⟨S12x12, .f32⟩
  | 57 => ⟨S12x384x384, .f32⟩
  | 58 => ⟨S12x384x384, .f32⟩
  | 59 => ⟨S12x384x384, .f32⟩
  | 60 => ⟨S12x12x1x1, .f32⟩
  | 61 => ⟨S12x12, .f32⟩
  | 62 => ⟨S12x384x384, .f32⟩
  | 63 => ⟨S12x384x384, .f32⟩
  | 64 => ⟨S12x384x384, .f32⟩
  | 65 => ⟨S12x12x1x1, .f32⟩
  | 66 => ⟨S12x12, .f32⟩
  | 67 => ⟨S12x384x384, .f32⟩
  | 68 => ⟨S12x384x384, .f32⟩
  | 69 => ⟨S12x384x384, .f32⟩
  | 70 => ⟨S12x1x1, .f32⟩
  | 71 => ⟨S12x384x384, .f32⟩
  | 72 => ⟨S12x384x384, .f32⟩
  | 73 => ⟨S12x384x384, .f32⟩
  | 74 => ⟨S_, .f32⟩
  | 75 => ⟨S12x384x384, .f32⟩
  | 76 => ⟨S12x384x384, .i1⟩
  | 77 => ⟨S_, .f32⟩
  | 78 => ⟨S_, .f32⟩
  | 79 => ⟨S12x384x384, .f32⟩
  | 80 => ⟨S12x384x384, .f32⟩
  | 81 => ⟨S12x192x192, .f32⟩
  | 82 => ⟨S12x192x192, .f32⟩
  | 83 => ⟨S12x192x192, .f32⟩
  | 84 => ⟨S12x192x192, .f32⟩
  | 85 => ⟨S48x192x192, .f32⟩
  | 86 => ⟨S192x192x48, .f32⟩
  | 87 => ⟨S_, .f32⟩
  | 88 => ⟨S192x192, .f32⟩
  | 89 => ⟨S192x192x1, .f32⟩
  | 90 => ⟨S_, .f32⟩
  | 91 => ⟨S192x192x1, .f32⟩
  | 92 => ⟨S192x192x1, .f32⟩
  | 93 => ⟨S_, .i32⟩
  | 94 => ⟨S_, .f32⟩
  | 95 => ⟨S192x192, .f32⟩
  | 96 => ⟨S192x192x1, .f32⟩
  | 97 => ⟨S_, .f32⟩
  | 98 => ⟨S192x192x1, .f32⟩
  | 99 => ⟨S192x192x1, .f32⟩
  | 100 => ⟨S192x192x48, .f32⟩
  | 101 => ⟨S192x192x48, .f32⟩
  | 102 => ⟨S192x192x48, .f32⟩
  | 103 => ⟨S_, .f32⟩
  | 104 => ⟨S_, .f32⟩
  | 105 => ⟨S_, .f32⟩
  | 106 => ⟨S_, .f32⟩
  | 107 => ⟨S192x192, .f32⟩
  | 108 => ⟨S192x192x1, .f32⟩
  | 109 => ⟨S192x192x1, .f32⟩
  | 110 => ⟨S192x192x1, .f32⟩
  | 111 => ⟨S_, .f32⟩
  | 112 => ⟨S_, .i1⟩
  | 113 => ⟨S_, .f32⟩
  | 114 => ⟨S_, .f32⟩
  | 115 => ⟨S192x192x1, .f32⟩
  | 116 => ⟨S192x192x1, .f32⟩
  | 117 => ⟨S192x192x48, .f32⟩
  | 118 => ⟨S192x192x48, .f32⟩
  | 119 => ⟨S_, .f32⟩
  | 120 => ⟨S192x192x1, .f32⟩
  | 121 => ⟨S192x192x1, .f32⟩
  | 122 => ⟨S192x192x1, .f32⟩
  | 123 => ⟨S192x192x48, .f32⟩
  | 124 => ⟨S192x192x48, .f32⟩
  | 125 => ⟨S1x1x48, .f32⟩
  | 126 => ⟨S192x192x48, .f32⟩
  | 127 => ⟨S192x192x48, .f32⟩
  | _ => ⟨S1x12x384x384, .f32⟩

abbrev hbmTy0_1 (i : Nat) : BufTy := match i % 128 with
  | 0 => ⟨S1x1x48, .f32⟩
  | 1 => ⟨S192x192x48, .f32⟩
  | 2 => ⟨S192x192x48, .f32⟩
  | 3 => ⟨S192x192x24, .f32⟩
  | 4 => ⟨S24x192x192, .f32⟩
  | 5 => ⟨S24x96x96, .f32⟩
  | 6 => ⟨S24x96x96, .f32⟩
  | 7 => ⟨S24x96x96, .f32⟩
  | 8 => ⟨S24x96x96, .f32⟩
  | 9 => ⟨S96x96x96, .f32⟩
  | 10 => ⟨S96x96x96, .f32⟩
  | 11 => ⟨S_, .f32⟩
  | 12 => ⟨S96x96, .f32⟩
  | 13 => ⟨S96x96x1, .f32⟩
  | 14 => ⟨S_, .f32⟩
  | 15 => ⟨S96x96x1, .f32⟩
  | 16 => ⟨S96x96x1, .f32⟩
  | 17 => ⟨S_, .i32⟩
  | 18 => ⟨S_, .f32⟩
  | 19 => ⟨S96x96, .f32⟩
  | 20 => ⟨S96x96x1, .f32⟩
  | 21 => ⟨S_, .f32⟩
  | 22 => ⟨S96x96x1, .f32⟩
  | 23 => ⟨S96x96x1, .f32⟩
  | 24 => ⟨S96x96x96, .f32⟩
  | 25 => ⟨S96x96x96, .f32⟩
  | 26 => ⟨S96x96x96, .f32⟩
  | 27 => ⟨S_, .f32⟩
  | 28 => ⟨S_, .f32⟩
  | 29 => ⟨S_, .f32⟩
  | 30 => ⟨S_, .f32⟩
  | 31 => ⟨S96x96, .f32⟩
  | 32 => ⟨S96x96x1, .f32⟩
  | 33 => ⟨S96x96x1, .f32⟩
  | 34 => ⟨S96x96x1, .f32⟩
  | 35 => ⟨S_, .f32⟩
  | 36 => ⟨S_, .i1⟩
  | 37 => ⟨S_, .f32⟩
  | 38 => ⟨S_, .f32⟩
  | 39 => ⟨S96x96x1, .f32⟩
  | 40 => ⟨S96x96x1, .f32⟩
  | 41 => ⟨S96x96x96, .f32⟩
  | 42 => ⟨S96x96x96, .f32⟩
  | 43 => ⟨S_, .f32⟩
  | 44 => ⟨S96x96x1, .f32⟩
  | 45 => ⟨S96x96x1, .f32⟩
  | 46 => ⟨S96x96x1, .f32⟩
  | 47 => ⟨S96x96x96, .f32⟩
  | 48 => ⟨S96x96x96, .f32⟩
  | 49 => ⟨S1x1x96, .f32⟩
  | 50 => ⟨S96x96x96, .f32⟩
  | 51 => ⟨S96x96x96, .f32⟩
  | 52 => ⟨S1x1x96, .f32⟩
  | 53 => ⟨S96x96x96, .f32⟩
  | 54 => ⟨S96x96x96, .f32⟩
  | 55 => ⟨S96x96x48, .f32⟩
  | 56 => ⟨S48x96x96, .f32⟩
  | 57 => ⟨S_, .i32⟩
  | 58 => ⟨S_, .f32⟩
  | 59 => ⟨S48x96x96, .f32⟩
  | 60 => ⟨S96x48, .f32⟩
  | 61 => ⟨S96x96x96, .f32⟩
  | 62 => ⟨S_, .f32⟩
  | 63 => ⟨S96x96x96, .f32⟩
  | 64 => ⟨S96x96x96, .f32⟩
  | 65 => ⟨S96x1x1, .f32⟩
  | 66 => ⟨S96x96x96, .f32⟩
  | 67 => ⟨S96x96x96, .f32⟩
  | 68 => ⟨S24x2x2x96x96, .f32⟩
  | 69 => ⟨S24x96x2x96x2, .f32⟩
  | 70 => ⟨S24x192x192, .f32⟩
  | 71 => ⟨S_, .i32⟩
  | 72 => ⟨S_, .f32⟩
  | 73 => ⟨S24x194x194, .f32⟩
  | 74 => ⟨S24x24x1x1, .f32⟩
  | 75 => ⟨S24x24, .f32⟩
  | 76 => ⟨S24x192x192, .f32⟩
  | 77 => ⟨S24x192x192, .f32⟩
  | 78 => ⟨S_, .f32⟩
  | 79 => ⟨S24x192x192, .f32⟩
  | 80 => ⟨S24x192x192, .f32⟩
  | 81 => ⟨S24x24x1x1, .f32⟩
  | 82 => ⟨S24x24, .f32⟩
  | 83 => ⟨S24x192x192, .f32⟩
  | 84 => ⟨S24x192x192, .f32⟩
  | 85 => ⟨S24x192x192, .f32⟩
  | 86 => ⟨S24x24x1x1, .f32⟩
  | 87 => ⟨S24x24, .f32⟩
  | 88 => ⟨S24x192x192, .f32⟩
  | 89 => ⟨S24x192x192, .f32⟩
  | 90 => ⟨S24x192x192, .f32⟩
  | 91 => ⟨S24x24x1x1, .f32⟩
  | 92 => ⟨S24x24, .f32⟩
  | 93 => ⟨S24x192x192, .f32⟩
  | 94 => ⟨S24x192x192, .f32⟩
  | 95 => ⟨S24x192x192, .f32⟩
  | 96 => ⟨S24x24x1x1, .f32⟩
  | 97 => ⟨S24x24, .f32⟩
  | 98 => ⟨S24x192x192, .f32⟩
  | 99 => ⟨S24x192x192, .f32⟩
  | 100 => ⟨S24x192x192, .f32⟩
  | 101 => ⟨S24x24x1x1, .f32⟩
  | 102 => ⟨S24x24, .f32⟩
  | 103 => ⟨S24x192x192, .f32⟩
  | 104 => ⟨S24x192x192, .f32⟩
  | 105 => ⟨S24x192x192, .f32⟩
  | 106 => ⟨S24x24x1x1, .f32⟩
  | 107 => ⟨S24x24, .f32⟩
  | 108 => ⟨S24x192x192, .f32⟩
  | 109 => ⟨S24x192x192, .f32⟩
  | 110 => ⟨S24x192x192, .f32⟩
  | 111 => ⟨S24x24x1x1, .f32⟩
  | 112 => ⟨S24x24, .f32⟩
  | 113 => ⟨S24x192x192, .f32⟩
  | 114 => ⟨S24x192x192, .f32⟩
  | 115 => ⟨S24x192x192, .f32⟩
  | 116 => ⟨S24x24x1x1, .f32⟩
  | 117 => ⟨S24x24, .f32⟩
  | 118 => ⟨S24x192x192, .f32⟩
  | 119 => ⟨S24x192x192, .f32⟩
  | 120 => ⟨S24x192x192, .f32⟩
  | 121 => ⟨S24x1x1, .f32⟩
  | 122 => ⟨S24x192x192, .f32⟩
  | 123 => ⟨S24x192x192, .f32⟩
  | 124 => ⟨S_, .i32⟩
  | 125 => ⟨S_, .f32⟩
  | 126 => ⟨S24x192x192, .f32⟩
  | 127 => ⟨S48x24, .f32⟩
  | _ => ⟨S1x12x384x384, .f32⟩

abbrev hbmTy0_2 (i : Nat) : BufTy := match i % 128 with
  | 0 => ⟨S48x192x192, .f32⟩
  | 1 => ⟨S_, .f32⟩
  | 2 => ⟨S48x192x192, .f32⟩
  | 3 => ⟨S48x192x192, .f32⟩
  | 4 => ⟨S48x1x1, .f32⟩
  | 5 => ⟨S48x192x192, .f32⟩
  | 6 => ⟨S48x192x192, .f32⟩
  | 7 => ⟨S12x2x2x192x192, .f32⟩
  | 8 => ⟨S12x192x2x192x2, .f32⟩
  | 9 => ⟨S12x384x384, .f32⟩
  | 10 => ⟨S_, .i32⟩
  | 11 => ⟨S_, .f32⟩
  | 12 => ⟨S12x386x386, .f32⟩
  | 13 => ⟨S12x12x1x1, .f32⟩
  | 14 => ⟨S12x12, .f32⟩
  | 15 => ⟨S12x384x384, .f32⟩
  | 16 => ⟨S12x384x384, .f32⟩
  | 17 => ⟨S_, .f32⟩
  | 18 => ⟨S12x384x384, .f32⟩
  | 19 => ⟨S12x384x384, .f32⟩
  | 20 => ⟨S12x12x1x1, .f32⟩
  | 21 => ⟨S12x12, .f32⟩
  | 22 => ⟨S12x384x384, .f32⟩
  | 23 => ⟨S12x384x384, .f32⟩
  | 24 => ⟨S12x384x384, .f32⟩
  | 25 => ⟨S12x12x1x1, .f32⟩
  | 26 => ⟨S12x12, .f32⟩
  | 27 => ⟨S12x384x384, .f32⟩
  | 28 => ⟨S12x384x384, .f32⟩
  | 29 => ⟨S12x384x384, .f32⟩
  | 30 => ⟨S12x12x1x1, .f32⟩
  | 31 => ⟨S12x12, .f32⟩
  | 32 => ⟨S12x384x384, .f32⟩
  | 33 => ⟨S12x384x384, .f32⟩
  | 34 => ⟨S12x384x384, .f32⟩
  | 35 => ⟨S12x12x1x1, .f32⟩
  | 36 => ⟨S12x12, .f32⟩
  | 37 => ⟨S12x384x384, .f32⟩
  | 38 => ⟨S12x384x384, .f32⟩
  | 39 => ⟨S12x384x384, .f32⟩
  | 40 => ⟨S12x12x1x1, .f32⟩
  | 41 => ⟨S12x12, .f32⟩
  | 42 => ⟨S12x384x384, .f32⟩
  | 43 => ⟨S12x384x384, .f32⟩
  | 44 => ⟨S12x384x384, .f32⟩
  | 45 => ⟨S12x12x1x1, .f32⟩
  | 46 => ⟨S12x12, .f32⟩
  | 47 => ⟨S12x384x384, .f32⟩
  | 48 => ⟨S12x384x384, .f32⟩
  | 49 => ⟨S12x384x384, .f32⟩
  | 50 => ⟨S12x12x1x1, .f32⟩
  | 51 => ⟨S12x12, .f32⟩
  | 52 => ⟨S12x384x384, .f32⟩
  | 53 => ⟨S12x384x384, .f32⟩
  | 54 => ⟨S12x384x384, .f32⟩
  | 55 => ⟨S12x12x1x1, .f32⟩
  | 56 => ⟨S12x12, .f32⟩
  | 57 => ⟨S12x384x384, .f32⟩
  | 58 => ⟨S12x384x384, .f32⟩
  | 59 => ⟨S12x384x384, .f32⟩
  | 60 => ⟨S12x1x1, .f32⟩
  | 61 => ⟨S12x384x384, .f32⟩
  | 62 => ⟨S12x384x384, .f32⟩
  | 63 => ⟨S_, .i32⟩
  | 64 => ⟨S_, .f32⟩
  | 65 => ⟨S12x386x386, .f32⟩
  | 66 => ⟨S12x12x1x1, .f32⟩
  | 67 => ⟨S12x12, .f32⟩
  | 68 => ⟨S12x384x384, .f32⟩
  | 69 => ⟨S12x384x384, .f32⟩
  | 70 => ⟨S_, .f32⟩
  | 71 => ⟨S12x384x384, .f32⟩
  | 72 => ⟨S12x384x384, .f32⟩
  | 73 => ⟨S12x12x1x1, .f32⟩
  | 74 => ⟨S12x12, .f32⟩
  | 75 => ⟨S12x384x384, .f32⟩
  | 76 => ⟨S12x384x384, .f32⟩
  | 77 => ⟨S12x384x384, .f32⟩
  | 78 => ⟨S12x12x1x1, .f32⟩
  | 79 => ⟨S12x12, .f32⟩
  | 80 => ⟨S12x384x384, .f32⟩
  | 81 => ⟨S12x384x384, .f32⟩
  | 82 => ⟨S12x384x384, .f32⟩
  | 83 => ⟨S12x12x1x1, .f32⟩
  | 84 => ⟨S12x12, .f32⟩
  | 85 => ⟨S12x384x384, .f32⟩
  | 86 => ⟨S12x384x384, .f32⟩
  | 87 => ⟨S12x384x384, .f32⟩
  | 88 => ⟨S12x12x1x1, .f32⟩
  | 89 => ⟨S12x12, .f32⟩
  | 90 => ⟨S12x384x384, .f32⟩
  | 91 => ⟨S12x384x384, .f32⟩
  | 92 => ⟨S12x384x384, .f32⟩
  | 93 => ⟨S12x12x1x1, .f32⟩
  | 94 => ⟨S12x12, .f32⟩
  | 95 => ⟨S12x384x384, .f32⟩
  | 96 => ⟨S12x384x384, .f32⟩
  | 97 => ⟨S12x384x384, .f32⟩
  | 98 => ⟨S12x12x1x1, .f32⟩
  | 99 => ⟨S12x12, .f32⟩
  | 100 => ⟨S12x384x384, .f32⟩
  | 101 => ⟨S12x384x384, .f32⟩
  | 102 => ⟨S12x384x384, .f32⟩
  | 103 => ⟨S12x12x1x1, .f32⟩
  | 104 => ⟨S12x12, .f32⟩
  | 105 => ⟨S12x384x384, .f32⟩
  | 106 => ⟨S12x384x384, .f32⟩
  | 107 => ⟨S12x384x384, .f32⟩
  | 108 => ⟨S12x12x1x1, .f32⟩
  | 109 => ⟨S12x12, .f32⟩
  | 110 => ⟨S12x384x384, .f32⟩
  | 111 => ⟨S12x384x384, .f32⟩
  | 112 => ⟨S12x384x384, .f32⟩
  | 113 => ⟨S12x1x1, .f32⟩
  | 114 => ⟨S12x384x384, .f32⟩
  | 115 => ⟨S12x384x384, .f32⟩
  | 116 => ⟨S_, .i32⟩
  | 117 => ⟨S_, .f32⟩
  | 118 => ⟨S12x386x386, .f32⟩
  | 119 => ⟨S1x12x1x1, .f32⟩
  | 120 => ⟨S1x12, .f32⟩
  | 121 => ⟨S12x384x384, .f32⟩
  | 122 => ⟨S1x384x384, .f32⟩
  | 123 => ⟨S_, .f32⟩
  | 124 => ⟨S1x384x384, .f32⟩
  | 125 => ⟨S1x384x384, .f32⟩
  | 126 => ⟨S1x12x1x1, .f32⟩
  | 127 => ⟨S1x12, .f32⟩
  | _ => ⟨S1x12x384x384, .f32⟩

abbrev hbmTy0_3 (i : Nat) : BufTy := match i % 128 with
  | 0 => ⟨S12x384x384, .f32⟩
  | 1 => ⟨S1x384x384, .f32⟩
  | 2 => ⟨S1x384x384, .f32⟩
  | 3 => ⟨S1x12x1x1, .f32⟩
  | 4 => ⟨S1x12, .f32⟩
  | 5 => ⟨S12x384x384, .f32⟩
  | 6 => ⟨S1x384x384, .f32⟩
  | 7 => ⟨S1x384x384, .f32⟩
  | 8 => ⟨S1x12x1x1, .f32⟩
  | 9 => ⟨S1x12, .f32⟩
  | 10 => ⟨S12x384x384, .f32⟩
  | 11 => ⟨S1x384x384, .f32⟩
  | 12 => ⟨S1x384x384, .f32⟩
  | 13 => ⟨S1x12x1x1, .f32⟩
  | 14 => ⟨S1x12, .f32⟩
  | 15 => ⟨S12x384x384, .f32⟩
  | 16 => ⟨S1x384x384, .f32⟩
  | 17 => ⟨S1x384x384, .f32⟩
  | 18 => ⟨S1x12x1x1, .f32⟩
  | 19 => ⟨S1x12, .f32⟩
  | 20 => ⟨S12x384x384, .f32⟩
  | 21 => ⟨S1x384x384, .f32⟩
  | 22 => ⟨S1x384x384, .f32⟩
  | 23 => ⟨S1x12x1x1, .f32⟩
  | 24 => ⟨S1x12, .f32⟩
  | 25 => ⟨S12x384x384, .f32⟩
  | 26 => ⟨S1x384x384, .f32⟩
  | 27 => ⟨S1x384x384, .f32⟩
  | 28 => ⟨S1x12x1x1, .f32⟩
  | 29 => ⟨S1x12, .f32⟩
  | 30 => ⟨S12x384x384, .f32⟩
  | 31 => ⟨S1x384x384, .f32⟩
  | 32 => ⟨S1x384x384, .f32⟩
  | 33 => ⟨S1x12x1x1, .f32⟩
  | 34 => ⟨S1x12, .f32⟩
  | 35 => ⟨S12x384x384, .f32⟩
  | 36 => ⟨S1x384x384, .f32⟩
  | 37 => ⟨S1x384x384, .f32⟩
  | 38 => ⟨S1x1x1, .f32⟩
  | 39 => ⟨S1x384x384, .f32⟩
  | 40 => ⟨S1x384x384, .f32⟩
  | 41 => ⟨S1x1x384x384, .f32⟩
  | _ => ⟨S1x12x384x384, .f32⟩

abbrev hbmTy (i : Nat) : BufTy := match i / 128 with
  | 0 => hbmTy0_0 i
  | 1 => hbmTy0_1 i
  | 2 => hbmTy0_2 i
  | 3 => hbmTy0_3 i
  | _ => ⟨S1x12x384x384, .f32⟩

abbrev bufTy : (tb : Table) → Fin (tcTables nBuf tb) → BufTy
  | .hbm, ⟨i, _⟩ => hbmTy i
  | _, _ => ⟨S1x12x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_c : Ref sig .tc := ⟨.hbm, 20, rfl⟩
abbrev main_call0_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_cst : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_call1_v0 : Ref sig .tc := ⟨.hbm, 73, rfl⟩
abbrev main_call1_cst : Ref sig .tc := ⟨.hbm, 74, rfl⟩
abbrev main_call1_v1 : Ref sig .tc := ⟨.hbm, 75, rfl⟩
abbrev main_v51 : Ref sig .tc := ⟨.hbm, 76, rfl⟩
abbrev main_cst_0 : Ref sig .tc := ⟨.hbm, 77, rfl⟩
abbrev main_call2_v0 : Ref sig .tc := ⟨.hbm, 78, rfl⟩
abbrev main_call2_v1 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_1 : Ref sig .tc := ⟨.hbm, 87, rfl⟩
abbrev main_v59 : Ref sig .tc := ⟨.hbm, 88, rfl⟩
abbrev main_v60 : Ref sig .tc := ⟨.hbm, 89, rfl⟩
abbrev main_cst_2 : Ref sig .tc := ⟨.hbm, 90, rfl⟩
abbrev main_v61 : Ref sig .tc := ⟨.hbm, 91, rfl⟩
abbrev main_v62 : Ref sig .tc := ⟨.hbm, 92, rfl⟩
abbrev main_c_3 : Ref sig .tc := ⟨.hbm, 93, rfl⟩
abbrev main_call3_cst : Ref sig .tc := ⟨.hbm, 94, rfl⟩
abbrev main_call3_v0 : Ref sig .tc := ⟨.hbm, 95, rfl⟩
abbrev main_call3_v1 : Ref sig .tc := ⟨.hbm, 96, rfl⟩
abbrev main_call3_cst_0 : Ref sig .tc := ⟨.hbm, 97, rfl⟩
abbrev main_call3_v2 : Ref sig .tc := ⟨.hbm, 98, rfl⟩
abbrev main_call3_v3 : Ref sig .tc := ⟨.hbm, 99, rfl⟩
abbrev main_call3_v4 : Ref sig .tc := ⟨.hbm, 100, rfl⟩
abbrev main_call3_v5 : Ref sig .tc := ⟨.hbm, 101, rfl⟩
abbrev main_call3_v6 : Ref sig .tc := ⟨.hbm, 102, rfl⟩
abbrev main_call3_v7 : Ref sig .tc := ⟨.hbm, 103, rfl⟩
abbrev main_call3_cst_1 : Ref sig .tc := ⟨.hbm, 104, rfl⟩
abbrev main_call3_v8 : Ref sig .tc := ⟨.hbm, 105, rfl⟩
abbrev main_call3_cst_2 : Ref sig .tc := ⟨.hbm, 106, rfl⟩
abbrev main_call3_v9 : Ref sig .tc := ⟨.hbm, 107, rfl⟩
abbrev main_call3_v10 : Ref sig .tc := ⟨.hbm, 108, rfl⟩
abbrev main_call3_v11 : Ref sig .tc := ⟨.hbm, 109, rfl⟩
abbrev main_call3_v12 : Ref sig .tc := ⟨.hbm, 110, rfl⟩
abbrev main_call3_cst_3 : Ref sig .tc := ⟨.hbm, 111, rfl⟩
abbrev main_call3_v13 : Ref sig .tc := ⟨.hbm, 112, rfl⟩
abbrev main_call3_cst_4 : Ref sig .tc := ⟨.hbm, 113, rfl⟩
abbrev main_call3_call0_v0 : Ref sig .tc := ⟨.hbm, 114, rfl⟩
abbrev main_call3_call0_v1 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_cst_4 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_cst_5 : Ref sig .tc := ⟨.hbm, 139, rfl⟩
abbrev main_v85 : Ref sig .tc := ⟨.hbm, 140, rfl⟩
abbrev main_v86 : Ref sig .tc := ⟨.hbm, 141, rfl⟩
abbrev main_cst_6 : Ref sig .tc := ⟨.hbm, 142, rfl⟩
abbrev main_v87 : Ref sig .tc := ⟨.hbm, 143, rfl⟩
abbrev main_v88 : Ref sig .tc := ⟨.hbm, 144, rfl⟩
abbrev main_c_7 : Ref sig .tc := ⟨.hbm, 145, rfl⟩
abbrev main_call4_cst : Ref sig .tc := ⟨.hbm, 146, rfl⟩
abbrev main_call4_v0 : Ref sig .tc := ⟨.hbm, 147, rfl⟩
abbrev main_call4_v1 : Ref sig .tc := ⟨.hbm, 148, rfl⟩
abbrev main_call4_cst_0 : Ref sig .tc := ⟨.hbm, 149, rfl⟩
abbrev main_call4_v2 : Ref sig .tc := ⟨.hbm, 150, rfl⟩
abbrev main_call4_v3 : Ref sig .tc := ⟨.hbm, 151, rfl⟩
abbrev main_call4_v4 : Ref sig .tc := ⟨.hbm, 152, rfl⟩
abbrev main_call4_v5 : Ref sig .tc := ⟨.hbm, 153, rfl⟩
abbrev main_call4_v6 : Ref sig .tc := ⟨.hbm, 154, rfl⟩
abbrev main_call4_v7 : Ref sig .tc := ⟨.hbm, 155, rfl⟩
abbrev main_call4_cst_1 : Ref sig .tc := ⟨.hbm, 156, rfl⟩
abbrev main_call4_v8 : Ref sig .tc := ⟨.hbm, 157, rfl⟩
abbrev main_call4_cst_2 : Ref sig .tc := ⟨.hbm, 158, rfl⟩
abbrev main_call4_v9 : Ref sig .tc := ⟨.hbm, 159, rfl⟩
abbrev main_call4_v10 : Ref sig .tc := ⟨.hbm, 160, rfl⟩
abbrev main_call4_v11 : Ref sig .tc := ⟨.hbm, 161, rfl⟩
abbrev main_call4_v12 : Ref sig .tc := ⟨.hbm, 162, rfl⟩
abbrev main_call4_cst_3 : Ref sig .tc := ⟨.hbm, 163, rfl⟩
abbrev main_call4_v13 : Ref sig .tc := ⟨.hbm, 164, rfl⟩
abbrev main_call4_cst_4 : Ref sig .tc := ⟨.hbm, 165, rfl⟩
abbrev main_call4_call0_v0 : Ref sig .tc := ⟨.hbm, 166, rfl⟩
abbrev main_call4_call0_v1 : Ref sig .tc := ⟨.hbm, 167, rfl⟩
abbrev main_v89 : Ref sig .tc := ⟨.hbm, 168, rfl⟩
abbrev main_v90 : Ref sig .tc := ⟨.hbm, 169, rfl⟩
abbrev main_v91 : Ref sig .tc := ⟨.hbm, 170, rfl⟩
abbrev main_cst_8 : Ref sig .tc := ⟨.hbm, 171, rfl⟩
abbrev main_v92 : Ref sig .tc := ⟨.hbm, 172, rfl⟩
abbrev main_v93 : Ref sig .tc := ⟨.hbm, 173, rfl⟩
abbrev main_v94 : Ref sig .tc := ⟨.hbm, 174, rfl⟩
abbrev main_v95 : Ref sig .tc := ⟨.hbm, 175, rfl⟩
abbrev main_v96 : Ref sig .tc := ⟨.hbm, 176, rfl⟩
abbrev main_v97 : Ref sig .tc := ⟨.hbm, 177, rfl⟩
abbrev main_v98 : Ref sig .tc := ⟨.hbm, 178, rfl⟩
abbrev main_v99 : Ref sig .tc := ⟨.hbm, 179, rfl⟩
abbrev main_v100 : Ref sig .tc := ⟨.hbm, 180, rfl⟩
abbrev main_v101 : Ref sig .tc := ⟨.hbm, 181, rfl⟩
abbrev main_v102 : Ref sig .tc := ⟨.hbm, 182, rfl⟩
abbrev main_v103 : Ref sig .tc := ⟨.hbm, 183, rfl⟩
abbrev main_v104 : Ref sig .tc := ⟨.hbm, 184, rfl⟩
abbrev main_c_9 : Ref sig .tc := ⟨.hbm, 185, rfl⟩
abbrev main_call5_v0 : Ref sig .tc := ⟨.hbm, 186, rfl⟩
abbrev main_v105 : Ref sig .tc := ⟨.hbm, 187, rfl⟩
abbrev main_v106 : Ref sig .tc := ⟨.hbm, 188, rfl⟩
abbrev main_v107 : Ref sig .tc := ⟨.hbm, 189, rfl⟩
abbrev main_cst_10 : Ref sig .tc := ⟨.hbm, 190, rfl⟩
abbrev main_v108 : Ref sig .tc := ⟨.hbm, 191, rfl⟩
abbrev main_v109 : Ref sig .tc := ⟨.hbm, 192, rfl⟩
abbrev main_v110 : Ref sig .tc := ⟨.hbm, 193, rfl⟩
abbrev main_v111 : Ref sig .tc := ⟨.hbm, 194, rfl⟩
abbrev main_v112 : Ref sig .tc := ⟨.hbm, 195, rfl⟩
abbrev main_v113 : Ref sig .tc := ⟨.hbm, 196, rfl⟩
abbrev main_v114 : Ref sig .tc := ⟨.hbm, 197, rfl⟩
abbrev main_v115 : Ref sig .tc := ⟨.hbm, 198, rfl⟩
abbrev main_c_11 : Ref sig .tc := ⟨.hbm, 199, rfl⟩
abbrev main_call6_v0 : Ref sig .tc := ⟨.hbm, 200, rfl⟩
abbrev main_v116 : Ref sig .tc := ⟨.hbm, 201, rfl⟩
abbrev main_v117 : Ref sig .tc := ⟨.hbm, 202, rfl⟩
abbrev main_v118 : Ref sig .tc := ⟨.hbm, 203, rfl⟩
abbrev main_v119 : Ref sig .tc := ⟨.hbm, 204, rfl⟩
abbrev main_v120 : Ref sig .tc := ⟨.hbm, 205, rfl⟩
abbrev main_cst_12 : Ref sig .tc := ⟨.hbm, 206, rfl⟩
abbrev main_v121 : Ref sig .tc := ⟨.hbm, 207, rfl⟩
abbrev main_v122 : Ref sig .tc := ⟨.hbm, 208, rfl⟩
abbrev main_v123 : Ref sig .tc := ⟨.hbm, 209, rfl⟩
abbrev main_v124 : Ref sig .tc := ⟨.hbm, 210, rfl⟩
abbrev main_v125 : Ref sig .tc := ⟨.hbm, 211, rfl⟩
abbrev main_v126 : Ref sig .tc := ⟨.hbm, 212, rfl⟩
abbrev main_v127 : Ref sig .tc := ⟨.hbm, 213, rfl⟩
abbrev main_v128 : Ref sig .tc := ⟨.hbm, 214, rfl⟩
abbrev main_v129 : Ref sig .tc := ⟨.hbm, 215, rfl⟩
abbrev main_v130 : Ref sig .tc := ⟨.hbm, 216, rfl⟩
abbrev main_v131 : Ref sig .tc := ⟨.hbm, 217, rfl⟩
abbrev main_v132 : Ref sig .tc := ⟨.hbm, 218, rfl⟩
abbrev main_v133 : Ref sig .tc := ⟨.hbm, 219, rfl⟩
abbrev main_v134 : Ref sig .tc := ⟨.hbm, 220, rfl⟩
abbrev main_v135 : Ref sig .tc := ⟨.hbm, 221, rfl⟩
abbrev main_v136 : Ref sig .tc := ⟨.hbm, 222, rfl⟩
abbrev main_v137 : Ref sig .tc := ⟨.hbm, 223, rfl⟩
abbrev main_v138 : Ref sig .tc := ⟨.hbm, 224, rfl⟩
abbrev main_v139 : Ref sig .tc := ⟨.hbm, 225, rfl⟩
abbrev main_v140 : Ref sig .tc := ⟨.hbm, 226, rfl⟩
abbrev main_v141 : Ref sig .tc := ⟨.hbm, 227, rfl⟩
abbrev main_v142 : Ref sig .tc := ⟨.hbm, 228, rfl⟩
abbrev main_v143 : Ref sig .tc := ⟨.hbm, 229, rfl⟩
abbrev main_v144 : Ref sig .tc := ⟨.hbm, 230, rfl⟩
abbrev main_v145 : Ref sig .tc := ⟨.hbm, 231, rfl⟩
abbrev main_v146 : Ref sig .tc := ⟨.hbm, 232, rfl⟩
abbrev main_v147 : Ref sig .tc := ⟨.hbm, 233, rfl⟩
abbrev main_v148 : Ref sig .tc := ⟨.hbm, 234, rfl⟩
abbrev main_v149 : Ref sig .tc := ⟨.hbm, 235, rfl⟩
abbrev main_v150 : Ref sig .tc := ⟨.hbm, 236, rfl⟩
abbrev main_v151 : Ref sig .tc := ⟨.hbm, 237, rfl⟩
abbrev main_v152 : Ref sig .tc := ⟨.hbm, 238, rfl⟩
abbrev main_v153 : Ref sig .tc := ⟨.hbm, 239, rfl⟩
abbrev main_v154 : Ref sig .tc := ⟨.hbm, 240, rfl⟩
abbrev main_v155 : Ref sig .tc := ⟨.hbm, 241, rfl⟩
abbrev main_v156 : Ref sig .tc := ⟨.hbm, 242, rfl⟩
abbrev main_v157 : Ref sig .tc := ⟨.hbm, 243, rfl⟩
abbrev main_v158 : Ref sig .tc := ⟨.hbm, 244, rfl⟩
abbrev main_v159 : Ref sig .tc := ⟨.hbm, 245, rfl⟩
abbrev main_v160 : Ref sig .tc := ⟨.hbm, 246, rfl⟩
abbrev main_v161 : Ref sig .tc := ⟨.hbm, 247, rfl⟩
abbrev main_v162 : Ref sig .tc := ⟨.hbm, 248, rfl⟩
abbrev main_v163 : Ref sig .tc := ⟨.hbm, 249, rfl⟩
abbrev main_v164 : Ref sig .tc := ⟨.hbm, 250, rfl⟩
abbrev main_v165 : Ref sig .tc := ⟨.hbm, 251, rfl⟩
abbrev main_c_13 : Ref sig .tc := ⟨.hbm, 252, rfl⟩
abbrev main_call7_v0 : Ref sig .tc := ⟨.hbm, 253, rfl⟩
abbrev main_v166 : Ref sig .tc := ⟨.hbm, 254, rfl⟩
abbrev main_v167 : Ref sig .tc := ⟨.hbm, 255, rfl⟩
abbrev main_v168 : Ref sig .tc := ⟨.hbm, 256, rfl⟩
abbrev main_cst_14 : Ref sig .tc := ⟨.hbm, 257, rfl⟩
abbrev main_v169 : Ref sig .tc := ⟨.hbm, 258, rfl⟩
abbrev main_v170 : Ref sig .tc := ⟨.hbm, 259, rfl⟩
abbrev main_v171 : Ref sig .tc := ⟨.hbm, 260, rfl⟩
abbrev main_v172 : Ref sig .tc := ⟨.hbm, 261, rfl⟩
abbrev main_v173 : Ref sig .tc := ⟨.hbm, 262, rfl⟩
abbrev main_v174 : Ref sig .tc := ⟨.hbm, 263, rfl⟩
abbrev main_v175 : Ref sig .tc := ⟨.hbm, 264, rfl⟩
abbrev main_v176 : Ref sig .tc := ⟨.hbm, 265, rfl⟩
abbrev main_c_15 : Ref sig .tc := ⟨.hbm, 266, rfl⟩
abbrev main_call8_v0 : Ref sig .tc := ⟨.hbm, 267, rfl⟩
abbrev main_v177 : Ref sig .tc := ⟨.hbm, 268, rfl⟩
abbrev main_v178 : Ref sig .tc := ⟨.hbm, 269, rfl⟩
abbrev main_v179 : Ref sig .tc := ⟨.hbm, 270, rfl⟩
abbrev main_v180 : Ref sig .tc := ⟨.hbm, 271, rfl⟩
abbrev main_v181 : Ref sig .tc := ⟨.hbm, 272, rfl⟩
abbrev main_cst_16 : Ref sig .tc := ⟨.hbm, 273, rfl⟩
abbrev main_v182 : Ref sig .tc := ⟨.hbm, 274, rfl⟩
abbrev main_v183 : Ref sig .tc := ⟨.hbm, 275, rfl⟩
abbrev main_v184 : Ref sig .tc := ⟨.hbm, 276, rfl⟩
abbrev main_v185 : Ref sig .tc := ⟨.hbm, 277, rfl⟩
abbrev main_v186 : Ref sig .tc := ⟨.hbm, 278, rfl⟩
abbrev main_v187 : Ref sig .tc := ⟨.hbm, 279, rfl⟩
abbrev main_v188 : Ref sig .tc := ⟨.hbm, 280, rfl⟩
abbrev main_v189 : Ref sig .tc := ⟨.hbm, 281, rfl⟩
abbrev main_v190 : Ref sig .tc := ⟨.hbm, 282, rfl⟩
abbrev main_v191 : Ref sig .tc := ⟨.hbm, 283, rfl⟩
abbrev main_v192 : Ref sig .tc := ⟨.hbm, 284, rfl⟩
abbrev main_v193 : Ref sig .tc := ⟨.hbm, 285, rfl⟩
abbrev main_v194 : Ref sig .tc := ⟨.hbm, 286, rfl⟩
abbrev main_v195 : Ref sig .tc := ⟨.hbm, 287, rfl⟩
abbrev main_v196 : Ref sig .tc := ⟨.hbm, 288, rfl⟩
abbrev main_v197 : Ref sig .tc := ⟨.hbm, 289, rfl⟩
abbrev main_v198 : Ref sig .tc := ⟨.hbm, 290, rfl⟩
abbrev main_v199 : Ref sig .tc := ⟨.hbm, 291, rfl⟩
abbrev main_v200 : Ref sig .tc := ⟨.hbm, 292, rfl⟩
abbrev main_v201 : Ref sig .tc := ⟨.hbm, 293, rfl⟩
abbrev main_v202 : Ref sig .tc := ⟨.hbm, 294, rfl⟩
abbrev main_v203 : Ref sig .tc := ⟨.hbm, 295, rfl⟩
abbrev main_v204 : Ref sig .tc := ⟨.hbm, 296, rfl⟩
abbrev main_v205 : Ref sig .tc := ⟨.hbm, 297, rfl⟩
abbrev main_v206 : Ref sig .tc := ⟨.hbm, 298, rfl⟩
abbrev main_v207 : Ref sig .tc := ⟨.hbm, 299, rfl⟩
abbrev main_v208 : Ref sig .tc := ⟨.hbm, 300, rfl⟩
abbrev main_v209 : Ref sig .tc := ⟨.hbm, 301, rfl⟩
abbrev main_v210 : Ref sig .tc := ⟨.hbm, 302, rfl⟩
abbrev main_v211 : Ref sig .tc := ⟨.hbm, 303, rfl⟩
abbrev main_v212 : Ref sig .tc := ⟨.hbm, 304, rfl⟩
abbrev main_v213 : Ref sig .tc := ⟨.hbm, 305, rfl⟩
abbrev main_v214 : Ref sig .tc := ⟨.hbm, 306, rfl⟩
abbrev main_v215 : Ref sig .tc := ⟨.hbm, 307, rfl⟩
abbrev main_v216 : Ref sig .tc := ⟨.hbm, 308, rfl⟩
abbrev main_v217 : Ref sig .tc := ⟨.hbm, 309, rfl⟩
abbrev main_v218 : Ref sig .tc := ⟨.hbm, 310, rfl⟩
abbrev main_v219 : Ref sig .tc := ⟨.hbm, 311, rfl⟩
abbrev main_v220 : Ref sig .tc := ⟨.hbm, 312, rfl⟩
abbrev main_v221 : Ref sig .tc := ⟨.hbm, 313, rfl⟩
abbrev main_v222 : Ref sig .tc := ⟨.hbm, 314, rfl⟩
abbrev main_v223 : Ref sig .tc := ⟨.hbm, 315, rfl⟩
abbrev main_v224 : Ref sig .tc := ⟨.hbm, 316, rfl⟩
abbrev main_v225 : Ref sig .tc := ⟨.hbm, 317, rfl⟩
abbrev main_v226 : Ref sig .tc := ⟨.hbm, 318, rfl⟩
abbrev main_c_17 : Ref sig .tc := ⟨.hbm, 319, rfl⟩
abbrev main_call9_v0 : Ref sig .tc := ⟨.hbm, 320, rfl⟩
abbrev main_v227 : Ref sig .tc := ⟨.hbm, 321, rfl⟩
abbrev main_v228 : Ref sig .tc := ⟨.hbm, 322, rfl⟩
abbrev main_v229 : Ref sig .tc := ⟨.hbm, 323, rfl⟩
abbrev main_v230 : Ref sig .tc := ⟨.hbm, 324, rfl⟩
abbrev main_v231 : Ref sig .tc := ⟨.hbm, 325, rfl⟩
abbrev main_cst_18 : Ref sig .tc := ⟨.hbm, 326, rfl⟩
abbrev main_v232 : Ref sig .tc := ⟨.hbm, 327, rfl⟩
abbrev main_v233 : Ref sig .tc := ⟨.hbm, 328, rfl⟩
abbrev main_v234 : Ref sig .tc := ⟨.hbm, 329, rfl⟩
abbrev main_v235 : Ref sig .tc := ⟨.hbm, 330, rfl⟩
abbrev main_v236 : Ref sig .tc := ⟨.hbm, 331, rfl⟩
abbrev main_v237 : Ref sig .tc := ⟨.hbm, 332, rfl⟩
abbrev main_v238 : Ref sig .tc := ⟨.hbm, 333, rfl⟩
abbrev main_v239 : Ref sig .tc := ⟨.hbm, 334, rfl⟩
abbrev main_v240 : Ref sig .tc := ⟨.hbm, 335, rfl⟩
abbrev main_v241 : Ref sig .tc := ⟨.hbm, 336, rfl⟩
abbrev main_v242 : Ref sig .tc := ⟨.hbm, 337, rfl⟩
abbrev main_v243 : Ref sig .tc := ⟨.hbm, 338, rfl⟩
abbrev main_v244 : Ref sig .tc := ⟨.hbm, 339, rfl⟩
abbrev main_v245 : Ref sig .tc := ⟨.hbm, 340, rfl⟩
abbrev main_v246 : Ref sig .tc := ⟨.hbm, 341, rfl⟩
abbrev main_v247 : Ref sig .tc := ⟨.hbm, 342, rfl⟩
abbrev main_v248 : Ref sig .tc := ⟨.hbm, 343, rfl⟩
abbrev main_v249 : Ref sig .tc := ⟨.hbm, 344, rfl⟩
abbrev main_v250 : Ref sig .tc := ⟨.hbm, 345, rfl⟩
abbrev main_v251 : Ref sig .tc := ⟨.hbm, 346, rfl⟩
abbrev main_v252 : Ref sig .tc := ⟨.hbm, 347, rfl⟩
abbrev main_v253 : Ref sig .tc := ⟨.hbm, 348, rfl⟩
abbrev main_v254 : Ref sig .tc := ⟨.hbm, 349, rfl⟩
abbrev main_v255 : Ref sig .tc := ⟨.hbm, 350, rfl⟩
abbrev main_v256 : Ref sig .tc := ⟨.hbm, 351, rfl⟩
abbrev main_v257 : Ref sig .tc := ⟨.hbm, 352, rfl⟩
abbrev main_v258 : Ref sig .tc := ⟨.hbm, 353, rfl⟩
abbrev main_v259 : Ref sig .tc := ⟨.hbm, 354, rfl⟩
abbrev main_v260 : Ref sig .tc := ⟨.hbm, 355, rfl⟩
abbrev main_v261 : Ref sig .tc := ⟨.hbm, 356, rfl⟩
abbrev main_v262 : Ref sig .tc := ⟨.hbm, 357, rfl⟩
abbrev main_v263 : Ref sig .tc := ⟨.hbm, 358, rfl⟩
abbrev main_v264 : Ref sig .tc := ⟨.hbm, 359, rfl⟩
abbrev main_v265 : Ref sig .tc := ⟨.hbm, 360, rfl⟩
abbrev main_v266 : Ref sig .tc := ⟨.hbm, 361, rfl⟩
abbrev main_v267 : Ref sig .tc := ⟨.hbm, 362, rfl⟩
abbrev main_v268 : Ref sig .tc := ⟨.hbm, 363, rfl⟩
abbrev main_v269 : Ref sig .tc := ⟨.hbm, 364, rfl⟩
abbrev main_v270 : Ref sig .tc := ⟨.hbm, 365, rfl⟩
abbrev main_v271 : Ref sig .tc := ⟨.hbm, 366, rfl⟩
abbrev main_v272 : Ref sig .tc := ⟨.hbm, 367, rfl⟩
abbrev main_v273 : Ref sig .tc := ⟨.hbm, 368, rfl⟩
abbrev main_v274 : Ref sig .tc := ⟨.hbm, 369, rfl⟩
abbrev main_v275 : Ref sig .tc := ⟨.hbm, 370, rfl⟩
abbrev main_v276 : Ref sig .tc := ⟨.hbm, 371, rfl⟩
abbrev main_c_19 : Ref sig .tc := ⟨.hbm, 372, rfl⟩
abbrev main_call10_v0 : Ref sig .tc := ⟨.hbm, 373, rfl⟩
abbrev main_v277 : Ref sig .tc := ⟨.hbm, 374, rfl⟩
abbrev main_v278 : Ref sig .tc := ⟨.hbm, 375, rfl⟩
abbrev main_v279 : Ref sig .tc := ⟨.hbm, 376, rfl⟩
abbrev main_v280 : Ref sig .tc := ⟨.hbm, 377, rfl⟩
abbrev main_v281 : Ref sig .tc := ⟨.hbm, 378, rfl⟩
abbrev main_cst_20 : Ref sig .tc := ⟨.hbm, 379, rfl⟩
abbrev main_v282 : Ref sig .tc := ⟨.hbm, 380, rfl⟩
abbrev main_v283 : Ref sig .tc := ⟨.hbm, 381, rfl⟩
abbrev main_v284 : Ref sig .tc := ⟨.hbm, 382, rfl⟩
abbrev main_v285 : Ref sig .tc := ⟨.hbm, 383, rfl⟩
abbrev main_v286 : Ref sig .tc := ⟨.hbm, 384, rfl⟩
abbrev main_v287 : Ref sig .tc := ⟨.hbm, 385, rfl⟩
abbrev main_v288 : Ref sig .tc := ⟨.hbm, 386, rfl⟩
abbrev main_v289 : Ref sig .tc := ⟨.hbm, 387, rfl⟩
abbrev main_v290 : Ref sig .tc := ⟨.hbm, 388, rfl⟩
abbrev main_v291 : Ref sig .tc := ⟨.hbm, 389, rfl⟩
abbrev main_v292 : Ref sig .tc := ⟨.hbm, 390, rfl⟩
abbrev main_v293 : Ref sig .tc := ⟨.hbm, 391, rfl⟩
abbrev main_v294 : Ref sig .tc := ⟨.hbm, 392, rfl⟩
abbrev main_v295 : Ref sig .tc := ⟨.hbm, 393, rfl⟩
abbrev main_v296 : Ref sig .tc := ⟨.hbm, 394, rfl⟩
abbrev main_v297 : Ref sig .tc := ⟨.hbm, 395, rfl⟩
abbrev main_v298 : Ref sig .tc := ⟨.hbm, 396, rfl⟩
abbrev main_v299 : Ref sig .tc := ⟨.hbm, 397, rfl⟩
abbrev main_v300 : Ref sig .tc := ⟨.hbm, 398, rfl⟩
abbrev main_v301 : Ref sig .tc := ⟨.hbm, 399, rfl⟩
abbrev main_v302 : Ref sig .tc := ⟨.hbm, 400, rfl⟩
abbrev main_v303 : Ref sig .tc := ⟨.hbm, 401, rfl⟩
abbrev main_v304 : Ref sig .tc := ⟨.hbm, 402, rfl⟩
abbrev main_v305 : Ref sig .tc := ⟨.hbm, 403, rfl⟩
abbrev main_v306 : Ref sig .tc := ⟨.hbm, 404, rfl⟩
abbrev main_v307 : Ref sig .tc := ⟨.hbm, 405, rfl⟩
abbrev main_v308 : Ref sig .tc := ⟨.hbm, 406, rfl⟩
abbrev main_v309 : Ref sig .tc := ⟨.hbm, 407, rfl⟩
abbrev main_v310 : Ref sig .tc := ⟨.hbm, 408, rfl⟩
abbrev main_v311 : Ref sig .tc := ⟨.hbm, 409, rfl⟩
abbrev main_v312 : Ref sig .tc := ⟨.hbm, 410, rfl⟩
abbrev main_v313 : Ref sig .tc := ⟨.hbm, 411, rfl⟩
abbrev main_v314 : Ref sig .tc := ⟨.hbm, 412, rfl⟩
abbrev main_v315 : Ref sig .tc := ⟨.hbm, 413, rfl⟩
abbrev main_v316 : Ref sig .tc := ⟨.hbm, 414, rfl⟩
abbrev main_v317 : Ref sig .tc := ⟨.hbm, 415, rfl⟩
abbrev main_v318 : Ref sig .tc := ⟨.hbm, 416, rfl⟩
abbrev main_v319 : Ref sig .tc := ⟨.hbm, 417, rfl⟩
abbrev main_v320 : Ref sig .tc := ⟨.hbm, 418, rfl⟩
abbrev main_v321 : Ref sig .tc := ⟨.hbm, 419, rfl⟩
abbrev main_v322 : Ref sig .tc := ⟨.hbm, 420, rfl⟩
abbrev main_v323 : Ref sig .tc := ⟨.hbm, 421, rfl⟩
abbrev main_v324 : Ref sig .tc := ⟨.hbm, 422, rfl⟩
abbrev main_v325 : Ref sig .tc := ⟨.hbm, 423, rfl⟩
abbrev main_v326 : Ref sig .tc := ⟨.hbm, 424, rfl⟩
abbrev main_v327 : Ref sig .tc := ⟨.hbm, 425, rfl⟩

abbrev nD : Nat := 1
abbrev τ : Topo := Topo.v7x

variable {F : FTy → Type} [FloatOps F]
-- ==== Proof.Pieces.lean ====
/-
  Lists of writes into one buffer, gathered over the trips of a counted loop, and when an earlier write is covered by
  a later one. Nothing here mentions a particular program.
-/
module

public import Idealize.ShloMosaic.Lib.Tactic
public import Idealize.ShloMosaic.Lib.Pipeline.FrameBody

@[expose] public section

noncomputable section

namespace Cert.Pieces

open Idealize.ShloMosaic

/-! ## Gathering over trips -/

/-- The lists of the trips before `k`, the last trip's in front. -/
def gather {α : Type} {n : ℕ} (L : Fin n → List α) : ℕ → List α
  | 0 => []
  | k + 1 => (if h : k < n then L ⟨k, h⟩ else []) ++ gather L k

theorem gather_succ {α : Type} {n : ℕ} (L : Fin n → List α) (k : Fin n) :
    gather L (k.val + 1) = L k ++ gather L k.val := by
  rw [gather.eq_2, dif_pos k.isLt]

theorem mem_gather {α : Type} {n : ℕ} (L : Fin n → List α) (p : α) :
    ∀ m : ℕ, p ∈ gather L m ↔ ∃ k : Fin n, k.val < m ∧ p ∈ L k
  | 0 => by simp [gather]
  | m + 1 => by
    rw [gather.eq_2, List.mem_append, mem_gather L p m]
    constructor
    · rintro (h | ⟨k, hk, hp⟩)
      · by_cases hm : m < n
        · rw [dif_pos hm] at h; exact ⟨⟨m, hm⟩, Nat.lt_succ_self m, h⟩
        · rw [dif_neg hm] at h; exact absurd h List.not_mem_nil
      · exact ⟨k, Nat.lt_succ_of_lt hk, hp⟩
    · rintro ⟨k, hk, hp⟩
      rcases Nat.lt_succ_iff_lt_or_eq.mp hk with h | h
      · exact .inr ⟨k, h, hp⟩
      · left; subst h; rw [dif_pos k.isLt]; exact hp

/-! ## Writes that a later write covers -/

variable {sig : RefSig} {κ : Kind} {sp : Space} {s : Shape} {e : EltTy} {Val : EltTy → Type}

/-- An entry named by its place in a rectangle lies in it. -/
theorem emb_mem (R : Rect s) (x : R.shape.Idx) : R.emb x ∈ R.set := by
  rw [← Rect.map_emb_univ]; exact Finset.mem_map_of_mem _ (Finset.mem_univ x)

/-- Contents of a whole buffer are determined by what is read of them. -/
theorem contents_ext {m : Memref sig κ sp s e} (hm : m.IsWhole) {f g : m.view.ty.Contents Val}
    (h : m.view.read Val f = m.view.read Val g) : f = g := hm.read_bijective.1 h

/-- A write over earlier writes at the same rectangle leaves what it alone would. -/
theorem writes_absorb {m : Memref sig κ sp s e} (hm : m.IsWhole) (f : m.view.ty.Contents Val) (R : Rect s) (w : R.shape.Idx → Val e)
    (L : List (View.Piece Val s e)) (hL : ∀ p ∈ L, p.1 = R) :
    m.view.writes Val f (⟨R, w⟩ :: L) = m.view.writes Val f [⟨R, w⟩] := by
  refine contents_ext hm (funext fun y => ?_)
  by_cases hy : y ∈ R.set
  · obtain ⟨x, hx⟩ := R.exists_idx_of_mem hy
    have hx' : R.emb x = y := hx
    rw [← hx', View.read_writes_cons_emb, View.read_writes_cons_emb]
  · rw [View.read_writes_apply_of_forall_not_mem, View.read_writes_apply_of_forall_not_mem]
    · intro p hp; rw [List.mem_singleton.mp hp]; exact hy
    · intro p hp
      rcases List.mem_cons.mp hp with rfl | hp
      · exact hy
      · rw [hL p hp]; exact hy

/-- A list of writes that covers a whole buffer leaves it at the list's own contents, whatever it held. -/
theorem writes_cover [∀ e, Nonempty (Val e)] {m : Memref sig κ sp s e} (hm : m.IsWhole) (f : m.view.ty.Contents Val)
    (L : List (View.Piece Val s e)) (h : ∀ y, ∃ p ∈ L, y ∈ p.1.set) : m.view.writes Val f L = hm.unread (View.canon L) :=
  hm.eq_unread (View.read_writes_eq_canon m.view f L h)

/-- A rectangle just written reads what was written. -/
theorem readAt_writes_self {v : View sig κ sp s e} {R : Rect s} (f : v.ty.Contents Val) (w : R.shape.Idx → Val e) (L : List (View.Piece Val s e)) :
    v.readAt Val R.toLoadRect (v.writes Val f (⟨R, w⟩ :: L)) = w := funext fun x => by
  change v.read Val (v.writes Val f (⟨R, w⟩ :: L)) (R.emb x) = w x
  rw [View.read_writes_cons_emb]

/-- What a rectangle reads after writes depends only on what it read before. -/
theorem readAt_writes_congr {v : View sig κ sp s e} {R : Rect s} {f g : v.ty.Contents Val} (L : List (View.Piece Val s e))
    (h : v.readAt Val R.toLoadRect f = v.readAt Val R.toLoadRect g) :
    v.readAt Val R.toLoadRect (v.writes Val f L) = v.readAt Val R.toLoadRect (v.writes Val g L) := by
  funext x
  have hx := congrFun h x
  change v.read Val (v.writes Val f L) (R.emb x) = v.read Val (v.writes Val g L) (R.emb x)
  change v.read Val f (R.emb x) = v.read Val g (R.emb x) at hx
  generalize R.emb x = y at hx ⊢
  induction L with
  | nil => exact hx
  | cons p L ih =>
    obtain ⟨r, w⟩ := p
    by_cases hy : y ∈ r.set
    · obtain ⟨z, hz⟩ := r.exists_idx_of_mem hy
      have hz' : r.emb z = y := hz
      rw [← hz', View.read_writes_cons_emb, View.read_writes_cons_emb]
    · have hy' : y ∉ Finset.univ.map r.emb := by rwa [Rect.map_emb_univ]
      rw [View.writes_cons, View.writes_cons, View.read_slice_write_of_not_mem r _ _ _ hy', View.read_slice_write_of_not_mem r _ _ _ hy']
      exact ih

end Cert.Pieces

end
-- ==== Proof.KI.Body0.lean ====
module

public import proofs.«01_k».proof.Proof.Gen.KernelIdeal.Loops
public import proofs.«01_k».proof.Proof.Pieces

@[expose] public section

set_option maxRecDepth 16384

noncomputable section

namespace Cert.KernelIdeal.Body0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Pieces

variable {F : FTy → Type} [FloatOps F] [Named F]

local notation "𝕄" => MT nD τ sig Unit (Elt F) ℕ (UR sig nD τ) ℕ

/-- A memref's contents, and its buffer held whole at given contents. -/
abbrev Bf {sp : Space} {S : Shape} {e : EltTy} (M : Memref sig .tc sp S e) : Type := BufTy.Contents (Elt F) M.view.ty
abbrev pt (c : Dev nD) {sp : Space} {S : Shape} {e : EltTy} (M : Memref sig .tc sp S e) (f : Bf (F := F) M) : sProp 𝕄 :=
  M.view.loc (c : Thread nD τ) ↦[M.view.set]{fullShare} f

variable (c : Dev nD) (arg0 : Memref sig .tc .vmem S12x400x386 .f32) (harg0 : arg0.IsWhole) (arg1 : Memref sig .tc .vmem S108x12x384 .f32) (harg1 : arg1.IsWhole) (arg2 : Memref sig .tc .vmem S12x384 .f32) (harg2 : arg2.IsWhole) (arg3 : Memref sig .tc .vmem S12x384x384 .f32) (harg3 : arg3.IsWhole) (arg4 : Memref sig .tc .vmem S12x48x384 .f32) (harg4 : arg4.IsWhole)

set_option maxHeartbeats 2000000 in
/-- One strip: run at a symbolic trip, with the pieces it writes into the result. -/
@[irreducible] def trip (X0 : Bf (F := F) arg0) (X1 : Bf (F := F) arg1) (X2 : Bf (F := F) arg2) (k : Fin k0_t1_loop.trips) :
    { L : List (View.Piece (Elt F) S12x384x384 .f32) // ∀ (f4 : Bf (F := F) arg4) (f3 : Bf (F := F) arg3),
      iprop(pt c arg0 X0 ∗ pt c arg1 X1 ∗ pt c arg2 X2 ∗ pt c arg3 f3 ∗ pt c arg4 f4)
      ⊢ wp frame (wpE (defs₀ (F := F)) Variants.none (c : Thread nD τ) none) Set.univ (k0_t1_body (F := F) arg0 harg0 arg1 harg1 arg2 harg2 arg3 harg3 arg4 harg4 k PUnit.unit)
          (fun _ => iprop(pt c arg0 X0 ∗ pt c arg1 X1 ∗ pt c arg2 X2 ∗ pt c arg3 (arg3.view.writes (Elt F) f3 L) ∗ ∃ f' : Bf (F := F) arg4, pt c arg4 f')) } := by
  refine ⟨?_, fun f4 f3 => ?run⟩
  case run =>
    unfold k0_t1_body
    iintro ⟨H0, H1, H2, H3, H4⟩
    sl_exec
    sl_step
    sl_close

abbrev tripL (X0 : Bf (F := F) arg0) (X1 : Bf (F := F) arg1) (X2 : Bf (F := F) arg2) (k : Fin k0_t1_loop.trips) : List (View.Piece (Elt F) S12x384x384 .f32) := (trip c arg0 harg0 arg1 harg1 arg2 harg2 arg3 harg3 arg4 harg4 X0 X1 X2 k).1

/-- The strips before the `k`-th: the inputs as they were, the result with the strips' pieces over what it held. -/
abbrev inv (X0 : Bf (F := F) arg0) (X1 : Bf (F := F) arg1) (X2 : Bf (F := F) arg2) (G : Bf (F := F) arg3) (k : ℕ) (_u : PUnit) : sProp 𝕄 :=
  iprop(pt c arg0 X0 ∗ pt c arg1 X1 ∗ pt c arg2 X2 ∗ (∃ f, pt c arg3 f ∗ ⌜f = arg3.view.writes (Elt F) G (gather (tripL c arg0 harg0 arg1 harg1 arg2 harg2 arg3 harg3 arg4 harg4 X0 X1 X2) k)⌝) ∗ ∃ f', pt c arg4 f')

set_option warn.classDefReducibility false in
@[sl_loop] def loopInv (X0 : Bf (F := F) arg0) (X1 : Bf (F := F) arg1) (X2 : Bf (F := F) arg2) (G : Bf (F := F) arg3) :
    LoopInvTy_k0_t1 (F := F) Unit ℕ (UR sig nD τ) ℕ Variants.none c none Set.univ arg0 harg0 arg1 harg1 arg2 harg2 arg3 harg3 arg4 harg4 where
  inv := inv c arg0 harg0 arg1 harg1 arg2 harg2 arg3 harg3 arg4 harg4 X0 X1 X2 G
  step k acc := by
    iintro ⟨H0, H1, H2, ⟨%f, H3, %hf⟩, ⟨%f', H4⟩⟩
    iapply (wp_wand_r Idealize.ShloMosaic.frame (wpE (defs₀ (F := F)) Variants.none (c : Thread nD τ) none) Set.univ)
    isplitl [H0 H1 H2 H3 H4]
    · iapply ((trip c arg0 harg0 arg1 harg1 arg2 harg2 arg3 harg3 arg4 harg4 X0 X1 X2 k).2 f' f)
      isplitl [H0]; · iexact H0
      isplitl [H1]; · iexact H1
      isplitl [H2]; · iexact H2
      isplitl [H3]; · iexact H3
      iexact H4
    · iintro %_ ⟨H0, H1, H2, H3, H4⟩
      isplitl [H0]; · iexact H0
      isplitl [H1]; · iexact H1
      isplitl [H2]; · iexact H2
      isplitl [H3]
      · rw [gather_succ]
        iexists _; isplitl [H3]; · iexact H3
        ipureintro; rw [hf, ← View.writes_append]
      iexact H4

set_option maxHeartbeats 2000000 in
/-- The whole body: run from any contents of the result and the scratch, with the pieces it leaves in the result. -/
@[irreducible] def run (X0 : Bf (F := F) arg0) (X1 : Bf (F := F) arg1) (X2 : Bf (F := F) arg2) :
    { L : List (View.Piece (Elt F) S12x384x384 .f32) // ∀ (f4 : Bf (F := F) arg4) (f3 : Bf (F := F) arg3),
      iprop(pt c arg0 X0 ∗ pt c arg1 X1 ∗ pt c arg2 X2 ∗ pt c arg3 f3 ∗ pt c arg4 f4)
      ⊢ wp frame (wpE (defs₀ (F := F)) Variants.none (c : Thread nD τ) none) Set.univ (cc0__conv3x3_body (F := F) arg0 harg0 arg1 harg1 arg2 harg2 arg3 harg3 arg4 harg4)
          (fun _ => iprop(pt c arg0 X0 ∗ pt c arg1 X1 ∗ pt c arg2 X2 ∗ pt c arg3 (arg3.view.writes (Elt F) f3 L) ∗ ∃ f' : Bf (F := F) arg4, pt c arg4 f')) } := by
  refine ⟨?_, fun f4 f3 => ?run⟩
  case run =>
    simp only [cc0__conv3x3_body_eq_skeleton]
    unfold cc0__conv3x3_body_skel
    iintro ⟨H0, H1, H2, H3, H4⟩
    sl_exec
    sl_step
    sl_close

/-- There are 8 strips. -/
theorem strips : k0_t1_loop.trips = 8 := by decide

/-- A strip's pieces cover its rows. -/
theorem trip_cover (X0 : Bf (F := F) arg0) (X1 : Bf (F := F) arg1) (X2 : Bf (F := F) arg2) (k : Fin k0_t1_loop.trips) (y : S12x384x384.Idx) (hy : 0 + 48 * k.val ≤ (y 1).val ∧ (y 1).val < 0 + 48 * k.val + 48) :
    ∃ p ∈ tripL c arg0 harg0 arg1 harg1 arg2 harg2 arg3 harg3 arg4 harg4 X0 X1 X2 k, y ∈ p.1.set := by
  have h0 : (y 0).val < 12 := (y 0).isLt
  have h1 : (y 1).val < 384 := (y 1).isLt
  have h2 : (y 2).val < 384 := (y 2).isLt
  unfold tripL trip
  refine ⟨_, List.mem_singleton_self _, ?_⟩
  rw [Rect.mem_set_unit, k0_off3_eq]
  simp only [Fin.forall_fin_succ]
  simp
  omega

/-- What the body leaves: the strips' pieces. -/
theorem run_list (X0 : Bf (F := F) arg0) (X1 : Bf (F := F) arg1) (X2 : Bf (F := F) arg2) : (run c arg0 harg0 arg1 harg1 arg2 harg2 arg3 harg3 arg4 harg4 X0 X1 X2).1 = gather (tripL c arg0 harg0 arg1 harg1 arg2 harg2 arg3 harg3 arg4 harg4 X0 X1 X2) k0_t1_loop.trips := by
  unfold run
  dsimp only

/-- Every entry of the result is written. -/
theorem run_cover (X0 : Bf (F := F) arg0) (X1 : Bf (F := F) arg1) (X2 : Bf (F := F) arg2) (y : S12x384x384.Idx) : ∃ p ∈ (run c arg0 harg0 arg1 harg1 arg2 harg2 arg3 harg3 arg4 harg4 X0 X1 X2).1, y ∈ p.1.set := by
  have h1 : (y 1).val < 384 := (y 1).isLt
  obtain ⟨p, hp, h⟩ := trip_cover c arg0 harg0 arg1 harg1 arg2 harg2 arg3 harg3 arg4 harg4 X0 X1 X2 ⟨(y 1).val / 48, by rw [strips]; omega⟩ y (by dsimp only; omega)
  exact ⟨p, by rw [run_list]; exact (mem_gather _ _ _).mpr ⟨_, Fin.isLt _, hp⟩, h⟩

end Cert.KernelIdeal.Body0

end
-- ==== Proof.KI.RegionOf.lean ====
/-
  One kernel call of the program, for whichever of the nine calls: its proof data say what each window's array holds
  before and after, its body obligation is given, and the call is a segment between two valuations of the buffers.
  The nine calls then differ by their proof data and body only.
-/
module

public import proofs.«01_k».proof.Proof.Gen.KernelIdeal.Regions
public import Idealize.ShloMosaic.Lib.Pipeline.RegionsLoop
public import Idealize.ShloMosaic.Lib.Tactic

@[expose] public section

noncomputable section

namespace Cert.KernelIdeal.Segment

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- No level is assigned: no core owes another anything. -/
abbrev L : GSem nD τ sig → Finset Unit := fun _ => ∅
abbrev lv : GSem nD τ sig → Unit → ℕ := fun _ _ => 0

/-- What rides beside the buffers between the calls. -/
abbrev E (c : Dev nD) : sProp 𝕄 := iprop(∃ W, owes (c : Thread nD τ) (0 : CellTallies nD τ sig Unit) W)

variable (pdats : (p : Fin 9) → (c : Dev nD) → Dat τ (Elt F) Unit ℕ (UR sig nD τ) ℕ (cfgs p) c)
  (V Vp : (c : Dev nD) → Valuation τ sig (Elt F)) (p : Fin 9)

/-- What a call's proof data have to satisfy: entered with its arrays as `V` has them, nothing owed, full shares, the
    unstaged buffers as invariant; left with its arrays as `Vp` has them, `Vp` being `V` elsewhere. -/
structure Facts : Prop where
  launch : Pipeline.LaunchFacts (nD := nD) (τ := τ) cfgs p
  entry : ∀ c w, (pdats p c).A w = V c (Pipeline.arrRef (cfgs p).spec w)
  share : ∀ c w, (pdats p c).q w = fullShare
  owed : ∀ c t, (pdats p c).owed t = 0
  recorded : ∀ c t, (pdats p c).recorded t = Set.univ
  inv : ∀ c t, (pdats p c).Φ t = Pipeline.scopedRest (cfgs p).spec c
  body : ∀ c, BodyObligation (pdats p c) (defs₀ (F := F)) Variants.none () Set.univ
  exit : ∀ c w, (pdats p c).arrAt w (cfgs p).N = Vp c (Pipeline.arrRef (cfgs p).spec w)
  rest : ∀ c (b : Ref sig .tc), b ∉ Finset.univ.image (Pipeline.arrRef (cfgs p).spec) → Vp c b = V c b

set_option backward.isDefEq.respectTransparency.types false in
/-- The call as a segment from `V` to `Vp`. -/
def seg (h : Facts pdats V Vp p) : Pipeline.RegionSeg (pcfgs (F := F)) adm pdats () defs₀ Variants.none L lv p where
  win := h.launch.win.to₀
  block_pos := h.launch.block_pos
  stage_whole := h.launch.stage_whole
  K := PEmpty
  osem k := k.elim
  ho := Pipeline.OwnSemFacts.none _
  hbody c := (h.body c).loose
  hwaits := Pipeline.hwaits_of_owed_zero _ _ _ _ L lv p fun c t => h.owed c t
  pre c := iprop(unscopedBufs c (fun b => V c b) ∗ E c)
  post c := iprop(unscopedBufs c (fun b => Vp c b) ∗ E c)
  X _ := BI.emp
  Y _ := BI.emp
  Z c := Pipeline.unscopedRest (Ix := Unit) (Name := ℕ) (U := UR sig nD τ) (Lvl := ℕ) (cfgs p).spec c (fun b => V c b)
  hentry c := by
    rw [Pipeline.ownSems0_none]
    have hsplit := Pipeline.arrays_of_unscopedBufs (p := p) (pcfgs (F := F)) adm pdats h.launch.win h.launch.arr_whole c
      ((pdats p c).share_full (h.share c)) (fun b => V c b) (h.entry c)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [h.owed c]
      icases HO with ⟨%W, HO⟩; iexists W; isplitr; · ipureintro; exact fun _ _ => Or.inl (h.recorded c _ ▸ Set.mem_univ _)
      iexact HO
    isplitr; · iempintro
    iexact Hrest
  hin c := by
    rw [h.inv c]
    iintro ⟨-, -, Hr⟩; iexact Hr
  hout c := by
    rw [Pipeline.ownSems0_none, h.inv c]
    iintro Hr
    isplitr; · iempintro
    isplitr; · iempintro
    iexact Hr
  hexit c := by
    have hjoin := Pipeline.unscopedBufs_of_arrays (p := p) (pcfgs (F := F)) adm (Ix := Unit) (Name := ℕ) (U := UR sig nD τ) (Lvl := ℕ)
      h.launch.win h.launch.arr_whole c pdats ((pdats p c).share_full (h.share c)) (fun b => V c b) (fun b => Vp c b)
      ((pdats p c).arrAt · (cfgs p).N) (h.exit c) (h.rest c)
    iintro ⟨Ha, HO, -, Hrest⟩
    imodintro
    isplitl [Ha Hrest]
    · iapply hjoin; isplitl [Ha] <;> iassumption
    unfold Pipeline.Dat.owesAt Pipeline.owesWithin
    rw [h.owed c]
    icases HO with ⟨%W, -, HO⟩; iexists W; iexact HO

/-- It is entered from the buffers held at `V`, -/
theorem seg_pre (h : Facts pdats V Vp p) (c : Dev nD) :
    iprop(StableHlo.held (c : Thread nD τ) (Pipeline.ucRefs τ sig) (V c) ∗ E c) ⊢ (seg pdats V Vp p h).pre c := by
  unfold seg
  rw [← Pipeline.unscopedBufs_held (Ix := Unit) (Name := ℕ) (U := UR sig nD τ) (Lvl := ℕ) c (V c)]

/-- and leaves them held at `Vp`. -/
theorem seg_post (h : Facts pdats V Vp p) (c : Dev nD) :
    (seg pdats V Vp p h).post c ⊢ iprop(StableHlo.held (c : Thread nD τ) (Pipeline.ucRefs τ sig) (Vp c) ∗ E c) := by
  unfold seg
  rw [← Pipeline.unscopedBufs_held (Ix := Unit) (Name := ℕ) (U := UR sig nD τ) (Lvl := ℕ) c (Vp c)]

end Cert.KernelIdeal.Segment

end
-- ==== Proof.KI.Call0.lean ====
module

public import proofs.«01_k».proof.Proof.KI.Body0
public import proofs.«01_k».proof.Proof.KI.RegionOf
public import Idealize.ShloMosaic.Lib.Pipeline.ValueKit

@[expose] public section

set_option maxRecDepth 16384

noncomputable section

namespace Cert.KernelIdeal.Call0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Segment Cert.Pieces

variable {F : FTy → Type} [FloatOps F] [Named F] (V : (c : Dev nD) → Valuation τ sig (Elt F))

local notation "𝕄" => MT nD τ sig Unit (Elt F) ℕ (UR sig nD τ) ℕ

/-! What the call stages of its operands. -/
abbrev in0 (c : Dev nD) : Vec F S12x400x386 .f32 := ((cfg0.win 0).blk t0_0).view.read (Elt F) (V c main_v1)
abbrev in1 (c : Dev nD) : Vec F S108x12x384 .f32 := ((cfg0.win 1).blk t0_0).view.read (Elt F) (V c main_v5)
abbrev in2 (c : Dev nD) : Vec F S12x384 .f32 := ((cfg0.win 2).blk t0_0).view.read (Elt F) (V c main_v7)

/-- The pieces the body writes into the result, -/
abbrev pieces (c : Dev nD) : List (View.Piece (Elt F) S12x384x384 .f32) :=
  (Body0.run c (stage0_0 0) (hstage0_0 0) (stage0_1 0) (hstage0_1 0) (stage0_2 0) (hstage0_2 0) (stage0_3 0) (hstage0_3 0) (Memref.whole cc0_scratch0) (Memref.isWhole_whole _) (in0 V c) (in1 V c) (in2 V c)).1

/-- and the result they make. -/
def res (c : Dev nD) : Vec F S12x384x384 .f32 := View.canon (pieces V c)

/-- The proof data: the arrays at `V`; the operands staged as they are, the result as the body leaves it. -/
def dat (c : Dev nD) : Dat τ (Elt F) Unit ℕ (UR sig nD τ) ℕ cfg0 c where
  A w := V c (Pipeline.arrRef spec0 w)
  after w _ := match w with
    | ⟨0, _⟩ => in0 V c
    | ⟨1, _⟩ => in1 V c
    | ⟨2, _⟩ => in2 V c
    | ⟨3, _⟩ => res V c
  Φ _ := Pipeline.scopedRest (Ix := Unit) (Name := ℕ) (U := UR sig nD τ) (Lvl := ℕ) (Val := Elt F) spec0 c
  q _ := fullShare
  owed _ := 0

theorem before0 (c : Dev nD) (d : (cfg0.win 0).block.Idx → Elt F (cfg0.win 0).elt) : (dat V c).before 0 t0_0 d = in0 V c := by
  unfold Dat.before; rw [if_pos (by decide)]; rfl
theorem before1 (c : Dev nD) (d : (cfg0.win 1).block.Idx → Elt F (cfg0.win 1).elt) : (dat V c).before 1 t0_0 d = in1 V c := by
  unfold Dat.before; rw [if_pos (by decide)]; rfl
theorem before2 (c : Dev nD) (d : (cfg0.win 2).block.Idx → Elt F (cfg0.win 2).elt) : (dat V c).before 2 t0_0 d = in2 V c := by
  unfold Dat.before; rw [if_pos (by decide)]; rfl

/-- The body obligation: the staging buffers and the scratch taken out, the body run, what it leaves put back. -/
theorem body (c : Dev nD) : BodyObligation (dat V c) (defs₀ (F := F)) Variants.none () Set.univ := fun t => by
  obtain rfl := fin_N0 t
  rw [bigSep_W0, bigSep_W0]
  simp only [owns_whole_eq]
  rw [show (dat V c).Φ t0_0.castSucc = Pipeline.scopedRest (Ix := Unit) (Name := ℕ) (U := UR sig nD τ) (Lvl := ℕ) (Val := Elt F) spec0 c from rfl,
    show (dat V c).Φ t0_0.succ = Pipeline.scopedRest (Ix := Unit) (Name := ℕ) (U := UR sig nD τ) (Lvl := ℕ) (Val := Elt F) spec0 c from rfl,
    show (dat V c).owesAt () t0_0.succ = (dat V c).owesAt () t0_0.castSucc from rfl, scopedRest0_split]
  have hrun := fun fs f3 => (Body0.run c (stage0_0 0) (hstage0_0 0) (stage0_1 0) (hstage0_1 0) (stage0_2 0) (hstage0_2 0) (stage0_3 0) (hstage0_3 0) (Memref.whole cc0_scratch0) (Memref.isWhole_whole _) (in0 V c) (in1 V c) (in2 V c)).2 fs f3
  simp only [Body0.pt, (hstage0_0 0).set_eq_univ, (hstage0_1 0).set_eq_univ, (hstage0_2 0).set_eq_univ, (hstage0_3 0).set_eq_univ, (Memref.isWhole_whole cc0_scratch0).set_eq_univ] at hrun
  iintro ⟨⟨⟨%fs, HS⟩, HΦ⟩, Howes, ⟨%d0, %f0, %hf0, H0⟩, ⟨%d1, %f1, %hf1, H1⟩, ⟨%d2, %f2, %hf2, H2⟩, ⟨%d3, %f3, -, H3⟩⟩
  rw [before0] at hf0; subst hf0
  rw [before1] at hf1; subst hf1
  rw [before2] at hf2; subst hf2
  iapply (wp_wand_r Idealize.ShloMosaic.frame (wpE (defs₀ (F := F)) Variants.none (c : Thread nD τ) none) Set.univ)
  isplitl [H0 H1 H2 H3 HS]
  · iapply (hrun fs f3)
    isplitl [H0]; · iexact H0
    isplitl [H1]; · iexact H1
    isplitl [H2]; · iexact H2
    isplitl [H3]; · iexact H3
    iexact HS
  · iintro %_ ⟨H0, H1, H2, H3, ⟨%fs', HS⟩⟩
    isplitl [HS HΦ]
    · isplitl [HS]; · iexists _; iexact HS
      iexact HΦ
    isplitl [Howes]; · iexact Howes
    isplitl [H0]; · iexists _; isplitr; swap; (· iexact H0); ipureintro; dsimp only [dat]
    isplitl [H1]; · iexists _; isplitr; swap; (· iexact H1); ipureintro; dsimp only [dat]
    isplitl [H2]; · iexists _; isplitr; swap; (· iexact H2); ipureintro; dsimp only [dat]
    iexists _; isplitr; swap; (· iexact H3); ipureintro; dsimp only [dat]
    exact View.read_writes_eq_canon (stage0_3 0).view f3 _ (Body0.run_cover c (stage0_0 0) (hstage0_0 0) (stage0_1 0) (hstage0_1 0) (stage0_2 0) (hstage0_2 0) (stage0_3 0) (hstage0_3 0) (Memref.whole cc0_scratch0) (Memref.isWhole_whole _) (in0 V c) (in1 V c) (in2 V c))

/-- The result's array at the end. -/
theorem final (c : Dev nD) : (dat V c).arrAt 3 cfg0.N = res V c := by
  refine (dat V c).arrAt_eq_of_after_last 3 t0_0 (by decide +kernel) _ fun j => ?_
  rfl

/-- What an operand's array holds throughout. -/
theorem arrAt_eq (c : Dev nD) (w : Fin 4) (Vp : Valuation τ sig (Elt F)) (ho : Vp main_v8 = res V c)
    (hne : ∀ b : Ref sig .tc, b ≠ main_v8 → Vp b = V c b) :
    (dat V c).arrAt w cfg0.N = Vp (Pipeline.arrRef spec0 w) := by
  fin_cases w
  · exact ((dat V c).arrAt_in 0 rfl _).trans (hne main_v1 (by decide)).symm
  · exact ((dat V c).arrAt_in 1 rfl _).trans (hne main_v5 (by decide)).symm
  · exact ((dat V c).arrAt_in 2 rfl _).trans (hne main_v7 (by decide)).symm
  · exact (final V c).trans ho.symm

/-- The result's is the only buffer that changes. -/
theorem rest (c : Dev nD) (Vp : Valuation τ sig (Elt F)) (hne : ∀ b : Ref sig .tc, b ≠ main_v8 → Vp b = V c b)
    (b : Ref sig .tc) (hb : b ∉ Finset.univ.image (Pipeline.arrRef spec0)) : Vp b = V c b :=
  hne b fun h => hb (h ▸ Finset.mem_image.mpr ⟨3, Finset.mem_univ _, rfl⟩)

end Cert.KernelIdeal.Call0

end
-- ==== Proof.KI.Body1.lean ====
module

public import proofs.«01_k».proof.Proof.Gen.KernelIdeal.Loops
public import proofs.«01_k».proof.Proof.Pieces

@[expose] public section

set_option maxRecDepth 16384

noncomputable section

namespace Cert.KernelIdeal.Body1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Pieces

variable {F : FTy → Type} [FloatOps F] [Named F]

local notation "𝕄" => MT nD τ sig Unit (Elt F) ℕ (UR sig nD τ) ℕ

/-- A memref's contents, and its buffer held whole at given contents. -/
abbrev Bf {sp : Space} {S : Shape} {e : EltTy} (M : Memref sig .tc sp S e) : Type := BufTy.Contents (Elt F) M.view.ty
abbrev pt (c : Dev nD) {sp : Space} {S : Shape} {e : EltTy} (M : Memref sig .tc sp S e) (f : Bf (F := F) M) : sProp 𝕄 :=
  M.view.loc (c : Thread nD τ) ↦[M.view.set]{fullShare} f

variable (c : Dev nD) (arg0 : Memref sig .tc .vmem S12x384x384 .f32) (harg0 : arg0.IsWhole) (arg1 : Memref sig .tc .vmem S24x384 .f32) (harg1 : arg1.IsWhole) (arg2 : Memref sig .tc .vmem S24x384 .f32) (harg2 : arg2.IsWhole) (arg3 : Memref sig .tc .vmem S24x24x384 .f32) (harg3 : arg3.IsWhole) (arg4 : Memref sig .tc .vmem S24x192x384 .f32) (harg4 : arg4.IsWhole) (arg5 : Memref sig .tc .vmem S24x24x384 .f32) (harg5 : arg5.IsWhole)

set_option maxHeartbeats 2000000 in
/-- One strip: run at a symbolic trip, with the pieces it writes into the result. -/
@[irreducible] def trip (X0 : Bf (F := F) arg0) (X1 : Bf (F := F) arg1) (X2 : Bf (F := F) arg2) (X3 : Bf (F := F) arg3) (k : Fin k1_t1_loop.trips) :
    { L : Bf (F := F) arg4 → List (View.Piece (Elt F) S24x192x384 .f32) // ∀ (f5 : Bf (F := F) arg5) (f4 : Bf (F := F) arg4),
      iprop(pt c arg0 X0 ∗ pt c arg1 X1 ∗ pt c arg2 X2 ∗ pt c arg3 X3 ∗ pt c arg4 f4 ∗ pt c arg5 f5)
      ⊢ wp frame (wpE (defs₀ (F := F)) Variants.none (c : Thread nD τ) none) Set.univ (k1_t1_body (F := F) arg0 harg0 arg1 harg1 arg2 harg2 arg3 harg3 arg4 harg4 arg5 harg5 k PUnit.unit)
          (fun _ => iprop(pt c arg0 X0 ∗ pt c arg1 X1 ∗ pt c arg2 X2 ∗ pt c arg3 X3 ∗ pt c arg4 (arg4.view.writes (Elt F) f4 (L f4)) ∗ ∃ f' : Bf (F := F) arg5, pt c arg5 f')) } := by
  refine ⟨?_, fun f5 f4 => ?run⟩
  case run =>
    unfold k1_t1_body
    simp only [k1_part2_eq_skeleton, k1_part3_eq_skeleton]
    iintro ⟨H0, H1, H2, H3, H4, H5⟩
    sl_exec
    sl_step
    sl_close

/-- The rows of the result the strip works on. -/
abbrev blk (k : Fin k1_t1_loop.trips) : Rect S24x192x384 := Rect.unit (s := S24x192x384) (k1_off5 k) S24x24x384.size (k1_off5_inb k)

/-- One inner trip writes the strip's rows once, -/
theorem inner_rect (k : Fin k1_t1_loop.trips) (X3 : Bf (F := F) arg3) (X5 : Bf (F := F) arg5) (i : Fin k1_t2_loop.trips) (f : Bf (F := F) arg4) :
    ∀ p ∈ tripL_k1_t2 Variants.none c none arg0 harg0 arg1 harg1 arg2 harg2 arg3 harg3 arg4 harg4 arg5 harg5 k X3 X5 i f, p.1 = blk k := by
  unfold tripL_k1_t2 trip_k1_t2
  intro p hp
  rw [List.mem_singleton.mp hp]

/-- with what it found in them and nothing else of the result. -/
theorem inner_congr (k : Fin k1_t1_loop.trips) (X3 : Bf (F := F) arg3) (X5 : Bf (F := F) arg5) (i : Fin k1_t2_loop.trips) {f g : Bf (F := F) arg4}
    (h : View.readAt (Elt F) arg4.view (blk k).toLoadRect f = View.readAt (Elt F) arg4.view (blk k).toLoadRect g) :
    tripL_k1_t2 Variants.none c none arg0 harg0 arg1 harg1 arg2 harg2 arg3 harg3 arg4 harg4 arg5 harg5 k X3 X5 i f = tripL_k1_t2 Variants.none c none arg0 harg0 arg1 harg1 arg2 harg2 arg3 harg3 arg4 harg4 arg5 harg5 k X3 X5 i g := by
  unfold tripL_k1_t2 trip_k1_t2
  dsimp only
  sl_unfold_run_names
  refine congrArg (fun a => [(⟨blk k, k1_pay3 _ _ _ a⟩ : View.Piece (Elt F) S24x192x384 .f32)]) h

/-- So the pieces of the inner trips lie in the strip's rows, -/
theorem pb_rect (k : Fin k1_t1_loop.trips) (X3 : Bf (F := F) arg3) (X5 : Bf (F := F) arg5) (G : Bf (F := F) arg4) :
    ∀ i : ℕ, ∀ p ∈ pb_k1_t2 Variants.none c none arg0 harg0 arg1 harg1 arg2 harg2 arg3 harg3 arg4 harg4 arg5 harg5 k X3 X5 G i, p.1 = blk k
  | 0 => fun p hp => absurd hp List.not_mem_nil
  | i + 1 => fun p hp => by
    rw [pb_k1_t2.eq_2] at hp; unfold pb_k1_t2Step at hp
    split at hp
    · rcases List.mem_append.mp hp with hp | hp
      · exact inner_rect c arg0 harg0 arg1 harg1 arg2 harg2 arg3 harg3 arg4 harg4 arg5 harg5 k X3 X5 _ _ p hp
      · exact pb_rect k X3 X5 G i p hp
    · exact pb_rect k X3 X5 G i p hp

/-- and what they leave there depends only on what was there. -/
theorem pb_congr (k : Fin k1_t1_loop.trips) (X3 : Bf (F := F) arg3) (X5 : Bf (F := F) arg5) {G G' : Bf (F := F) arg4}
    (h : View.readAt (Elt F) arg4.view (blk k).toLoadRect G = View.readAt (Elt F) arg4.view (blk k).toLoadRect G') :
    ∀ i : ℕ, View.readAt (Elt F) arg4.view (blk k).toLoadRect (arg4.view.writes (Elt F) G (pb_k1_t2 Variants.none c none arg0 harg0 arg1 harg1 arg2 harg2 arg3 harg3 arg4 harg4 arg5 harg5 k X3 X5 G i))
      = View.readAt (Elt F) arg4.view (blk k).toLoadRect (arg4.view.writes (Elt F) G' (pb_k1_t2 Variants.none c none arg0 harg0 arg1 harg1 arg2 harg2 arg3 harg3 arg4 harg4 arg5 harg5 k X3 X5 G' i))
  | 0 => h
  | i + 1 => by
    rw [pb_k1_t2.eq_2, pb_k1_t2.eq_2]; unfold pb_k1_t2Step
    split
    · rw [View.writes_append, View.writes_append, inner_congr c arg0 harg0 arg1 harg1 arg2 harg2 arg3 harg3 arg4 harg4 arg5 harg5 k X3 X5 _ (pb_congr k X3 X5 h i)]
      exact readAt_writes_congr _ (pb_congr k X3 X5 h i)
    · exact pb_congr k X3 X5 h i

/-- The last write of a strip is over its rows, like the ones it covers, -/
theorem trip_head (X0 : Bf (F := F) arg0) (X1 : Bf (F := F) arg1) (X2 : Bf (F := F) arg2) (X3 : Bf (F := F) arg3) (k : Fin k1_t1_loop.trips) (f : Bf (F := F) arg4) :
    ∃ w L, (trip c arg0 harg0 arg1 harg1 arg2 harg2 arg3 harg3 arg4 harg4 arg5 harg5 X0 X1 X2 X3 k).1 f = ⟨blk k, w⟩ :: L ∧ ∀ p ∈ L, p.1 = blk k := by
  unfold trip
  refine ⟨_, _, rfl, fun p hp => ?_⟩
  rcases List.mem_append.mp hp with hp | hp
  · exact pb_rect c arg0 harg0 arg1 harg1 arg2 harg2 arg3 harg3 arg4 harg4 arg5 harg5 k X3 _ _ _ p hp
  · rw [List.mem_singleton.mp hp]
    rfl

/-- and does not depend on what the result held. -/
theorem trip_congr (X0 : Bf (F := F) arg0) (X1 : Bf (F := F) arg1) (X2 : Bf (F := F) arg2) (X3 : Bf (F := F) arg3) (k : Fin k1_t1_loop.trips) (f g : Bf (F := F) arg4) :
    ((trip c arg0 harg0 arg1 harg1 arg2 harg2 arg3 harg3 arg4 harg4 arg5 harg5 X0 X1 X2 X3 k).1 f).head? = ((trip c arg0 harg0 arg1 harg1 arg2 harg2 arg3 harg3 arg4 harg4 arg5 harg5 X0 X1 X2 X3 k).1 g).head? := by
  unfold trip
  dsimp only
  sl_unfold_run_names
  rw [List.head?_cons, List.head?_cons]
  refine congrArg (fun a => some (⟨blk k, k1_pay4 _ a⟩ : View.Piece (Elt F) S24x192x384 .f32)) ?_
  rw [View.writes_append, View.writes_append]
  exact pb_congr c arg0 harg0 arg1 harg1 arg2 harg2 arg3 harg3 arg4 harg4 arg5 harg5 k X3 _ ((readAt_writes_self _ _ _).trans (readAt_writes_self _ _ _).symm) _

/-- What a strip leaves in its rows. -/
def val (X0 : Bf (F := F) arg0) (X1 : Bf (F := F) arg1) (X2 : Bf (F := F) arg2) (X3 : Bf (F := F) arg3) (k : Fin k1_t1_loop.trips) : (blk k).shape.Idx → Elt F .f32 :=
  fun x => View.canon ((trip c arg0 harg0 arg1 harg1 arg2 harg2 arg3 harg3 arg4 harg4 arg5 harg5 X0 X1 X2 X3 k).1 arg4.view.junk) ((blk k).emb x)

theorem trip_val (X0 : Bf (F := F) arg0) (X1 : Bf (F := F) arg1) (X2 : Bf (F := F) arg2) (X3 : Bf (F := F) arg3) (k : Fin k1_t1_loop.trips) (f : Bf (F := F) arg4) :
    arg4.view.writes (Elt F) f ((trip c arg0 harg0 arg1 harg1 arg2 harg2 arg3 harg3 arg4 harg4 arg5 harg5 X0 X1 X2 X3 k).1 f) = arg4.view.writes (Elt F) f [⟨blk k, val c arg0 harg0 arg1 harg1 arg2 harg2 arg3 harg3 arg4 harg4 arg5 harg5 X0 X1 X2 X3 k⟩] := by
  obtain ⟨w, L, h, hL⟩ := trip_head c arg0 harg0 arg1 harg1 arg2 harg2 arg3 harg3 arg4 harg4 arg5 harg5 X0 X1 X2 X3 k f
  obtain ⟨w', L', h', -⟩ := trip_head c arg0 harg0 arg1 harg1 arg2 harg2 arg3 harg3 arg4 harg4 arg5 harg5 X0 X1 X2 X3 k arg4.view.junk
  have hw := trip_congr c arg0 harg0 arg1 harg1 arg2 harg2 arg3 harg3 arg4 harg4 arg5 harg5 X0 X1 X2 X3 k f arg4.view.junk
  rw [h, h', List.head?_cons, List.head?_cons] at hw
  obtain rfl : w = w' := by cases hw; rfl
  have hv : val c arg0 harg0 arg1 harg1 arg2 harg2 arg3 harg3 arg4 harg4 arg5 harg5 X0 X1 X2 X3 k = w := funext fun x => by unfold val; rw [h', View.canon_cons_emb]
  rw [h, hv]
  exact writes_absorb harg4 f (blk k) w L hL

abbrev tripL (X0 : Bf (F := F) arg0) (X1 : Bf (F := F) arg1) (X2 : Bf (F := F) arg2) (X3 : Bf (F := F) arg3) (k : Fin k1_t1_loop.trips) : List (View.Piece (Elt F) S24x192x384 .f32) := [⟨blk k, val c arg0 harg0 arg1 harg1 arg2 harg2 arg3 harg3 arg4 harg4 arg5 harg5 X0 X1 X2 X3 k⟩]

/-- The strips before the `k`-th: the inputs as they were, the result with the strips' pieces over what it held. -/
abbrev inv (X0 : Bf (F := F) arg0) (X1 : Bf (F := F) arg1) (X2 : Bf (F := F) arg2) (X3 : Bf (F := F) arg3) (G : Bf (F := F) arg4) (k : ℕ) (_u : PUnit) : sProp 𝕄 :=
  iprop(pt c arg0 X0 ∗ pt c arg1 X1 ∗ pt c arg2 X2 ∗ pt c arg3 X3 ∗ (∃ f, pt c arg4 f ∗ ⌜f = arg4.view.writes (Elt F) G (gather (tripL c arg0 harg0 arg1 harg1 arg2 harg2 arg3 harg3 arg4 harg4 arg5 harg5 X0 X1 X2 X3) k)⌝) ∗ ∃ f', pt c arg5 f')

set_option warn.classDefReducibility false in
@[sl_loop] def loopInv (X0 : Bf (F := F) arg0) (X1 : Bf (F := F) arg1) (X2 : Bf (F := F) arg2) (X3 : Bf (F := F) arg3) (G : Bf (F := F) arg4) :
    LoopInvTy_k1_t1 (F := F) Unit ℕ (UR sig nD τ) ℕ Variants.none c none Set.univ arg0 harg0 arg1 harg1 arg2 harg2 arg3 harg3 arg4 harg4 arg5 harg5 where
  inv := inv c arg0 harg0 arg1 harg1 arg2 harg2 arg3 harg3 arg4 harg4 arg5 harg5 X0 X1 X2 X3 G
  step k acc := by
    iintro ⟨H0, H1, H2, H3, ⟨%f, H4, %hf⟩, ⟨%f', H5⟩⟩
    iapply (wp_wand_r Idealize.ShloMosaic.frame (wpE (defs₀ (F := F)) Variants.none (c : Thread nD τ) none) Set.univ)
    isplitl [H0 H1 H2 H3 H4 H5]
    · iapply ((trip c arg0 harg0 arg1 harg1 arg2 harg2 arg3 harg3 arg4 harg4 arg5 harg5 X0 X1 X2 X3 k).2 f' f)
      isplitl [H0]; · iexact H0
      isplitl [H1]; · iexact H1
      isplitl [H2]; · iexact H2
      isplitl [H3]; · iexact H3
      isplitl [H4]; · iexact H4
      iexact H5
    · iintro %_ ⟨H0, H1, H2, H3, H4, H5⟩
      isplitl [H0]; · iexact H0
      isplitl [H1]; · iexact H1
      isplitl [H2]; · iexact H2
      isplitl [H3]; · iexact H3
      isplitl [H4]
      · rw [gather_succ]; rw [trip_val]
        iexists _; isplitl [H4]; · iexact H4
        ipureintro; rw [hf, ← View.writes_append]
      iexact H5

set_option maxHeartbeats 2000000 in
/-- The whole body: run from any contents of the result and the scratch, with the pieces it leaves in the result. -/
@[irreducible] def run (X0 : Bf (F := F) arg0) (X1 : Bf (F := F) arg1) (X2 : Bf (F := F) arg2) (X3 : Bf (F := F) arg3) :
    { L : List (View.Piece (Elt F) S24x192x384 .f32) // ∀ (f5 : Bf (F := F) arg5) (f4 : Bf (F := F) arg4),
      iprop(pt c arg0 X0 ∗ pt c arg1 X1 ∗ pt c arg2 X2 ∗ pt c arg3 X3 ∗ pt c arg4 f4 ∗ pt c arg5 f5)
      ⊢ wp frame (wpE (defs₀ (F := F)) Variants.none (c : Thread nD τ) none) Set.univ (cc1__pmerge_body (F := F) arg0 harg0 arg1 harg1 arg2 harg2 arg3 harg3 arg4 harg4 arg5 harg5)
          (fun _ => iprop(pt c arg0 X0 ∗ pt c arg1 X1 ∗ pt c arg2 X2 ∗ pt c arg3 X3 ∗ pt c arg4 (arg4.view.writes (Elt F) f4 L) ∗ ∃ f' : Bf (F := F) arg5, pt c arg5 f')) } := by
  refine ⟨?_, fun f5 f4 => ?run⟩
  case run =>
    simp only [cc1__pmerge_body_eq_skeleton]
    unfold cc1__pmerge_body_skel
    iintro ⟨H0, H1, H2, H3, H4, H5⟩
    sl_exec
    sl_step
    sl_close

/-- There are 8 strips. -/
theorem strips : k1_t1_loop.trips = 8 := by decide

/-- A strip's pieces cover its rows. -/
theorem trip_cover (X0 : Bf (F := F) arg0) (X1 : Bf (F := F) arg1) (X2 : Bf (F := F) arg2) (X3 : Bf (F := F) arg3) (k : Fin k1_t1_loop.trips) (y : S24x192x384.Idx) (hy : 0 + 24 * k.val ≤ (y 1).val ∧ (y 1).val < 0 + 24 * k.val + 24) :
    ∃ p ∈ tripL c arg0 harg0 arg1 harg1 arg2 harg2 arg3 harg3 arg4 harg4 arg5 harg5 X0 X1 X2 X3 k, y ∈ p.1.set := by
  have h0 : (y 0).val < 24 := (y 0).isLt
  have h1 : (y 1).val < 192 := (y 1).isLt
  have h2 : (y 2).val < 384 := (y 2).isLt
  refine ⟨_, List.mem_singleton_self _, ?_⟩
  rw [Rect.mem_set_unit, k1_off5_eq]
  simp only [Fin.forall_fin_succ]
  simp
  omega

/-- What the body leaves: the strips' pieces. -/
theorem run_list (X0 : Bf (F := F) arg0) (X1 : Bf (F := F) arg1) (X2 : Bf (F := F) arg2) (X3 : Bf (F := F) arg3) : (run c arg0 harg0 arg1 harg1 arg2 harg2 arg3 harg3 arg4 harg4 arg5 harg5 X0 X1 X2 X3).1 = gather (tripL c arg0 harg0 arg1 harg1 arg2 harg2 arg3 harg3 arg4 harg4 arg5 harg5 X0 X1 X2 X3) k1_t1_loop.trips := by
  unfold run
  dsimp only

/-- Every entry of the result is written. -/
theorem run_cover (X0 : Bf (F := F) arg0) (X1 : Bf (F := F) arg1) (X2 : Bf (F := F) arg2) (X3 : Bf (F := F) arg3) (y : S24x192x384.Idx) : ∃ p ∈ (run c arg0 harg0 arg1 harg1 arg2 harg2 arg3 harg3 arg4 harg4 arg5 harg5 X0 X1 X2 X3).1, y ∈ p.1.set := by
  have h1 : (y 1).val < 192 := (y 1).isLt
  obtain ⟨p, hp, h⟩ := trip_cover c arg0 harg0 arg1 harg1 arg2 harg2 arg3 harg3 arg4 harg4 arg5 harg5 X0 X1 X2 X3 ⟨(y 1).val / 24, by rw [strips]; omega⟩ y (by dsimp only; omega)
  exact ⟨p, by rw [run_list]; exact (mem_gather _ _ _).mpr ⟨_, Fin.isLt _, hp⟩, h⟩

end Cert.KernelIdeal.Body1

end
-- ==== Proof.KI.Call1.lean ====
module

public import proofs.«01_k».proof.Proof.KI.Body1
public import proofs.«01_k».proof.Proof.KI.RegionOf
public import Idealize.ShloMosaic.Lib.Pipeline.ValueKit

@[expose] public section

set_option maxRecDepth 16384

noncomputable section

namespace Cert.KernelIdeal.Call1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Segment Cert.Pieces

variable {F : FTy → Type} [FloatOps F] [Named F] (V : (c : Dev nD) → Valuation τ sig (Elt F))

local notation "𝕄" => MT nD τ sig Unit (Elt F) ℕ (UR sig nD τ) ℕ

/-! What the call stages of its operands. -/
abbrev in0 (c : Dev nD) : Vec F S12x384x384 .f32 := ((cfg1.win 0).blk t1_0).view.read (Elt F) (V c main_v8)
abbrev in1 (c : Dev nD) : Vec F S24x384 .f32 := ((cfg1.win 1).blk t1_0).view.read (Elt F) (V c main_v24)
abbrev in2 (c : Dev nD) : Vec F S24x384 .f32 := ((cfg1.win 2).blk t1_0).view.read (Elt F) (V c main_v35)
abbrev in3 (c : Dev nD) : Vec F S24x24x384 .f32 := ((cfg1.win 3).blk t1_0).view.read (Elt F) (V c main_v46)

/-- The pieces the body writes into the result, -/
abbrev pieces (c : Dev nD) : List (View.Piece (Elt F) S24x192x384 .f32) :=
  (Body1.run c (stage1_0 0) (hstage1_0 0) (stage1_1 0) (hstage1_1 0) (stage1_2 0) (hstage1_2 0) (stage1_3 0) (hstage1_3 0) (stage1_4 0) (hstage1_4 0) (Memref.whole cc1_scratch0) (Memref.isWhole_whole _) (in0 V c) (in1 V c) (in2 V c) (in3 V c)).1

/-- and the result they make. -/
def res (c : Dev nD) : Vec F S24x192x384 .f32 := View.canon (pieces V c)

/-- The proof data: the arrays at `V`; the operands staged as they are, the result as the body leaves it. -/
def dat (c : Dev nD) : Dat τ (Elt F) Unit ℕ (UR sig nD τ) ℕ cfg1 c where
  A w := V c (Pipeline.arrRef spec1 w)
  after w _ := match w with
    | ⟨0, _⟩ => in0 V c
    | ⟨1, _⟩ => in1 V c
    | ⟨2, _⟩ => in2 V c
    | ⟨3, _⟩ => in3 V c
    | ⟨4, _⟩ => res V c
  Φ _ := Pipeline.scopedRest (Ix := Unit) (Name := ℕ) (U := UR sig nD τ) (Lvl := ℕ) (Val := Elt F) spec1 c
  q _ := fullShare
  owed _ := 0

theorem before0 (c : Dev nD) (d : (cfg1.win 0).block.Idx → Elt F (cfg1.win 0).elt) : (dat V c).before 0 t1_0 d = in0 V c := by
  unfold Dat.before; rw [if_pos (by decide)]; rfl
theorem before1 (c : Dev nD) (d : (cfg1.win 1).block.Idx → Elt F (cfg1.win 1).elt) : (dat V c).before 1 t1_0 d = in1 V c := by
  unfold Dat.before; rw [if_pos (by decide)]; rfl
theorem before2 (c : Dev nD) (d : (cfg1.win 2).block.Idx → Elt F (cfg1.win 2).elt) : (dat V c).before 2 t1_0 d = in2 V c := by
  unfold Dat.before; rw [if_pos (by decide)]; rfl
theorem before3 (c : Dev nD) (d : (cfg1.win 3).block.Idx → Elt F (cfg1.win 3).elt) : (dat V c).before 3 t1_0 d = in3 V c := by
  unfold Dat.before; rw [if_pos (by decide)]; rfl

/-- The body obligation: the staging buffers and the scratch taken out, the body run, what it leaves put back. -/
theorem body (c : Dev nD) : BodyObligation (dat V c) (defs₀ (F := F)) Variants.none () Set.univ := fun t => by
  obtain rfl := fin_N1 t
  rw [bigSep_W1, bigSep_W1]
  simp only [owns_whole_eq]
  rw [show (dat V c).Φ t1_0.castSucc = Pipeline.scopedRest (Ix := Unit) (Name := ℕ) (U := UR sig nD τ) (Lvl := ℕ) (Val := Elt F) spec1 c from rfl,
    show (dat V c).Φ t1_0.succ = Pipeline.scopedRest (Ix := Unit) (Name := ℕ) (U := UR sig nD τ) (Lvl := ℕ) (Val := Elt F) spec1 c from rfl,
    show (dat V c).owesAt () t1_0.succ = (dat V c).owesAt () t1_0.castSucc from rfl, scopedRest1_split]
  have hrun := fun fs f4 => (Body1.run c (stage1_0 0) (hstage1_0 0) (stage1_1 0) (hstage1_1 0) (stage1_2 0) (hstage1_2 0) (stage1_3 0) (hstage1_3 0) (stage1_4 0) (hstage1_4 0) (Memref.whole cc1_scratch0) (Memref.isWhole_whole _) (in0 V c) (in1 V c) (in2 V c) (in3 V c)).2 fs f4
  simp only [Body1.pt, (hstage1_0 0).set_eq_univ, (hstage1_1 0).set_eq_univ, (hstage1_2 0).set_eq_univ, (hstage1_3 0).set_eq_univ, (hstage1_4 0).set_eq_univ, (Memref.isWhole_whole cc1_scratch0).set_eq_univ] at hrun
  iintro ⟨⟨⟨%fs, HS⟩, HΦ⟩, Howes, ⟨%d0, %f0, %hf0, H0⟩, ⟨%d1, %f1, %hf1, H1⟩, ⟨%d2, %f2, %hf2, H2⟩, ⟨%d3, %f3, %hf3, H3⟩, ⟨%d4, %f4, -, H4⟩⟩
  rw [before0] at hf0; subst hf0
  rw [before1] at hf1; subst hf1
  rw [before2] at hf2; subst hf2
  rw [before3] at hf3; subst hf3
  iapply (wp_wand_r Idealize.ShloMosaic.frame (wpE (defs₀ (F := F)) Variants.none (c : Thread nD τ) none) Set.univ)
  isplitl [H0 H1 H2 H3 H4 HS]
  · iapply (hrun fs f4)
    isplitl [H0]; · iexact H0
    isplitl [H1]; · iexact H1
    isplitl [H2]; · iexact H2
    isplitl [H3]; · iexact H3
    isplitl [H4]; · iexact H4
    iexact HS
  · iintro %_ ⟨H0, H1, H2, H3, H4, ⟨%fs', HS⟩⟩
    isplitl [HS HΦ]
    · isplitl [HS]; · iexists _; iexact HS
      iexact HΦ
    isplitl [Howes]; · iexact Howes
    isplitl [H0]; · iexists _; isplitr; swap; (· iexact H0); ipureintro; dsimp only [dat]
    isplitl [H1]; · iexists _; isplitr; swap; (· iexact H1); ipureintro; dsimp only [dat]
    isplitl [H2]; · iexists _; isplitr; swap; (· iexact H2); ipureintro; dsimp only [dat]
    isplitl [H3]; · iexists _; isplitr; swap; (· iexact H3); ipureintro; dsimp only [dat]
    iexists _; isplitr; swap; (· iexact H4); ipureintro; dsimp only [dat]
    exact View.read_writes_eq_canon (stage1_4 0).view f4 _ (Body1.run_cover c (stage1_0 0) (hstage1_0 0) (stage1_1 0) (hstage1_1 0) (stage1_2 0) (hstage1_2 0) (stage1_3 0) (hstage1_3 0) (stage1_4 0) (hstage1_4 0) (Memref.whole cc1_scratch0) (Memref.isWhole_whole _) (in0 V c) (in1 V c) (in2 V c) (in3 V c))

/-- The result's array at the end. -/
theorem final (c : Dev nD) : (dat V c).arrAt 4 cfg1.N = res V c := by
  refine (dat V c).arrAt_eq_of_after_last 4 t1_0 (by decide +kernel) _ fun j => ?_
  rfl

/-- What an operand's array holds throughout. -/
theorem arrAt_eq (c : Dev nD) (w : Fin 5) (Vp : Valuation τ sig (Elt F)) (ho : Vp main_v47 = res V c)
    (hne : ∀ b : Ref sig .tc, b ≠ main_v47 → Vp b = V c b) :
    (dat V c).arrAt w cfg1.N = Vp (Pipeline.arrRef spec1 w) := by
  fin_cases w
  · exact ((dat V c).arrAt_in 0 rfl _).trans (hne main_v8 (by decide)).symm
  · exact ((dat V c).arrAt_in 1 rfl _).trans (hne main_v24 (by decide)).symm
  · exact ((dat V c).arrAt_in 2 rfl _).trans (hne main_v35 (by decide)).symm
  · exact ((dat V c).arrAt_in 3 rfl _).trans (hne main_v46 (by decide)).symm
  · exact (final V c).trans ho.symm

/-- The result's is the only buffer that changes. -/
theorem rest (c : Dev nD) (Vp : Valuation τ sig (Elt F)) (hne : ∀ b : Ref sig .tc, b ≠ main_v47 → Vp b = V c b)
    (b : Ref sig .tc) (hb : b ∉ Finset.univ.image (Pipeline.arrRef spec1)) : Vp b = V c b :=
  hne b fun h => hb (h ▸ Finset.mem_image.mpr ⟨4, Finset.mem_univ _, rfl⟩)

end Cert.KernelIdeal.Call1

end
-- ==== Proof.KI.Body2.lean ====
module

public import proofs.«01_k».proof.Proof.Gen.KernelIdeal.Loops
public import proofs.«01_k».proof.Proof.Pieces

@[expose] public section

set_option maxRecDepth 16384

noncomputable section

namespace Cert.KernelIdeal.Body2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Pieces

variable {F : FTy → Type} [FloatOps F] [Named F]

local notation "𝕄" => MT nD τ sig Unit (Elt F) ℕ (UR sig nD τ) ℕ

/-- A memref's contents, and its buffer held whole at given contents. -/
abbrev Bf {sp : Space} {S : Shape} {e : EltTy} (M : Memref sig .tc sp S e) : Type := BufTy.Contents (Elt F) M.view.ty
abbrev pt (c : Dev nD) {sp : Space} {S : Shape} {e : EltTy} (M : Memref sig .tc sp S e) (f : Bf (F := F) M) : sProp 𝕄 :=
  M.view.loc (c : Thread nD τ) ↦[M.view.set]{fullShare} f

variable (c : Dev nD) (arg0 : Memref sig .tc .vmem S24x192x384 .f32) (harg0 : arg0.IsWhole) (arg1 : Memref sig .tc .vmem S48x384 .f32) (harg1 : arg1.IsWhole) (arg2 : Memref sig .tc .vmem S48x384 .f32) (harg2 : arg2.IsWhole) (arg3 : Memref sig .tc .vmem S48x48x384 .f32) (harg3 : arg3.IsWhole) (arg4 : Memref sig .tc .vmem S48x96x384 .f32) (harg4 : arg4.IsWhole) (arg5 : Memref sig .tc .vmem S48x16x384 .f32) (harg5 : arg5.IsWhole)

set_option maxHeartbeats 2000000 in
/-- One strip: run at a symbolic trip, with the pieces it writes into the result. -/
@[irreducible] def trip (X0 : Bf (F := F) arg0) (X1 : Bf (F := F) arg1) (X2 : Bf (F := F) arg2) (X3 : Bf (F := F) arg3) (k : Fin k2_t1_loop.trips) :
    { L : Bf (F := F) arg4 → List (View.Piece (Elt F) S48x96x384 .f32) // ∀ (f5 : Bf (F := F) arg5) (f4 : Bf (F := F) arg4),
      iprop(pt c arg0 X0 ∗ pt c arg1 X1 ∗ pt c arg2 X2 ∗ pt c arg3 X3 ∗ pt c arg4 f4 ∗ pt c arg5 f5)
      ⊢ wp frame (wpE (defs₀ (F := F)) Variants.none (c : Thread nD τ) none) Set.univ (k2_t1_body (F := F) arg0 harg0 arg1 harg1 arg2 harg2 arg3 harg3 arg4 harg4 arg5 harg5 k PUnit.unit)
          (fun _ => iprop(pt c arg0 X0 ∗ pt c arg1 X1 ∗ pt c arg2 X2 ∗ pt c arg3 X3 ∗ pt c arg4 (arg4.view.writes (Elt F) f4 (L f4)) ∗ ∃ f' : Bf (F := F) arg5, pt c arg5 f')) } := by
  refine ⟨?_, fun f5 f4 => ?run⟩
  case run =>
    unfold k2_t1_body
    simp only [k2_part2_eq_skeleton, k2_part3_eq_skeleton]
    iintro ⟨H0, H1, H2, H3, H4, H5⟩
    sl_exec
    sl_step
    sl_close

/-- The rows of the result the strip works on. -/
abbrev blk (k : Fin k2_t1_loop.trips) : Rect S48x96x384 := Rect.unit (s := S48x96x384) (k2_off7 k) S48x16x384.size (k2_off7_inb k)

/-- One inner trip writes the strip's rows once, -/
theorem inner_rect (k : Fin k2_t1_loop.trips) (X3 : Bf (F := F) arg3) (X5 : Bf (F := F) arg5) (i : Fin k2_t2_loop.trips) (f : Bf (F := F) arg4) :
    ∀ p ∈ tripL_k2_t2 Variants.none c none arg0 harg0 arg1 harg1 arg2 harg2 arg3 harg3 arg4 harg4 arg5 harg5 k X3 X5 i f, p.1 = blk k := by
  unfold tripL_k2_t2 trip_k2_t2
  intro p hp
  rw [List.mem_singleton.mp hp]

/-- with what it found in them and nothing else of the result. -/
theorem inner_congr (k : Fin k2_t1_loop.trips) (X3 : Bf (F := F) arg3) (X5 : Bf (F := F) arg5) (i : Fin k2_t2_loop.trips) {f g : Bf (F := F) arg4}
    (h : View.readAt (Elt F) arg4.view (blk k).toLoadRect f = View.readAt (Elt F) arg4.view (blk k).toLoadRect g) :
    tripL_k2_t2 Variants.none c none arg0 harg0 arg1 harg1 arg2 harg2 arg3 harg3 arg4 harg4 arg5 harg5 k X3 X5 i f = tripL_k2_t2 Variants.none c none arg0 harg0 arg1 harg1 arg2 harg2 arg3 harg3 arg4 harg4 arg5 harg5 k X3 X5 i g := by
  unfold tripL_k2_t2 trip_k2_t2
  dsimp only
  sl_unfold_run_names
  refine congrArg (fun a => [(⟨blk k, k2_pay3 _ _ _ a⟩ : View.Piece (Elt F) S48x96x384 .f32)]) h

/-- So the pieces of the inner trips lie in the strip's rows, -/
theorem pb_rect (k : Fin k2_t1_loop.trips) (X3 : Bf (F := F) arg3) (X5 : Bf (F := F) arg5) (G : Bf (F := F) arg4) :
    ∀ i : ℕ, ∀ p ∈ pb_k2_t2 Variants.none c none arg0 harg0 arg1 harg1 arg2 harg2 arg3 harg3 arg4 harg4 arg5 harg5 k X3 X5 G i, p.1 = blk k
  | 0 => fun p hp => absurd hp List.not_mem_nil
  | i + 1 => fun p hp => by
    rw [pb_k2_t2.eq_2] at hp; unfold pb_k2_t2Step at hp
    split at hp
    · rcases List.mem_append.mp hp with hp | hp
      · exact inner_rect c arg0 harg0 arg1 harg1 arg2 harg2 arg3 harg3 arg4 harg4 arg5 harg5 k X3 X5 _ _ p hp
      · exact pb_rect k X3 X5 G i p hp
    · exact pb_rect k X3 X5 G i p hp

/-- and what they leave there depends only on what was there. -/
theorem pb_congr (k : Fin k2_t1_loop.trips) (X3 : Bf (F := F) arg3) (X5 : Bf (F := F) arg5) {G G' : Bf (F := F) arg4}
    (h : View.readAt (Elt F) arg4.view (blk k).toLoadRect G = View.readAt (Elt F) arg4.view (blk k).toLoadRect G') :
    ∀ i : ℕ, View.readAt (Elt F) arg4.view (blk k).toLoadRect (arg4.view.writes (Elt F) G (pb_k2_t2 Variants.none c none arg0 harg0 arg1 harg1 arg2 harg2 arg3 harg3 arg4 harg4 arg5 harg5 k X3 X5 G i))
      = View.readAt (Elt F) arg4.view (blk k).toLoadRect (arg4.view.writes (Elt F) G' (pb_k2_t2 Variants.none c none arg0 harg0 arg1 harg1 arg2 harg2 arg3 harg3 arg4 harg4 arg5 harg5 k X3 X5 G' i))
  | 0 => h
  | i + 1 => by
    rw [pb_k2_t2.eq_2, pb_k2_t2.eq_2]; unfold pb_k2_t2Step
    split
    · rw [View.writes_append, View.writes_append, inner_congr c arg0 harg0 arg1 harg1 arg2 harg2 arg3 harg3 arg4 harg4 arg5 harg5 k X3 X5 _ (pb_congr k X3 X5 h i)]
      exact readAt_writes_congr _ (pb_congr k X3 X5 h i)
    · exact pb_congr k X3 X5 h i

/-- The last write of a strip is over its rows, like the ones it covers, -/
theorem trip_head (X0 : Bf (F := F) arg0) (X1 : Bf (F := F) arg1) (X2 : Bf (F := F) arg2) (X3 : Bf (F := F) arg3) (k : Fin k2_t1_loop.trips) (f : Bf (F := F) arg4) :
    ∃ w L, (trip c arg0 harg0 arg1 harg1 arg2 harg2 arg3 harg3 arg4 harg4 arg5 harg5 X0 X1 X2 X3 k).1 f = ⟨blk k, w⟩ :: L ∧ ∀ p ∈ L, p.1 = blk k := by
  unfold trip
  refine ⟨_, _, rfl, fun p hp => ?_⟩
  rcases List.mem_append.mp hp with hp | hp
  · exact pb_rect c arg0 harg0 arg1 harg1 arg2 harg2 arg3 harg3 arg4 harg4 arg5 harg5 k X3 _ _ _ p hp
  · rw [List.mem_singleton.mp hp]
    rfl

/-- and does not depend on what the result held. -/
theorem trip_congr (X0 : Bf (F := F) arg0) (X1 : Bf (F := F) arg1) (X2 : Bf (F := F) arg2) (X3 : Bf (F := F) arg3) (k : Fin k2_t1_loop.trips) (f g : Bf (F := F) arg4) :
    ((trip c arg0 harg0 arg1 harg1 arg2 harg2 arg3 harg3 arg4 harg4 arg5 harg5 X0 X1 X2 X3 k).1 f).head? = ((trip c arg0 harg0 arg1 harg1 arg2 harg2 arg3 harg3 arg4 harg4 arg5 harg5 X0 X1 X2 X3 k).1 g).head? := by
  unfold trip
  dsimp only
  sl_unfold_run_names
  rw [List.head?_cons, List.head?_cons]
  refine congrArg (fun a => some (⟨blk k, k2_pay4 _ a⟩ : View.Piece (Elt F) S48x96x384 .f32)) ?_
  rw [View.writes_append, View.writes_append]
  exact pb_congr c arg0 harg0 arg1 harg1 arg2 harg2 arg3 harg3 arg4 harg4 arg5 harg5 k X3 _ ((readAt_writes_self _ _ _).trans (readAt_writes_self _ _ _).symm) _

/-- What a strip leaves in its rows. -/
def val (X0 : Bf (F := F) arg0) (X1 : Bf (F := F) arg1) (X2 : Bf (F := F) arg2) (X3 : Bf (F := F) arg3) (k : Fin k2_t1_loop.trips) : (blk k).shape.Idx → Elt F .f32 :=
  fun x => View.canon ((trip c arg0 harg0 arg1 harg1 arg2 harg2 arg3 harg3 arg4 harg4 arg5 harg5 X0 X1 X2 X3 k).1 arg4.view.junk) ((blk k).emb x)

theorem trip_val (X0 : Bf (F := F) arg0) (X1 : Bf (F := F) arg1) (X2 : Bf (F := F) arg2) (X3 : Bf (F := F) arg3) (k : Fin k2_t1_loop.trips) (f : Bf (F := F) arg4) :
    arg4.view.writes (Elt F) f ((trip c arg0 harg0 arg1 harg1 arg2 harg2 arg3 harg3 arg4 harg4 arg5 harg5 X0 X1 X2 X3 k).1 f) = arg4.view.writes (Elt F) f [⟨blk k, val c arg0 harg0 arg1 harg1 arg2 harg2 arg3 harg3 arg4 harg4 arg5 harg5 X0 X1 X2 X3 k⟩] := by
  obtain ⟨w, L, h, hL⟩ := trip_head c arg0 harg0 arg1 harg1 arg2 harg2 arg3 harg3 arg4 harg4 arg5 harg5 X0 X1 X2 X3 k f
  obtain ⟨w', L', h', -⟩ := trip_head c arg0 harg0 arg1 harg1 arg2 harg2 arg3 harg3 arg4 harg4 arg5 harg5 X0 X1 X2 X3 k arg4.view.junk
  have hw := trip_congr c arg0 harg0 arg1 harg1 arg2 harg2 arg3 harg3 arg4 harg4 arg5 harg5 X0 X1 X2 X3 k f arg4.view.junk
  rw [h, h', List.head?_cons, List.head?_cons] at hw
  obtain rfl : w = w' := by cases hw; rfl
  have hv : val c arg0 harg0 arg1 harg1 arg2 harg2 arg3 harg3 arg4 harg4 arg5 harg5 X0 X1 X2 X3 k = w := funext fun x => by unfold val; rw [h', View.canon_cons_emb]
  rw [h, hv]
  exact writes_absorb harg4 f (blk k) w L hL

abbrev tripL (X0 : Bf (F := F) arg0) (X1 : Bf (F := F) arg1) (X2 : Bf (F := F) arg2) (X3 : Bf (F := F) arg3) (k : Fin k2_t1_loop.trips) : List (View.Piece (Elt F) S48x96x384 .f32) := [⟨blk k, val c arg0 harg0 arg1 harg1 arg2 harg2 arg3 harg3 arg4 harg4 arg5 harg5 X0 X1 X2 X3 k⟩]

/-- The strips before the `k`-th: the inputs as they were, the result with the strips' pieces over what it held. -/
abbrev inv (X0 : Bf (F := F) arg0) (X1 : Bf (F := F) arg1) (X2 : Bf (F := F) arg2) (X3 : Bf (F := F) arg3) (G : Bf (F := F) arg4) (k : ℕ) (_u : PUnit) : sProp 𝕄 :=
  iprop(pt c arg0 X0 ∗ pt c arg1 X1 ∗ pt c arg2 X2 ∗ pt c arg3 X3 ∗ (∃ f, pt c arg4 f ∗ ⌜f = arg4.view.writes (Elt F) G (gather (tripL c arg0 harg0 arg1 harg1 arg2 harg2 arg3 harg3 arg4 harg4 arg5 harg5 X0 X1 X2 X3) k)⌝) ∗ ∃ f', pt c arg5 f')

set_option warn.classDefReducibility false in
@[sl_loop] def loopInv (X0 : Bf (F := F) arg0) (X1 : Bf (F := F) arg1) (X2 : Bf (F := F) arg2) (X3 : Bf (F := F) arg3) (G : Bf (F := F) arg4) :
    LoopInvTy_k2_t1 (F := F) Unit ℕ (UR sig nD τ) ℕ Variants.none c none Set.univ arg0 harg0 arg1 harg1 arg2 harg2 arg3 harg3 arg4 harg4 arg5 harg5 where
  inv := inv c arg0 harg0 arg1 harg1 arg2 harg2 arg3 harg3 arg4 harg4 arg5 harg5 X0 X1 X2 X3 G
  step k acc := by
    iintro ⟨H0, H1, H2, H3, ⟨%f, H4, %hf⟩, ⟨%f', H5⟩⟩
    iapply (wp_wand_r Idealize.ShloMosaic.frame (wpE (defs₀ (F := F)) Variants.none (c : Thread nD τ) none) Set.univ)
    isplitl [H0 H1 H2 H3 H4 H5]
    · iapply ((trip c arg0 harg0 arg1 harg1 arg2 harg2 arg3 harg3 arg4 harg4 arg5 harg5 X0 X1 X2 X3 k).2 f' f)
      isplitl [H0]; · iexact H0
      isplitl [H1]; · iexact H1
      isplitl [H2]; · iexact H2
      isplitl [H3]; · iexact H3
      isplitl [H4]; · iexact H4
      iexact H5
    · iintro %_ ⟨H0, H1, H2, H3, H4, H5⟩
      isplitl [H0]; · iexact H0
      isplitl [H1]; · iexact H1
      isplitl [H2]; · iexact H2
      isplitl [H3]; · iexact H3
      isplitl [H4]
      · rw [gather_succ]; rw [trip_val]
        iexists _; isplitl [H4]; · iexact H4
        ipureintro; rw [hf, ← View.writes_append]
      iexact H5

set_option maxHeartbeats 2000000 in
/-- The whole body: run from any contents of the result and the scratch, with the pieces it leaves in the result. -/
@[irreducible] def run (X0 : Bf (F := F) arg0) (X1 : Bf (F := F) arg1) (X2 : Bf (F := F) arg2) (X3 : Bf (F := F) arg3) :
    { L : List (View.Piece (Elt F) S48x96x384 .f32) // ∀ (f5 : Bf (F := F) arg5) (f4 : Bf (F := F) arg4),
      iprop(pt c arg0 X0 ∗ pt c arg1 X1 ∗ pt c arg2 X2 ∗ pt c arg3 X3 ∗ pt c arg4 f4 ∗ pt c arg5 f5)
      ⊢ wp frame (wpE (defs₀ (F := F)) Variants.none (c : Thread nD τ) none) Set.univ (cc2__pmerge_body (F := F) arg0 harg0 arg1 harg1 arg2 harg2 arg3 harg3 arg4 harg4 arg5 harg5)
          (fun _ => iprop(pt c arg0 X0 ∗ pt c arg1 X1 ∗ pt c arg2 X2 ∗ pt c arg3 X3 ∗ pt c arg4 (arg4.view.writes (Elt F) f4 L) ∗ ∃ f' : Bf (F := F) arg5, pt c arg5 f')) } := by
  refine ⟨?_, fun f5 f4 => ?run⟩
  case run =>
    simp only [cc2__pmerge_body_eq_skeleton]
    unfold cc2__pmerge_body_skel
    iintro ⟨H0, H1, H2, H3, H4, H5⟩
    sl_exec
    sl_step
    sl_close

/-- There are 6 strips. -/
theorem strips : k2_t1_loop.trips = 6 := by decide

/-- A strip's pieces cover its rows. -/
theorem trip_cover (X0 : Bf (F := F) arg0) (X1 : Bf (F := F) arg1) (X2 : Bf (F := F) arg2) (X3 : Bf (F := F) arg3) (k : Fin k2_t1_loop.trips) (y : S48x96x384.Idx) (hy : 0 + 16 * k.val ≤ (y 1).val ∧ (y 1).val < 0 + 16 * k.val + 16) :
    ∃ p ∈ tripL c arg0 harg0 arg1 harg1 arg2 harg2 arg3 harg3 arg4 harg4 arg5 harg5 X0 X1 X2 X3 k, y ∈ p.1.set := by
  have h0 : (y 0).val < 48 := (y 0).isLt
  have h1 : (y 1).val < 96 := (y 1).isLt
  have h2 : (y 2).val < 384 := (y 2).isLt
  refine ⟨_, List.mem_singleton_self _, ?_⟩
  rw [Rect.mem_set_unit, k2_off7_eq]
  simp only [Fin.forall_fin_succ]
  simp
  omega

/-- What the body leaves: the strips' pieces. -/
theorem run_list (X0 : Bf (F := F) arg0) (X1 : Bf (F := F) arg1) (X2 : Bf (F := F) arg2) (X3 : Bf (F := F) arg3) : (run c arg0 harg0 arg1 harg1 arg2 harg2 arg3 harg3 arg4 harg4 arg5 harg5 X0 X1 X2 X3).1 = gather (tripL c arg0 harg0 arg1 harg1 arg2 harg2 arg3 harg3 arg4 harg4 arg5 harg5 X0 X1 X2 X3) k2_t1_loop.trips := by
  unfold run
  dsimp only

/-- Every entry of the result is written. -/
theorem run_cover (X0 : Bf (F := F) arg0) (X1 : Bf (F := F) arg1) (X2 : Bf (F := F) arg2) (X3 : Bf (F := F) arg3) (y : S48x96x384.Idx) : ∃ p ∈ (run c arg0 harg0 arg1 harg1 arg2 harg2 arg3 harg3 arg4 harg4 arg5 harg5 X0 X1 X2 X3).1, y ∈ p.1.set := by
  have h1 : (y 1).val < 96 := (y 1).isLt
  obtain ⟨p, hp, h⟩ := trip_cover c arg0 harg0 arg1 harg1 arg2 harg2 arg3 harg3 arg4 harg4 arg5 harg5 X0 X1 X2 X3 ⟨(y 1).val / 16, by rw [strips]; omega⟩ y (by dsimp only; omega)
  exact ⟨p, by rw [run_list]; exact (mem_gather _ _ _).mpr ⟨_, Fin.isLt _, hp⟩, h⟩

end Cert.KernelIdeal.Body2

end
-- ==== Proof.KI.Call2.lean ====
module

public import proofs.«01_k».proof.Proof.KI.Body2
public import proofs.«01_k».proof.Proof.KI.RegionOf
public import Idealize.ShloMosaic.Lib.Pipeline.ValueKit

@[expose] public section

set_option maxRecDepth 16384

noncomputable section

namespace Cert.KernelIdeal.Call2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Segment Cert.Pieces

variable {F : FTy → Type} [FloatOps F] [Named F] (V : (c : Dev nD) → Valuation τ sig (Elt F))

local notation "𝕄" => MT nD τ sig Unit (Elt F) ℕ (UR sig nD τ) ℕ

/-! What the call stages of its operands. -/
abbrev in0 (c : Dev nD) : Vec F S24x192x384 .f32 := ((cfg2.win 0).blk t2_0).view.read (Elt F) (V c main_v47)
abbrev in1 (c : Dev nD) : Vec F S48x384 .f32 := ((cfg2.win 1).blk t2_0).view.read (Elt F) (V c main_v63)
abbrev in2 (c : Dev nD) : Vec F S48x384 .f32 := ((cfg2.win 2).blk t2_0).view.read (Elt F) (V c main_v74)
abbrev in3 (c : Dev nD) : Vec F S48x48x384 .f32 := ((cfg2.win 3).blk t2_0).view.read (Elt F) (V c main_v85)

/-- The pieces the body writes into the result, -/
abbrev pieces (c : Dev nD) : List (View.Piece (Elt F) S48x96x384 .f32) :=
  (Body2.run c (stage2_0 0) (hstage2_0 0) (stage2_1 0) (hstage2_1 0) (stage2_2 0) (hstage2_2 0) (stage2_3 0) (hstage2_3 0) (stage2_4 0) (hstage2_4 0) (Memref.whole cc2_scratch0) (Memref.isWhole_whole _) (in0 V c) (in1 V c) (in2 V c) (in3 V c)).1

/-- and the result they make. -/
def res (c : Dev nD) : Vec F S48x96x384 .f32 := View.canon (pieces V c)

/-- The proof data: the arrays at `V`; the operands staged as they are, the result as the body leaves it. -/
def dat (c : Dev nD) : Dat τ (Elt F) Unit ℕ (UR sig nD τ) ℕ cfg2 c where
  A w := V c (Pipeline.arrRef spec2 w)
  after w _ := match w with
    | ⟨0, _⟩ => in0 V c
    | ⟨1, _⟩ => in1 V c
    | ⟨2, _⟩ => in2 V c
    | ⟨3, _⟩ => in3 V c
    | ⟨4, _⟩ => res V c
  Φ _ := Pipeline.scopedRest (Ix := Unit) (Name := ℕ) (U := UR sig nD τ) (Lvl := ℕ) (Val := Elt F) spec2 c
  q _ := fullShare
  owed _ := 0

theorem before0 (c : Dev nD) (d : (cfg2.win 0).block.Idx → Elt F (cfg2.win 0).elt) : (dat V c).before 0 t2_0 d = in0 V c := by
  unfold Dat.before; rw [if_pos (by decide)]; rfl
theorem before1 (c : Dev nD) (d : (cfg2.win 1).block.Idx → Elt F (cfg2.win 1).elt) : (dat V c).before 1 t2_0 d = in1 V c := by
  unfold Dat.before; rw [if_pos (by decide)]; rfl
theorem before2 (c : Dev nD) (d : (cfg2.win 2).block.Idx → Elt F (cfg2.win 2).elt) : (dat V c).before 2 t2_0 d = in2 V c := by
  unfold Dat.before; rw [if_pos (by decide)]; rfl
theorem before3 (c : Dev nD) (d : (cfg2.win 3).block.Idx → Elt F (cfg2.win 3).elt) : (dat V c).before 3 t2_0 d = in3 V c := by
  unfold Dat.before; rw [if_pos (by decide)]; rfl

/-- The body obligation: the staging buffers and the scratch taken out, the body run, what it leaves put back. -/
theorem body (c : Dev nD) : BodyObligation (dat V c) (defs₀ (F := F)) Variants.none () Set.univ := fun t => by
  obtain rfl := fin_N2 t
  rw [bigSep_W2, bigSep_W2]
  simp only [owns_whole_eq]
  rw [show (dat V c).Φ t2_0.castSucc = Pipeline.scopedRest (Ix := Unit) (Name := ℕ) (U := UR sig nD τ) (Lvl := ℕ) (Val := Elt F) spec2 c from rfl,
    show (dat V c).Φ t2_0.succ = Pipeline.scopedRest (Ix := Unit) (Name := ℕ) (U := UR sig nD τ) (Lvl := ℕ) (Val := Elt F) spec2 c from rfl,
    show (dat V c).owesAt () t2_0.succ = (dat V c).owesAt () t2_0.castSucc from rfl, scopedRest2_split]
  have hrun := fun fs f4 => (Body2.run c (stage2_0 0) (hstage2_0 0) (stage2_1 0) (hstage2_1 0) (stage2_2 0) (hstage2_2 0) (stage2_3 0) (hstage2_3 0) (stage2_4 0) (hstage2_4 0) (Memref.whole cc2_scratch0) (Memref.isWhole_whole _) (in0 V c) (in1 V c) (in2 V c) (in3 V c)).2 fs f4
  simp only [Body2.pt, (hstage2_0 0).set_eq_univ, (hstage2_1 0).set_eq_univ, (hstage2_2 0).set_eq_univ, (hstage2_3 0).set_eq_univ, (hstage2_4 0).set_eq_univ, (Memref.isWhole_whole cc2_scratch0).set_eq_univ] at hrun
  iintro ⟨⟨⟨%fs, HS⟩, HΦ⟩, Howes, ⟨%d0, %f0, %hf0, H0⟩, ⟨%d1, %f1, %hf1, H1⟩, ⟨%d2, %f2, %hf2, H2⟩, ⟨%d3, %f3, %hf3, H3⟩, ⟨%d4, %f4, -, H4⟩⟩
  rw [before0] at hf0; subst hf0
  rw [before1] at hf1; subst hf1
  rw [before2] at hf2; subst hf2
  rw [before3] at hf3; subst hf3
  iapply (wp_wand_r Idealize.ShloMosaic.frame (wpE (defs₀ (F := F)) Variants.none (c : Thread nD τ) none) Set.univ)
  isplitl [H0 H1 H2 H3 H4 HS]
  · iapply (hrun fs f4)
    isplitl [H0]; · iexact H0
    isplitl [H1]; · iexact H1
    isplitl [H2]; · iexact H2
    isplitl [H3]; · iexact H3
    isplitl [H4]; · iexact H4
    iexact HS
  · iintro %_ ⟨H0, H1, H2, H3, H4, ⟨%fs', HS⟩⟩
    isplitl [HS HΦ]
    · isplitl [HS]; · iexists _; iexact HS
      iexact HΦ
    isplitl [Howes]; · iexact Howes
    isplitl [H0]; · iexists _; isplitr; swap; (· iexact H0); ipureintro; dsimp only [dat]
    isplitl [H1]; · iexists _; isplitr; swap; (· iexact H1); ipureintro; dsimp only [dat]
    isplitl [H2]; · iexists _; isplitr; swap; (· iexact H2); ipureintro; dsimp only [dat]
    isplitl [H3]; · iexists _; isplitr; swap; (· iexact H3); ipureintro; dsimp only [dat]
    iexists _; isplitr; swap; (· iexact H4); ipureintro; dsimp only [dat]
    exact View.read_writes_eq_canon (stage2_4 0).view f4 _ (Body2.run_cover c (stage2_0 0) (hstage2_0 0) (stage2_1 0) (hstage2_1 0) (stage2_2 0) (hstage2_2 0) (stage2_3 0) (hstage2_3 0) (stage2_4 0) (hstage2_4 0) (Memref.whole cc2_scratch0) (Memref.isWhole_whole _) (in0 V c) (in1 V c) (in2 V c) (in3 V c))

/-- The result's array at the end. -/
theorem final (c : Dev nD) : (dat V c).arrAt 4 cfg2.N = res V c := by
  refine (dat V c).arrAt_eq_of_after_last 4 t2_0 (by decide +kernel) _ fun j => ?_
  rfl

/-- What an operand's array holds throughout. -/
theorem arrAt_eq (c : Dev nD) (w : Fin 5) (Vp : Valuation τ sig (Elt F)) (ho : Vp main_v86 = res V c)
    (hne : ∀ b : Ref sig .tc, b ≠ main_v86 → Vp b = V c b) :
    (dat V c).arrAt w cfg2.N = Vp (Pipeline.arrRef spec2 w) := by
  fin_cases w
  · exact ((dat V c).arrAt_in 0 rfl _).trans (hne main_v47 (by decide)).symm
  · exact ((dat V c).arrAt_in 1 rfl _).trans (hne main_v63 (by decide)).symm
  · exact ((dat V c).arrAt_in 2 rfl _).trans (hne main_v74 (by decide)).symm
  · exact ((dat V c).arrAt_in 3 rfl _).trans (hne main_v85 (by decide)).symm
  · exact (final V c).trans ho.symm

/-- The result's is the only buffer that changes. -/
theorem rest (c : Dev nD) (Vp : Valuation τ sig (Elt F)) (hne : ∀ b : Ref sig .tc, b ≠ main_v86 → Vp b = V c b)
    (b : Ref sig .tc) (hb : b ∉ Finset.univ.image (Pipeline.arrRef spec2)) : Vp b = V c b :=
  hne b fun h => hb (h ▸ Finset.mem_image.mpr ⟨4, Finset.mem_univ _, rfl⟩)

end Cert.KernelIdeal.Call2

end
-- ==== Proof.KI.Body3.lean ====
module

public import proofs.«01_k».proof.Proof.Gen.KernelIdeal.Loops
public import proofs.«01_k».proof.Proof.Pieces

@[expose] public section

set_option maxRecDepth 16384

noncomputable section

namespace Cert.KernelIdeal.Body3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Pieces

variable {F : FTy → Type} [FloatOps F] [Named F]

local notation "𝕄" => MT nD τ sig Unit (Elt F) ℕ (UR sig nD τ) ℕ

/-- A memref's contents, and its buffer held whole at given contents. -/
abbrev Bf {sp : Space} {S : Shape} {e : EltTy} (M : Memref sig .tc sp S e) : Type := BufTy.Contents (Elt F) M.view.ty
abbrev pt (c : Dev nD) {sp : Space} {S : Shape} {e : EltTy} (M : Memref sig .tc sp S e) (f : Bf (F := F) M) : sProp 𝕄 :=
  M.view.loc (c : Thread nD τ) ↦[M.view.set]{fullShare} f

variable (c : Dev nD) (arg0 : Memref sig .tc .vmem S48x96x384 .f32) (harg0 : arg0.IsWhole) (arg1 : Memref sig .tc .vmem S48x96x384 .f32) (harg1 : arg1.IsWhole) (arg2 : Memref sig .tc .vmem S96x384 .f32) (harg2 : arg2.IsWhole) (arg3 : Memref sig .tc .vmem S24x208x388 .f32) (harg3 : arg3.IsWhole) (arg4 : Memref sig .tc .vmem S96x16x384 .f32) (harg4 : arg4.IsWhole)

set_option maxHeartbeats 2000000 in
/-- One strip: run at a symbolic trip, with the pieces it writes into the result. -/
@[irreducible] def trip (X0 : Bf (F := F) arg0) (X1 : Bf (F := F) arg1) (X2 : Bf (F := F) arg2) (k : Fin k3_t1_loop.trips) :
    { L : List (View.Piece (Elt F) S24x208x388 .f32) // ∀ (f4 : Bf (F := F) arg4) (f3 : Bf (F := F) arg3),
      iprop(pt c arg0 X0 ∗ pt c arg1 X1 ∗ pt c arg2 X2 ∗ pt c arg3 f3 ∗ pt c arg4 f4)
      ⊢ wp frame (wpE (defs₀ (F := F)) Variants.none (c : Thread nD τ) none) Set.univ (k3_t1_body (F := F) arg0 harg0 arg1 harg1 arg2 harg2 arg3 harg3 arg4 harg4 k PUnit.unit)
          (fun _ => iprop(pt c arg0 X0 ∗ pt c arg1 X1 ∗ pt c arg2 X2 ∗ pt c arg3 (arg3.view.writes (Elt F) f3 L) ∗ ∃ f' : Bf (F := F) arg4, pt c arg4 f')) } := by
  refine ⟨?_, fun f4 f3 => ?run⟩
  case run =>
    unfold k3_t1_body
    simp only [k3_part18_eq_skeleton]
    unfold k3_part18_skel
    simp only [k3_part2_eq_skeleton, k3_part3_eq_skeleton, k3_part4_eq_skeleton, k3_part5_eq_skeleton, k3_part6_eq_skeleton, k3_part7_eq_skeleton, k3_part8_eq_skeleton, k3_part9_eq_skeleton, k3_part10_eq_skeleton, k3_part11_eq_skeleton, k3_part12_eq_skeleton, k3_part13_eq_skeleton, k3_part14_eq_skeleton, k3_part15_eq_skeleton, k3_part16_eq_skeleton, k3_part17_eq_skeleton]
    iintro ⟨H0, H1, H2, H3, H4⟩
    sl_exec
    sl_step
    sl_close

abbrev tripL (X0 : Bf (F := F) arg0) (X1 : Bf (F := F) arg1) (X2 : Bf (F := F) arg2) (k : Fin k3_t1_loop.trips) : List (View.Piece (Elt F) S24x208x388 .f32) := (trip c arg0 harg0 arg1 harg1 arg2 harg2 arg3 harg3 arg4 harg4 X0 X1 X2 k).1

/-- The strips before the `k`-th: the inputs as they were, the result with the strips' pieces over what it held. -/
abbrev inv (X0 : Bf (F := F) arg0) (X1 : Bf (F := F) arg1) (X2 : Bf (F := F) arg2) (G : Bf (F := F) arg3) (k : ℕ) (_u : PUnit) : sProp 𝕄 :=
  iprop(pt c arg0 X0 ∗ pt c arg1 X1 ∗ pt c arg2 X2 ∗ (∃ f, pt c arg3 f ∗ ⌜f = arg3.view.writes (Elt F) G (gather (tripL c arg0 harg0 arg1 harg1 arg2 harg2 arg3 harg3 arg4 harg4 X0 X1 X2) k)⌝) ∗ ∃ f', pt c arg4 f')

set_option warn.classDefReducibility false in
@[sl_loop] def loopInv (X0 : Bf (F := F) arg0) (X1 : Bf (F := F) arg1) (X2 : Bf (F := F) arg2) (G : Bf (F := F) arg3) :
    LoopInvTy_k3_t1 (F := F) Unit ℕ (UR sig nD τ) ℕ Variants.none c none Set.univ arg0 harg0 arg1 harg1 arg2 harg2 arg3 harg3 arg4 harg4 where
  inv := inv c arg0 harg0 arg1 harg1 arg2 harg2 arg3 harg3 arg4 harg4 X0 X1 X2 G
  step k acc := by
    iintro ⟨H0, H1, H2, ⟨%f, H3, %hf⟩, ⟨%f', H4⟩⟩
    iapply (wp_wand_r Idealize.ShloMosaic.frame (wpE (defs₀ (F := F)) Variants.none (c : Thread nD τ) none) Set.univ)
    isplitl [H0 H1 H2 H3 H4]
    · iapply ((trip c arg0 harg0 arg1 harg1 arg2 harg2 arg3 harg3 arg4 harg4 X0 X1 X2 k).2 f' f)
      isplitl [H0]; · iexact H0
      isplitl [H1]; · iexact H1
      isplitl [H2]; · iexact H2
      isplitl [H3]; · iexact H3
      iexact H4
    · iintro %_ ⟨H0, H1, H2, H3, H4⟩
      isplitl [H0]; · iexact H0
      isplitl [H1]; · iexact H1
      isplitl [H2]; · iexact H2
      isplitl [H3]
      · rw [gather_succ]
        iexists _; isplitl [H3]; · iexact H3
        ipureintro; rw [hf, ← View.writes_append]
      iexact H4

set_option maxHeartbeats 2000000 in
/-- The whole body: run from any contents of the result and the scratch, with the pieces it leaves in the result. -/
@[irreducible] def run (X0 : Bf (F := F) arg0) (X1 : Bf (F := F) arg1) (X2 : Bf (F := F) arg2) :
    { L : List (View.Piece (Elt F) S24x208x388 .f32) // ∀ (f4 : Bf (F := F) arg4) (f3 : Bf (F := F) arg3),
      iprop(pt c arg0 X0 ∗ pt c arg1 X1 ∗ pt c arg2 X2 ∗ pt c arg3 f3 ∗ pt c arg4 f4)
      ⊢ wp frame (wpE (defs₀ (F := F)) Variants.none (c : Thread nD τ) none) Set.univ (cc3__upsample_body (F := F) arg0 harg0 arg1 harg1 arg2 harg2 arg3 harg3 arg4 harg4)
          (fun _ => iprop(pt c arg0 X0 ∗ pt c arg1 X1 ∗ pt c arg2 X2 ∗ pt c arg3 (arg3.view.writes (Elt F) f3 L) ∗ ∃ f' : Bf (F := F) arg4, pt c arg4 f')) } := by
  refine ⟨?_, fun f4 f3 => ?run⟩
  case run =>
    simp only [cc3__upsample_body_eq_skeleton]
    unfold cc3__upsample_body_skel
    iintro ⟨H0, H1, H2, H3, H4⟩
    sl_exec
    sl_step
    sl_close

/-- There are 6 strips. -/
theorem strips : k3_t1_loop.trips = 6 := by decide

set_option maxHeartbeats 2000000 in
/-- A strip's pieces cover its rows. -/
theorem trip_cover (X0 : Bf (F := F) arg0) (X1 : Bf (F := F) arg1) (X2 : Bf (F := F) arg2) (k : Fin k3_t1_loop.trips) (y : S24x208x388.Idx) (hy : 8 + 32 * k.val ≤ (y 1).val ∧ (y 1).val < 8 + 32 * k.val + 32 ∧ 2 ≤ (y 2).val ∧ (y 2).val < 386) :
    ∃ p ∈ tripL c arg0 harg0 arg1 harg1 arg2 harg2 arg3 harg3 arg4 harg4 X0 X1 X2 k, y ∈ p.1.set := by
  have h0 : (y 0).val < 24 := (y 0).isLt
  have h1 : (y 1).val < 208 := (y 1).isLt
  have h2 : (y 2).val < 388 := (y 2).isLt
  unfold tripL trip
  dsimp only
  simp only [List.exists_mem_cons_iff, Rect.mem_set_unit, k3_off5_eq, k3_off6_eq, k3_off7_eq, k3_off8_eq, k3_off9_eq, k3_off10_eq, k3_off11_eq, k3_off12_eq, k3_off13_eq, k3_off14_eq, k3_off15_eq, k3_off16_eq, k3_off17_eq, k3_off18_eq, k3_off19_eq, k3_off20_eq, k3_off21_eq, k3_off22_eq, k3_off23_eq, k3_off24_eq, k3_off25_eq, k3_off26_eq, k3_off27_eq, k3_off28_eq, Fin.forall_fin_succ]
  simp
  omega

/-- Whether an entry lies inside the border. -/
def inside (y : S24x208x388.Idx) : Prop := (8 ≤ (y 1).val ∧ (y 1).val < 200 ∧ 2 ≤ (y 2).val ∧ (y 2).val < 386)

/-- What the body leaves: the strips' pieces over the border's, which hold zero. -/
theorem run_list (X0 : Bf (F := F) arg0) (X1 : Bf (F := F) arg1) (X2 : Bf (F := F) arg2) : ∃ B : List (View.Piece (Elt F) S24x208x388 .f32),
    (run c arg0 harg0 arg1 harg1 arg2 harg2 arg3 harg3 arg4 harg4 X0 X1 X2).1 = gather (tripL c arg0 harg0 arg1 harg1 arg2 harg2 arg3 harg3 arg4 harg4 X0 X1 X2) k3_t1_loop.trips ++ B
      ∧ (∀ y, ¬ inside y → ∃ p ∈ B, y ∈ p.1.set)
      ∧ ∀ p ∈ B, (∀ y ∈ p.1.set, ¬ inside y) ∧ ∀ x, p.2 x = FloatOps.ofBits .f32 0x00000000#32 := by
  unfold run
  dsimp only
  sl_unfold_run_names
  refine ⟨_, rfl, fun y hy => ?_, ?_⟩
  · unfold inside at hy
    have h0 : (y 0).val < 24 := (y 0).isLt
    have h1 : (y 1).val < 208 := (y 1).isLt
    have h2 : (y 2).val < 388 := (y 2).isLt
    simp only [List.exists_mem_cons_iff, Rect.mem_set_unit, Fin.forall_fin_succ]
    simp
    omega
  · simp only [List.forall_mem_cons]
    refine ⟨⟨fun y hy => ?_, fun _ => rfl⟩, ⟨fun y hy => ?_, fun _ => rfl⟩, ⟨fun y hy => ?_, fun _ => rfl⟩, ⟨fun y hy => ?_, fun _ => rfl⟩,
      fun p hp => absurd hp List.not_mem_nil⟩ <;>
    · have h := Rect.mem_set_unit.mp hy
      have h1 := h 1
      have h2 := h 2
      simp at h1 h2
      unfold inside
      omega

/-- Every entry of the result is written. -/
theorem run_cover (X0 : Bf (F := F) arg0) (X1 : Bf (F := F) arg1) (X2 : Bf (F := F) arg2) (y : S24x208x388.Idx) : ∃ p ∈ (run c arg0 harg0 arg1 harg1 arg2 harg2 arg3 harg3 arg4 harg4 X0 X1 X2).1, y ∈ p.1.set := by
  obtain ⟨B, hB, hc, -⟩ := run_list c arg0 harg0 arg1 harg1 arg2 harg2 arg3 harg3 arg4 harg4 X0 X1 X2
  rw [hB]
  by_cases hy : inside y
  · unfold inside at hy
    obtain ⟨p, hp, h⟩ := trip_cover c arg0 harg0 arg1 harg1 arg2 harg2 arg3 harg3 arg4 harg4 X0 X1 X2 ⟨((y 1).val - 8) / 32, by rw [strips]; omega⟩ y (by dsimp only; omega)
    exact ⟨p, List.mem_append_left _ ((mem_gather _ _ _).mpr ⟨_, Fin.isLt _, hp⟩), h⟩
  · obtain ⟨p, hp, h⟩ := hc y hy
    exact ⟨p, List.mem_append_right _ hp, h⟩

end Cert.KernelIdeal.Body3

end
-- ==== Proof.KI.Call3.lean ====
module

public import proofs.«01_k».proof.Proof.KI.Body3
public import proofs.«01_k».proof.Proof.KI.RegionOf
public import Idealize.ShloMosaic.Lib.Pipeline.ValueKit

@[expose] public section

set_option maxRecDepth 16384

noncomputable section

namespace Cert.KernelIdeal.Call3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Segment Cert.Pieces

variable {F : FTy → Type} [FloatOps F] [Named F] (V : (c : Dev nD) → Valuation τ sig (Elt F))

local notation "𝕄" => MT nD τ sig Unit (Elt F) ℕ (UR sig nD τ) ℕ

/-! What the call stages of its operands. -/
abbrev in0 (c : Dev nD) : Vec F S48x96x384 .f32 := ((cfg3.win 0).blk t3_0).view.read (Elt F) (V c main_v86)
abbrev in1 (c : Dev nD) : Vec F S48x96x384 .f32 := ((cfg3.win 1).blk t3_0).view.read (Elt F) (V c main_v90)
abbrev in2 (c : Dev nD) : Vec F S96x384 .f32 := ((cfg3.win 2).blk t3_0).view.read (Elt F) (V c main_v92)

/-- The pieces the body writes into the result, -/
abbrev pieces (c : Dev nD) : List (View.Piece (Elt F) S24x208x388 .f32) :=
  (Body3.run c (stage3_0 0) (hstage3_0 0) (stage3_1 0) (hstage3_1 0) (stage3_2 0) (hstage3_2 0) (stage3_3 0) (hstage3_3 0) (Memref.whole cc3_scratch0) (Memref.isWhole_whole _) (in0 V c) (in1 V c) (in2 V c)).1

/-- and the result they make. -/
def res (c : Dev nD) : Vec F S24x208x388 .f32 := View.canon (pieces V c)

/-- The proof data: the arrays at `V`; the operands staged as they are, the result as the body leaves it. -/
def dat (c : Dev nD) : Dat τ (Elt F) Unit ℕ (UR sig nD τ) ℕ cfg3 c where
  A w := V c (Pipeline.arrRef spec3 w)
  after w _ := match w with
    | ⟨0, _⟩ => in0 V c
    | ⟨1, _⟩ => in1 V c
    | ⟨2, _⟩ => in2 V c
    | ⟨3, _⟩ => res V c
  Φ _ := Pipeline.scopedRest (Ix := Unit) (Name := ℕ) (U := UR sig nD τ) (Lvl := ℕ) (Val := Elt F) spec3 c
  q _ := fullShare
  owed _ := 0

theorem before0 (c : Dev nD) (d : (cfg3.win 0).block.Idx → Elt F (cfg3.win 0).elt) : (dat V c).before 0 t3_0 d = in0 V c := by
  unfold Dat.before; rw [if_pos (by decide)]; rfl
theorem before1 (c : Dev nD) (d : (cfg3.win 1).block.Idx → Elt F (cfg3.win 1).elt) : (dat V c).before 1 t3_0 d = in1 V c := by
  unfold Dat.before; rw [if_pos (by decide)]; rfl
theorem before2 (c : Dev nD) (d : (cfg3.win 2).block.Idx → Elt F (cfg3.win 2).elt) : (dat V c).before 2 t3_0 d = in2 V c := by
  unfold Dat.before; rw [if_pos (by decide)]; rfl

/-- The body obligation: the staging buffers and the scratch taken out, the body run, what it leaves put back. -/
theorem body (c : Dev nD) : BodyObligation (dat V c) (defs₀ (F := F)) Variants.none () Set.univ := fun t => by
  obtain rfl := fin_N3 t
  rw [bigSep_W3, bigSep_W3]
  simp only [owns_whole_eq]
  rw [show (dat V c).Φ t3_0.castSucc = Pipeline.scopedRest (Ix := Unit) (Name := ℕ) (U := UR sig nD τ) (Lvl := ℕ) (Val := Elt F) spec3 c from rfl,
    show (dat V c).Φ t3_0.succ = Pipeline.scopedRest (Ix := Unit) (Name := ℕ) (U := UR sig nD τ) (Lvl := ℕ) (Val := Elt F) spec3 c from rfl,
    show (dat V c).owesAt () t3_0.succ = (dat V c).owesAt () t3_0.castSucc from rfl, scopedRest3_split]
  have hrun := fun fs f3 => (Body3.run c (stage3_0 0) (hstage3_0 0) (stage3_1 0) (hstage3_1 0) (stage3_2 0) (hstage3_2 0) (stage3_3 0) (hstage3_3 0) (Memref.whole cc3_scratch0) (Memref.isWhole_whole _) (in0 V c) (in1 V c) (in2 V c)).2 fs f3
  simp only [Body3.pt, (hstage3_0 0).set_eq_univ, (hstage3_1 0).set_eq_univ, (hstage3_2 0).set_eq_univ, (hstage3_3 0).set_eq_univ, (Memref.isWhole_whole cc3_scratch0).set_eq_univ] at hrun
  iintro ⟨⟨⟨%fs, HS⟩, HΦ⟩, Howes, ⟨%d0, %f0, %hf0, H0⟩, ⟨%d1, %f1, %hf1, H1⟩, ⟨%d2, %f2, %hf2, H2⟩, ⟨%d3, %f3, -, H3⟩⟩
  rw [before0] at hf0; subst hf0
  rw [before1] at hf1; subst hf1
  rw [before2] at hf2; subst hf2
  iapply (wp_wand_r Idealize.ShloMosaic.frame (wpE (defs₀ (F := F)) Variants.none (c : Thread nD τ) none) Set.univ)
  isplitl [H0 H1 H2 H3 HS]
  · iapply (hrun fs f3)
    isplitl [H0]; · iexact H0
    isplitl [H1]; · iexact H1
    isplitl [H2]; · iexact H2
    isplitl [H3]; · iexact H3
    iexact HS
  · iintro %_ ⟨H0, H1, H2, H3, ⟨%fs', HS⟩⟩
    isplitl [HS HΦ]
    · isplitl [HS]; · iexists _; iexact HS
      iexact HΦ
    isplitl [Howes]; · iexact Howes
    isplitl [H0]; · iexists _; isplitr; swap; (· iexact H0); ipureintro; dsimp only [dat]
    isplitl [H1]; · iexists _; isplitr; swap; (· iexact H1); ipureintro; dsimp only [dat]
    isplitl [H2]; · iexists _; isplitr; swap; (· iexact H2); ipureintro; dsimp only [dat]
    iexists _; isplitr; swap; (· iexact H3); ipureintro; dsimp only [dat]
    exact View.read_writes_eq_canon (stage3_3 0).view f3 _ (Body3.run_cover c (stage3_0 0) (hstage3_0 0) (stage3_1 0) (hstage3_1 0) (stage3_2 0) (hstage3_2 0) (stage3_3 0) (hstage3_3 0) (Memref.whole cc3_scratch0) (Memref.isWhole_whole _) (in0 V c) (in1 V c) (in2 V c))

/-- The result's array at the end. -/
theorem final (c : Dev nD) : (dat V c).arrAt 3 cfg3.N = res V c := by
  refine (dat V c).arrAt_eq_of_after_last 3 t3_0 (by decide +kernel) _ fun j => ?_
  rfl

/-- What an operand's array holds throughout. -/
theorem arrAt_eq (c : Dev nD) (w : Fin 4) (Vp : Valuation τ sig (Elt F)) (ho : Vp main_v93 = res V c)
    (hne : ∀ b : Ref sig .tc, b ≠ main_v93 → Vp b = V c b) :
    (dat V c).arrAt w cfg3.N = Vp (Pipeline.arrRef spec3 w) := by
  fin_cases w
  · exact ((dat V c).arrAt_in 0 rfl _).trans (hne main_v86 (by decide)).symm
  · exact ((dat V c).arrAt_in 1 rfl _).trans (hne main_v90 (by decide)).symm
  · exact ((dat V c).arrAt_in 2 rfl _).trans (hne main_v92 (by decide)).symm
  · exact (final V c).trans ho.symm

/-- The result's is the only buffer that changes. -/
theorem rest (c : Dev nD) (Vp : Valuation τ sig (Elt F)) (hne : ∀ b : Ref sig .tc, b ≠ main_v93 → Vp b = V c b)
    (b : Ref sig .tc) (hb : b ∉ Finset.univ.image (Pipeline.arrRef spec3)) : Vp b = V c b :=
  hne b fun h => hb (h ▸ Finset.mem_image.mpr ⟨3, Finset.mem_univ _, rfl⟩)

end Cert.KernelIdeal.Call3

end
-- ==== Proof.KI.Body4.lean ====
module

public import proofs.«01_k».proof.Proof.Gen.KernelIdeal.Loops
public import proofs.«01_k».proof.Proof.Pieces

@[expose] public section

set_option maxRecDepth 16384

noncomputable section

namespace Cert.KernelIdeal.Body4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Pieces

variable {F : FTy → Type} [FloatOps F] [Named F]

local notation "𝕄" => MT nD τ sig Unit (Elt F) ℕ (UR sig nD τ) ℕ

/-- A memref's contents, and its buffer held whole at given contents. -/
abbrev Bf {sp : Space} {S : Shape} {e : EltTy} (M : Memref sig .tc sp S e) : Type := BufTy.Contents (Elt F) M.view.ty
abbrev pt (c : Dev nD) {sp : Space} {S : Shape} {e : EltTy} (M : Memref sig .tc sp S e) (f : Bf (F := F) M) : sProp 𝕄 :=
  M.view.loc (c : Thread nD τ) ↦[M.view.set]{fullShare} f

variable (c : Dev nD) (arg0 : Memref sig .tc .vmem S24x208x388 .f32) (harg0 : arg0.IsWhole) (arg1 : Memref sig .tc .vmem S216x24x384 .f32) (harg1 : arg1.IsWhole) (arg2 : Memref sig .tc .vmem S24x384 .f32) (harg2 : arg2.IsWhole) (arg3 : Memref sig .tc .vmem S24x192x384 .f32) (harg3 : arg3.IsWhole) (arg4 : Memref sig .tc .vmem S24x24x384 .f32) (harg4 : arg4.IsWhole)

set_option maxHeartbeats 2000000 in
/-- One strip: run at a symbolic trip, with the pieces it writes into the result. -/
@[irreducible] def trip (X0 : Bf (F := F) arg0) (X1 : Bf (F := F) arg1) (X2 : Bf (F := F) arg2) (k : Fin k4_t1_loop.trips) :
    { L : List (View.Piece (Elt F) S24x192x384 .f32) // ∀ (f4 : Bf (F := F) arg4) (f3 : Bf (F := F) arg3),
      iprop(pt c arg0 X0 ∗ pt c arg1 X1 ∗ pt c arg2 X2 ∗ pt c arg3 f3 ∗ pt c arg4 f4)
      ⊢ wp frame (wpE (defs₀ (F := F)) Variants.none (c : Thread nD τ) none) Set.univ (k4_t1_body (F := F) arg0 harg0 arg1 harg1 arg2 harg2 arg3 harg3 arg4 harg4 k PUnit.unit)
          (fun _ => iprop(pt c arg0 X0 ∗ pt c arg1 X1 ∗ pt c arg2 X2 ∗ pt c arg3 (arg3.view.writes (Elt F) f3 L) ∗ ∃ f' : Bf (F := F) arg4, pt c arg4 f')) } := by
  refine ⟨?_, fun f4 f3 => ?run⟩
  case run =>
    unfold k4_t1_body
    iintro ⟨H0, H1, H2, H3, H4⟩
    sl_exec
    sl_step
    sl_close

abbrev tripL (X0 : Bf (F := F) arg0) (X1 : Bf (F := F) arg1) (X2 : Bf (F := F) arg2) (k : Fin k4_t1_loop.trips) : List (View.Piece (Elt F) S24x192x384 .f32) := (trip c arg0 harg0 arg1 harg1 arg2 harg2 arg3 harg3 arg4 harg4 X0 X1 X2 k).1

/-- The strips before the `k`-th: the inputs as they were, the result with the strips' pieces over what it held. -/
abbrev inv (X0 : Bf (F := F) arg0) (X1 : Bf (F := F) arg1) (X2 : Bf (F := F) arg2) (G : Bf (F := F) arg3) (k : ℕ) (_u : PUnit) : sProp 𝕄 :=
  iprop(pt c arg0 X0 ∗ pt c arg1 X1 ∗ pt c arg2 X2 ∗ (∃ f, pt c arg3 f ∗ ⌜f = arg3.view.writes (Elt F) G (gather (tripL c arg0 harg0 arg1 harg1 arg2 harg2 arg3 harg3 arg4 harg4 X0 X1 X2) k)⌝) ∗ ∃ f', pt c arg4 f')

set_option warn.classDefReducibility false in
@[sl_loop] def loopInv (X0 : Bf (F := F) arg0) (X1 : Bf (F := F) arg1) (X2 : Bf (F := F) arg2) (G : Bf (F := F) arg3) :
    LoopInvTy_k4_t1 (F := F) Unit ℕ (UR sig nD τ) ℕ Variants.none c none Set.univ arg0 harg0 arg1 harg1 arg2 harg2 arg3 harg3 arg4 harg4 where
  inv := inv c arg0 harg0 arg1 harg1 arg2 harg2 arg3 harg3 arg4 harg4 X0 X1 X2 G
  step k acc := by
    iintro ⟨H0, H1, H2, ⟨%f, H3, %hf⟩, ⟨%f', H4⟩⟩
    iapply (wp_wand_r Idealize.ShloMosaic.frame (wpE (defs₀ (F := F)) Variants.none (c : Thread nD τ) none) Set.univ)
    isplitl [H0 H1 H2 H3 H4]
    · iapply ((trip c arg0 harg0 arg1 harg1 arg2 harg2 arg3 harg3 arg4 harg4 X0 X1 X2 k).2 f' f)
      isplitl [H0]; · iexact H0
      isplitl [H1]; · iexact H1
      isplitl [H2]; · iexact H2
      isplitl [H3]; · iexact H3
      iexact H4
    · iintro %_ ⟨H0, H1, H2, H3, H4⟩
      isplitl [H0]; · iexact H0
      isplitl [H1]; · iexact H1
      isplitl [H2]; · iexact H2
      isplitl [H3]
      · rw [gather_succ]
        iexists _; isplitl [H3]; · iexact H3
        ipureintro; rw [hf, ← View.writes_append]
      iexact H4

set_option maxHeartbeats 2000000 in
/-- The whole body: run from any contents of the result and the scratch, with the pieces it leaves in the result. -/
@[irreducible] def run (X0 : Bf (F := F) arg0) (X1 : Bf (F := F) arg1) (X2 : Bf (F := F) arg2) :
    { L : List (View.Piece (Elt F) S24x192x384 .f32) // ∀ (f4 : Bf (F := F) arg4) (f3 : Bf (F := F) arg3),
      iprop(pt c arg0 X0 ∗ pt c arg1 X1 ∗ pt c arg2 X2 ∗ pt c arg3 f3 ∗ pt c arg4 f4)
      ⊢ wp frame (wpE (defs₀ (F := F)) Variants.none (c : Thread nD τ) none) Set.univ (cc4__conv3x3_body (F := F) arg0 harg0 arg1 harg1 arg2 harg2 arg3 harg3 arg4 harg4)
          (fun _ => iprop(pt c arg0 X0 ∗ pt c arg1 X1 ∗ pt c arg2 X2 ∗ pt c arg3 (arg3.view.writes (Elt F) f3 L) ∗ ∃ f' : Bf (F := F) arg4, pt c arg4 f')) } := by
  refine ⟨?_, fun f4 f3 => ?run⟩
  case run =>
    simp only [cc4__conv3x3_body_eq_skeleton]
    unfold cc4__conv3x3_body_skel
    iintro ⟨H0, H1, H2, H3, H4⟩
    sl_exec
    sl_step
    sl_close

/-- There are 8 strips. -/
theorem strips : k4_t1_loop.trips = 8 := by decide

/-- A strip's pieces cover its rows. -/
theorem trip_cover (X0 : Bf (F := F) arg0) (X1 : Bf (F := F) arg1) (X2 : Bf (F := F) arg2) (k : Fin k4_t1_loop.trips) (y : S24x192x384.Idx) (hy : 0 + 24 * k.val ≤ (y 1).val ∧ (y 1).val < 0 + 24 * k.val + 24) :
    ∃ p ∈ tripL c arg0 harg0 arg1 harg1 arg2 harg2 arg3 harg3 arg4 harg4 X0 X1 X2 k, y ∈ p.1.set := by
  have h0 : (y 0).val < 24 := (y 0).isLt
  have h1 : (y 1).val < 192 := (y 1).isLt
  have h2 : (y 2).val < 384 := (y 2).isLt
  unfold tripL trip
  refine ⟨_, List.mem_singleton_self _, ?_⟩
  rw [Rect.mem_set_unit, k4_off3_eq]
  simp only [Fin.forall_fin_succ]
  simp
  omega

/-- What the body leaves: the strips' pieces. -/
theorem run_list (X0 : Bf (F := F) arg0) (X1 : Bf (F := F) arg1) (X2 : Bf (F := F) arg2) : (run c arg0 harg0 arg1 harg1 arg2 harg2 arg3 harg3 arg4 harg4 X0 X1 X2).1 = gather (tripL c arg0 harg0 arg1 harg1 arg2 harg2 arg3 harg3 arg4 harg4 X0 X1 X2) k4_t1_loop.trips := by
  unfold run
  dsimp only

/-- Every entry of the result is written. -/
theorem run_cover (X0 : Bf (F := F) arg0) (X1 : Bf (F := F) arg1) (X2 : Bf (F := F) arg2) (y : S24x192x384.Idx) : ∃ p ∈ (run c arg0 harg0 arg1 harg1 arg2 harg2 arg3 harg3 arg4 harg4 X0 X1 X2).1, y ∈ p.1.set := by
  have h1 : (y 1).val < 192 := (y 1).isLt
  obtain ⟨p, hp, h⟩ := trip_cover c arg0 harg0 arg1 harg1 arg2 harg2 arg3 harg3 arg4 harg4 X0 X1 X2 ⟨(y 1).val / 24, by rw [strips]; omega⟩ y (by dsimp only; omega)
  exact ⟨p, by rw [run_list]; exact (mem_gather _ _ _).mpr ⟨_, Fin.isLt _, hp⟩, h⟩

end Cert.KernelIdeal.Body4

end
-- ==== Proof.KI.Call4.lean ====
module

public import proofs.«01_k».proof.Proof.KI.Body4
public import proofs.«01_k».proof.Proof.KI.RegionOf
public import Idealize.ShloMosaic.Lib.Pipeline.ValueKit

@[expose] public section

set_option maxRecDepth 16384

noncomputable section

namespace Cert.KernelIdeal.Call4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Segment Cert.Pieces

variable {F : FTy → Type} [FloatOps F] [Named F] (V : (c : Dev nD) → Valuation τ sig (Elt F))

local notation "𝕄" => MT nD τ sig Unit (Elt F) ℕ (UR sig nD τ) ℕ

/-! What the call stages of its operands. -/
abbrev in0 (c : Dev nD) : Vec F S24x208x388 .f32 := ((cfg4.win 0).blk t4_0).view.read (Elt F) (V c main_v93)
abbrev in1 (c : Dev nD) : Vec F S216x24x384 .f32 := ((cfg4.win 1).blk t4_0).view.read (Elt F) (V c main_v97)
abbrev in2 (c : Dev nD) : Vec F S24x384 .f32 := ((cfg4.win 2).blk t4_0).view.read (Elt F) (V c main_v99)

/-- The pieces the body writes into the result, -/
abbrev pieces (c : Dev nD) : List (View.Piece (Elt F) S24x192x384 .f32) :=
  (Body4.run c (stage4_0 0) (hstage4_0 0) (stage4_1 0) (hstage4_1 0) (stage4_2 0) (hstage4_2 0) (stage4_3 0) (hstage4_3 0) (Memref.whole cc4_scratch0) (Memref.isWhole_whole _) (in0 V c) (in1 V c) (in2 V c)).1

/-- and the result they make. -/
def res (c : Dev nD) : Vec F S24x192x384 .f32 := View.canon (pieces V c)

/-- The proof data: the arrays at `V`; the operands staged as they are, the result as the body leaves it. -/
def dat (c : Dev nD) : Dat τ (Elt F) Unit ℕ (UR sig nD τ) ℕ cfg4 c where
  A w := V c (Pipeline.arrRef spec4 w)
  after w _ := match w with
    | ⟨0, _⟩ => in0 V c
    | ⟨1, _⟩ => in1 V c
    | ⟨2, _⟩ => in2 V c
    | ⟨3, _⟩ => res V c
  Φ _ := Pipeline.scopedRest (Ix := Unit) (Name := ℕ) (U := UR sig nD τ) (Lvl := ℕ) (Val := Elt F) spec4 c
  q _ := fullShare
  owed _ := 0

theorem before0 (c : Dev nD) (d : (cfg4.win 0).block.Idx → Elt F (cfg4.win 0).elt) : (dat V c).before 0 t4_0 d = in0 V c := by
  unfold Dat.before; rw [if_pos (by decide)]; rfl
theorem before1 (c : Dev nD) (d : (cfg4.win 1).block.Idx → Elt F (cfg4.win 1).elt) : (dat V c).before 1 t4_0 d = in1 V c := by
  unfold Dat.before; rw [if_pos (by decide)]; rfl
theorem before2 (c : Dev nD) (d : (cfg4.win 2).block.Idx → Elt F (cfg4.win 2).elt) : (dat V c).before 2 t4_0 d = in2 V c := by
  unfold Dat.before; rw [if_pos (by decide)]; rfl

/-- The body obligation: the staging buffers and the scratch taken out, the body run, what it leaves put back. -/
theorem body (c : Dev nD) : BodyObligation (dat V c) (defs₀ (F := F)) Variants.none () Set.univ := fun t => by
  obtain rfl := fin_N4 t
  rw [bigSep_W4, bigSep_W4]
  simp only [owns_whole_eq]
  rw [show (dat V c).Φ t4_0.castSucc = Pipeline.scopedRest (Ix := Unit) (Name := ℕ) (U := UR sig nD τ) (Lvl := ℕ) (Val := Elt F) spec4 c from rfl,
    show (dat V c).Φ t4_0.succ = Pipeline.scopedRest (Ix := Unit) (Name := ℕ) (U := UR sig nD τ) (Lvl := ℕ) (Val := Elt F) spec4 c from rfl,
    show (dat V c).owesAt () t4_0.succ = (dat V c).owesAt () t4_0.castSucc from rfl, scopedRest4_split]
  have hrun := fun fs f3 => (Body4.run c (stage4_0 0) (hstage4_0 0) (stage4_1 0) (hstage4_1 0) (stage4_2 0) (hstage4_2 0) (stage4_3 0) (hstage4_3 0) (Memref.whole cc4_scratch0) (Memref.isWhole_whole _) (in0 V c) (in1 V c) (in2 V c)).2 fs f3
  simp only [Body4.pt, (hstage4_0 0).set_eq_univ, (hstage4_1 0).set_eq_univ, (hstage4_2 0).set_eq_univ, (hstage4_3 0).set_eq_univ, (Memref.isWhole_whole cc4_scratch0).set_eq_univ] at hrun
  iintro ⟨⟨⟨%fs, HS⟩, HΦ⟩, Howes, ⟨%d0, %f0, %hf0, H0⟩, ⟨%d1, %f1, %hf1, H1⟩, ⟨%d2, %f2, %hf2, H2⟩, ⟨%d3, %f3, -, H3⟩⟩
  rw [before0] at hf0; subst hf0
  rw [before1] at hf1; subst hf1
  rw [before2] at hf2; subst hf2
  iapply (wp_wand_r Idealize.ShloMosaic.frame (wpE (defs₀ (F := F)) Variants.none (c : Thread nD τ) none) Set.univ)
  isplitl [H0 H1 H2 H3 HS]
  · iapply (hrun fs f3)
    isplitl [H0]; · iexact H0
    isplitl [H1]; · iexact H1
    isplitl [H2]; · iexact H2
    isplitl [H3]; · iexact H3
    iexact HS
  · iintro %_ ⟨H0, H1, H2, H3, ⟨%fs', HS⟩⟩
    isplitl [HS HΦ]
    · isplitl [HS]; · iexists _; iexact HS
      iexact HΦ
    isplitl [Howes]; · iexact Howes
    isplitl [H0]; · iexists _; isplitr; swap; (· iexact H0); ipureintro; dsimp only [dat]
    isplitl [H1]; · iexists _; isplitr; swap; (· iexact H1); ipureintro; dsimp only [dat]
    isplitl [H2]; · iexists _; isplitr; swap; (· iexact H2); ipureintro; dsimp only [dat]
    iexists _; isplitr; swap; (· iexact H3); ipureintro; dsimp only [dat]
    exact View.read_writes_eq_canon (stage4_3 0).view f3 _ (Body4.run_cover c (stage4_0 0) (hstage4_0 0) (stage4_1 0) (hstage4_1 0) (stage4_2 0) (hstage4_2 0) (stage4_3 0) (hstage4_3 0) (Memref.whole cc4_scratch0) (Memref.isWhole_whole _) (in0 V c) (in1 V c) (in2 V c))

/-- The result's array at the end. -/
theorem final (c : Dev nD) : (dat V c).arrAt 3 cfg4.N = res V c := by
  refine (dat V c).arrAt_eq_of_after_last 3 t4_0 (by decide +kernel) _ fun j => ?_
  rfl

/-- What an operand's array holds throughout. -/
theorem arrAt_eq (c : Dev nD) (w : Fin 4) (Vp : Valuation τ sig (Elt F)) (ho : Vp main_v100 = res V c)
    (hne : ∀ b : Ref sig .tc, b ≠ main_v100 → Vp b = V c b) :
    (dat V c).arrAt w cfg4.N = Vp (Pipeline.arrRef spec4 w) := by
  fin_cases w
  · exact ((dat V c).arrAt_in 0 rfl _).trans (hne main_v93 (by decide)).symm
  · exact ((dat V c).arrAt_in 1 rfl _).trans (hne main_v97 (by decide)).symm
  · exact ((dat V c).arrAt_in 2 rfl _).trans (hne main_v99 (by decide)).symm
  · exact (final V c).trans ho.symm

/-- The result's is the only buffer that changes. -/
theorem rest (c : Dev nD) (Vp : Valuation τ sig (Elt F)) (hne : ∀ b : Ref sig .tc, b ≠ main_v100 → Vp b = V c b)
    (b : Ref sig .tc) (hb : b ∉ Finset.univ.image (Pipeline.arrRef spec4)) : Vp b = V c b :=
  hne b fun h => hb (h ▸ Finset.mem_image.mpr ⟨3, Finset.mem_univ _, rfl⟩)

end Cert.KernelIdeal.Call4

end
-- ==== Proof.KI.Body5.lean ====
module

public import proofs.«01_k».proof.Proof.Gen.KernelIdeal.Loops
public import proofs.«01_k».proof.Proof.Pieces

@[expose] public section

set_option maxRecDepth 16384

noncomputable section

namespace Cert.KernelIdeal.Body5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Pieces

variable {F : FTy → Type} [FloatOps F] [Named F]

local notation "𝕄" => MT nD τ sig Unit (Elt F) ℕ (UR sig nD τ) ℕ

/-- A memref's contents, and its buffer held whole at given contents. -/
abbrev Bf {sp : Space} {S : Shape} {e : EltTy} (M : Memref sig .tc sp S e) : Type := BufTy.Contents (Elt F) M.view.ty
abbrev pt (c : Dev nD) {sp : Space} {S : Shape} {e : EltTy} (M : Memref sig .tc sp S e) (f : Bf (F := F) M) : sProp 𝕄 :=
  M.view.loc (c : Thread nD τ) ↦[M.view.set]{fullShare} f

variable (c : Dev nD) (arg0 : Memref sig .tc .vmem S24x192x384 .f32) (harg0 : arg0.IsWhole) (arg1 : Memref sig .tc .vmem S24x48x384 .f32) (harg1 : arg1.IsWhole) (arg2 : Memref sig .tc .vmem S48x384 .f32) (harg2 : arg2.IsWhole) (arg3 : Memref sig .tc .vmem S12x400x386 .f32) (harg3 : arg3.IsWhole) (arg4 : Memref sig .tc .vmem S48x24x384 .f32) (harg4 : arg4.IsWhole)

set_option maxHeartbeats 2000000 in
/-- One strip: run at a symbolic trip, with the pieces it writes into the result. -/
@[irreducible] def trip (X0 : Bf (F := F) arg0) (X1 : Bf (F := F) arg1) (X2 : Bf (F := F) arg2) (k : Fin k5_t1_loop.trips) :
    { L : List (View.Piece (Elt F) S12x400x386 .f32) // ∀ (f4 : Bf (F := F) arg4) (f3 : Bf (F := F) arg3),
      iprop(pt c arg0 X0 ∗ pt c arg1 X1 ∗ pt c arg2 X2 ∗ pt c arg3 f3 ∗ pt c arg4 f4)
      ⊢ wp frame (wpE (defs₀ (F := F)) Variants.none (c : Thread nD τ) none) Set.univ (k5_t1_body (F := F) arg0 harg0 arg1 harg1 arg2 harg2 arg3 harg3 arg4 harg4 k PUnit.unit)
          (fun _ => iprop(pt c arg0 X0 ∗ pt c arg1 X1 ∗ pt c arg2 X2 ∗ pt c arg3 (arg3.view.writes (Elt F) f3 L) ∗ ∃ f' : Bf (F := F) arg4, pt c arg4 f')) } := by
  refine ⟨?_, fun f4 f3 => ?run⟩
  case run =>
    unfold k5_t1_body
    simp only [k5_part10_eq_skeleton]
    unfold k5_part10_skel
    simp only [k5_part2_eq_skeleton, k5_part3_eq_skeleton, k5_part4_eq_skeleton, k5_part5_eq_skeleton, k5_part6_eq_skeleton, k5_part7_eq_skeleton, k5_part8_eq_skeleton, k5_part9_eq_skeleton]
    iintro ⟨H0, H1, H2, H3, H4⟩
    sl_exec
    sl_step
    sl_close

abbrev tripL (X0 : Bf (F := F) arg0) (X1 : Bf (F := F) arg1) (X2 : Bf (F := F) arg2) (k : Fin k5_t1_loop.trips) : List (View.Piece (Elt F) S12x400x386 .f32) := (trip c arg0 harg0 arg1 harg1 arg2 harg2 arg3 harg3 arg4 harg4 X0 X1 X2 k).1

/-- The strips before the `k`-th: the inputs as they were, the result with the strips' pieces over what it held. -/
abbrev inv (X0 : Bf (F := F) arg0) (X1 : Bf (F := F) arg1) (X2 : Bf (F := F) arg2) (G : Bf (F := F) arg3) (k : ℕ) (_u : PUnit) : sProp 𝕄 :=
  iprop(pt c arg0 X0 ∗ pt c arg1 X1 ∗ pt c arg2 X2 ∗ (∃ f, pt c arg3 f ∗ ⌜f = arg3.view.writes (Elt F) G (gather (tripL c arg0 harg0 arg1 harg1 arg2 harg2 arg3 harg3 arg4 harg4 X0 X1 X2) k)⌝) ∗ ∃ f', pt c arg4 f')

set_option warn.classDefReducibility false in
@[sl_loop] def loopInv (X0 : Bf (F := F) arg0) (X1 : Bf (F := F) arg1) (X2 : Bf (F := F) arg2) (G : Bf (F := F) arg3) :
    LoopInvTy_k5_t1 (F := F) Unit ℕ (UR sig nD τ) ℕ Variants.none c none Set.univ arg0 harg0 arg1 harg1 arg2 harg2 arg3 harg3 arg4 harg4 where
  inv := inv c arg0 harg0 arg1 harg1 arg2 harg2 arg3 harg3 arg4 harg4 X0 X1 X2 G
  step k acc := by
    iintro ⟨H0, H1, H2, ⟨%f, H3, %hf⟩, ⟨%f', H4⟩⟩
    iapply (wp_wand_r Idealize.ShloMosaic.frame (wpE (defs₀ (F := F)) Variants.none (c : Thread nD τ) none) Set.univ)
    isplitl [H0 H1 H2 H3 H4]
    · iapply ((trip c arg0 harg0 arg1 harg1 arg2 harg2 arg3 harg3 arg4 harg4 X0 X1 X2 k).2 f' f)
      isplitl [H0]; · iexact H0
      isplitl [H1]; · iexact H1
      isplitl [H2]; · iexact H2
      isplitl [H3]; · iexact H3
      iexact H4
    · iintro %_ ⟨H0, H1, H2, H3, H4⟩
      isplitl [H0]; · iexact H0
      isplitl [H1]; · iexact H1
      isplitl [H2]; · iexact H2
      isplitl [H3]
      · rw [gather_succ]
        iexists _; isplitl [H3]; · iexact H3
        ipureintro; rw [hf, ← View.writes_append]
      iexact H4

set_option maxHeartbeats 2000000 in
/-- The whole body: run from any contents of the result and the scratch, with the pieces it leaves in the result. -/
@[irreducible] def run (X0 : Bf (F := F) arg0) (X1 : Bf (F := F) arg1) (X2 : Bf (F := F) arg2) :
    { L : List (View.Piece (Elt F) S12x400x386 .f32) // ∀ (f4 : Bf (F := F) arg4) (f3 : Bf (F := F) arg3),
      iprop(pt c arg0 X0 ∗ pt c arg1 X1 ∗ pt c arg2 X2 ∗ pt c arg3 f3 ∗ pt c arg4 f4)
      ⊢ wp frame (wpE (defs₀ (F := F)) Variants.none (c : Thread nD τ) none) Set.univ (cc5__upsample_body (F := F) arg0 harg0 arg1 harg1 arg2 harg2 arg3 harg3 arg4 harg4)
          (fun _ => iprop(pt c arg0 X0 ∗ pt c arg1 X1 ∗ pt c arg2 X2 ∗ pt c arg3 (arg3.view.writes (Elt F) f3 L) ∗ ∃ f' : Bf (F := F) arg4, pt c arg4 f')) } := by
  refine ⟨?_, fun f4 f3 => ?run⟩
  case run =>
    simp only [cc5__upsample_body_eq_skeleton]
    unfold cc5__upsample_body_skel
    iintro ⟨H0, H1, H2, H3, H4⟩
    sl_exec
    sl_step
    sl_close

/-- There are 8 strips. -/
theorem strips : k5_t1_loop.trips = 8 := by decide

set_option maxHeartbeats 2000000 in
/-- A strip's pieces cover its rows. -/
theorem trip_cover (X0 : Bf (F := F) arg0) (X1 : Bf (F := F) arg1) (X2 : Bf (F := F) arg2) (k : Fin k5_t1_loop.trips) (y : S12x400x386.Idx) (hy : 8 + 48 * k.val ≤ (y 1).val ∧ (y 1).val < 8 + 48 * k.val + 48 ∧ 1 ≤ (y 2).val ∧ (y 2).val < 385) :
    ∃ p ∈ tripL c arg0 harg0 arg1 harg1 arg2 harg2 arg3 harg3 arg4 harg4 X0 X1 X2 k, y ∈ p.1.set := by
  have h0 : (y 0).val < 12 := (y 0).isLt
  have h1 : (y 1).val < 400 := (y 1).isLt
  have h2 : (y 2).val < 386 := (y 2).isLt
  unfold tripL trip
  dsimp only
  simp only [List.exists_mem_cons_iff, Rect.mem_set_unit, k5_off5_eq, k5_off6_eq, k5_off7_eq, k5_off8_eq, k5_off9_eq, k5_off10_eq, k5_off11_eq, k5_off12_eq, k5_off13_eq, k5_off14_eq, k5_off15_eq, k5_off16_eq, Fin.forall_fin_succ]
  simp
  omega

/-- Whether an entry lies inside the border. -/
def inside (y : S12x400x386.Idx) : Prop := (8 ≤ (y 1).val ∧ (y 1).val < 392 ∧ 1 ≤ (y 2).val ∧ (y 2).val < 385)

/-- What the body leaves: the strips' pieces over the border's, which hold zero. -/
theorem run_list (X0 : Bf (F := F) arg0) (X1 : Bf (F := F) arg1) (X2 : Bf (F := F) arg2) : ∃ B : List (View.Piece (Elt F) S12x400x386 .f32),
    (run c arg0 harg0 arg1 harg1 arg2 harg2 arg3 harg3 arg4 harg4 X0 X1 X2).1 = gather (tripL c arg0 harg0 arg1 harg1 arg2 harg2 arg3 harg3 arg4 harg4 X0 X1 X2) k5_t1_loop.trips ++ B
      ∧ (∀ y, ¬ inside y → ∃ p ∈ B, y ∈ p.1.set)
      ∧ ∀ p ∈ B, (∀ y ∈ p.1.set, ¬ inside y) ∧ ∀ x, p.2 x = FloatOps.ofBits .f32 0x00000000#32 := by
  unfold run
  dsimp only
  sl_unfold_run_names
  refine ⟨_, rfl, fun y hy => ?_, ?_⟩
  · unfold inside at hy
    have h0 : (y 0).val < 12 := (y 0).isLt
    have h1 : (y 1).val < 400 := (y 1).isLt
    have h2 : (y 2).val < 386 := (y 2).isLt
    simp only [List.exists_mem_cons_iff, Rect.mem_set_unit, Fin.forall_fin_succ]
    simp
    omega
  · simp only [List.forall_mem_cons]
    refine ⟨⟨fun y hy => ?_, fun _ => rfl⟩, ⟨fun y hy => ?_, fun _ => rfl⟩, ⟨fun y hy => ?_, fun _ => rfl⟩, ⟨fun y hy => ?_, fun _ => rfl⟩,
      fun p hp => absurd hp List.not_mem_nil⟩ <;>
    · have h := Rect.mem_set_unit.mp hy
      have h1 := h 1
      have h2 := h 2
      simp at h1 h2
      unfold inside
      omega

/-- Every entry of the result is written. -/
theorem run_cover (X0 : Bf (F := F) arg0) (X1 : Bf (F := F) arg1) (X2 : Bf (F := F) arg2) (y : S12x400x386.Idx) : ∃ p ∈ (run c arg0 harg0 arg1 harg1 arg2 harg2 arg3 harg3 arg4 harg4 X0 X1 X2).1, y ∈ p.1.set := by
  obtain ⟨B, hB, hc, -⟩ := run_list c arg0 harg0 arg1 harg1 arg2 harg2 arg3 harg3 arg4 harg4 X0 X1 X2
  rw [hB]
  by_cases hy : inside y
  · unfold inside at hy
    obtain ⟨p, hp, h⟩ := trip_cover c arg0 harg0 arg1 harg1 arg2 harg2 arg3 harg3 arg4 harg4 X0 X1 X2 ⟨((y 1).val - 8) / 48, by rw [strips]; omega⟩ y (by dsimp only; omega)
    exact ⟨p, List.mem_append_left _ ((mem_gather _ _ _).mpr ⟨_, Fin.isLt _, hp⟩), h⟩
  · obtain ⟨p, hp, h⟩ := hc y hy
    exact ⟨p, List.mem_append_right _ hp, h⟩

end Cert.KernelIdeal.Body5

end
-- ==== Proof.KI.Call5.lean ====
module

public import proofs.«01_k».proof.Proof.KI.Body5
public import proofs.«01_k».proof.Proof.KI.RegionOf
public import Idealize.ShloMosaic.Lib.Pipeline.ValueKit

@[expose] public section

set_option maxRecDepth 16384

noncomputable section

namespace Cert.KernelIdeal.Call5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Segment Cert.Pieces

variable {F : FTy → Type} [FloatOps F] [Named F] (V : (c : Dev nD) → Valuation τ sig (Elt F))

local notation "𝕄" => MT nD τ sig Unit (Elt F) ℕ (UR sig nD τ) ℕ

/-! What the call stages of its operands. -/
abbrev in0 (c : Dev nD) : Vec F S24x192x384 .f32 := ((cfg5.win 0).blk t5_0).view.read (Elt F) (V c main_v100)
abbrev in1 (c : Dev nD) : Vec F S24x48x384 .f32 := ((cfg5.win 1).blk t5_0).view.read (Elt F) (V c main_v104)
abbrev in2 (c : Dev nD) : Vec F S48x384 .f32 := ((cfg5.win 2).blk t5_0).view.read (Elt F) (V c main_v106)

/-- The pieces the body writes into the result, -/
abbrev pieces (c : Dev nD) : List (View.Piece (Elt F) S12x400x386 .f32) :=
  (Body5.run c (stage5_0 0) (hstage5_0 0) (stage5_1 0) (hstage5_1 0) (stage5_2 0) (hstage5_2 0) (stage5_3 0) (hstage5_3 0) (Memref.whole cc5_scratch0) (Memref.isWhole_whole _) (in0 V c) (in1 V c) (in2 V c)).1

/-- and the result they make. -/
def res (c : Dev nD) : Vec F S12x400x386 .f32 := View.canon (pieces V c)

/-- The proof data: the arrays at `V`; the operands staged as they are, the result as the body leaves it. -/
def dat (c : Dev nD) : Dat τ (Elt F) Unit ℕ (UR sig nD τ) ℕ cfg5 c where
  A w := V c (Pipeline.arrRef spec5 w)
  after w _ := match w with
    | ⟨0, _⟩ => in0 V c
    | ⟨1, _⟩ => in1 V c
    | ⟨2, _⟩ => in2 V c
    | ⟨3, _⟩ => res V c
  Φ _ := Pipeline.scopedRest (Ix := Unit) (Name := ℕ) (U := UR sig nD τ) (Lvl := ℕ) (Val := Elt F) spec5 c
  q _ := fullShare
  owed _ := 0

theorem before0 (c : Dev nD) (d : (cfg5.win 0).block.Idx → Elt F (cfg5.win 0).elt) : (dat V c).before 0 t5_0 d = in0 V c := by
  unfold Dat.before; rw [if_pos (by decide)]; rfl
theorem before1 (c : Dev nD) (d : (cfg5.win 1).block.Idx → Elt F (cfg5.win 1).elt) : (dat V c).before 1 t5_0 d = in1 V c := by
  unfold Dat.before; rw [if_pos (by decide)]; rfl
theorem before2 (c : Dev nD) (d : (cfg5.win 2).block.Idx → Elt F (cfg5.win 2).elt) : (dat V c).before 2 t5_0 d = in2 V c := by
  unfold Dat.before; rw [if_pos (by decide)]; rfl

/-- The body obligation: the staging buffers and the scratch taken out, the body run, what it leaves put back. -/
theorem body (c : Dev nD) : BodyObligation (dat V c) (defs₀ (F := F)) Variants.none () Set.univ := fun t => by
  obtain rfl := fin_N5 t
  rw [bigSep_W5, bigSep_W5]
  simp only [owns_whole_eq]
  rw [show (dat V c).Φ t5_0.castSucc = Pipeline.scopedRest (Ix := Unit) (Name := ℕ) (U := UR sig nD τ) (Lvl := ℕ) (Val := Elt F) spec5 c from rfl,
    show (dat V c).Φ t5_0.succ = Pipeline.scopedRest (Ix := Unit) (Name := ℕ) (U := UR sig nD τ) (Lvl := ℕ) (Val := Elt F) spec5 c from rfl,
    show (dat V c).owesAt () t5_0.succ = (dat V c).owesAt () t5_0.castSucc from rfl, scopedRest5_split]
  have hrun := fun fs f3 => (Body5.run c (stage5_0 0) (hstage5_0 0) (stage5_1 0) (hstage5_1 0) (stage5_2 0) (hstage5_2 0) (stage5_3 0) (hstage5_3 0) (Memref.whole cc5_scratch0) (Memref.isWhole_whole _) (in0 V c) (in1 V c) (in2 V c)).2 fs f3
  simp only [Body5.pt, (hstage5_0 0).set_eq_univ, (hstage5_1 0).set_eq_univ, (hstage5_2 0).set_eq_univ, (hstage5_3 0).set_eq_univ, (Memref.isWhole_whole cc5_scratch0).set_eq_univ] at hrun
  iintro ⟨⟨⟨%fs, HS⟩, HΦ⟩, Howes, ⟨%d0, %f0, %hf0, H0⟩, ⟨%d1, %f1, %hf1, H1⟩, ⟨%d2, %f2, %hf2, H2⟩, ⟨%d3, %f3, -, H3⟩⟩
  rw [before0] at hf0; subst hf0
  rw [before1] at hf1; subst hf1
  rw [before2] at hf2; subst hf2
  iapply (wp_wand_r Idealize.ShloMosaic.frame (wpE (defs₀ (F := F)) Variants.none (c : Thread nD τ) none) Set.univ)
  isplitl [H0 H1 H2 H3 HS]
  · iapply (hrun fs f3)
    isplitl [H0]; · iexact H0
    isplitl [H1]; · iexact H1
    isplitl [H2]; · iexact H2
    isplitl [H3]; · iexact H3
    iexact HS
  · iintro %_ ⟨H0, H1, H2, H3, ⟨%fs', HS⟩⟩
    isplitl [HS HΦ]
    · isplitl [HS]; · iexists _; iexact HS
      iexact HΦ
    isplitl [Howes]; · iexact Howes
    isplitl [H0]; · iexists _; isplitr; swap; (· iexact H0); ipureintro; dsimp only [dat]
    isplitl [H1]; · iexists _; isplitr; swap; (· iexact H1); ipureintro; dsimp only [dat]
    isplitl [H2]; · iexists _; isplitr; swap; (· iexact H2); ipureintro; dsimp only [dat]
    iexists _; isplitr; swap; (· iexact H3); ipureintro; dsimp only [dat]
    exact View.read_writes_eq_canon (stage5_3 0).view f3 _ (Body5.run_cover c (stage5_0 0) (hstage5_0 0) (stage5_1 0) (hstage5_1 0) (stage5_2 0) (hstage5_2 0) (stage5_3 0) (hstage5_3 0) (Memref.whole cc5_scratch0) (Memref.isWhole_whole _) (in0 V c) (in1 V c) (in2 V c))

/-- The result's array at the end. -/
theorem final (c : Dev nD) : (dat V c).arrAt 3 cfg5.N = res V c := by
  refine (dat V c).arrAt_eq_of_after_last 3 t5_0 (by decide +kernel) _ fun j => ?_
  rfl

/-- What an operand's array holds throughout. -/
theorem arrAt_eq (c : Dev nD) (w : Fin 4) (Vp : Valuation τ sig (Elt F)) (ho : Vp main_v107 = res V c)
    (hne : ∀ b : Ref sig .tc, b ≠ main_v107 → Vp b = V c b) :
    (dat V c).arrAt w cfg5.N = Vp (Pipeline.arrRef spec5 w) := by
  fin_cases w
  · exact ((dat V c).arrAt_in 0 rfl _).trans (hne main_v100 (by decide)).symm
  · exact ((dat V c).arrAt_in 1 rfl _).trans (hne main_v104 (by decide)).symm
  · exact ((dat V c).arrAt_in 2 rfl _).trans (hne main_v106 (by decide)).symm
  · exact (final V c).trans ho.symm

/-- The result's is the only buffer that changes. -/
theorem rest (c : Dev nD) (Vp : Valuation τ sig (Elt F)) (hne : ∀ b : Ref sig .tc, b ≠ main_v107 → Vp b = V c b)
    (b : Ref sig .tc) (hb : b ∉ Finset.univ.image (Pipeline.arrRef spec5)) : Vp b = V c b :=
  hne b fun h => hb (h ▸ Finset.mem_image.mpr ⟨3, Finset.mem_univ _, rfl⟩)

end Cert.KernelIdeal.Call5

end
-- ==== Proof.KI.Body6.lean ====
module

public import proofs.«01_k».proof.Proof.Gen.KernelIdeal.Loops
public import proofs.«01_k».proof.Proof.Pieces

@[expose] public section

set_option maxRecDepth 16384

noncomputable section

namespace Cert.KernelIdeal.Body6

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Pieces

variable {F : FTy → Type} [FloatOps F] [Named F]

local notation "𝕄" => MT nD τ sig Unit (Elt F) ℕ (UR sig nD τ) ℕ

/-- A memref's contents, and its buffer held whole at given contents. -/
abbrev Bf {sp : Space} {S : Shape} {e : EltTy} (M : Memref sig .tc sp S e) : Type := BufTy.Contents (Elt F) M.view.ty
abbrev pt (c : Dev nD) {sp : Space} {S : Shape} {e : EltTy} (M : Memref sig .tc sp S e) (f : Bf (F := F) M) : sProp 𝕄 :=
  M.view.loc (c : Thread nD τ) ↦[M.view.set]{fullShare} f

variable (c : Dev nD) (arg0 : Memref sig .tc .vmem S12x400x386 .f32) (harg0 : arg0.IsWhole) (arg1 : Memref sig .tc .vmem S108x12x384 .f32) (harg1 : arg1.IsWhole) (arg2 : Memref sig .tc .vmem S12x384 .f32) (harg2 : arg2.IsWhole) (arg3 : Memref sig .tc .vmem S12x400x386 .f32) (harg3 : arg3.IsWhole) (arg4 : Memref sig .tc .vmem S12x48x384 .f32) (harg4 : arg4.IsWhole)

set_option maxHeartbeats 2000000 in
/-- One strip: run at a symbolic trip, with the pieces it writes into the result. -/
@[irreducible] def trip (X0 : Bf (F := F) arg0) (X1 : Bf (F := F) arg1) (X2 : Bf (F := F) arg2) (k : Fin k6_t1_loop.trips) :
    { L : List (View.Piece (Elt F) S12x400x386 .f32) // ∀ (f4 : Bf (F := F) arg4) (f3 : Bf (F := F) arg3),
      iprop(pt c arg0 X0 ∗ pt c arg1 X1 ∗ pt c arg2 X2 ∗ pt c arg3 f3 ∗ pt c arg4 f4)
      ⊢ wp frame (wpE (defs₀ (F := F)) Variants.none (c : Thread nD τ) none) Set.univ (k6_t1_body (F := F) arg0 harg0 arg1 harg1 arg2 harg2 arg3 harg3 arg4 harg4 k PUnit.unit)
          (fun _ => iprop(pt c arg0 X0 ∗ pt c arg1 X1 ∗ pt c arg2 X2 ∗ pt c arg3 (arg3.view.writes (Elt F) f3 L) ∗ ∃ f' : Bf (F := F) arg4, pt c arg4 f')) } := by
  refine ⟨?_, fun f4 f3 => ?run⟩
  case run =>
    unfold k6_t1_body
    iintro ⟨H0, H1, H2, H3, H4⟩
    sl_exec
    sl_step
    sl_close

abbrev tripL (X0 : Bf (F := F) arg0) (X1 : Bf (F := F) arg1) (X2 : Bf (F := F) arg2) (k : Fin k6_t1_loop.trips) : List (View.Piece (Elt F) S12x400x386 .f32) := (trip c arg0 harg0 arg1 harg1 arg2 harg2 arg3 harg3 arg4 harg4 X0 X1 X2 k).1

/-- The strips before the `k`-th: the inputs as they were, the result with the strips' pieces over what it held. -/
abbrev inv (X0 : Bf (F := F) arg0) (X1 : Bf (F := F) arg1) (X2 : Bf (F := F) arg2) (G : Bf (F := F) arg3) (k : ℕ) (_u : PUnit) : sProp 𝕄 :=
  iprop(pt c arg0 X0 ∗ pt c arg1 X1 ∗ pt c arg2 X2 ∗ (∃ f, pt c arg3 f ∗ ⌜f = arg3.view.writes (Elt F) G (gather (tripL c arg0 harg0 arg1 harg1 arg2 harg2 arg3 harg3 arg4 harg4 X0 X1 X2) k)⌝) ∗ ∃ f', pt c arg4 f')

set_option warn.classDefReducibility false in
@[sl_loop] def loopInv (X0 : Bf (F := F) arg0) (X1 : Bf (F := F) arg1) (X2 : Bf (F := F) arg2) (G : Bf (F := F) arg3) :
    LoopInvTy_k6_t1 (F := F) Unit ℕ (UR sig nD τ) ℕ Variants.none c none Set.univ arg0 harg0 arg1 harg1 arg2 harg2 arg3 harg3 arg4 harg4 where
  inv := inv c arg0 harg0 arg1 harg1 arg2 harg2 arg3 harg3 arg4 harg4 X0 X1 X2 G
  step k acc := by
    iintro ⟨H0, H1, H2, ⟨%f, H3, %hf⟩, ⟨%f', H4⟩⟩
    iapply (wp_wand_r Idealize.ShloMosaic.frame (wpE (defs₀ (F := F)) Variants.none (c : Thread nD τ) none) Set.univ)
    isplitl [H0 H1 H2 H3 H4]
    · iapply ((trip c arg0 harg0 arg1 harg1 arg2 harg2 arg3 harg3 arg4 harg4 X0 X1 X2 k).2 f' f)
      isplitl [H0]; · iexact H0
      isplitl [H1]; · iexact H1
      isplitl [H2]; · iexact H2
      isplitl [H3]; · iexact H3
      iexact H4
    · iintro %_ ⟨H0, H1, H2, H3, H4⟩
      isplitl [H0]; · iexact H0
      isplitl [H1]; · iexact H1
      isplitl [H2]; · iexact H2
      isplitl [H3]
      · rw [gather_succ]
        iexists _; isplitl [H3]; · iexact H3
        ipureintro; rw [hf, ← View.writes_append]
      iexact H4

set_option maxHeartbeats 2000000 in
/-- The whole body: run from any contents of the result and the scratch, with the pieces it leaves in the result. -/
@[irreducible] def run (X0 : Bf (F := F) arg0) (X1 : Bf (F := F) arg1) (X2 : Bf (F := F) arg2) :
    { L : List (View.Piece (Elt F) S12x400x386 .f32) // ∀ (f4 : Bf (F := F) arg4) (f3 : Bf (F := F) arg3),
      iprop(pt c arg0 X0 ∗ pt c arg1 X1 ∗ pt c arg2 X2 ∗ pt c arg3 f3 ∗ pt c arg4 f4)
      ⊢ wp frame (wpE (defs₀ (F := F)) Variants.none (c : Thread nD τ) none) Set.univ (cc6__conv3x3_body (F := F) arg0 harg0 arg1 harg1 arg2 harg2 arg3 harg3 arg4 harg4)
          (fun _ => iprop(pt c arg0 X0 ∗ pt c arg1 X1 ∗ pt c arg2 X2 ∗ pt c arg3 (arg3.view.writes (Elt F) f3 L) ∗ ∃ f' : Bf (F := F) arg4, pt c arg4 f')) } := by
  refine ⟨?_, fun f4 f3 => ?run⟩
  case run =>
    simp only [cc6__conv3x3_body_eq_skeleton]
    unfold cc6__conv3x3_body_skel
    iintro ⟨H0, H1, H2, H3, H4⟩
    sl_exec
    sl_step
    sl_close

/-- There are 8 strips. -/
theorem strips : k6_t1_loop.trips = 8 := by decide

/-- A strip's pieces cover its rows. -/
theorem trip_cover (X0 : Bf (F := F) arg0) (X1 : Bf (F := F) arg1) (X2 : Bf (F := F) arg2) (k : Fin k6_t1_loop.trips) (y : S12x400x386.Idx) (hy : 8 + 48 * k.val ≤ (y 1).val ∧ (y 1).val < 8 + 48 * k.val + 48 ∧ 1 ≤ (y 2).val ∧ (y 2).val < 385) :
    ∃ p ∈ tripL c arg0 harg0 arg1 harg1 arg2 harg2 arg3 harg3 arg4 harg4 X0 X1 X2 k, y ∈ p.1.set := by
  have h0 : (y 0).val < 12 := (y 0).isLt
  have h1 : (y 1).val < 400 := (y 1).isLt
  have h2 : (y 2).val < 386 := (y 2).isLt
  unfold tripL trip
  refine ⟨_, List.mem_singleton_self _, ?_⟩
  rw [Rect.mem_set_unit, k6_off3_eq]
  simp only [Fin.forall_fin_succ]
  simp
  omega

/-- Whether an entry lies inside the border. -/
def inside (y : S12x400x386.Idx) : Prop := (8 ≤ (y 1).val ∧ (y 1).val < 392 ∧ 1 ≤ (y 2).val ∧ (y 2).val < 385)

/-- What the body leaves: the strips' pieces over the border's, which hold zero. -/
theorem run_list (X0 : Bf (F := F) arg0) (X1 : Bf (F := F) arg1) (X2 : Bf (F := F) arg2) : ∃ B : List (View.Piece (Elt F) S12x400x386 .f32),
    (run c arg0 harg0 arg1 harg1 arg2 harg2 arg3 harg3 arg4 harg4 X0 X1 X2).1 = gather (tripL c arg0 harg0 arg1 harg1 arg2 harg2 arg3 harg3 arg4 harg4 X0 X1 X2) k6_t1_loop.trips ++ B
      ∧ (∀ y, ¬ inside y → ∃ p ∈ B, y ∈ p.1.set)
      ∧ ∀ p ∈ B, (∀ y ∈ p.1.set, ¬ inside y) ∧ ∀ x, p.2 x = FloatOps.ofBits .f32 0x00000000#32 := by
  unfold run
  dsimp only
  sl_unfold_run_names
  refine ⟨_, rfl, fun y hy => ?_, ?_⟩
  · unfold inside at hy
    have h0 : (y 0).val < 12 := (y 0).isLt
    have h1 : (y 1).val < 400 := (y 1).isLt
    have h2 : (y 2).val < 386 := (y 2).isLt
    simp only [List.exists_mem_cons_iff, Rect.mem_set_unit, Fin.forall_fin_succ]
    simp
    omega
  · simp only [List.forall_mem_cons]
    refine ⟨⟨fun y hy => ?_, fun _ => rfl⟩, ⟨fun y hy => ?_, fun _ => rfl⟩, ⟨fun y hy => ?_, fun _ => rfl⟩, ⟨fun y hy => ?_, fun _ => rfl⟩,
      fun p hp => absurd hp List.not_mem_nil⟩ <;>
    · have h := Rect.mem_set_unit.mp hy
      have h1 := h 1
      have h2 := h 2
      simp at h1 h2
      unfold inside
      omega

/-- Every entry of the result is written. -/
theorem run_cover (X0 : Bf (F := F) arg0) (X1 : Bf (F := F) arg1) (X2 : Bf (F := F) arg2) (y : S12x400x386.Idx) : ∃ p ∈ (run c arg0 harg0 arg1 harg1 arg2 harg2 arg3 harg3 arg4 harg4 X0 X1 X2).1, y ∈ p.1.set := by
  obtain ⟨B, hB, hc, -⟩ := run_list c arg0 harg0 arg1 harg1 arg2 harg2 arg3 harg3 arg4 harg4 X0 X1 X2
  rw [hB]
  by_cases hy : inside y
  · unfold inside at hy
    obtain ⟨p, hp, h⟩ := trip_cover c arg0 harg0 arg1 harg1 arg2 harg2 arg3 harg3 arg4 harg4 X0 X1 X2 ⟨((y 1).val - 8) / 48, by rw [strips]; omega⟩ y (by dsimp only; omega)
    exact ⟨p, List.mem_append_left _ ((mem_gather _ _ _).mpr ⟨_, Fin.isLt _, hp⟩), h⟩
  · obtain ⟨p, hp, h⟩ := hc y hy
    exact ⟨p, List.mem_append_right _ hp, h⟩

end Cert.KernelIdeal.Body6

end
-- ==== Proof.KI.Call6.lean ====
module

public import proofs.«01_k».proof.Proof.KI.Body6
public import proofs.«01_k».proof.Proof.KI.RegionOf
public import Idealize.ShloMosaic.Lib.Pipeline.ValueKit

@[expose] public section

set_option maxRecDepth 16384

noncomputable section

namespace Cert.KernelIdeal.Call6

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Segment Cert.Pieces

variable {F : FTy → Type} [FloatOps F] [Named F] (V : (c : Dev nD) → Valuation τ sig (Elt F))

local notation "𝕄" => MT nD τ sig Unit (Elt F) ℕ (UR sig nD τ) ℕ

/-! What the call stages of its operands. -/
abbrev in0 (c : Dev nD) : Vec F S12x400x386 .f32 := ((cfg6.win 0).blk t6_0).view.read (Elt F) (V c main_v107)
abbrev in1 (c : Dev nD) : Vec F S108x12x384 .f32 := ((cfg6.win 1).blk t6_0).view.read (Elt F) (V c main_v111)
abbrev in2 (c : Dev nD) : Vec F S12x384 .f32 := ((cfg6.win 2).blk t6_0).view.read (Elt F) (V c main_v113)

/-- The pieces the body writes into the result, -/
abbrev pieces (c : Dev nD) : List (View.Piece (Elt F) S12x400x386 .f32) :=
  (Body6.run c (stage6_0 0) (hstage6_0 0) (stage6_1 0) (hstage6_1 0) (stage6_2 0) (hstage6_2 0) (stage6_3 0) (hstage6_3 0) (Memref.whole cc6_scratch0) (Memref.isWhole_whole _) (in0 V c) (in1 V c) (in2 V c)).1

/-- and the result they make. -/
def res (c : Dev nD) : Vec F S12x400x386 .f32 := View.canon (pieces V c)

/-- The proof data: the arrays at `V`; the operands staged as they are, the result as the body leaves it. -/
def dat (c : Dev nD) : Dat τ (Elt F) Unit ℕ (UR sig nD τ) ℕ cfg6 c where
  A w := V c (Pipeline.arrRef spec6 w)
  after w _ := match w with
    | ⟨0, _⟩ => in0 V c
    | ⟨1, _⟩ => in1 V c
    | ⟨2, _⟩ => in2 V c
    | ⟨3, _⟩ => res V c
  Φ _ := Pipeline.scopedRest (Ix := Unit) (Name := ℕ) (U := UR sig nD τ) (Lvl := ℕ) (Val := Elt F) spec6 c
  q _ := fullShare
  owed _ := 0

theorem before0 (c : Dev nD) (d : (cfg6.win 0).block.Idx → Elt F (cfg6.win 0).elt) : (dat V c).before 0 t6_0 d = in0 V c := by
  unfold Dat.before; rw [if_pos (by decide)]; rfl
theorem before1 (c : Dev nD) (d : (cfg6.win 1).block.Idx → Elt F (cfg6.win 1).elt) : (dat V c).before 1 t6_0 d = in1 V c := by
  unfold Dat.before; rw [if_pos (by decide)]; rfl
theorem before2 (c : Dev nD) (d : (cfg6.win 2).block.Idx → Elt F (cfg6.win 2).elt) : (dat V c).before 2 t6_0 d = in2 V c := by
  unfold Dat.before; rw [if_pos (by decide)]; rfl

/-- The body obligation: the staging buffers and the scratch taken out, the body run, what it leaves put back. -/
theorem body (c : Dev nD) : BodyObligation (dat V c) (defs₀ (F := F)) Variants.none () Set.univ := fun t => by
  obtain rfl := fin_N6 t
  rw [bigSep_W6, bigSep_W6]
  simp only [owns_whole_eq]
  rw [show (dat V c).Φ t6_0.castSucc = Pipeline.scopedRest (Ix := Unit) (Name := ℕ) (U := UR sig nD τ) (Lvl := ℕ) (Val := Elt F) spec6 c from rfl,
    show (dat V c).Φ t6_0.succ = Pipeline.scopedRest (Ix := Unit) (Name := ℕ) (U := UR sig nD τ) (Lvl := ℕ) (Val := Elt F) spec6 c from rfl,
    show (dat V c).owesAt () t6_0.succ = (dat V c).owesAt () t6_0.castSucc from rfl, scopedRest6_split]
  have hrun := fun fs f3 => (Body6.run c (stage6_0 0) (hstage6_0 0) (stage6_1 0) (hstage6_1 0) (stage6_2 0) (hstage6_2 0) (stage6_3 0) (hstage6_3 0) (Memref.whole cc6_scratch0) (Memref.isWhole_whole _) (in0 V c) (in1 V c) (in2 V c)).2 fs f3
  simp only [Body6.pt, (hstage6_0 0).set_eq_univ, (hstage6_1 0).set_eq_univ, (hstage6_2 0).set_eq_univ, (hstage6_3 0).set_eq_univ, (Memref.isWhole_whole cc6_scratch0).set_eq_univ] at hrun
  iintro ⟨⟨⟨%fs, HS⟩, HΦ⟩, Howes, ⟨%d0, %f0, %hf0, H0⟩, ⟨%d1, %f1, %hf1, H1⟩, ⟨%d2, %f2, %hf2, H2⟩, ⟨%d3, %f3, -, H3⟩⟩
  rw [before0] at hf0; subst hf0
  rw [before1] at hf1; subst hf1
  rw [before2] at hf2; subst hf2
  iapply (wp_wand_r Idealize.ShloMosaic.frame (wpE (defs₀ (F := F)) Variants.none (c : Thread nD τ) none) Set.univ)
  isplitl [H0 H1 H2 H3 HS]
  · iapply (hrun fs f3)
    isplitl [H0]; · iexact H0
    isplitl [H1]; · iexact H1
    isplitl [H2]; · iexact H2
    isplitl [H3]; · iexact H3
    iexact HS
  · iintro %_ ⟨H0, H1, H2, H3, ⟨%fs', HS⟩⟩
    isplitl [HS HΦ]
    · isplitl [HS]; · iexists _; iexact HS
      iexact HΦ
    isplitl [Howes]; · iexact Howes
    isplitl [H0]; · iexists _; isplitr; swap; (· iexact H0); ipureintro; dsimp only [dat]
    isplitl [H1]; · iexists _; isplitr; swap; (· iexact H1); ipureintro; dsimp only [dat]
    isplitl [H2]; · iexists _; isplitr; swap; (· iexact H2); ipureintro; dsimp only [dat]
    iexists _; isplitr; swap; (· iexact H3); ipureintro; dsimp only [dat]
    exact View.read_writes_eq_canon (stage6_3 0).view f3 _ (Body6.run_cover c (stage6_0 0) (hstage6_0 0) (stage6_1 0) (hstage6_1 0) (stage6_2 0) (hstage6_2 0) (stage6_3 0) (hstage6_3 0) (Memref.whole cc6_scratch0) (Memref.isWhole_whole _) (in0 V c) (in1 V c) (in2 V c))

/-- The result's array at the end. -/
theorem final (c : Dev nD) : (dat V c).arrAt 3 cfg6.N = res V c := by
  refine (dat V c).arrAt_eq_of_after_last 3 t6_0 (by decide +kernel) _ fun j => ?_
  rfl

/-- What an operand's array holds throughout. -/
theorem arrAt_eq (c : Dev nD) (w : Fin 4) (Vp : Valuation τ sig (Elt F)) (ho : Vp main_v114 = res V c)
    (hne : ∀ b : Ref sig .tc, b ≠ main_v114 → Vp b = V c b) :
    (dat V c).arrAt w cfg6.N = Vp (Pipeline.arrRef spec6 w) := by
  fin_cases w
  · exact ((dat V c).arrAt_in 0 rfl _).trans (hne main_v107 (by decide)).symm
  · exact ((dat V c).arrAt_in 1 rfl _).trans (hne main_v111 (by decide)).symm
  · exact ((dat V c).arrAt_in 2 rfl _).trans (hne main_v113 (by decide)).symm
  · exact (final V c).trans ho.symm

/-- The result's is the only buffer that changes. -/
theorem rest (c : Dev nD) (Vp : Valuation τ sig (Elt F)) (hne : ∀ b : Ref sig .tc, b ≠ main_v114 → Vp b = V c b)
    (b : Ref sig .tc) (hb : b ∉ Finset.univ.image (Pipeline.arrRef spec6)) : Vp b = V c b :=
  hne b fun h => hb (h ▸ Finset.mem_image.mpr ⟨3, Finset.mem_univ _, rfl⟩)

end Cert.KernelIdeal.Call6

end
-- ==== Proof.KI.Body7.lean ====
module

public import proofs.«01_k».proof.Proof.Gen.KernelIdeal.Loops
public import proofs.«01_k».proof.Proof.Pieces

@[expose] public section

set_option maxRecDepth 16384

noncomputable section

namespace Cert.KernelIdeal.Body7

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Pieces

variable {F : FTy → Type} [FloatOps F] [Named F]

local notation "𝕄" => MT nD τ sig Unit (Elt F) ℕ (UR sig nD τ) ℕ

/-- A memref's contents, and its buffer held whole at given contents. -/
abbrev Bf {sp : Space} {S : Shape} {e : EltTy} (M : Memref sig .tc sp S e) : Type := BufTy.Contents (Elt F) M.view.ty
abbrev pt (c : Dev nD) {sp : Space} {S : Shape} {e : EltTy} (M : Memref sig .tc sp S e) (f : Bf (F := F) M) : sProp 𝕄 :=
  M.view.loc (c : Thread nD τ) ↦[M.view.set]{fullShare} f

variable (c : Dev nD) (arg0 : Memref sig .tc .vmem S12x400x386 .f32) (harg0 : arg0.IsWhole) (arg1 : Memref sig .tc .vmem S108x12x384 .f32) (harg1 : arg1.IsWhole) (arg2 : Memref sig .tc .vmem S12x384 .f32) (harg2 : arg2.IsWhole) (arg3 : Memref sig .tc .vmem S12x400x386 .f32) (harg3 : arg3.IsWhole) (arg4 : Memref sig .tc .vmem S12x48x384 .f32) (harg4 : arg4.IsWhole)

set_option maxHeartbeats 2000000 in
/-- One strip: run at a symbolic trip, with the pieces it writes into the result. -/
@[irreducible] def trip (X0 : Bf (F := F) arg0) (X1 : Bf (F := F) arg1) (X2 : Bf (F := F) arg2) (k : Fin k7_t1_loop.trips) :
    { L : List (View.Piece (Elt F) S12x400x386 .f32) // ∀ (f4 : Bf (F := F) arg4) (f3 : Bf (F := F) arg3),
      iprop(pt c arg0 X0 ∗ pt c arg1 X1 ∗ pt c arg2 X2 ∗ pt c arg3 f3 ∗ pt c arg4 f4)
      ⊢ wp frame (wpE (defs₀ (F := F)) Variants.none (c : Thread nD τ) none) Set.univ (k7_t1_body (F := F) arg0 harg0 arg1 harg1 arg2 harg2 arg3 harg3 arg4 harg4 k PUnit.unit)
          (fun _ => iprop(pt c arg0 X0 ∗ pt c arg1 X1 ∗ pt c arg2 X2 ∗ pt c arg3 (arg3.view.writes (Elt F) f3 L) ∗ ∃ f' : Bf (F := F) arg4, pt c arg4 f')) } := by
  refine ⟨?_, fun f4 f3 => ?run⟩
  case run =>
    unfold k7_t1_body
    iintro ⟨H0, H1, H2, H3, H4⟩
    sl_exec
    sl_step
    sl_close

abbrev tripL (X0 : Bf (F := F) arg0) (X1 : Bf (F := F) arg1) (X2 : Bf (F := F) arg2) (k : Fin k7_t1_loop.trips) : List (View.Piece (Elt F) S12x400x386 .f32) := (trip c arg0 harg0 arg1 harg1 arg2 harg2 arg3 harg3 arg4 harg4 X0 X1 X2 k).1

/-- The strips before the `k`-th: the inputs as they were, the result with the strips' pieces over what it held. -/
abbrev inv (X0 : Bf (F := F) arg0) (X1 : Bf (F := F) arg1) (X2 : Bf (F := F) arg2) (G : Bf (F := F) arg3) (k : ℕ) (_u : PUnit) : sProp 𝕄 :=
  iprop(pt c arg0 X0 ∗ pt c arg1 X1 ∗ pt c arg2 X2 ∗ (∃ f, pt c arg3 f ∗ ⌜f = arg3.view.writes (Elt F) G (gather (tripL c arg0 harg0 arg1 harg1 arg2 harg2 arg3 harg3 arg4 harg4 X0 X1 X2) k)⌝) ∗ ∃ f', pt c arg4 f')

set_option warn.classDefReducibility false in
@[sl_loop] def loopInv (X0 : Bf (F := F) arg0) (X1 : Bf (F := F) arg1) (X2 : Bf (F := F) arg2) (G : Bf (F := F) arg3) :
    LoopInvTy_k7_t1 (F := F) Unit ℕ (UR sig nD τ) ℕ Variants.none c none Set.univ arg0 harg0 arg1 harg1 arg2 harg2 arg3 harg3 arg4 harg4 where
  inv := inv c arg0 harg0 arg1 harg1 arg2 harg2 arg3 harg3 arg4 harg4 X0 X1 X2 G
  step k acc := by
    iintro ⟨H0, H1, H2, ⟨%f, H3, %hf⟩, ⟨%f', H4⟩⟩
    iapply (wp_wand_r Idealize.ShloMosaic.frame (wpE (defs₀ (F := F)) Variants.none (c : Thread nD τ) none) Set.univ)
    isplitl [H0 H1 H2 H3 H4]
    · iapply ((trip c arg0 harg0 arg1 harg1 arg2 harg2 arg3 harg3 arg4 harg4 X0 X1 X2 k).2 f' f)
      isplitl [H0]; · iexact H0
      isplitl [H1]; · iexact H1
      isplitl [H2]; · iexact H2
      isplitl [H3]; · iexact H3
      iexact H4
    · iintro %_ ⟨H0, H1, H2, H3, H4⟩
      isplitl [H0]; · iexact H0
      isplitl [H1]; · iexact H1
      isplitl [H2]; · iexact H2
      isplitl [H3]
      · rw [gather_succ]
        iexists _; isplitl [H3]; · iexact H3
        ipureintro; rw [hf, ← View.writes_append]
      iexact H4

set_option maxHeartbeats 2000000 in
/-- The whole body: run from any contents of the result and the scratch, with the pieces it leaves in the result. -/
@[irreducible] def run (X0 : Bf (F := F) arg0) (X1 : Bf (F := F) arg1) (X2 : Bf (F := F) arg2) :
    { L : List (View.Piece (Elt F) S12x400x386 .f32) // ∀ (f4 : Bf (F := F) arg4) (f3 : Bf (F := F) arg3),
      iprop(pt c arg0 X0 ∗ pt c arg1 X1 ∗ pt c arg2 X2 ∗ pt c arg3 f3 ∗ pt c arg4 f4)
      ⊢ wp frame (wpE (defs₀ (F := F)) Variants.none (c : Thread nD τ) none) Set.univ (cc7__conv3x3_body (F := F) arg0 harg0 arg1 harg1 arg2 harg2 arg3 harg3 arg4 harg4)
          (fun _ => iprop(pt c arg0 X0 ∗ pt c arg1 X1 ∗ pt c arg2 X2 ∗ pt c arg3 (arg3.view.writes (Elt F) f3 L) ∗ ∃ f' : Bf (F := F) arg4, pt c arg4 f')) } := by
  refine ⟨?_, fun f4 f3 => ?run⟩
  case run =>
    simp only [cc7__conv3x3_body_eq_skeleton]
    unfold cc7__conv3x3_body_skel
    iintro ⟨H0, H1, H2, H3, H4⟩
    sl_exec
    sl_step
    sl_close

/-- There are 8 strips. -/
theorem strips : k7_t1_loop.trips = 8 := by decide

/-- A strip's pieces cover its rows. -/
theorem trip_cover (X0 : Bf (F := F) arg0) (X1 : Bf (F := F) arg1) (X2 : Bf (F := F) arg2) (k : Fin k7_t1_loop.trips) (y : S12x400x386.Idx) (hy : 8 + 48 * k.val ≤ (y 1).val ∧ (y 1).val < 8 + 48 * k.val + 48 ∧ 1 ≤ (y 2).val ∧ (y 2).val < 385) :
    ∃ p ∈ tripL c arg0 harg0 arg1 harg1 arg2 harg2 arg3 harg3 arg4 harg4 X0 X1 X2 k, y ∈ p.1.set := by
  have h0 : (y 0).val < 12 := (y 0).isLt
  have h1 : (y 1).val < 400 := (y 1).isLt
  have h2 : (y 2).val < 386 := (y 2).isLt
  unfold tripL trip
  refine ⟨_, List.mem_singleton_self _, ?_⟩
  rw [Rect.mem_set_unit, k7_off3_eq]
  simp only [Fin.forall_fin_succ]
  simp
  omega

/-- Whether an entry lies inside the border. -/
def inside (y : S12x400x386.Idx) : Prop := (8 ≤ (y 1).val ∧ (y 1).val < 392 ∧ 1 ≤ (y 2).val ∧ (y 2).val < 385)

/-- What the body leaves: the strips' pieces over the border's, which hold zero. -/
theorem run_list (X0 : Bf (F := F) arg0) (X1 : Bf (F := F) arg1) (X2 : Bf (F := F) arg2) : ∃ B : List (View.Piece (Elt F) S12x400x386 .f32),
    (run c arg0 harg0 arg1 harg1 arg2 harg2 arg3 harg3 arg4 harg4 X0 X1 X2).1 = gather (tripL c arg0 harg0 arg1 harg1 arg2 harg2 arg3 harg3 arg4 harg4 X0 X1 X2) k7_t1_loop.trips ++ B
      ∧ (∀ y, ¬ inside y → ∃ p ∈ B, y ∈ p.1.set)
      ∧ ∀ p ∈ B, (∀ y ∈ p.1.set, ¬ inside y) ∧ ∀ x, p.2 x = FloatOps.ofBits .f32 0x00000000#32 := by
  unfold run
  dsimp only
  sl_unfold_run_names
  refine ⟨_, rfl, fun y hy => ?_, ?_⟩
  · unfold inside at hy
    have h0 : (y 0).val < 12 := (y 0).isLt
    have h1 : (y 1).val < 400 := (y 1).isLt
    have h2 : (y 2).val < 386 := (y 2).isLt
    simp only [List.exists_mem_cons_iff, Rect.mem_set_unit, Fin.forall_fin_succ]
    simp
    omega
  · simp only [List.forall_mem_cons]
    refine ⟨⟨fun y hy => ?_, fun _ => rfl⟩, ⟨fun y hy => ?_, fun _ => rfl⟩, ⟨fun y hy => ?_, fun _ => rfl⟩, ⟨fun y hy => ?_, fun _ => rfl⟩,
      fun p hp => absurd hp List.not_mem_nil⟩ <;>
    · have h := Rect.mem_set_unit.mp hy
      have h1 := h 1
      have h2 := h 2
      simp at h1 h2
      unfold inside
      omega

/-- Every entry of the result is written. -/
theorem run_cover (X0 : Bf (F := F) arg0) (X1 : Bf (F := F) arg1) (X2 : Bf (F := F) arg2) (y : S12x400x386.Idx) : ∃ p ∈ (run c arg0 harg0 arg1 harg1 arg2 harg2 arg3 harg3 arg4 harg4 X0 X1 X2).1, y ∈ p.1.set := by
  obtain ⟨B, hB, hc, -⟩ := run_list c arg0 harg0 arg1 harg1 arg2 harg2 arg3 harg3 arg4 harg4 X0 X1 X2
  rw [hB]
  by_cases hy : inside y
  · unfold inside at hy
    obtain ⟨p, hp, h⟩ := trip_cover c arg0 harg0 arg1 harg1 arg2 harg2 arg3 harg3 arg4 harg4 X0 X1 X2 ⟨((y 1).val - 8) / 48, by rw [strips]; omega⟩ y (by dsimp only; omega)
    exact ⟨p, List.mem_append_left _ ((mem_gather _ _ _).mpr ⟨_, Fin.isLt _, hp⟩), h⟩
  · obtain ⟨p, hp, h⟩ := hc y hy
    exact ⟨p, List.mem_append_right _ hp, h⟩

end Cert.KernelIdeal.Body7

end
-- ==== Proof.KI.Call7.lean ====
module

public import proofs.«01_k».proof.Proof.KI.Body7
public import proofs.«01_k».proof.Proof.KI.RegionOf
public import Idealize.ShloMosaic.Lib.Pipeline.ValueKit

@[expose] public section

set_option maxRecDepth 16384

noncomputable section

namespace Cert.KernelIdeal.Call7

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Segment Cert.Pieces

variable {F : FTy → Type} [FloatOps F] [Named F] (V : (c : Dev nD) → Valuation τ sig (Elt F))

local notation "𝕄" => MT nD τ sig Unit (Elt F) ℕ (UR sig nD τ) ℕ

/-! What the call stages of its operands. -/
abbrev in0 (c : Dev nD) : Vec F S12x400x386 .f32 := ((cfg7.win 0).blk t7_0).view.read (Elt F) (V c main_v114)
abbrev in1 (c : Dev nD) : Vec F S108x12x384 .f32 := ((cfg7.win 1).blk t7_0).view.read (Elt F) (V c main_v118)
abbrev in2 (c : Dev nD) : Vec F S12x384 .f32 := ((cfg7.win 2).blk t7_0).view.read (Elt F) (V c main_v120)

/-- The pieces the body writes into the result, -/
abbrev pieces (c : Dev nD) : List (View.Piece (Elt F) S12x400x386 .f32) :=
  (Body7.run c (stage7_0 0) (hstage7_0 0) (stage7_1 0) (hstage7_1 0) (stage7_2 0) (hstage7_2 0) (stage7_3 0) (hstage7_3 0) (Memref.whole cc7_scratch0) (Memref.isWhole_whole _) (in0 V c) (in1 V c) (in2 V c)).1

/-- and the result they make. -/
def res (c : Dev nD) : Vec F S12x400x386 .f32 := View.canon (pieces V c)

/-- The proof data: the arrays at `V`; the operands staged as they are, the result as the body leaves it. -/
def dat (c : Dev nD) : Dat τ (Elt F) Unit ℕ (UR sig nD τ) ℕ cfg7 c where
  A w := V c (Pipeline.arrRef spec7 w)
  after w _ := match w with
    | ⟨0, _⟩ => in0 V c
    | ⟨1, _⟩ => in1 V c
    | ⟨2, _⟩ => in2 V c
    | ⟨3, _⟩ => res V c
  Φ _ := Pipeline.scopedRest (Ix := Unit) (Name := ℕ) (U := UR sig nD τ) (Lvl := ℕ) (Val := Elt F) spec7 c
  q _ := fullShare
  owed _ := 0

theorem before0 (c : Dev nD) (d : (cfg7.win 0).block.Idx → Elt F (cfg7.win 0).elt) : (dat V c).before 0 t7_0 d = in0 V c := by
  unfold Dat.before; rw [if_pos (by decide)]; rfl
theorem before1 (c : Dev nD) (d : (cfg7.win 1).block.Idx → Elt F (cfg7.win 1).elt) : (dat V c).before 1 t7_0 d = in1 V c := by
  unfold Dat.before; rw [if_pos (by decide)]; rfl
theorem before2 (c : Dev nD) (d : (cfg7.win 2).block.Idx → Elt F (cfg7.win 2).elt) : (dat V c).before 2 t7_0 d = in2 V c := by
  unfold Dat.before; rw [if_pos (by decide)]; rfl

/-- The body obligation: the staging buffers and the scratch taken out, the body run, what it leaves put back. -/
theorem body (c : Dev nD) : BodyObligation (dat V c) (defs₀ (F := F)) Variants.none () Set.univ := fun t => by
  obtain rfl := fin_N7 t
  rw [bigSep_W7, bigSep_W7]
  simp only [owns_whole_eq]
  rw [show (dat V c).Φ t7_0.castSucc = Pipeline.scopedRest (Ix := Unit) (Name := ℕ) (U := UR sig nD τ) (Lvl := ℕ) (Val := Elt F) spec7 c from rfl,
    show (dat V c).Φ t7_0.succ = Pipeline.scopedRest (Ix := Unit) (Name := ℕ) (U := UR sig nD τ) (Lvl := ℕ) (Val := Elt F) spec7 c from rfl,
    show (dat V c).owesAt () t7_0.succ = (dat V c).owesAt () t7_0.castSucc from rfl, scopedRest7_split]
  have hrun := fun fs f3 => (Body7.run c (stage7_0 0) (hstage7_0 0) (stage7_1 0) (hstage7_1 0) (stage7_2 0) (hstage7_2 0) (stage7_3 0) (hstage7_3 0) (Memref.whole cc7_scratch0) (Memref.isWhole_whole _) (in0 V c) (in1 V c) (in2 V c)).2 fs f3
  simp only [Body7.pt, (hstage7_0 0).set_eq_univ, (hstage7_1 0).set_eq_univ, (hstage7_2 0).set_eq_univ, (hstage7_3 0).set_eq_univ, (Memref.isWhole_whole cc7_scratch0).set_eq_univ] at hrun
  iintro ⟨⟨⟨%fs, HS⟩, HΦ⟩, Howes, ⟨%d0, %f0, %hf0, H0⟩, ⟨%d1, %f1, %hf1, H1⟩, ⟨%d2, %f2, %hf2, H2⟩, ⟨%d3, %f3, -, H3⟩⟩
  rw [before0] at hf0; subst hf0
  rw [before1] at hf1; subst hf1
  rw [before2] at hf2; subst hf2
  iapply (wp_wand_r Idealize.ShloMosaic.frame (wpE (defs₀ (F := F)) Variants.none (c : Thread nD τ) none) Set.univ)
  isplitl [H0 H1 H2 H3 HS]
  · iapply (hrun fs f3)
    isplitl [H0]; · iexact H0
    isplitl [H1]; · iexact H1
    isplitl [H2]; · iexact H2
    isplitl [H3]; · iexact H3
    iexact HS
  · iintro %_ ⟨H0, H1, H2, H3, ⟨%fs', HS⟩⟩
    isplitl [HS HΦ]
    · isplitl [HS]; · iexists _; iexact HS
      iexact HΦ
    isplitl [Howes]; · iexact Howes
    isplitl [H0]; · iexists _; isplitr; swap; (· iexact H0); ipureintro; dsimp only [dat]
    isplitl [H1]; · iexists _; isplitr; swap; (· iexact H1); ipureintro; dsimp only [dat]
    isplitl [H2]; · iexists _; isplitr; swap; (· iexact H2); ipureintro; dsimp only [dat]
    iexists _; isplitr; swap; (· iexact H3); ipureintro; dsimp only [dat]
    exact View.read_writes_eq_canon (stage7_3 0).view f3 _ (Body7.run_cover c (stage7_0 0) (hstage7_0 0) (stage7_1 0) (hstage7_1 0) (stage7_2 0) (hstage7_2 0) (stage7_3 0) (hstage7_3 0) (Memref.whole cc7_scratch0) (Memref.isWhole_whole _) (in0 V c) (in1 V c) (in2 V c))

/-- The result's array at the end. -/
theorem final (c : Dev nD) : (dat V c).arrAt 3 cfg7.N = res V c := by
  refine (dat V c).arrAt_eq_of_after_last 3 t7_0 (by decide +kernel) _ fun j => ?_
  rfl

/-- What an operand's array holds throughout. -/
theorem arrAt_eq (c : Dev nD) (w : Fin 4) (Vp : Valuation τ sig (Elt F)) (ho : Vp main_v121 = res V c)
    (hne : ∀ b : Ref sig .tc, b ≠ main_v121 → Vp b = V c b) :
    (dat V c).arrAt w cfg7.N = Vp (Pipeline.arrRef spec7 w) := by
  fin_cases w
  · exact ((dat V c).arrAt_in 0 rfl _).trans (hne main_v114 (by decide)).symm
  · exact ((dat V c).arrAt_in 1 rfl _).trans (hne main_v118 (by decide)).symm
  · exact ((dat V c).arrAt_in 2 rfl _).trans (hne main_v120 (by decide)).symm
  · exact (final V c).trans ho.symm

/-- The result's is the only buffer that changes. -/
theorem rest (c : Dev nD) (Vp : Valuation τ sig (Elt F)) (hne : ∀ b : Ref sig .tc, b ≠ main_v121 → Vp b = V c b)
    (b : Ref sig .tc) (hb : b ∉ Finset.univ.image (Pipeline.arrRef spec7)) : Vp b = V c b :=
  hne b fun h => hb (h ▸ Finset.mem_image.mpr ⟨3, Finset.mem_univ _, rfl⟩)

end Cert.KernelIdeal.Call7

end
-- ==== Proof.KI.Body8.lean ====
module

public import proofs.«01_k».proof.Proof.Gen.KernelIdeal.Loops
public import proofs.«01_k».proof.Proof.Pieces

@[expose] public section

set_option maxRecDepth 16384

noncomputable section

namespace Cert.KernelIdeal.Body8

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Pieces

variable {F : FTy → Type} [FloatOps F] [Named F]

local notation "𝕄" => MT nD τ sig Unit (Elt F) ℕ (UR sig nD τ) ℕ

/-- A memref's contents, and its buffer held whole at given contents. -/
abbrev Bf {sp : Space} {S : Shape} {e : EltTy} (M : Memref sig .tc sp S e) : Type := BufTy.Contents (Elt F) M.view.ty
abbrev pt (c : Dev nD) {sp : Space} {S : Shape} {e : EltTy} (M : Memref sig .tc sp S e) (f : Bf (F := F) M) : sProp 𝕄 :=
  M.view.loc (c : Thread nD τ) ↦[M.view.set]{fullShare} f

variable (c : Dev nD) (arg0 : Memref sig .tc .vmem S12x400x386 .f32) (harg0 : arg0.IsWhole) (arg1 : Memref sig .tc .vmem S108x1x384 .f32) (harg1 : arg1.IsWhole) (arg2 : Memref sig .tc .vmem S1x384 .f32) (harg2 : arg2.IsWhole) (arg3 : Memref sig .tc .vmem S1x384x384 .f32) (harg3 : arg3.IsWhole) (arg4 : Memref sig .tc .vmem S1x48x384 .f32) (harg4 : arg4.IsWhole)

set_option maxHeartbeats 2000000 in
/-- One strip: run at a symbolic trip, with the pieces it writes into the result. -/
@[irreducible] def trip (X0 : Bf (F := F) arg0) (X1 : Bf (F := F) arg1) (X2 : Bf (F := F) arg2) (k : Fin k8_t1_loop.trips) :
    { L : List (View.Piece (Elt F) S1x384x384 .f32) // ∀ (f4 : Bf (F := F) arg4) (f3 : Bf (F := F) arg3),
      iprop(pt c arg0 X0 ∗ pt c arg1 X1 ∗ pt c arg2 X2 ∗ pt c arg3 f3 ∗ pt c arg4 f4)
      ⊢ wp frame (wpE (defs₀ (F := F)) Variants.none (c : Thread nD τ) none) Set.univ (k8_t1_body (F := F) arg0 harg0 arg1 harg1 arg2 harg2 arg3 harg3 arg4 harg4 k PUnit.unit)
          (fun _ => iprop(pt c arg0 X0 ∗ pt c arg1 X1 ∗ pt c arg2 X2 ∗ pt c arg3 (arg3.view.writes (Elt F) f3 L) ∗ ∃ f' : Bf (F := F) arg4, pt c arg4 f')) } := by
  refine ⟨?_, fun f4 f3 => ?run⟩
  case run =>
    unfold k8_t1_body
    iintro ⟨H0, H1, H2, H3, H4⟩
    sl_exec
    sl_step
    sl_close

abbrev tripL (X0 : Bf (F := F) arg0) (X1 : Bf (F := F) arg1) (X2 : Bf (F := F) arg2) (k : Fin k8_t1_loop.trips) : List (View.Piece (Elt F) S1x384x384 .f32) := (trip c arg0 harg0 arg1 harg1 arg2 harg2 arg3 harg3 arg4 harg4 X0 X1 X2 k).1

/-- The strips before the `k`-th: the inputs as they were, the result with the strips' pieces over what it held. -/
abbrev inv (X0 : Bf (F := F) arg0) (X1 : Bf (F := F) arg1) (X2 : Bf (F := F) arg2) (G : Bf (F := F) arg3) (k : ℕ) (_u : PUnit) : sProp 𝕄 :=
  iprop(pt c arg0 X0 ∗ pt c arg1 X1 ∗ pt c arg2 X2 ∗ (∃ f, pt c arg3 f ∗ ⌜f = arg3.view.writes (Elt F) G (gather (tripL c arg0 harg0 arg1 harg1 arg2 harg2 arg3 harg3 arg4 harg4 X0 X1 X2) k)⌝) ∗ ∃ f', pt c arg4 f')

set_option warn.classDefReducibility false in
@[sl_loop] def loopInv (X0 : Bf (F := F) arg0) (X1 : Bf (F := F) arg1) (X2 : Bf (F := F) arg2) (G : Bf (F := F) arg3) :
    LoopInvTy_k8_t1 (F := F) Unit ℕ (UR sig nD τ) ℕ Variants.none c none Set.univ arg0 harg0 arg1 harg1 arg2 harg2 arg3 harg3 arg4 harg4 where
  inv := inv c arg0 harg0 arg1 harg1 arg2 harg2 arg3 harg3 arg4 harg4 X0 X1 X2 G
  step k acc := by
    iintro ⟨H0, H1, H2, ⟨%f, H3, %hf⟩, ⟨%f', H4⟩⟩
    iapply (wp_wand_r Idealize.ShloMosaic.frame (wpE (defs₀ (F := F)) Variants.none (c : Thread nD τ) none) Set.univ)
    isplitl [H0 H1 H2 H3 H4]
    · iapply ((trip c arg0 harg0 arg1 harg1 arg2 harg2 arg3 harg3 arg4 harg4 X0 X1 X2 k).2 f' f)
      isplitl [H0]; · iexact H0
      isplitl [H1]; · iexact H1
      isplitl [H2]; · iexact H2
      isplitl [H3]; · iexact H3
      iexact H4
    · iintro %_ ⟨H0, H1, H2, H3, H4⟩
      isplitl [H0]; · iexact H0
      isplitl [H1]; · iexact H1
      isplitl [H2]; · iexact H2
      isplitl [H3]
      · rw [gather_succ]
        iexists _; isplitl [H3]; · iexact H3
        ipureintro; rw [hf, ← View.writes_append]
      iexact H4

set_option maxHeartbeats 2000000 in
/-- The whole body: run from any contents of the result and the scratch, with the pieces it leaves in the result. -/
@[irreducible] def run (X0 : Bf (F := F) arg0) (X1 : Bf (F := F) arg1) (X2 : Bf (F := F) arg2) :
    { L : List (View.Piece (Elt F) S1x384x384 .f32) // ∀ (f4 : Bf (F := F) arg4) (f3 : Bf (F := F) arg3),
      iprop(pt c arg0 X0 ∗ pt c arg1 X1 ∗ pt c arg2 X2 ∗ pt c arg3 f3 ∗ pt c arg4 f4)
      ⊢ wp frame (wpE (defs₀ (F := F)) Variants.none (c : Thread nD τ) none) Set.univ (cc8__conv3x3_body (F := F) arg0 harg0 arg1 harg1 arg2 harg2 arg3 harg3 arg4 harg4)
          (fun _ => iprop(pt c arg0 X0 ∗ pt c arg1 X1 ∗ pt c arg2 X2 ∗ pt c arg3 (arg3.view.writes (Elt F) f3 L) ∗ ∃ f' : Bf (F := F) arg4, pt c arg4 f')) } := by
  refine ⟨?_, fun f4 f3 => ?run⟩
  case run =>
    simp only [cc8__conv3x3_body_eq_skeleton]
    unfold cc8__conv3x3_body_skel
    iintro ⟨H0, H1, H2, H3, H4⟩
    sl_exec
    sl_step
    sl_close

/-- There are 8 strips. -/
theorem strips : k8_t1_loop.trips = 8 := by decide

/-- A strip's pieces cover its rows. -/
theorem trip_cover (X0 : Bf (F := F) arg0) (X1 : Bf (F := F) arg1) (X2 : Bf (F := F) arg2) (k : Fin k8_t1_loop.trips) (y : S1x384x384.Idx) (hy : 0 + 48 * k.val ≤ (y 1).val ∧ (y 1).val < 0 + 48 * k.val + 48) :
    ∃ p ∈ tripL c arg0 harg0 arg1 harg1 arg2 harg2 arg3 harg3 arg4 harg4 X0 X1 X2 k, y ∈ p.1.set := by
  have h0 : (y 0).val < 1 := (y 0).isLt
  have h1 : (y 1).val < 384 := (y 1).isLt
  have h2 : (y 2).val < 384 := (y 2).isLt
  unfold tripL trip
  refine ⟨_, List.mem_singleton_self _, ?_⟩
  rw [Rect.mem_set_unit, k8_off3_eq]
  simp only [Fin.forall_fin_succ]
  simp
  omega

/-- What the body leaves: the strips' pieces. -/
theorem run_list (X0 : Bf (F := F) arg0) (X1 : Bf (F := F) arg1) (X2 : Bf (F := F) arg2) : (run c arg0 harg0 arg1 harg1 arg2 harg2 arg3 harg3 arg4 harg4 X0 X1 X2).1 = gather (tripL c arg0 harg0 arg1 harg1 arg2 harg2 arg3 harg3 arg4 harg4 X0 X1 X2) k8_t1_loop.trips := by
  unfold run
  dsimp only

/-- Every entry of the result is written. -/
theorem run_cover (X0 : Bf (F := F) arg0) (X1 : Bf (F := F) arg1) (X2 : Bf (F := F) arg2) (y : S1x384x384.Idx) : ∃ p ∈ (run c arg0 harg0 arg1 harg1 arg2 harg2 arg3 harg3 arg4 harg4 X0 X1 X2).1, y ∈ p.1.set := by
  have h1 : (y 1).val < 384 := (y 1).isLt
  obtain ⟨p, hp, h⟩ := trip_cover c arg0 harg0 arg1 harg1 arg2 harg2 arg3 harg3 arg4 harg4 X0 X1 X2 ⟨(y 1).val / 48, by rw [strips]; omega⟩ y (by dsimp only; omega)
  exact ⟨p, by rw [run_list]; exact (mem_gather _ _ _).mpr ⟨_, Fin.isLt _, hp⟩, h⟩

end Cert.KernelIdeal.Body8

end
-- ==== Proof.KI.Call8.lean ====
module

public import proofs.«01_k».proof.Proof.KI.Body8
public import proofs.«01_k».proof.Proof.KI.RegionOf
public import Idealize.ShloMosaic.Lib.Pipeline.ValueKit

@[expose] public section

set_option maxRecDepth 16384

noncomputable section

namespace Cert.KernelIdeal.Call8

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Segment Cert.Pieces

variable {F : FTy → Type} [FloatOps F] [Named F] (V : (c : Dev nD) → Valuation τ sig (Elt F))

local notation "𝕄" => MT nD τ sig Unit (Elt F) ℕ (UR sig nD τ) ℕ

/-! What the call stages of its operands. -/
abbrev in0 (c : Dev nD) : Vec F S12x400x386 .f32 := ((cfg8.win 0).blk t8_0).view.read (Elt F) (V c main_v121)
abbrev in1 (c : Dev nD) : Vec F S108x1x384 .f32 := ((cfg8.win 1).blk t8_0).view.read (Elt F) (V c main_v125)
abbrev in2 (c : Dev nD) : Vec F S1x384 .f32 := ((cfg8.win 2).blk t8_0).view.read (Elt F) (V c main_v127)

/-- The pieces the body writes into the result, -/
abbrev pieces (c : Dev nD) : List (View.Piece (Elt F) S1x384x384 .f32) :=
  (Body8.run c (stage8_0 0) (hstage8_0 0) (stage8_1 0) (hstage8_1 0) (stage8_2 0) (hstage8_2 0) (stage8_3 0) (hstage8_3 0) (Memref.whole cc8_scratch0) (Memref.isWhole_whole _) (in0 V c) (in1 V c) (in2 V c)).1

/-- and the result they make. -/
def res (c : Dev nD) : Vec F S1x384x384 .f32 := View.canon (pieces V c)

/-- The proof data: the arrays at `V`; the operands staged as they are, the result as the body leaves it. -/
def dat (c : Dev nD) : Dat τ (Elt F) Unit ℕ (UR sig nD τ) ℕ cfg8 c where
  A w := V c (Pipeline.arrRef spec8 w)
  after w _ := match w with
    | ⟨0, _⟩ => in0 V c
    | ⟨1, _⟩ => in1 V c
    | ⟨2, _⟩ => in2 V c
    | ⟨3, _⟩ => res V c
  Φ _ := Pipeline.scopedRest (Ix := Unit) (Name := ℕ) (U := UR sig nD τ) (Lvl := ℕ) (Val := Elt F) spec8 c
  q _ := fullShare
  owed _ := 0

theorem before0 (c : Dev nD) (d : (cfg8.win 0).block.Idx → Elt F (cfg8.win 0).elt) : (dat V c).before 0 t8_0 d = in0 V c := by
  unfold Dat.before; rw [if_pos (by decide)]; rfl
theorem before1 (c : Dev nD) (d : (cfg8.win 1).block.Idx → Elt F (cfg8.win 1).elt) : (dat V c).before 1 t8_0 d = in1 V c := by
  unfold Dat.before; rw [if_pos (by decide)]; rfl
theorem before2 (c : Dev nD) (d : (cfg8.win 2).block.Idx → Elt F (cfg8.win 2).elt) : (dat V c).before 2 t8_0 d = in2 V c := by
  unfold Dat.before; rw [if_pos (by decide)]; rfl

/-- The body obligation: the staging buffers and the scratch taken out, the body run, what it leaves put back. -/
theorem body (c : Dev nD) : BodyObligation (dat V c) (defs₀ (F := F)) Variants.none () Set.univ := fun t => by
  obtain rfl := fin_N8 t
  rw [bigSep_W8, bigSep_W8]
  simp only [owns_whole_eq]
  rw [show (dat V c).Φ t8_0.castSucc = Pipeline.scopedRest (Ix := Unit) (Name := ℕ) (U := UR sig nD τ) (Lvl := ℕ) (Val := Elt F) spec8 c from rfl,
    show (dat V c).Φ t8_0.succ = Pipeline.scopedRest (Ix := Unit) (Name := ℕ) (U := UR sig nD τ) (Lvl := ℕ) (Val := Elt F) spec8 c from rfl,
    show (dat V c).owesAt () t8_0.succ = (dat V c).owesAt () t8_0.castSucc from rfl, scopedRest8_split]
  have hrun := fun fs f3 => (Body8.run c (stage8_0 0) (hstage8_0 0) (stage8_1 0) (hstage8_1 0) (stage8_2 0) (hstage8_2 0) (stage8_3 0) (hstage8_3 0) (Memref.whole cc8_scratch0) (Memref.isWhole_whole _) (in0 V c) (in1 V c) (in2 V c)).2 fs f3
  simp only [Body8.pt, (hstage8_0 0).set_eq_univ, (hstage8_1 0).set_eq_univ, (hstage8_2 0).set_eq_univ, (hstage8_3 0).set_eq_univ, (Memref.isWhole_whole cc8_scratch0).set_eq_univ] at hrun
  iintro ⟨⟨⟨%fs, HS⟩, HΦ⟩, Howes, ⟨%d0, %f0, %hf0, H0⟩, ⟨%d1, %f1, %hf1, H1⟩, ⟨%d2, %f2, %hf2, H2⟩, ⟨%d3, %f3, -, H3⟩⟩
  rw [before0] at hf0; subst hf0
  rw [before1] at hf1; subst hf1
  rw [before2] at hf2; subst hf2
  iapply (wp_wand_r Idealize.ShloMosaic.frame (wpE (defs₀ (F := F)) Variants.none (c : Thread nD τ) none) Set.univ)
  isplitl [H0 H1 H2 H3 HS]
  · iapply (hrun fs f3)
    isplitl [H0]; · iexact H0
    isplitl [H1]; · iexact H1
    isplitl [H2]; · iexact H2
    isplitl [H3]; · iexact H3
    iexact HS
  · iintro %_ ⟨H0, H1, H2, H3, ⟨%fs', HS⟩⟩
    isplitl [HS HΦ]
    · isplitl [HS]; · iexists _; iexact HS
      iexact HΦ
    isplitl [Howes]; · iexact Howes
    isplitl [H0]; · iexists _; isplitr; swap; (· iexact H0); ipureintro; dsimp only [dat]
    isplitl [H1]; · iexists _; isplitr; swap; (· iexact H1); ipureintro; dsimp only [dat]
    isplitl [H2]; · iexists _; isplitr; swap; (· iexact H2); ipureintro; dsimp only [dat]
    iexists _; isplitr; swap; (· iexact H3); ipureintro; dsimp only [dat]
    exact View.read_writes_eq_canon (stage8_3 0).view f3 _ (Body8.run_cover c (stage8_0 0) (hstage8_0 0) (stage8_1 0) (hstage8_1 0) (stage8_2 0) (hstage8_2 0) (stage8_3 0) (hstage8_3 0) (Memref.whole cc8_scratch0) (Memref.isWhole_whole _) (in0 V c) (in1 V c) (in2 V c))

/-- The result's array at the end. -/
theorem final (c : Dev nD) : (dat V c).arrAt 3 cfg8.N = res V c := by
  refine (dat V c).arrAt_eq_of_after_last 3 t8_0 (by decide +kernel) _ fun j => ?_
  rfl

/-- What an operand's array holds throughout. -/
theorem arrAt_eq (c : Dev nD) (w : Fin 4) (Vp : Valuation τ sig (Elt F)) (ho : Vp main_v128 = res V c)
    (hne : ∀ b : Ref sig .tc, b ≠ main_v128 → Vp b = V c b) :
    (dat V c).arrAt w cfg8.N = Vp (Pipeline.arrRef spec8 w) := by
  fin_cases w
  · exact ((dat V c).arrAt_in 0 rfl _).trans (hne main_v121 (by decide)).symm
  · exact ((dat V c).arrAt_in 1 rfl _).trans (hne main_v125 (by decide)).symm
  · exact ((dat V c).arrAt_in 2 rfl _).trans (hne main_v127 (by decide)).symm
  · exact (final V c).trans ho.symm

/-- The result's is the only buffer that changes. -/
theorem rest (c : Dev nD) (Vp : Valuation τ sig (Elt F)) (hne : ∀ b : Ref sig .tc, b ≠ main_v128 → Vp b = V c b)
    (b : Ref sig .tc) (hb : b ∉ Finset.univ.image (Pipeline.arrRef spec8)) : Vp b = V c b :=
  hne b fun h => hb (h ▸ Finset.mem_image.mpr ⟨3, Finset.mem_univ _, rfl⟩)

end Cert.KernelIdeal.Call8

end
-- ==== Proof.KI.Launch.lean ====
/-
  The run of the whole program: the nine calls and the host stretches between them in a chain of valuations, every call
  replacing its result's buffer; the launch, and what every final state holds.
-/
module

public import proofs.«01_k».proof.Proof.KI.Call0
public import proofs.«01_k».proof.Proof.KI.Call1
public import proofs.«01_k».proof.Proof.KI.Call2
public import proofs.«01_k».proof.Proof.KI.Call3
public import proofs.«01_k».proof.Proof.KI.Call4
public import proofs.«01_k».proof.Proof.KI.Call5
public import proofs.«01_k».proof.Proof.KI.Call6
public import proofs.«01_k».proof.Proof.KI.Call7
public import proofs.«01_k».proof.Proof.KI.Call8
public import proofs.«01_k».proof.Proof.KI.RegionOf
public import Idealize.ShloMosaic.Lib.Pipeline.Kit

@[expose] public section

noncomputable section

namespace Cert.KernelIdeal.Launch

open Cert.KernelIdeal Cert.KernelIdeal.Gen Cert.KernelIdeal.Segment
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg)

variable {F : FTy → Type} [FloatOps F] [Named F]
variable (m : (ℓ : Loc nD τ sig) → Buf (Elt F) ℓ)

local notation "𝕄" => MT nD τ sig Unit (Elt F) ℕ (UR sig nD τ) ℕ

/-! ## The chain of valuations: `inK` where call K is entered, `outK` where it is left -/

def in0 (c : Dev nD) : Valuation τ sig (Elt F) := V3 m c
def out0 (c : Dev nD) : Valuation τ sig (Elt F) := Function.update (in0 m c) main_v8 (Call0.res (in0 m) c)
def in1 (c : Dev nD) : Valuation τ sig (Elt F) := StableHlo.after hostOps1_9 (StableHlo.after hostOps1_8 (StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 (out0 m c))))))))))
def out1 (c : Dev nD) : Valuation τ sig (Elt F) := Function.update (in1 m c) main_v47 (Call1.res (in1 m) c)
def in2 (c : Dev nD) : Valuation τ sig (Elt F) := StableHlo.after hostOps2_9 (StableHlo.after hostOps2_8 (StableHlo.after hostOps2_7 (StableHlo.after hostOps2_6 (StableHlo.after hostOps2_5 (StableHlo.after hostOps2_4 (StableHlo.after hostOps2_3 (StableHlo.after hostOps2_2 (StableHlo.after hostOps2_1 (StableHlo.after hostOps2 (out1 m c))))))))))
def out2 (c : Dev nD) : Valuation τ sig (Elt F) := Function.update (in2 m c) main_v86 (Call2.res (in2 m) c)
def in3 (c : Dev nD) : Valuation τ sig (Elt F) := StableHlo.after hostOps3 (out2 m c)
def out3 (c : Dev nD) : Valuation τ sig (Elt F) := Function.update (in3 m c) main_v93 (Call3.res (in3 m) c)
def in4 (c : Dev nD) : Valuation τ sig (Elt F) := StableHlo.after hostOps4 (out3 m c)
def out4 (c : Dev nD) : Valuation τ sig (Elt F) := Function.update (in4 m c) main_v100 (Call4.res (in4 m) c)
def in5 (c : Dev nD) : Valuation τ sig (Elt F) := StableHlo.after hostOps5 (out4 m c)
def out5 (c : Dev nD) : Valuation τ sig (Elt F) := Function.update (in5 m c) main_v107 (Call5.res (in5 m) c)
def in6 (c : Dev nD) : Valuation τ sig (Elt F) := StableHlo.after hostOps6 (out5 m c)
def out6 (c : Dev nD) : Valuation τ sig (Elt F) := Function.update (in6 m c) main_v114 (Call6.res (in6 m) c)
def in7 (c : Dev nD) : Valuation τ sig (Elt F) := StableHlo.after hostOps7 (out6 m c)
def out7 (c : Dev nD) : Valuation τ sig (Elt F) := Function.update (in7 m c) main_v121 (Call7.res (in7 m) c)
def in8 (c : Dev nD) : Valuation τ sig (Elt F) := StableHlo.after hostOps8 (out7 m c)
def out8 (c : Dev nD) : Valuation τ sig (Elt F) := Function.update (in8 m c) main_v128 (Call8.res (in8 m) c)
def last (c : Dev nD) : Valuation τ sig (Elt F) := StableHlo.after hostOps9 (out8 m c)

/-- What each call leaves in its result's buffer. -/
def outs : Outs (F := F) := fun J r c => match J with
  | 4 => out0 m c r
  | 15 => out1 m c r
  | 26 => out2 m c r
  | 28 => out3 m c r
  | 30 => out4 m c r
  | 32 => out5 m c r
  | 34 => out6 m c r
  | 36 => out7 m c r
  | 38 => out8 m c r
  | _ => last m c r

theorem V3_eq (c : Dev nD) : V3 m c = in0 m c := rfl
theorem V4_eq (c : Dev nD) : V4 m (outs m) c = out0 m c := by
  show Function.update (V3 m c) main_v8 (out0 m c main_v8) = out0 m c
  rw [V3_eq]; unfold out0; rw [Function.update_self]
theorem V14_eq (c : Dev nD) : V14 m (outs m) c = in1 m c := by
  unfold in1; rw [← V4_eq]
theorem V15_eq (c : Dev nD) : V15 m (outs m) c = out1 m c := by
  show Function.update (V14 m (outs m) c) main_v47 (out1 m c main_v47) = out1 m c
  rw [V14_eq]; unfold out1; rw [Function.update_self]
theorem V25_eq (c : Dev nD) : V25 m (outs m) c = in2 m c := by
  unfold in2; rw [← V15_eq]
theorem V26_eq (c : Dev nD) : V26 m (outs m) c = out2 m c := by
  show Function.update (V25 m (outs m) c) main_v86 (out2 m c main_v86) = out2 m c
  rw [V25_eq]; unfold out2; rw [Function.update_self]
theorem V27_eq (c : Dev nD) : V27 m (outs m) c = in3 m c := by
  unfold in3; rw [← V26_eq]
theorem V28_eq (c : Dev nD) : V28 m (outs m) c = out3 m c := by
  show Function.update (V27 m (outs m) c) main_v93 (out3 m c main_v93) = out3 m c
  rw [V27_eq]; unfold out3; rw [Function.update_self]
theorem V29_eq (c : Dev nD) : V29 m (outs m) c = in4 m c := by
  unfold in4; rw [← V28_eq]
theorem V30_eq (c : Dev nD) : V30 m (outs m) c = out4 m c := by
  show Function.update (V29 m (outs m) c) main_v100 (out4 m c main_v100) = out4 m c
  rw [V29_eq]; unfold out4; rw [Function.update_self]
theorem V31_eq (c : Dev nD) : V31 m (outs m) c = in5 m c := by
  unfold in5; rw [← V30_eq]
theorem V32_eq (c : Dev nD) : V32 m (outs m) c = out5 m c := by
  show Function.update (V31 m (outs m) c) main_v107 (out5 m c main_v107) = out5 m c
  rw [V31_eq]; unfold out5; rw [Function.update_self]
theorem V33_eq (c : Dev nD) : V33 m (outs m) c = in6 m c := by
  unfold in6; rw [← V32_eq]
theorem V34_eq (c : Dev nD) : V34 m (outs m) c = out6 m c := by
  show Function.update (V33 m (outs m) c) main_v114 (out6 m c main_v114) = out6 m c
  rw [V33_eq]; unfold out6; rw [Function.update_self]
theorem V35_eq (c : Dev nD) : V35 m (outs m) c = in7 m c := by
  unfold in7; rw [← V34_eq]
theorem V36_eq (c : Dev nD) : V36 m (outs m) c = out7 m c := by
  show Function.update (V35 m (outs m) c) main_v121 (out7 m c main_v121) = out7 m c
  rw [V35_eq]; unfold out7; rw [Function.update_self]
theorem V37_eq (c : Dev nD) : V37 m (outs m) c = in8 m c := by
  unfold in8; rw [← V36_eq]
theorem V38_eq (c : Dev nD) : V38 m (outs m) c = out8 m c := by
  show Function.update (V37 m (outs m) c) main_v128 (out8 m c main_v128) = out8 m c
  rw [V37_eq]; unfold out8; rw [Function.update_self]
theorem V39_eq (c : Dev nD) : V39 m (outs m) c = last m c := by
  unfold last; rw [← V38_eq]

attribute [local irreducible] in0 in1 in2 in3 in4 in5 in6 in7 in8

/-- Every call's proof data. -/
def pdats : (p : Fin 9) → (c : Dev nD) → Dat τ (Elt F) Unit ℕ (UR sig nD τ) ℕ (cfgs p) c
  | 0 => Call0.dat (in0 m)
  | 1 => Call1.dat (in1 m)
  | 2 => Call2.dat (in2 m)
  | 3 => Call3.dat (in3 m)
  | 4 => Call4.dat (in4 m)
  | 5 => Call5.dat (in5 m)
  | 6 => Call6.dat (in6 m)
  | 7 => Call7.dat (in7 m)
  | 8 => Call8.dat (in8 m)

theorem out0_ne (c : Dev nD) (b : Ref sig .tc) (hb : b ≠ main_v8) : out0 m c b = in0 m c b :=
  Function.update_of_ne (fun h => hb (Proc.devRef_injective _ h)) _ _
theorem facts0 : Segment.Facts (pdats m) (in0 m) (out0 m) 0 where
  launch := launch0
  entry _ _ := rfl
  share _ _ := rfl
  owed _ _ := rfl
  recorded _ _ := rfl
  inv _ _ := rfl
  body c := Call0.body (in0 m) c
  exit c w := Call0.arrAt_eq (in0 m) c w (out0 m c) (Function.update_self _ _ _) (out0_ne m c)
  rest c b hb := Call0.rest (in0 m) c (out0 m c) (out0_ne m c) b hb

theorem out1_ne (c : Dev nD) (b : Ref sig .tc) (hb : b ≠ main_v47) : out1 m c b = in1 m c b :=
  Function.update_of_ne (fun h => hb (Proc.devRef_injective _ h)) _ _
theorem facts1 : Segment.Facts (pdats m) (in1 m) (out1 m) 1 where
  launch := launch1
  entry _ _ := rfl
  share _ _ := rfl
  owed _ _ := rfl
  recorded _ _ := rfl
  inv _ _ := rfl
  body c := Call1.body (in1 m) c
  exit c w := Call1.arrAt_eq (in1 m) c w (out1 m c) (Function.update_self _ _ _) (out1_ne m c)
  rest c b hb := Call1.rest (in1 m) c (out1 m c) (out1_ne m c) b hb

theorem out2_ne (c : Dev nD) (b : Ref sig .tc) (hb : b ≠ main_v86) : out2 m c b = in2 m c b :=
  Function.update_of_ne (fun h => hb (Proc.devRef_injective _ h)) _ _
theorem facts2 : Segment.Facts (pdats m) (in2 m) (out2 m) 2 where
  launch := launch2
  entry _ _ := rfl
  share _ _ := rfl
  owed _ _ := rfl
  recorded _ _ := rfl
  inv _ _ := rfl
  body c := Call2.body (in2 m) c
  exit c w := Call2.arrAt_eq (in2 m) c w (out2 m c) (Function.update_self _ _ _) (out2_ne m c)
  rest c b hb := Call2.rest (in2 m) c (out2 m c) (out2_ne m c) b hb

theorem out3_ne (c : Dev nD) (b : Ref sig .tc) (hb : b ≠ main_v93) : out3 m c b = in3 m c b :=
  Function.update_of_ne (fun h => hb (Proc.devRef_injective _ h)) _ _
theorem facts3 : Segment.Facts (pdats m) (in3 m) (out3 m) 3 where
  launch := launch3
  entry _ _ := rfl
  share _ _ := rfl
  owed _ _ := rfl
  recorded _ _ := rfl
  inv _ _ := rfl
  body c := Call3.body (in3 m) c
  exit c w := Call3.arrAt_eq (in3 m) c w (out3 m c) (Function.update_self _ _ _) (out3_ne m c)
  rest c b hb := Call3.rest (in3 m) c (out3 m c) (out3_ne m c) b hb

theorem out4_ne (c : Dev nD) (b : Ref sig .tc) (hb : b ≠ main_v100) : out4 m c b = in4 m c b :=
  Function.update_of_ne (fun h => hb (Proc.devRef_injective _ h)) _ _
theorem facts4 : Segment.Facts (pdats m) (in4 m) (out4 m) 4 where
  launch := launch4
  entry _ _ := rfl
  share _ _ := rfl
  owed _ _ := rfl
  recorded _ _ := rfl
  inv _ _ := rfl
  body c := Call4.body (in4 m) c
  exit c w := Call4.arrAt_eq (in4 m) c w (out4 m c) (Function.update_self _ _ _) (out4_ne m c)
  rest c b hb := Call4.rest (in4 m) c (out4 m c) (out4_ne m c) b hb

theorem out5_ne (c : Dev nD) (b : Ref sig .tc) (hb : b ≠ main_v107) : out5 m c b = in5 m c b :=
  Function.update_of_ne (fun h => hb (Proc.devRef_injective _ h)) _ _
theorem facts5 : Segment.Facts (pdats m) (in5 m) (out5 m) 5 where
  launch := launch5
  entry _ _ := rfl
  share _ _ := rfl
  owed _ _ := rfl
  recorded _ _ := rfl
  inv _ _ := rfl
  body c := Call5.body (in5 m) c
  exit c w := Call5.arrAt_eq (in5 m) c w (out5 m c) (Function.update_self _ _ _) (out5_ne m c)
  rest c b hb := Call5.rest (in5 m) c (out5 m c) (out5_ne m c) b hb

theorem out6_ne (c : Dev nD) (b : Ref sig .tc) (hb : b ≠ main_v114) : out6 m c b = in6 m c b :=
  Function.update_of_ne (fun h => hb (Proc.devRef_injective _ h)) _ _
theorem facts6 : Segment.Facts (pdats m) (in6 m) (out6 m) 6 where
  launch := launch6
  entry _ _ := rfl
  share _ _ := rfl
  owed _ _ := rfl
  recorded _ _ := rfl
  inv _ _ := rfl
  body c := Call6.body (in6 m) c
  exit c w := Call6.arrAt_eq (in6 m) c w (out6 m c) (Function.update_self _ _ _) (out6_ne m c)
  rest c b hb := Call6.rest (in6 m) c (out6 m c) (out6_ne m c) b hb

theorem out7_ne (c : Dev nD) (b : Ref sig .tc) (hb : b ≠ main_v121) : out7 m c b = in7 m c b :=
  Function.update_of_ne (fun h => hb (Proc.devRef_injective _ h)) _ _
theorem facts7 : Segment.Facts (pdats m) (in7 m) (out7 m) 7 where
  launch := launch7
  entry _ _ := rfl
  share _ _ := rfl
  owed _ _ := rfl
  recorded _ _ := rfl
  inv _ _ := rfl
  body c := Call7.body (in7 m) c
  exit c w := Call7.arrAt_eq (in7 m) c w (out7 m c) (Function.update_self _ _ _) (out7_ne m c)
  rest c b hb := Call7.rest (in7 m) c (out7 m c) (out7_ne m c) b hb

theorem out8_ne (c : Dev nD) (b : Ref sig .tc) (hb : b ≠ main_v128) : out8 m c b = in8 m c b :=
  Function.update_of_ne (fun h => hb (Proc.devRef_injective _ h)) _ _
theorem facts8 : Segment.Facts (pdats m) (in8 m) (out8 m) 8 where
  launch := launch8
  entry _ _ := rfl
  share _ _ := rfl
  owed _ _ := rfl
  recorded _ _ := rfl
  inv _ _ := rfl
  body c := Call8.body (in8 m) c
  exit c w := Call8.arrAt_eq (in8 m) c w (out8 m c) (Function.update_self _ _ _) (out8_ne m c)
  rest c b hb := Call8.rest (in8 m) c (out8 m c) (out8_ne m c) b hb

/-- What the run leaves: every buffer outside the calls' scopes as the last valuation has it. -/
def Final (s : MemSt nD τ sig (Elt F)) : Prop :=
  ∀ (c : Dev nD) (b : Ref sig .tc), (Proc.devRef .tc b : DevRef τ sig) ∈ Pipeline.ucRefs τ sig →
    s.mem ((c : Thread nD τ).loc b) = last m c b

theorem hpre0 (c : Dev nD) : iprop(StableHlo.held (c : Thread nD τ) (Pipeline.ucRefs τ sig) (V3 m c) ∗ E c)
    ⊢ (seg (pdats m) (in0 m) (out0 m) 0 (facts0 m)).pre c := by
  rw [V3_eq]; exact seg_pre _ _ _ _ _ c
theorem hpost0 (c : Dev nD) : (seg (pdats m) (in0 m) (out0 m) 0 (facts0 m)).post c
    ⊢ iprop(StableHlo.held (c : Thread nD τ) (Pipeline.ucRefs τ sig) (V4 m (outs m) c) ∗ E c) := by
  rw [V4_eq]; exact seg_post _ _ _ _ _ c
theorem hpre1 (c : Dev nD) : iprop(StableHlo.held (c : Thread nD τ) (Pipeline.ucRefs τ sig) (V14 m (outs m) c) ∗ E c)
    ⊢ (seg (pdats m) (in1 m) (out1 m) 1 (facts1 m)).pre c := by
  rw [V14_eq]; exact seg_pre _ _ _ _ _ c
theorem hpost1 (c : Dev nD) : (seg (pdats m) (in1 m) (out1 m) 1 (facts1 m)).post c
    ⊢ iprop(StableHlo.held (c : Thread nD τ) (Pipeline.ucRefs τ sig) (V15 m (outs m) c) ∗ E c) := by
  rw [V15_eq]; exact seg_post _ _ _ _ _ c
theorem hpre2 (c : Dev nD) : iprop(StableHlo.held (c : Thread nD τ) (Pipeline.ucRefs τ sig) (V25 m (outs m) c) ∗ E c)
    ⊢ (seg (pdats m) (in2 m) (out2 m) 2 (facts2 m)).pre c := by
  rw [V25_eq]; exact seg_pre _ _ _ _ _ c
theorem hpost2 (c : Dev nD) : (seg (pdats m) (in2 m) (out2 m) 2 (facts2 m)).post c
    ⊢ iprop(StableHlo.held (c : Thread nD τ) (Pipeline.ucRefs τ sig) (V26 m (outs m) c) ∗ E c) := by
  rw [V26_eq]; exact seg_post _ _ _ _ _ c
theorem hpre3 (c : Dev nD) : iprop(StableHlo.held (c : Thread nD τ) (Pipeline.ucRefs τ sig) (V27 m (outs m) c) ∗ E c)
    ⊢ (seg (pdats m) (in3 m) (out3 m) 3 (facts3 m)).pre c := by
  rw [V27_eq]; exact seg_pre _ _ _ _ _ c
theorem hpost3 (c : Dev nD) : (seg (pdats m) (in3 m) (out3 m) 3 (facts3 m)).post c
    ⊢ iprop(StableHlo.held (c : Thread nD τ) (Pipeline.ucRefs τ sig) (V28 m (outs m) c) ∗ E c) := by
  rw [V28_eq]; exact seg_post _ _ _ _ _ c
theorem hpre4 (c : Dev nD) : iprop(StableHlo.held (c : Thread nD τ) (Pipeline.ucRefs τ sig) (V29 m (outs m) c) ∗ E c)
    ⊢ (seg (pdats m) (in4 m) (out4 m) 4 (facts4 m)).pre c := by
  rw [V29_eq]; exact seg_pre _ _ _ _ _ c
theorem hpost4 (c : Dev nD) : (seg (pdats m) (in4 m) (out4 m) 4 (facts4 m)).post c
    ⊢ iprop(StableHlo.held (c : Thread nD τ) (Pipeline.ucRefs τ sig) (V30 m (outs m) c) ∗ E c) := by
  rw [V30_eq]; exact seg_post _ _ _ _ _ c
theorem hpre5 (c : Dev nD) : iprop(StableHlo.held (c : Thread nD τ) (Pipeline.ucRefs τ sig) (V31 m (outs m) c) ∗ E c)
    ⊢ (seg (pdats m) (in5 m) (out5 m) 5 (facts5 m)).pre c := by
  rw [V31_eq]; exact seg_pre _ _ _ _ _ c
theorem hpost5 (c : Dev nD) : (seg (pdats m) (in5 m) (out5 m) 5 (facts5 m)).post c
    ⊢ iprop(StableHlo.held (c : Thread nD τ) (Pipeline.ucRefs τ sig) (V32 m (outs m) c) ∗ E c) := by
  rw [V32_eq]; exact seg_post _ _ _ _ _ c
theorem hpre6 (c : Dev nD) : iprop(StableHlo.held (c : Thread nD τ) (Pipeline.ucRefs τ sig) (V33 m (outs m) c) ∗ E c)
    ⊢ (seg (pdats m) (in6 m) (out6 m) 6 (facts6 m)).pre c := by
  rw [V33_eq]; exact seg_pre _ _ _ _ _ c
theorem hpost6 (c : Dev nD) : (seg (pdats m) (in6 m) (out6 m) 6 (facts6 m)).post c
    ⊢ iprop(StableHlo.held (c : Thread nD τ) (Pipeline.ucRefs τ sig) (V34 m (outs m) c) ∗ E c) := by
  rw [V34_eq]; exact seg_post _ _ _ _ _ c
theorem hpre7 (c : Dev nD) : iprop(StableHlo.held (c : Thread nD τ) (Pipeline.ucRefs τ sig) (V35 m (outs m) c) ∗ E c)
    ⊢ (seg (pdats m) (in7 m) (out7 m) 7 (facts7 m)).pre c := by
  rw [V35_eq]; exact seg_pre _ _ _ _ _ c
theorem hpost7 (c : Dev nD) : (seg (pdats m) (in7 m) (out7 m) 7 (facts7 m)).post c
    ⊢ iprop(StableHlo.held (c : Thread nD τ) (Pipeline.ucRefs τ sig) (V36 m (outs m) c) ∗ E c) := by
  rw [V36_eq]; exact seg_post _ _ _ _ _ c
theorem hpre8 (c : Dev nD) : iprop(StableHlo.held (c : Thread nD τ) (Pipeline.ucRefs τ sig) (V37 m (outs m) c) ∗ E c)
    ⊢ (seg (pdats m) (in8 m) (out8 m) 8 (facts8 m)).pre c := by
  rw [V37_eq]; exact seg_pre _ _ _ _ _ c
theorem hpost8 (c : Dev nD) : (seg (pdats m) (in8 m) (out8 m) 8 (facts8 m)).post c
    ⊢ iprop(StableHlo.held (c : Thread nD τ) (Pipeline.ucRefs τ sig) (V38 m (outs m) c) ∗ E c) := by
  rw [V38_eq]; exact seg_post _ _ _ _ _ c

/-- A core at the launch: its buffers held as they stand, and nothing owed. -/
theorem start (ρ : Dev nD → PrngReg) (c : Dev nD) :
    (iprop(unscopedBufs c (fun b => m ((c.tc : Thread nD τ).loc b)) ∗ unscopedSems0 c
      ∗ owes (c.tc : Thread nD τ) (0 : CellTallies nD τ sig Unit) ∅ ∗ Pipeline.launchCred (fun _ => 0) c ∗ prngReg c (ρ c) ∗ BI.emp) : sProp 𝕄)
    ⊢ iprop(StableHlo.held (c : Thread nD τ) (Pipeline.ucRefs τ sig) (V0 m c) ∗ E c) := by
  rw [← Pipeline.unscopedBufs_held (Ix := Unit) (Name := ℕ) (U := UR sig nD τ) (Lvl := ℕ) c (V0 m c)]
  show (iprop(unscopedBufs c (fun b => m ((c.tc : Thread nD τ).loc b)) ∗ unscopedSems0 c
      ∗ owes (c.tc : Thread nD τ) (0 : CellTallies nD τ sig Unit) ∅ ∗ Pipeline.launchCred (fun _ => 0) c ∗ prngReg c (ρ c) ∗ BI.emp) : sProp 𝕄)
    ⊢ iprop(unscopedBufs c (fun b => m ((c.tc : Thread nD τ).loc b)) ∗ E c)
  iintro ⟨Hb, -, HO, -⟩
  isplitl [Hb]; · iexact Hb
  iexists _; iexact HO

set_option backward.isDefEq.respectTransparency.types false in
set_option maxRecDepth 1024 in
/-- The run: from any memory with every counter at zero, every weakly fair execution terminates without a fault, each
    buffer outside the calls' scopes ends as `last` has it, and every counter is zero again. -/
theorem run_main (ρ : Dev nD → PrngReg) :
    θ_run defs (onTc (τ := τ) (main (F := F))) ⟨m, fun _ => 0, ρ⟩ (fun r => Final m r.2 ∧ r.2.sem = fun _ => 0) := by
  refine Pipeline.θ_run_regions_kit_dev_sems (pcfgs (F := F)) adm (pdats m) () cellOf_inj emb₁ defs₀ Variants.none L lv m ρ main
    (segs m (outs m) Variants.none L lv (fun _ => E) () (pdats m) (seg (pdats m) (in0 m) (out0 m) 0 (facts0 m)) (seg (pdats m) (in1 m) (out1 m) 1 (facts1 m)) (seg (pdats m) (in2 m) (out2 m) 2 (facts2 m)) (seg (pdats m) (in3 m) (out3 m) 3 (facts3 m)) (seg (pdats m) (in4 m) (out4 m) 4 (facts4 m)) (seg (pdats m) (in5 m) (out5 m) 5 (facts5 m)) (seg (pdats m) (in6 m) (out6 m) 6 (facts6 m)) (seg (pdats m) (in7 m) (out7 m) 7 (facts7 m)) (seg (pdats m) (in8 m) (out8 m) 8 (facts8 m)))
    (fun c Q => by
      rewrite [main_chain c, Seg.run_eq_chain,
        show (segs m (outs m) Variants.none L lv (fun _ => E) () (pdats m) (seg (pdats m) (in0 m) (out0 m) 0 (facts0 m)) (seg (pdats m) (in1 m) (out1 m) 1 (facts1 m)) (seg (pdats m) (in2 m) (out2 m) 2 (facts2 m)) (seg (pdats m) (in3 m) (out3 m) 3 (facts3 m)) (seg (pdats m) (in4 m) (out4 m) 4 (facts4 m)) (seg (pdats m) (in5 m) (out5 m) 5 (facts5 m)) (seg (pdats m) (in6 m) (out6 m) 6 (facts6 m)) (seg (pdats m) (in7 m) (out7 m) 7 (facts7 m)) (seg (pdats m) (in8 m) (out8 m) 8 (facts8 m)) c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          StableHlo.seq hostOps1_9,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7,
          StableHlo.seq hostOps2_8,
          StableHlo.seq hostOps2_9,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9 ] from rfl]
      dsimp (config := { failIfUnchanged := false }) only
      exact .rfl)
    (fun c => by simp only [segs, Seg.pipes_host, Seg.pipes_region, Seg.pipes_nil]; decide) (fun _ => 0) (fun _ _ => rfl)
    (fun _ => BI.emp) (initOf (Pipeline.cells cfgs cellOf_inj) (Pipeline.launchToks cfgs cellOf_inj)) ?_
    (T₀ := fun c => iprop(StableHlo.held (c : Thread nD τ) (Pipeline.ucRefs τ sig) (V0 m c) ∗ E c))
    (Tₙ := fun c => StableHlo.held (c : Thread nD τ) (Pipeline.ucRefs τ sig) (V39 m (outs m) c))
    (hch := fun c => ⟨.rfl, .rfl, .rfl, hpre0 m c, hpost0 m c, .rfl, .rfl, .rfl, .rfl, .rfl, .rfl, .rfl, .rfl, .rfl, hpre1 m c, hpost1 m c, .rfl, .rfl, .rfl, .rfl, .rfl, .rfl, .rfl, .rfl, .rfl, hpre2 m c, hpost2 m c, hpre3 m c, hpost3 m c, hpre4 m c, hpost4 m c, hpre5 m c, hpost5 m c, hpre6 m c, hpost6 m c, hpre7 m c, hpost7 m c, hpre8 m c, hpost8 m c, sep_mono .rfl .rfl⟩)
    (hinit := ?_) (QY := fun c s => ∀ b : Ref sig .tc, (Proc.devRef .tc b : DevRef τ sig) ∈ Pipeline.ucRefs τ sig →
      s.mem ((c : Thread nD τ).loc b) = last m c b)
    (hfin := fun c s' => ?_) (hQ := fun _ h hz => ⟨h, funext fun g => hz g (.inr (regions_no_unscoped g.2))⟩)
  · -- the ghost state is the calls' rounds and nothing more
    iintro Hu
    imodintro
    isplitl [Hu]
    · iapply (show (ownU (initOf (Pipeline.cells cfgs cellOf_inj) (Pipeline.launchToks cfgs cellOf_inj)) : sProp 𝕄) ⊢ BI.own (emb₁ _) from .rfl); iexact Hu
    rw [show (bigSep Finset.univ fun _ : Dev nD => (BI.emp : sProp 𝕄)) = BI.emp from bigSep_emp_const _]
    iempintro
  · -- the launch: the buffers are held as they stand, and nothing is owed
    have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ BI.emp))
        ⊢ (bigSep Finset.univ fun c : Dev nD => iprop(StableHlo.held (c : Thread nD τ) (Pipeline.ucRefs τ sig) (V0 m c) ∗ E c) : sProp 𝕄) := by
      exact bigSep_mono fun c _ => start m ρ c
    iintro ⟨H, -⟩
    imodintro
    iapply hsplit
    iexact H
  · -- the end: every buffer read off the last valuation
    unfold StableHlo.held
    iintro ⟨Hh, HSI⟩
    ihave Hr := (pointsTo_read_all (Pipeline.ucRefs τ sig) (fun b => ((c : Thread nD τ).1, b)) (V39 m (outs m) c) s') $$ [Hh HSI]
    · isplitl [Hh] <;> iassumption
    icases Hr with ⟨%h, HSI⟩
    imodintro
    isplitr
    · ipureintro
      exact fun b hb => (h (Proc.devRef .tc b) hb).trans (congrFun (V39_eq m c) _)
    · iexact HSI

/-- A buffer the whole program writes to nowhere ends as it began: the arguments. -/
theorem Final.arg {s : MemSt nD τ sig (Elt F)} (h : Final m s) (c : Dev nD) (b : Ref sig .tc)
    (hb : (Proc.devRef .tc b : DevRef τ sig) ∈ Pipeline.ucRefs τ sig) {v : Buf (Elt F) ((c : Thread nD τ).loc b)}
    (hv : V39 m (outs m) c b = v) : s.mem ((c : Thread nD τ).loc b) = v :=
  (h c b hb).trans ((congrFun (V39_eq m c) _).symm.trans hv)

/-- An argument is in the launch's buffers. -/
theorem uc (b : Ref sig .tc) (h : ¬ (Proc.devRef .tc b : DevRef τ sig).isScoped) : (Proc.devRef .tc b : DevRef τ sig) ∈ Pipeline.ucRefs τ sig :=
  Finset.mem_filter.mpr ⟨StableHlo.devRef_mem_tcRefs b, h⟩

end Cert.KernelIdeal.Launch

end
-- ==== Proof.Frames.lean ====
/-
  The three frames and the two named constants.
-/
module

public import proofs.«01_k».proof.Defs
public import proofs.«01_k».proof.Proof.Gen.ReferenceIdeal.Run
public import proofs.«01_k».proof.Proof.K.Launch
public import proofs.«01_k».proof.Proof.KI.Launch

@[expose] public section

noncomputable section

open Idealize.ShloMosaic Idealize.ShloMosaic.TcCoe Idealize.SL.Sem

namespace Cert.Kernel.Launch

open Cert.Kernel Cert.Kernel.Gen

/-- The arguments end as they began. -/
theorem args (m : (ℓ : Loc nD τ sig) → Buf (Elt Bits) ℓ) {s : MemSt nD τ sig (Elt Bits)} (h : Final m s) (c : Dev nD) :
    s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7)
    ∧ s.mem ((c.tc : Thread nD τ).loc main_arg8) = m ((c.tc : Thread nD τ).loc main_arg8)
    ∧ s.mem ((c.tc : Thread nD τ).loc main_arg9) = m ((c.tc : Thread nD τ).loc main_arg9)
    ∧ s.mem ((c.tc : Thread nD τ).loc main_arg10) = m ((c.tc : Thread nD τ).loc main_arg10)
    ∧ s.mem ((c.tc : Thread nD τ).loc main_arg11) = m ((c.tc : Thread nD τ).loc main_arg11)
    ∧ s.mem ((c.tc : Thread nD τ).loc main_arg12) = m ((c.tc : Thread nD τ).loc main_arg12)
    ∧ s.mem ((c.tc : Thread nD τ).loc main_arg13) = m ((c.tc : Thread nD τ).loc main_arg13)
    ∧ s.mem ((c.tc : Thread nD τ).loc main_arg14) = m ((c.tc : Thread nD τ).loc main_arg14)
    ∧ s.mem ((c.tc : Thread nD τ).loc main_arg15) = m ((c.tc : Thread nD τ).loc main_arg15)
    ∧ s.mem ((c.tc : Thread nD τ).loc main_arg16) = m ((c.tc : Thread nD τ).loc main_arg16)
    ∧ s.mem ((c.tc : Thread nD τ).loc main_arg17) = m ((c.tc : Thread nD τ).loc main_arg17)
    ∧ s.mem ((c.tc : Thread nD τ).loc main_arg18) = m ((c.tc : Thread nD τ).loc main_arg18) :=
  ⟨h.arg m c main_arg0 (uc main_arg0 (by decide)) (V39_main_arg0 m (outs m) c),
    h.arg m c main_arg1 (uc main_arg1 (by decide)) (V39_main_arg1 m (outs m) c),
    h.arg m c main_arg2 (uc main_arg2 (by decide)) (V39_main_arg2 m (outs m) c),
    h.arg m c main_arg3 (uc main_arg3 (by decide)) (V39_main_arg3 m (outs m) c),
    h.arg m c main_arg4 (uc main_arg4 (by decide)) (V39_main_arg4 m (outs m) c),
    h.arg m c main_arg5 (uc main_arg5 (by decide)) (V39_main_arg5 m (outs m) c),
    h.arg m c main_arg6 (uc main_arg6 (by decide)) (V39_main_arg6 m (outs m) c),
    h.arg m c main_arg7 (uc main_arg7 (by decide)) (V39_main_arg7 m (outs m) c),
    h.arg m c main_arg8 (uc main_arg8 (by decide)) (V39_main_arg8 m (outs m) c),
    h.arg m c main_arg9 (uc main_arg9 (by decide)) (V39_main_arg9 m (outs m) c),
    h.arg m c main_arg10 (uc main_arg10 (by decide)) (V39_main_arg10 m (outs m) c),
    h.arg m c main_arg11 (uc main_arg11 (by decide)) (V39_main_arg11 m (outs m) c),
    h.arg m c main_arg12 (uc main_arg12 (by decide)) (V39_main_arg12 m (outs m) c),
    h.arg m c main_arg13 (uc main_arg13 (by decide)) (V39_main_arg13 m (outs m) c),
    h.arg m c main_arg14 (uc main_arg14 (by decide)) (V39_main_arg14 m (outs m) c),
    h.arg m c main_arg15 (uc main_arg15 (by decide)) (V39_main_arg15 m (outs m) c),
    h.arg m c main_arg16 (uc main_arg16 (by decide)) (V39_main_arg16 m (outs m) c),
    h.arg m c main_arg17 (uc main_arg17 (by decide)) (V39_main_arg17 m (outs m) c),
    h.arg m c main_arg18 (uc main_arg18 (by decide)) (V39_main_arg18 m (outs m) c)⟩

end Cert.Kernel.Launch

namespace Cert.KernelIdeal.Launch

open Cert.KernelIdeal Cert.KernelIdeal.Gen

/-- The arguments end as they began. -/
theorem args (m : (ℓ : Loc nD τ sig) → Buf (Elt Ideal) ℓ) {s : MemSt nD τ sig (Elt Ideal)} (h : Final m s) (c : Dev nD) :
    s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7)
    ∧ s.mem ((c.tc : Thread nD τ).loc main_arg8) = m ((c.tc : Thread nD τ).loc main_arg8)
    ∧ s.mem ((c.tc : Thread nD τ).loc main_arg9) = m ((c.tc : Thread nD τ).loc main_arg9)
    ∧ s.mem ((c.tc : Thread nD τ).loc main_arg10) = m ((c.tc : Thread nD τ).loc main_arg10)
    ∧ s.mem ((c.tc : Thread nD τ).loc main_arg11) = m ((c.tc : Thread nD τ).loc main_arg11)
    ∧ s.mem ((c.tc : Thread nD τ).loc main_arg12) = m ((c.tc : Thread nD τ).loc main_arg12)
    ∧ s.mem ((c.tc : Thread nD τ).loc main_arg13) = m ((c.tc : Thread nD τ).loc main_arg13)
    ∧ s.mem ((c.tc : Thread nD τ).loc main_arg14) = m ((c.tc : Thread nD τ).loc main_arg14)
    ∧ s.mem ((c.tc : Thread nD τ).loc main_arg15) = m ((c.tc : Thread nD τ).loc main_arg15)
    ∧ s.mem ((c.tc : Thread nD τ).loc main_arg16) = m ((c.tc : Thread nD τ).loc main_arg16)
    ∧ s.mem ((c.tc : Thread nD τ).loc main_arg17) = m ((c.tc : Thread nD τ).loc main_arg17)
    ∧ s.mem ((c.tc : Thread nD τ).loc main_arg18) = m ((c.tc : Thread nD τ).loc main_arg18) :=
  ⟨h.arg m c main_arg0 (uc main_arg0 (by decide)) (V39_main_arg0 m (outs m) c),
    h.arg m c main_arg1 (uc main_arg1 (by decide)) (V39_main_arg1 m (outs m) c),
    h.arg m c main_arg2 (uc main_arg2 (by decide)) (V39_main_arg2 m (outs m) c),
    h.arg m c main_arg3 (uc main_arg3 (by decide)) (V39_main_arg3 m (outs m) c),
    h.arg m c main_arg4 (uc main_arg4 (by decide)) (V39_main_arg4 m (outs m) c),
    h.arg m c main_arg5 (uc main_arg5 (by decide)) (V39_main_arg5 m (outs m) c),
    h.arg m c main_arg6 (uc main_arg6 (by decide)) (V39_main_arg6 m (outs m) c),
    h.arg m c main_arg7 (uc main_arg7 (by decide)) (V39_main_arg7 m (outs m) c),
    h.arg m c main_arg8 (uc main_arg8 (by decide)) (V39_main_arg8 m (outs m) c),
    h.arg m c main_arg9 (uc main_arg9 (by decide)) (V39_main_arg9 m (outs m) c),
    h.arg m c main_arg10 (uc main_arg10 (by decide)) (V39_main_arg10 m (outs m) c),
    h.arg m c main_arg11 (uc main_arg11 (by decide)) (V39_main_arg11 m (outs m) c),
    h.arg m c main_arg12 (uc main_arg12 (by decide)) (V39_main_arg12 m (outs m) c),
    h.arg m c main_arg13 (uc main_arg13 (by decide)) (V39_main_arg13 m (outs m) c),
    h.arg m c main_arg14 (uc main_arg14 (by decide)) (V39_main_arg14 m (outs m) c),
    h.arg m c main_arg15 (uc main_arg15 (by decide)) (V39_main_arg15 m (outs m) c),
    h.arg m c main_arg16 (uc main_arg16 (by decide)) (V39_main_arg16 m (outs m) c),
    h.arg m c main_arg17 (uc main_arg17 (by decide)) (V39_main_arg17 m (outs m) c),
    h.arg m c main_arg18 (uc main_arg18 (by decide)) (V39_main_arg18 m (outs m) c)⟩

end Cert.KernelIdeal.Launch

namespace Cert.Proof

theorem frame_kernel : Cert.quiescent_Kernel := fun m ρ _ =>
  (θ_run Cert.Kernel.defs _ _).mono (fun _ h => ⟨fun c => Cert.Kernel.Launch.args m h.1 c, h.2⟩)
    (Cert.Kernel.Launch.run_main (F := Bits) m ρ)

theorem frame_ideal : Cert.quiescent_KernelIdeal := fun m ρ _ =>
  (θ_run Cert.KernelIdeal.defs _ _).mono (fun _ h => ⟨fun c => Cert.KernelIdeal.Launch.args m h.1 c, h.2⟩)
    (Cert.KernelIdeal.Launch.run_main (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The table gives the two printed constants their values. -/
theorem preserves : Cert.preserves_Kernel_KernelIdeal :=
  ⟨IdealRules.named_const.statement Cert.KernelIdeal.κ "inv_48" .f32 0x3CAAAAAB#32 ((48⁻¹ : ℝ) : EReal) rfl,
    IdealRules.named_const.statement Cert.KernelIdeal.κ "inv_96" .f32 0x3C2AAAAB#32 ((96⁻¹ : ℝ) : EReal) rfl⟩

end Cert.Proof

end
-- ==== Proof.Val.Consts.lean ====
/-
  The float constants the programs spell, as the reals they denote.
-/
module

public import Idealize.ShloMosaic.PureOps.Ideal
public import Idealize.ShloMosaic.Lib.IdealHost

@[expose] public section

noncomputable section

namespace Cert.Val

open Idealize.ShloMosaic

/-- The number under the root, and how many entries the two merges normalise over. -/
abbrev eps : EReal := Ideal.ofBits .f32 925353388#32
abbrev n48 : EReal := Ideal.ofBits .f32 1111490560#32
abbrev n96 : EReal := Ideal.ofBits .f32 1119879168#32

theorem n48_eq : n48 = ((48 : ℝ) : EReal) := by
  simp [n48, Ideal.ofBits, Ideal.ieee, -EReal.coe_mul]; norm_num

theorem n96_eq : n96 = ((96 : ℝ) : EReal) := by
  simp [n96, Ideal.ofBits, Ideal.ieee, -EReal.coe_mul]; norm_num

theorem eps_eq : ∃ e : ℝ, 0 < e ∧ eps = (e : EReal) := by
  refine ⟨10995116 * (2 ^ 40 : ℝ)⁻¹, by positivity, ?_⟩
  simp [eps, Ideal.ofBits, Ideal.ieee, -EReal.coe_mul]

theorem inf_eq : Ideal.ofBits .f32 2139095040#32 = ⊤ := by
  simp [Ideal.ofBits, Ideal.ieee]

theorem zero_word : (FloatOps.sitofp (F := Ideal) .f32 (0#32 : BitVec 32) : EReal) = 0 := by
  show (((0#32 : BitVec 32).toInt : ℝ) : EReal) = 0
  simp
theorem n48_sub : n48 - (FloatOps.sitofp (F := Ideal) .f32 (0#32 : BitVec 32) : EReal) = n48 := by rw [zero_word, sub_zero]
theorem n96_sub : n96 - (FloatOps.sitofp (F := Ideal) .f32 (0#32 : BitVec 32) : EReal) = n96 := by rw [zero_word, sub_zero]
theorem n48_pos : 0 < n48 := by rw [n48_eq]; exact_mod_cast (by norm_num : (0 : ℝ) < 48)
theorem n96_pos : 0 < n96 := by rw [n96_eq]; exact_mod_cast (by norm_num : (0 : ℝ) < 96)

end Cert.Val

end
-- ==== Proof.Val.Basic.lean ====
/-
  Reading arrays by plain numbers, and what a run of writes over one rectangle adds up to.
-/
module

public import proofs.«01_k».proof.Proof.Pieces
public import Idealize.ShloMosaic.Lib.Pointwise
public import Idealize.ShloMosaic.Lib.Exec

@[expose] public section

noncomputable section

namespace Cert.Val

open Idealize.ShloMosaic Idealize.ShloMosaic.TcCoe Idealize.ShloMosaic.Tactic Idealize.SL.Sem

/-- An array's entry at three numbers, 0 outside. -/
def at3 {a b c : ℕ} (X : (⟨3, ![a, b, c]⟩ : Shape).Idx → EReal) (i j k : ℕ) : EReal :=
  if h : i < a ∧ j < b ∧ k < c then X (ix3 ⟨i, h.1⟩ ⟨j, h.2.1⟩ ⟨k, h.2.2⟩) else 0

/-- An array's entry at two numbers, 0 outside. -/
def at2 {a b : ℕ} (X : (⟨2, ![a, b]⟩ : Shape).Idx → EReal) (i j : ℕ) : EReal :=
  if h : i < a ∧ j < b then X (ix2 ⟨i, h.1⟩ ⟨j, h.2⟩) else 0

/-- An array's entry at four numbers, 0 outside. -/
def at4 {a b c d : ℕ} (X : (⟨4, ![a, b, c, d]⟩ : Shape).Idx → EReal) (i j k l : ℕ) : EReal :=
  if h : i < a ∧ j < b ∧ k < c ∧ l < d then X (ix4 ⟨i, h.1⟩ ⟨j, h.2.1⟩ ⟨k, h.2.2.1⟩ ⟨l, h.2.2.2⟩) else 0

/-- An array's entry at a number, 0 outside. -/
def at1 {a : ℕ} (X : (⟨1, ![a]⟩ : Shape).Idx → EReal) (i : ℕ) : EReal :=
  if h : i < a then X (ix1 ⟨i, h⟩) else 0

theorem at4_mk {a b c d : ℕ} (X : (⟨4, ![a, b, c, d]⟩ : Shape).Idx → EReal) (i : Fin a) (j : Fin b) (k : Fin c) (l : Fin d) :
    at4 X i j k l = X (ix4 i j k l) := dif_pos ⟨i.2, j.2, k.2, l.2⟩

theorem at1_mk {a : ℕ} (X : (⟨1, ![a]⟩ : Shape).Idx → EReal) (i : Fin a) : at1 X i = X (ix1 i) := dif_pos i.2

theorem at3_mk {a b c : ℕ} (X : (⟨3, ![a, b, c]⟩ : Shape).Idx → EReal) (i : Fin a) (j : Fin b) (k : Fin c) :
    at3 X i j k = X (ix3 i j k) := dif_pos ⟨i.2, j.2, k.2⟩

theorem at2_mk {a b : ℕ} (X : (⟨2, ![a, b]⟩ : Shape).Idx → EReal) (i : Fin a) (j : Fin b) :
    at2 X i j = X (ix2 i j) := dif_pos ⟨i.2, j.2⟩

theorem at3_idx {a b c : ℕ} (X : (⟨3, ![a, b, c]⟩ : Shape).Idx → EReal) (x : (⟨3, ![a, b, c]⟩ : Shape).Idx) :
    X x = at3 X (x 0).val (x 1).val (x 2).val := by
  conv_lhs => rw [eq_ix3 x]
  exact (at3_mk X (x 0) (x 1) (x 2)).symm

theorem at2_idx {a b : ℕ} (X : (⟨2, ![a, b]⟩ : Shape).Idx → EReal) (x : (⟨2, ![a, b]⟩ : Shape).Idx) :
    X x = at2 X (x 0).val (x 1).val := by
  conv_lhs => rw [eq_ix2 x]
  exact (at2_mk X (x 0) (x 1)).symm

variable {sig : RefSig} {κ : Kind} {sp : Space}

/-- An offset already written in numbers is its own closed form. -/
instance (priority := 10) closedSelf {n : ℕ} (off : Fin n → ℕ) : ClosedOff off := ⟨off, rfl⟩

/-- A load of a box reads the array at the box's offsets and its own index. -/
theorem load3 {a b c d e g : ℕ} (v : View sig κ sp ⟨3, ![a, b, c]⟩ .f32) (off : Fin 3 → ℕ) [o : ClosedOff off]
    (inb : ∀ q, off q + (![d, e, g] : Fin 3 → ℕ) q ≤ (⟨3, ![a, b, c]⟩ : Shape).size q) (f : v.ty.Contents (Elt Ideal))
    (i : Fin d) (j : Fin e) (k : Fin g) :
    v.readAt (Elt Ideal) (Rect.unit (s := ⟨3, ![a, b, c]⟩) off ![d, e, g] inb).toLoadRect f (ix3 i j k : (⟨3, ![d, e, g]⟩ : Shape).Idx)
      = at3 (v.read (Elt Ideal) f) (o.form 0 + i) (o.form 1 + j) (o.form 2 + k) := by
  obtain ⟨form, rfl⟩ := o
  refine (at3_idx (v.read (Elt Ideal) f) ((Rect.unit (s := ⟨3, ![a, b, c]⟩) off ![d, e, g] inb).toLoadRect.idx
    (ix3 i j k : (⟨3, ![d, e, g]⟩ : Shape).Idx))).trans ?_
  show at3 _ (off 0 + 1 * i.val) (off 1 + 1 * j.val) (off 2 + 1 * k.val) = _
  simp only [one_mul]

theorem load2 {a b d e : ℕ} (v : View sig κ sp ⟨2, ![a, b]⟩ .f32) (off : Fin 2 → ℕ) [o : ClosedOff off]
    (inb : ∀ q, off q + (![d, e] : Fin 2 → ℕ) q ≤ (⟨2, ![a, b]⟩ : Shape).size q) (f : v.ty.Contents (Elt Ideal))
    (i : Fin d) (j : Fin e) :
    v.readAt (Elt Ideal) (Rect.unit (s := ⟨2, ![a, b]⟩) off ![d, e] inb).toLoadRect f (ix2 i j : (⟨2, ![d, e]⟩ : Shape).Idx)
      = at2 (v.read (Elt Ideal) f) (o.form 0 + i) (o.form 1 + j) := by
  obtain ⟨form, rfl⟩ := o
  refine (at2_idx (v.read (Elt Ideal) f) ((Rect.unit (s := ⟨2, ![a, b]⟩) off ![d, e] inb).toLoadRect.idx
    (ix2 i j : (⟨2, ![d, e]⟩ : Shape).Idx))).trans ?_
  show at2 _ (off 0 + 1 * i.val) (off 1 + 1 * j.val) = _
  simp only [one_mul]

/-- Trips that each add to what they find at a place leave there the sum of what they add. -/
theorem read_sum {s : Shape} {v : View sig κ sp s .f32} (G : v.ty.Contents (Elt Ideal)) (R : Rect s)
    (pb : ℕ → List (View.Piece (Elt Ideal) s .f32)) (x : R.shape.Idx) (T : ℕ → EReal) (N : ℕ)
    (h0 : pb 0 = [])
    (hs : ∀ k < N, ∃ w, pb (k + 1) = ⟨R, w⟩ :: pb k ∧
      w x = v.read (Elt Ideal) (v.writes (Elt Ideal) G (pb k)) (R.emb x) + T k) :
    ∀ n ≤ N, v.read (Elt Ideal) (v.writes (Elt Ideal) G (pb n)) (R.emb x)
      = v.read (Elt Ideal) G (R.emb x) + ∑ j ∈ Finset.range n, T j := by
  intro n
  induction n with
  | zero => intro _; rw [h0]; simp [View.writes]
  | succ n ih =>
    intro hn
    obtain ⟨w, hp, hw⟩ := hs n hn
    rw [hp, View.read_writes_cons_emb, hw, ih (by omega), Finset.sum_range_succ, add_assoc]

/-- What four input channels add to an entry of a 3x3 convolution: channel block `ib`, output channel `o`, row `y`,
    lane `l`, lanes `d` apart. -/
def conv4 {a b c a' b' c' : ℕ} (W : (⟨3, ![a, b, c]⟩ : Shape).Idx → EReal) (X : (⟨3, ![a', b', c']⟩ : Shape).Idx → EReal)
    (d o y l ib : ℕ) : EReal :=
  ∑ k : Fin 4, ∑ p : Fin 3, ∑ q : Fin 3,
    at3 W (36 * ib + 9 * k + 3 * p + q) o l * at3 X (4 * ib + k) (7 + p + y) (q * d + l)

theorem conv4_row {a b c a' b' c' : ℕ} (W : (⟨3, ![a, b, c]⟩ : Shape).Idx → EReal) (X : (⟨3, ![a', b', c']⟩ : Shape).Idx → EReal)
    (d o y r l ib : ℕ) : conv4 W X d o (y + r) l ib = ∑ k : Fin 4, ∑ p : Fin 3, ∑ q : Fin 3,
      at3 W (36 * ib + 9 * k + 3 * p + q) o l * at3 X (4 * ib + k) (y + (7 + p + r)) (q * d + l) := by
  unfold conv4
  simp only [Nat.add_left_comm y]

/-- The value itself, 0 if it is infinite. -/
def finMask (v : EReal) : EReal :=
  if FloatOps.absf (F := Ideal) (φ := .f32) v = Ideal.ofBits .f32 2139095040#32 then 0 else v

/-- What four input channels add to an entry of a 1x1 convolution. -/
def lin4 {a b c a' b' c' : ℕ} (W : (⟨3, ![a, b, c]⟩ : Shape).Idx → EReal) (X : (⟨3, ![a', b', c']⟩ : Shape).Idx → EReal)
    (o y l ib : ℕ) : EReal :=
  ∑ k : Fin 4, at3 W (4 * ib + k) o l * at3 X (4 * ib + k) y l

theorem select_one {α : Type} (a b : α) : Scalar.select (1#1) a b = a := rfl
theorem select_zero {α : Type} (a b : α) : Scalar.select (0#1) a b = b := rfl

/-! ## Patch merging, entry by entry

The two columns of a patch lie in lanes `d` apart and its two rows below each other; the statistics are written to
every lane of the patch. -/

/-- The lane of the patch's other column. -/
def partner (d l : ℕ) : ℕ := if l / d % 2 = 0 then d + l else l - d

def pairSum (d : ℕ) (g : ℕ → EReal) (l : ℕ) : EReal := g l + g (partner d l)

/-- The sum over the channels of the patch's two rows. -/
def rowSum (C : ℕ) (f : ℕ → ℕ → ℕ → EReal) (i l : ℕ) : EReal :=
  ∑ x : Fin C, f x (i * 2) l + ∑ x : Fin C, f x (i * 2 + 1) l

def mean (C d : ℕ) (inv : EReal) (f : ℕ → ℕ → ℕ → EReal) (i l : ℕ) : EReal := pairSum d (rowSum C f i) l * inv

def var (C d : ℕ) (inv : EReal) (f : ℕ → ℕ → ℕ → EReal) (i l : ℕ) : EReal :=
  pairSum d (rowSum C (fun x r l => f x r l * f x r l) i) l * inv - mean C d inv f i l * mean C d inv f i l

/-- One channel of the patch, normalised, scaled and shifted. -/
def normed (C d : ℕ) (inv eps : EReal) (f : ℕ → ℕ → ℕ → EReal) (gm bt : ℕ → ℕ → EReal) (o i l : ℕ) : EReal :=
  ((if o < C then f o (i * 2) l else f (o - C) (i * 2 + 1) l) - mean C d inv f i l)
    * Ideal.rsqrt (var C d inv f i l + eps) * gm o l + bt o l

/-- One column's part of the linear map. -/
def mixed (C d : ℕ) (inv eps : EReal) (f : ℕ → ℕ → ℕ → EReal) (gm bt : ℕ → ℕ → EReal) (ln : ℕ → ℕ → ℕ → EReal) (n o i l : ℕ) : EReal :=
  ∑ j ∈ Finset.range n, ∑ k : Fin 4, ln (4 * j + k) o l * normed C d inv eps f gm bt (4 * j + k) i l

end Cert.Val

end
-- ==== Proof.Val.Spec.lean ====
/-
  The layers entry by entry, over arrays read by plain numbers, and the regroupings of sums between the two forms of each.
-/
module

public import proofs.«01_k».proof.Proof.Val.Basic

@[expose] public section

noncomputable section

namespace Cert.Val

open Idealize.ShloMosaic Idealize.ShloMosaic.TcCoe Idealize.ShloMosaic.Tactic Idealize.SL.Sem

/-! ## The layers -/

/-- One tap of a 3x3 convolution. -/
def tap (C : ℕ) (w : ℕ → ℕ → ℕ → ℕ → EReal) (X : ℕ → ℕ → ℕ → EReal) (o i j p q : ℕ) : EReal :=
  ∑ x : Fin C, w o x p q * X x (p + i) (q + j)

/-- A 3x3 convolution of a padded array. -/
def conv (C : ℕ) (w : ℕ → ℕ → ℕ → ℕ → EReal) (b : ℕ → EReal) (X : ℕ → ℕ → ℕ → EReal) (o i j : ℕ) : EReal :=
  tap C w X o i j 0 0 + tap C w X o i j 0 1 + tap C w X o i j 0 2 + tap C w X o i j 1 0 + tap C w X o i j 1 1
    + tap C w X o i j 1 2 + tap C w X o i j 2 0 + tap C w X o i j 2 1 + tap C w X o i j 2 2 + b o

/-- One row and one column of zeros around. -/
def padded (H W : ℕ) (X : ℕ → ℕ → ℕ → EReal) (c i j : ℕ) : EReal :=
  if (1 ≤ i ∧ i - 1 < H) ∧ 1 ≤ j ∧ j - 1 < W then X c (i - 1) (j - 1) else 0

/-- The channels of a patch. -/
def patch (C : ℕ) (X : ℕ → ℕ → ℕ → EReal) (i j g : ℕ) : EReal :=
  if g < C then X g (2 * i) (2 * j)
  else if g - C < C then X (g - C) (1 + 2 * i) (2 * j)
  else if g - C - C < C then X (g - C - C) (2 * i) (1 + 2 * j)
  else X (g - C - C - C) (1 + 2 * i) (1 + 2 * j)

/-- A patch's channels less their mean. -/
def centred (n : ℕ) (N : EReal) (f : ℕ → EReal) (g : ℕ) : EReal := f g - Ideal.div (∑ x : Fin n, f x) N

/-- A patch's channels, normalised, scaled, shifted and mapped. -/
def merge (n : ℕ) (N eps : EReal) (gm bt : ℕ → EReal) (ln : ℕ → ℕ → EReal) (f : ℕ → EReal) (o : ℕ) : EReal :=
  ∑ x : Fin n, (Ideal.div (centred n N f x) (Ideal.sqrt (Ideal.div (∑ y : Fin n, centred n N f y * centred n N f y) N + eps))
    * gm x + bt x) * ln x o

/-- A 1x1 convolution whose channels become the entries of 2x2 blocks. -/
def up (C : ℕ) (w : ℕ → ℕ → EReal) (b : ℕ → EReal) (X : ℕ → ℕ → ℕ → EReal) (o i j : ℕ) : EReal :=
  ∑ x : Fin C, w (o * 4 + i % 2 * 2 + j % 2) x * X x (i / 2) (j / 2) + b (o * 4 + i % 2 * 2 + j % 2)

/-! ## Sums in blocks of four -/

theorem sum_four (n : ℕ) (f : ℕ → EReal) : ∑ j ∈ Finset.range n, ∑ k : Fin 4, f (4 * j + k) = ∑ x : Fin (4 * n), f x := by
  rw [Fin.sum_univ_eq_sum_range]
  induction n with
  | zero => simp
  | succ n ih =>
    rw [Finset.sum_range_succ, ih, show 4 * (n + 1) = 4 * n + 1 + 1 + 1 + 1 by ring]
    simp only [Finset.sum_range_succ, Fin.sum_univ_four]
    simp [add_assoc]

theorem sum_halves (n : ℕ) (f : ℕ → EReal) : ∑ x : Fin (2 * n), f x = ∑ x : Fin n, f x + ∑ x : Fin n, f (n + x) := by
  rw [Fin.sum_univ_eq_sum_range, Fin.sum_univ_eq_sum_range, Fin.sum_univ_eq_sum_range (fun x => f (n + x)), two_mul, Finset.sum_range_add]

/-- The convolution of an array whose columns are repeated `d` times, in the kernel's order. -/
theorem conv_match {n a b c e : ℕ} (C d H : ℕ) (hC : C = 4 * n) (hd : 0 < d) (W : (⟨3, ![a, b, 384]⟩ : Shape).Idx → EReal)
    (X : (⟨3, ![C, c, e]⟩ : Shape).Idx → EReal) (w : ℕ → ℕ → ℕ → ℕ → EReal) (bias : ℕ → EReal) (B : ℕ → ℕ → EReal)
    (R : ℕ → ℕ → ℕ → EReal) (o y l : ℕ) (hy : y < H) (hl : l < 384)
    (hX : ∀ x < C, ∀ i < H + 2, ∀ l < 384 + 2 * d, at3 X x (7 + i) l = R x i (l / d))
    (hW : ∀ x < C, ∀ p < 3, ∀ q < 3, at3 W (9 * x + 3 * p + q) o l = w o x p q) (hB : B o l = bias o) :
    B o l + ∑ j ∈ Finset.range n, conv4 W X d o y l j = conv C w bias R o y (l / d) := by
  have key : ∀ x < C, ∀ p < 3, ∀ q < 3, at3 W (9 * x + 3 * p + q) o l * at3 X x (7 + p + y) (q * d + l)
      = w o x p q * R x (p + y) (q + l / d) := by
    intro x hx p hp q hq
    rw [hW x hx p hp q hq, show 7 + p + y = 7 + (p + y) by omega,
      hX x hx (p + y) (by omega) (q * d + l) (by have : q * d ≤ 2 * d := Nat.mul_le_mul_right d (by omega); omega),
      show (q * d + l) / d = q + l / d by rw [Nat.add_comm, Nat.add_mul_div_right _ _ hd, Nat.add_comm]]
  have h1 : ∑ j ∈ Finset.range n, conv4 W X d o y l j
      = ∑ j ∈ Finset.range n, ∑ k : Fin 4, (fun x => ∑ p : Fin 3, ∑ q : Fin 3, w o x p q * R x (p + y) (q + l / d)) (4 * j + k) := by
    unfold conv4
    refine Finset.sum_congr rfl fun j hj => Finset.sum_congr rfl fun k _ => Finset.sum_congr rfl fun p _ => Finset.sum_congr rfl fun q _ => ?_
    have hj := Finset.mem_range.mp hj
    have := key (4 * j + k) (by omega) p p.isLt q q.isLt
    rw [← this, show 36 * j + 9 * k.val + 3 * p.val + q.val = 9 * (4 * j + k.val) + 3 * p.val + q.val by ring]
  rw [h1, sum_four n (fun x => ∑ p : Fin 3, ∑ q : Fin 3, w o x p q * R x (p + y) (q + l / d)), hB, ← hC]
  simp only [Fin.sum_univ_three, Finset.sum_add_distrib, conv, tap]
  simp only [Fin.val_zero, Fin.val_one, Fin.val_two]
  abel

/-! ## Normalisation of finite entries -/

/-- Neither infinity. -/
def Finite (x : EReal) : Prop := ∃ r : ℝ, x = r

theorem coe_sum {n : ℕ} (a : Fin n → ℝ) : ∑ x, (a x : EReal) = ((∑ x, a x : ℝ) : EReal) := by
  induction n with
  | zero => simp
  | succ n ih => rw [Fin.sum_univ_succ, Fin.sum_univ_succ, ih, EReal.coe_add]

theorem Finite.add {x y : EReal} (hx : Finite x) (hy : Finite y) : Finite (x + y) := by
  obtain ⟨a, rfl⟩ := hx; obtain ⟨b, rfl⟩ := hy; exact ⟨a + b, (EReal.coe_add a b).symm⟩
theorem Finite.mul {x y : EReal} (hx : Finite x) (hy : Finite y) : Finite (x * y) := by
  obtain ⟨a, rfl⟩ := hx; obtain ⟨b, rfl⟩ := hy; exact ⟨a * b, (EReal.coe_mul a b).symm⟩
theorem Finite.sum {n : ℕ} {f : Fin n → EReal} (h : ∀ x, Finite (f x)) : Finite (∑ x, f x) := by
  choose a ha using h
  exact ⟨∑ x, a x, by rw [← coe_sum]; exact Finset.sum_congr rfl fun x _ => ha x⟩

section Real

variable (n : ℕ) (hn : 0 < n) (a : ℕ → ℝ)

include hn in
/-- The mean of squares less the square of the mean is the mean square distance from the mean. -/
theorem var_eq : (∑ x : Fin n, a x * a x) * (n : ℝ)⁻¹ - (∑ x : Fin n, a x) * (n : ℝ)⁻¹ * ((∑ x : Fin n, a x) * (n : ℝ)⁻¹)
    = (∑ x : Fin n, (a x - (∑ x : Fin n, a x) * (n : ℝ)⁻¹) * (a x - (∑ x : Fin n, a x) * (n : ℝ)⁻¹)) * (n : ℝ)⁻¹ := by
  have hn' : (n : ℝ) ≠ 0 := by exact_mod_cast hn.ne'
  generalize hs : ∑ x : Fin n, a x = s
  have : ∀ x : Fin n, (a x - s * (n : ℝ)⁻¹) * (a x - s * (n : ℝ)⁻¹) = a x * a x - 2 * (s * (n : ℝ)⁻¹) * a x + s * (n : ℝ)⁻¹ * (s * (n : ℝ)⁻¹) := fun x => by ring
  simp only [this, Finset.sum_add_distrib, Finset.sum_sub_distrib, ← Finset.mul_sum, hs]
  simp only [Finset.sum_const, Finset.card_univ, Fintype.card_fin, nsmul_eq_mul]
  field_simp
  ring

variable {N inv eps : EReal} {e : ℝ} (hN : N = ((n : ℝ) : EReal)) (hinv : inv = (((n : ℝ)⁻¹ : ℝ) : EReal)) (heps : eps = (e : EReal)) (he : 0 < e)
  (F : ℕ → EReal) (hF : ∀ x < n, F x = a x)

include hF in
theorem sum_coe : ∑ x : Fin n, F x = ((∑ x : Fin n, a x : ℝ) : EReal) := by
  rw [← coe_sum]; exact Finset.sum_congr rfl fun x _ => hF x x.isLt

include hF in
theorem sumSq_coe : ∑ x : Fin n, F x * F x = ((∑ x : Fin n, a x * a x : ℝ) : EReal) := by
  rw [← coe_sum]; exact Finset.sum_congr rfl fun x _ => by rw [hF x x.isLt, EReal.coe_mul]

include hn hN hF in
theorem centred_coe (g : ℕ) (hg : g < n) : centred n N F g = ((a g - (∑ x : Fin n, a x) * (n : ℝ)⁻¹ : ℝ) : EReal) := by
  have hn' : (n : ℝ) ≠ 0 := by exact_mod_cast hn.ne'
  unfold centred
  rw [sum_coe n a F hF, hF g hg, hN, Ideal.div_coe hn', one_div, ← EReal.coe_mul, ← EReal.coe_sub]

include hn hN hF in
theorem meanSq_coe : Ideal.div (∑ y : Fin n, centred n N F y * centred n N F y) N
    = (((∑ x : Fin n, (a x - (∑ x : Fin n, a x) * (n : ℝ)⁻¹) * (a x - (∑ x : Fin n, a x) * (n : ℝ)⁻¹)) * (n : ℝ)⁻¹ : ℝ) : EReal) := by
  have hn' : (n : ℝ) ≠ 0 := by exact_mod_cast hn.ne'
  have h : ∑ y : Fin n, centred n N F y * centred n N F y
      = ((∑ x : Fin n, (a x - (∑ x : Fin n, a x) * (n : ℝ)⁻¹) * (a x - (∑ x : Fin n, a x) * (n : ℝ)⁻¹) : ℝ) : EReal) := by
    rw [← coe_sum]; exact Finset.sum_congr rfl fun x _ => by rw [centred_coe n hn a hN F hF x x.isLt, EReal.coe_mul]
  rw [h, hN, Ideal.div_coe hn', one_div, ← EReal.coe_mul]

include hn he in
theorem root_pos : 0 < (∑ x : Fin n, (a x - (∑ x : Fin n, a x) * (n : ℝ)⁻¹) * (a x - (∑ x : Fin n, a x) * (n : ℝ)⁻¹)) * (n : ℝ)⁻¹ + e := by
  have h1 : 0 ≤ ∑ x : Fin n, (a x - (∑ x : Fin n, a x) * (n : ℝ)⁻¹) * (a x - (∑ x : Fin n, a x) * (n : ℝ)⁻¹) :=
    Finset.sum_nonneg fun x _ => mul_self_nonneg _
  have h2 : 0 ≤ (n : ℝ)⁻¹ := by positivity
  have := mul_nonneg h1 h2
  linarith

include hn hN heps he hF in
/-- The quotient by the root, as a real. -/
theorem quotient_coe (g : ℕ) (hg : g < n) : Ideal.div (centred n N F g) (Ideal.sqrt (Ideal.div (∑ y : Fin n, centred n N F y * centred n N F y) N + eps))
    = (((a g - (∑ x : Fin n, a x) * (n : ℝ)⁻¹) * (Real.sqrt ((∑ x : Fin n, (a x - (∑ x : Fin n, a x) * (n : ℝ)⁻¹) * (a x - (∑ x : Fin n, a x) * (n : ℝ)⁻¹)) * (n : ℝ)⁻¹ + e))⁻¹ : ℝ) : EReal) := by
  have hp := root_pos n hn a he
  rw [meanSq_coe n hn a hN F hF, centred_coe n hn a hN F hF g hg, heps, ← EReal.coe_add, Ideal.sqrt_coe, if_neg hp.not_gt,
    Ideal.div_coe (Real.sqrt_pos.mpr hp).ne', one_div, ← EReal.coe_mul]

include hn hN hinv heps he hF in
/-- The two forms of the normalisation. -/
theorem normalise (g : ℕ) (hg : g < n) :
    (F g - (∑ x : Fin n, F x) * inv) * Ideal.rsqrt ((∑ x : Fin n, F x * F x) * inv - (∑ x : Fin n, F x) * inv * ((∑ x : Fin n, F x) * inv) + eps)
      = Ideal.div (centred n N F g) (Ideal.sqrt (Ideal.div (∑ y : Fin n, centred n N F y * centred n N F y) N + eps)) := by
  have hp := root_pos n hn a he
  rw [quotient_coe n hn a hN heps he F hF g hg]
  rw [sum_coe n a F hF, sumSq_coe n a F hF, hF g hg, hinv, heps]
  simp only [← EReal.coe_mul, ← EReal.coe_sub, ← EReal.coe_add]
  rw [var_eq n hn a, Ideal.rsqrt_coe, if_neg hp.not_gt, if_neg hp.ne', ← EReal.coe_mul]

end Real

/-- A merged patch of finite entries by finite weights is finite. -/
theorem merge_finite (n : ℕ) (hn : 0 < n) {N eps : EReal} {e : ℝ} (hN : N = ((n : ℝ) : EReal)) (heps : eps = (e : EReal)) (he : 0 < e)
    (gm bt : ℕ → EReal) (ln : ℕ → ℕ → EReal) (F : ℕ → EReal) (o : ℕ) (hF : ∀ x < n, Finite (F x))
    (hg : ∀ x < n, Finite (gm x)) (hb : ∀ x < n, Finite (bt x)) (hl : ∀ x < n, Finite (ln x o)) :
    Finite (merge n N eps gm bt ln F o) := by
  have h : ∀ x, ∃ r : ℝ, x < n → F x = r := fun x => by
    by_cases hx : x < n
    · obtain ⟨r, hr⟩ := hF x hx; exact ⟨r, fun _ => hr⟩
    · exact ⟨0, fun h => absurd h hx⟩
  choose a ha using h
  exact Finite.sum fun x => ((Finite.mul ⟨_, quotient_coe n hn a hN heps he F ha x x.isLt⟩ (hg x x.isLt)).add (hb x x.isLt)).mul (hl x x.isLt)

/-! ## Patch merging, in the kernel's order -/

section Merge

variable (C n d H : ℕ) (hC : 0 < C) (hn : 2 * C = 4 * n) (hd : 0 < d) (h384 : 2 * d ∣ 384)
  (f R : ℕ → ℕ → ℕ → EReal) (i l : ℕ) (hi : i < H) (hl : l < 384)
  (hf : ∀ x < C, ∀ r < 2 * H, ∀ l < 384, f x r l = R x r (l / d))

include hi hl hf in
/-- A patch's entry as the kernel picks it. -/
theorem pick (g : ℕ) (hg : g < 2 * C) : (if g < C then f g (i * 2) l else f (g - C) (i * 2 + 1) l)
    = patch C R i (l / d / 2) (if l / d % 2 = 0 then g else 2 * C + g) := by
  unfold patch
  by_cases hs : l / d % 2 = 0
  · have hj : 2 * (l / d / 2) = l / d := by omega
    rw [if_pos hs, hj]
    by_cases hgc : g < C
    · rw [if_pos hgc, if_pos hgc, hf g hgc _ (by omega) l hl, Nat.mul_comm i 2]
    · rw [if_neg hgc, if_neg hgc, if_pos (by omega), hf _ (by omega) _ (by omega) l hl, Nat.mul_comm i 2, Nat.add_comm (2 * i) 1]
  · have hj : 1 + 2 * (l / d / 2) = l / d := by omega
    rw [if_neg hs, if_neg (by omega : ¬ 2 * C + g < C), if_neg (by omega : ¬ 2 * C + g - C < C), hj,
      show 2 * C + g - C - C = g by omega]
    by_cases hgc : g < C
    · rw [if_pos hgc, if_pos hgc, hf g hgc _ (by omega) l hl, Nat.mul_comm i 2]
    · rw [if_neg hgc, if_neg hgc, hf _ (by omega) _ (by omega) l hl, Nat.mul_comm i 2, Nat.add_comm (2 * i) 1]

include hi hl hf in
theorem rowSum_eq (q : EReal → EReal) : rowSum C (fun x r l => q (f x r l)) i l
    = ∑ x : Fin (2 * C), q (patch C R i (l / d / 2) (if l / d % 2 = 0 then x.val else 2 * C + x)) := by
  rw [sum_halves C (fun x => q (patch C R i (l / d / 2) (if l / d % 2 = 0 then x else 2 * C + x)))]
  unfold rowSum
  congr 1
  · refine Finset.sum_congr rfl fun x _ => ?_
    have := pick C d H f R i l hi hl hf x (by omega)
    rw [if_pos x.isLt] at this
    exact congrArg q this
  · refine Finset.sum_congr rfl fun x _ => ?_
    have := pick C d H f R i l hi hl hf (C + x) (by omega)
    rw [if_neg (by omega), Nat.add_sub_cancel_left] at this
    exact congrArg q this

include hd h384 hl in
theorem partner_lt : partner d l < 384 := by
  obtain ⟨k, hk⟩ := h384
  unfold partner
  split
  · next h =>
    have h1 : l / d < 2 * k := by rw [Nat.div_lt_iff_lt_mul hd]; nlinarith
    have h2 : l / d + 2 ≤ 2 * k := by omega
    have h3 := Nat.div_add_mod l d
    have h4 := Nat.mod_lt l hd
    nlinarith
  · omega

include hd in
theorem partner_div : partner d l / d = if l / d % 2 = 0 then l / d + 1 else l / d - 1 := by
  unfold partner
  split
  · rw [Nat.add_div_left _ hd]
  · next h =>
    have h1 : d ≤ l := by
      by_contra hc
      rw [Nat.div_eq_of_lt (by omega)] at h
      exact h rfl
    have h2 : l / d = (l - d) / d + 1 := by rw [← Nat.add_div_right _ hd, Nat.sub_add_cancel h1]
    rw [h2, Nat.add_sub_cancel]

include hd in
theorem partner_half : partner d l / d / 2 = l / d / 2 := by
  rw [partner_div d hd l]; generalize l / d = k; split <;> omega

include hd in
theorem partner_side : partner d l / d % 2 = 0 ↔ ¬ l / d % 2 = 0 := by
  rw [partner_div d hd l]; generalize l / d = k; split <;> omega

include hd in
/-- The two columns' sums together. -/
theorem pair_sum (h : ℕ → EReal) (g : ℕ → EReal)
    (hg : ∀ l', (l' = l ∨ l' = partner d l) → g l' = ∑ x : Fin (2 * C), h (if l' / d % 2 = 0 then x.val else 2 * C + x)) :
    pairSum d g l = ∑ x : Fin (4 * C), h x := by
  rw [show 4 * C = 2 * (2 * C) by ring, sum_halves (2 * C) h]
  unfold pairSum
  rw [hg l (Or.inl rfl), hg _ (Or.inr rfl)]
  by_cases hs : l / d % 2 = 0
  · have := mt (partner_side d hd l).mp (not_not.mpr hs)
    simp only [if_pos hs, if_neg this]
  · have := (partner_side d hd l).mpr hs
    simp only [if_neg hs, if_pos this]
    exact add_comm _ _

include hi hl hf hd h384 in
theorem pair_eq (q : EReal → EReal) : pairSum d (rowSum C (fun x r l => q (f x r l)) i) l
    = ∑ x : Fin (4 * C), q (patch C R i (l / d / 2) x) := by
  refine pair_sum C d hd l (fun x => q (patch C R i (l / d / 2) x)) _ fun l' h => ?_
  rcases h with rfl | rfl
  · exact rowSum_eq C d H f R i _ hi hl hf q
  · rw [rowSum_eq C d H f R i _ hi (partner_lt d hd h384 l hl) hf q, partner_half d hd l]

variable {N inv eps : EReal} {e : ℝ} (hN : N = (((4 * C : ℕ) : ℝ) : EReal)) (hinv : inv = (((((4 * C : ℕ) : ℝ))⁻¹ : ℝ) : EReal))
  (heps : eps = (e : EReal)) (he : 0 < e)
  (hR : ∀ x < C, ∀ r < 2 * H, ∀ j < 384 / d, Finite (R x r j))
  (gm bt : ℕ → ℕ → EReal) (ln : ℕ → ℕ → ℕ → EReal) (g' b' : ℕ → EReal) (l' : ℕ → ℕ → EReal) (o : ℕ)
  (hg : ∀ g < 2 * C, ∀ l < 384, gm g l = g' (if l / d % 2 = 0 then g else 2 * C + g))
  (hb : ∀ g < 2 * C, ∀ l < 384, bt g l = b' (if l / d % 2 = 0 then g else 2 * C + g))
  (hln : ∀ g < 2 * C, ∀ l < 384, ln g o l = l' (if l / d % 2 = 0 then g else 2 * C + g) o)

include hi hl hR hd h384 in
theorem patch_finite (x : ℕ) (hx : x < 4 * C) : Finite (patch C R i (l / d / 2) x) := by
  have hp := partner_lt d hd h384 l hl
  have h1 := Nat.div_lt_iff_lt_mul hd |>.mp (Nat.lt_succ_self (l / d))
  have hl' : ∀ k, k / 2 = l / d / 2 → k < 384 / d := by
    intro k hk
    obtain ⟨t, ht⟩ := h384
    have h2 : 384 / d = 2 * t := by rw [ht, show 2 * d * t = d * (2 * t) by ring, Nat.mul_div_cancel_left _ hd]
    have h3 : l / d < 384 / d := by
      rw [h2, Nat.div_lt_iff_lt_mul hd]; nlinarith
    omega
  unfold patch
  split
  · exact hR _ (by omega) _ (by omega) _ (hl' _ (by omega))
  split
  · exact hR _ (by omega) _ (by omega) _ (hl' _ (by omega))
  split
  · exact hR _ (by omega) _ (by omega) _ (hl' _ (by omega))
  · exact hR _ (by omega) _ (by omega) _ (hl' _ (by omega))

include hi hl hf hd h384 hC hN hinv heps he hR hg hb in
theorem normed_eq (g : ℕ) (hgc : g < 2 * C) (k : ℕ) (hk : k = if l / d % 2 = 0 then g else 2 * C + g) :
    normed C d inv eps f gm bt g i l
      = Ideal.div (centred (4 * C) N (patch C R i (l / d / 2)) k)
          (Ideal.sqrt (Ideal.div (∑ y : Fin (4 * C), centred (4 * C) N (patch C R i (l / d / 2)) y * centred (4 * C) N (patch C R i (l / d / 2)) y) N + eps))
        * g' k + b' k := by
  have h : ∀ x, ∃ r : ℝ, x < 4 * C → patch C R i (l / d / 2) x = r := fun x => by
    by_cases hx : x < 4 * C
    · obtain ⟨r, hr⟩ := patch_finite C d H hd h384 R i l hi hl hR x hx; exact ⟨r, fun _ => hr⟩
    · exact ⟨0, fun h => absurd h hx⟩
  choose a ha using h
  unfold normed var mean
  rw [pick C d H f R i l hi hl hf g hgc, ← hk]
  have h1 := pair_eq C d H hd h384 f R i l hi hl hf id
  have h2 := pair_eq C d H hd h384 f R i l hi hl hf (fun v => v * v)
  simp only [id] at h1
  rw [h1, h2, normalise (4 * C) (by omega) a hN hinv heps he _ ha k (by rw [hk]; split <;> omega), hg g hgc l hl, hb g hgc l hl, ← hk]

include hi hl hf hd h384 hC hN hinv heps he hR hg hb hn hln in
/-- The kernel's merge is the reference's. -/
theorem merge_match : pairSum d (mixed C d inv eps f gm bt ln n o i) l
    = merge (4 * C) N eps g' b' l' (patch C R i (l / d / 2)) o := by
  unfold merge
  refine pair_sum C d hd l (fun x => (Ideal.div (centred (4 * C) N (patch C R i (l / d / 2)) x)
          (Ideal.sqrt (Ideal.div (∑ y : Fin (4 * C), centred (4 * C) N (patch C R i (l / d / 2)) y * centred (4 * C) N (patch C R i (l / d / 2)) y) N + eps))
        * g' x + b' x) * l' x o) _ fun m hm => ?_
  have hm3 : m < 384 := by
    rcases hm with rfl | rfl
    · exact hl
    · exact partner_lt d hd h384 l hl
  have hmj : m / d / 2 = l / d / 2 := by
    rcases hm with rfl | rfl
    · rfl
    · exact partner_half d hd l
  rw [← hmj, hn, ← sum_four n (fun x => (fun x => (Ideal.div (centred (4 * C) N (patch C R i (m / d / 2)) x)
          (Ideal.sqrt (Ideal.div (∑ y : Fin (4 * C), centred (4 * C) N (patch C R i (m / d / 2)) y * centred (4 * C) N (patch C R i (m / d / 2)) y) N + eps))
        * g' x + b' x) * l' x o) (if m / d % 2 = 0 then x else 4 * n + x))]
  unfold mixed
  refine Finset.sum_congr rfl fun j hj => Finset.sum_congr rfl fun k _ => ?_
  have hj := Finset.mem_range.mp hj
  rw [← hn, normed_eq C d H hC hd h384 f R i m hi hm3 hf hN hinv heps he hR gm bt g' b' hg hb (4 * j + k) (by omega) _ rfl,
    hln _ (by omega) m hm3]
  exact mul_comm _ _

end Merge

/-! ## Upsampling, in the kernel's order -/

theorem up_match {n a b c e : ℕ} (C dout H : ℕ) (hC : C = 4 * n) (hd : 0 < dout) (W : (⟨3, ![a, b, 384]⟩ : Shape).Idx → EReal)
    (X : (⟨3, ![C, c, e]⟩ : Shape).Idx → EReal) (w : ℕ → ℕ → EReal) (bias : ℕ → EReal) (B : ℕ → ℕ → EReal)
    (R : ℕ → ℕ → ℕ → EReal) (o y l : ℕ) (hy : y / 2 < H) (hl : l < 384)
    (hX : ∀ x < C, ∀ i < H, ∀ l < 384, at3 X x i l = R x i (l / dout / 2))
    (hW : ∀ x < C, at3 W x (4 * o + 2 * (y % 2) + l / dout % 2) l = w (4 * o + 2 * (y % 2) + l / dout % 2) x)
    (hB : B (4 * o + 2 * (y % 2) + l / dout % 2) l = bias (4 * o + 2 * (y % 2) + l / dout % 2)) :
    B (4 * o + 2 * (y % 2) + l / dout % 2) l + ∑ j ∈ Finset.range n, lin4 W X (4 * o + 2 * (y % 2) + l / dout % 2) (y / 2) l j
      = up C w bias R o y (l / dout) := by
  have h1 : ∑ j ∈ Finset.range n, lin4 W X (4 * o + 2 * (y % 2) + l / dout % 2) (y / 2) l j
      = ∑ j ∈ Finset.range n, ∑ k : Fin 4, (fun x => w (4 * o + 2 * (y % 2) + l / dout % 2) x * R x (y / 2) (l / dout / 2)) (4 * j + k) := by
    unfold lin4
    refine Finset.sum_congr rfl fun j hj => Finset.sum_congr rfl fun k _ => ?_
    have hj := Finset.mem_range.mp hj
    rw [hW _ (by omega), hX _ (by omega) _ hy l hl]
  rw [h1, sum_four n (fun x => w (4 * o + 2 * (y % 2) + l / dout % 2) x * R x (y / 2) (l / dout / 2)), hB, ← hC]
  unfold up
  rw [show o * 4 + y % 2 * 2 + l / dout % 2 = 4 * o + 2 * (y % 2) + l / dout % 2 by ring]
  exact add_comm _ _

end Cert.Val

end
-- ==== Proof.Val.Host.lean ====
/-
  What the host prepares for the calls: the padded input, the weights laid out lane by lane, and the merges' weights
  chosen by the lane's pattern.
-/
module

public import proofs.«01_k».proof.Proof.Val.Consts
public import proofs.«01_k».proof.Proof.Val.Spec
public import proofs.«01_k».proof.Proof.KI.Launch
public import Idealize.ShloMosaic.Lib.StableHlo.ReadAt

@[expose] public section

set_option maxRecDepth 16384

noncomputable section

namespace Cert.Val.Host

open Cert.KernelIdeal Cert.KernelIdeal.Gen
open Idealize.ShloMosaic Idealize.ShloMosaic.TcCoe Idealize.ShloMosaic.Tactic
open Idealize.SL.Sem

variable (U : Valuation τ sig (Elt Ideal))

/-! ## The convolutions' and upsamplings' weights -/

theorem w0_2 (r : Fin 108) (o : Fin 12) (l : Fin 384) :
    StableHlo.after (hostOps0_2 (F := Ideal)) U (Proc.devRef .tc main_v5) (ix3 r o l)
      = at4 (a := 12) (b := 12) (c := 3) (d := 3) (U (Proc.devRef .tc main_arg1)) o (r.val / 9) (r.val / 3 % 3) (r.val % 3) := by
  unfold hostOps0_2
  after_reads_at
  first
    | exact (at4_mk (a := 12) (b := 12) (c := 3) (d := 3) (U (Proc.devRef .tc main_arg1)) _ _ _ _).symm
    | (obtain rfl : o = 0 := Subsingleton.elim _ _; exact (at4_mk (a := 12) (b := 12) (c := 3) (d := 3) (U (Proc.devRef .tc main_arg1)) _ _ _ _).symm)
theorem b0_2 (o : Fin 12) (l : Fin 384) :
    StableHlo.after (hostOps0_2 (F := Ideal)) U (Proc.devRef .tc main_v7) (ix2 o l) = at1 (a := 12) (U (Proc.devRef .tc main_arg2)) o := by
  unfold hostOps0_2
  after_reads_at
  first
    | exact (at1_mk (a := 12) (U (Proc.devRef .tc main_arg2)) _).symm
    | (obtain rfl : o = 0 := Subsingleton.elim _ _; exact (at1_mk (a := 12) (U (Proc.devRef .tc main_arg2)) _).symm)

theorem w4 (r : Fin 216) (o : Fin 24) (l : Fin 384) :
    StableHlo.after (hostOps4 (F := Ideal)) U (Proc.devRef .tc main_v97) (ix3 r o l)
      = at4 (a := 24) (b := 24) (c := 3) (d := 3) (U (Proc.devRef .tc main_arg3)) o (r.val / 9) (r.val / 3 % 3) (r.val % 3) := by
  unfold hostOps4
  after_reads_at
  first
    | exact (at4_mk (a := 24) (b := 24) (c := 3) (d := 3) (U (Proc.devRef .tc main_arg3)) _ _ _ _).symm
    | (obtain rfl : o = 0 := Subsingleton.elim _ _; exact (at4_mk (a := 24) (b := 24) (c := 3) (d := 3) (U (Proc.devRef .tc main_arg3)) _ _ _ _).symm)
theorem b4 (o : Fin 24) (l : Fin 384) :
    StableHlo.after (hostOps4 (F := Ideal)) U (Proc.devRef .tc main_v99) (ix2 o l) = at1 (a := 24) (U (Proc.devRef .tc main_arg4)) o := by
  unfold hostOps4
  after_reads_at
  first
    | exact (at1_mk (a := 24) (U (Proc.devRef .tc main_arg4)) _).symm
    | (obtain rfl : o = 0 := Subsingleton.elim _ _; exact (at1_mk (a := 24) (U (Proc.devRef .tc main_arg4)) _).symm)

theorem w6 (r : Fin 108) (o : Fin 12) (l : Fin 384) :
    StableHlo.after (hostOps6 (F := Ideal)) U (Proc.devRef .tc main_v111) (ix3 r o l)
      = at4 (a := 12) (b := 12) (c := 3) (d := 3) (U (Proc.devRef .tc main_arg5)) o (r.val / 9) (r.val / 3 % 3) (r.val % 3) := by
  unfold hostOps6
  after_reads_at
  first
    | exact (at4_mk (a := 12) (b := 12) (c := 3) (d := 3) (U (Proc.devRef .tc main_arg5)) _ _ _ _).symm
    | (obtain rfl : o = 0 := Subsingleton.elim _ _; exact (at4_mk (a := 12) (b := 12) (c := 3) (d := 3) (U (Proc.devRef .tc main_arg5)) _ _ _ _).symm)
theorem b6 (o : Fin 12) (l : Fin 384) :
    StableHlo.after (hostOps6 (F := Ideal)) U (Proc.devRef .tc main_v113) (ix2 o l) = at1 (a := 12) (U (Proc.devRef .tc main_arg6)) o := by
  unfold hostOps6
  after_reads_at
  first
    | exact (at1_mk (a := 12) (U (Proc.devRef .tc main_arg6)) _).symm
    | (obtain rfl : o = 0 := Subsingleton.elim _ _; exact (at1_mk (a := 12) (U (Proc.devRef .tc main_arg6)) _).symm)

theorem w7 (r : Fin 108) (o : Fin 12) (l : Fin 384) :
    StableHlo.after (hostOps7 (F := Ideal)) U (Proc.devRef .tc main_v118) (ix3 r o l)
      = at4 (a := 12) (b := 12) (c := 3) (d := 3) (U (Proc.devRef .tc main_arg5)) o (r.val / 9) (r.val / 3 % 3) (r.val % 3) := by
  unfold hostOps7
  after_reads_at
  first
    | exact (at4_mk (a := 12) (b := 12) (c := 3) (d := 3) (U (Proc.devRef .tc main_arg5)) _ _ _ _).symm
    | (obtain rfl : o = 0 := Subsingleton.elim _ _; exact (at4_mk (a := 12) (b := 12) (c := 3) (d := 3) (U (Proc.devRef .tc main_arg5)) _ _ _ _).symm)
theorem b7 (o : Fin 12) (l : Fin 384) :
    StableHlo.after (hostOps7 (F := Ideal)) U (Proc.devRef .tc main_v120) (ix2 o l) = at1 (a := 12) (U (Proc.devRef .tc main_arg6)) o := by
  unfold hostOps7
  after_reads_at
  first
    | exact (at1_mk (a := 12) (U (Proc.devRef .tc main_arg6)) _).symm
    | (obtain rfl : o = 0 := Subsingleton.elim _ _; exact (at1_mk (a := 12) (U (Proc.devRef .tc main_arg6)) _).symm)

theorem w8 (r : Fin 108) (o : Fin 1) (l : Fin 384) :
    StableHlo.after (hostOps8 (F := Ideal)) U (Proc.devRef .tc main_v125) (ix3 r o l)
      = at4 (a := 1) (b := 12) (c := 3) (d := 3) (U (Proc.devRef .tc main_arg7)) o (r.val / 9) (r.val / 3 % 3) (r.val % 3) := by
  unfold hostOps8
  after_reads_at
  first
    | exact (at4_mk (a := 1) (b := 12) (c := 3) (d := 3) (U (Proc.devRef .tc main_arg7)) _ _ _ _).symm
    | (obtain rfl : o = 0 := Subsingleton.elim _ _; exact (at4_mk (a := 1) (b := 12) (c := 3) (d := 3) (U (Proc.devRef .tc main_arg7)) _ _ _ _).symm)
theorem b8 (o : Fin 1) (l : Fin 384) :
    StableHlo.after (hostOps8 (F := Ideal)) U (Proc.devRef .tc main_v127) (ix2 o l) = at1 (a := 1) (U (Proc.devRef .tc main_arg8)) o := by
  unfold hostOps8
  after_reads_at
  first
    | exact (at1_mk (a := 1) (U (Proc.devRef .tc main_arg8)) _).symm
    | (obtain rfl : o = 0 := Subsingleton.elim _ _; exact (at1_mk (a := 1) (U (Proc.devRef .tc main_arg8)) _).symm)

theorem w3 (r : Fin 48) (o : Fin 96) (l : Fin 384) :
    StableHlo.after (hostOps3 (F := Ideal)) U (Proc.devRef .tc main_v90) (ix3 r o l)
      = at4 (a := 96) (b := 48) (c := 1) (d := 1) (U (Proc.devRef .tc main_arg15)) o r 0 0 := by
  unfold hostOps3
  after_reads_at
  exact (at4_mk (a := 96) (b := 48) (c := 1) (d := 1) (U (Proc.devRef .tc main_arg15)) o r 0 0).symm
theorem b3 (o : Fin 96) (l : Fin 384) :
    StableHlo.after (hostOps3 (F := Ideal)) U (Proc.devRef .tc main_v92) (ix2 o l) = at1 (a := 96) (U (Proc.devRef .tc main_arg16)) o := by
  unfold hostOps3
  after_reads_at
  exact (at1_mk (a := 96) (U (Proc.devRef .tc main_arg16)) o).symm

theorem w5 (r : Fin 24) (o : Fin 48) (l : Fin 384) :
    StableHlo.after (hostOps5 (F := Ideal)) U (Proc.devRef .tc main_v104) (ix3 r o l)
      = at4 (a := 48) (b := 24) (c := 1) (d := 1) (U (Proc.devRef .tc main_arg17)) o r 0 0 := by
  unfold hostOps5
  after_reads_at
  exact (at4_mk (a := 48) (b := 24) (c := 1) (d := 1) (U (Proc.devRef .tc main_arg17)) o r 0 0).symm
theorem b5 (o : Fin 48) (l : Fin 384) :
    StableHlo.after (hostOps5 (F := Ideal)) U (Proc.devRef .tc main_v106) (ix2 o l) = at1 (a := 48) (U (Proc.devRef .tc main_arg18)) o := by
  unfold hostOps5
  after_reads_at
  exact (at1_mk (a := 48) (U (Proc.devRef .tc main_arg18)) o).symm

/-! ## The padded input -/

theorem x0 (o : Fin 12) (i : Fin 400) (l : Fin 386) :
    StableHlo.after (hostOps0_1 (F := Ideal)) (StableHlo.after (hostOps0 (F := Ideal)) U) (Proc.devRef .tc main_v1) (ix3 o i l)
      = if (8 ≤ i.val ∧ i.val - 8 < 384) ∧ 1 ≤ l.val ∧ l.val - 1 < 384
        then at4 (a := 1) (b := 12) (c := 384) (d := 384) (U (Proc.devRef .tc main_arg0)) 0 o (i - 8) (l - 1) else 0 := by
  unfold hostOps0_1 hostOps0
  after_reads_at
  by_cases h : (8 ≤ i.val ∧ i.val - 8 < 384) ∧ 1 ≤ l.val ∧ l.val - 1 < 384
  · refine Eq.trans ?_ (if_pos h).symm
    rw [dif_pos h]
    exact (at4_mk (U (Proc.devRef .tc main_arg0)) 0 o ⟨i.val - 8, h.1.2⟩ ⟨l.val - 1, h.2.2⟩).symm
  · refine Eq.trans ?_ (if_neg h).symm
    rw [dif_neg h]
    exact zero_word

/-! ## The lanes' pattern -/

theorem quot1 (l : Fin 384) :
    StableHlo.after (hostOps1_1 (F := Ideal)) (StableHlo.after (hostOps1 (F := Ideal)) U) (Proc.devRef .tc main_v10) (ix1 l) = BitVec.ofNat 32 (l / 1) := by
  unfold hostOps1_1 hostOps1
  after_reads_at
  simp only [id, constantI]
  revert l
  decide +kernel
theorem rem1 (n : Fin 384) (l : Fin 384) (h : U (Proc.devRef .tc main_v10) (ix1 l) = BitVec.ofNat 32 n) :
    StableHlo.after (hostOps1_3 (F := Ideal)) (StableHlo.after (hostOps1_2 (F := Ideal)) U) (Proc.devRef .tc main_v11) (ix1 l) = BitVec.ofNat 32 (n % 2) := by
  unfold hostOps1_3 hostOps1_2
  after_reads_at
  rw [h]
  simp only [id, constantI]
  clear h
  revert n
  decide +kernel

theorem quot2 (l : Fin 384) :
    StableHlo.after (hostOps2_1 (F := Ideal)) (StableHlo.after (hostOps2 (F := Ideal)) U) (Proc.devRef .tc main_v49) (ix1 l) = BitVec.ofNat 32 (l / 2) := by
  unfold hostOps2_1 hostOps2
  after_reads_at
  simp only [id, constantI]
  revert l
  decide +kernel
theorem rem2 (n : Fin 384) (l : Fin 384) (h : U (Proc.devRef .tc main_v49) (ix1 l) = BitVec.ofNat 32 n) :
    StableHlo.after (hostOps2_3 (F := Ideal)) (StableHlo.after (hostOps2_2 (F := Ideal)) U) (Proc.devRef .tc main_v50) (ix1 l) = BitVec.ofNat 32 (n % 2) := by
  unfold hostOps2_3 hostOps2_2
  after_reads_at
  rw [h]
  simp only [id, constantI]
  clear h
  revert n
  decide +kernel

/-! ## The halves of a merge's weights -/

theorem lowHalf24 (Z : Vec Ideal S48 .f32) (o : Fin 24) :
    broadcastInDim S24x1 ![0] bcast_S24_S24x1_0
      (shapeCast S24 (shapeCast S2x12 (extractStridedSlice S1x2x12 ![0, 0, 0]
        (shapeCast S2x2x12 Z shapeCasts_S48_S2x2x12) slices_S2x2x12_S1x2x12_0_0_0) shapeCasts_S1x2x12_S2x12) shapeCasts_S2x12_S24)
      (ix2 o 0) = at1 (a := 48) Z o := by
  pointwise []
  refine (at1_mk (a := 48) Z _).symm.trans (congrArg (at1 (a := 48) Z) ?_)
  dsimp only
  omega

theorem highHalf24 (Z : Vec Ideal S48 .f32) (o : Fin 24) :
    broadcastInDim S24x1 ![0] bcast_S24_S24x1_0
      (shapeCast S24 (shapeCast S2x12 (extractStridedSlice S1x2x12 ![1, 0, 0]
        (shapeCast S2x2x12 Z shapeCasts_S48_S2x2x12) slices_S2x2x12_S1x2x12_1_0_0) shapeCasts_S1x2x12_S2x12) shapeCasts_S2x12_S24)
      (ix2 o 0) = at1 (a := 48) Z (24 + o) := by
  pointwise []
  refine (at1_mk (a := 48) Z _).symm.trans (congrArg (at1 (a := 48) Z) ?_)
  dsimp only
  omega

theorem lowRows24 (Z : Vec Ideal S48x24 .f32) (g o : Fin 24) :
    broadcastInDim S24x24x1 ![0, 1] bcast_S24x24_S24x24x1_0_1
      (shapeCast S24x24 (shapeCast S2x12x24 (extractStridedSlice S1x2x12x24 ![0, 0, 0, 0]
        (shapeCast S2x2x12x24 Z shapeCasts_S48x24_S2x2x12x24) slices_S2x2x12x24_S1x2x12x24_0_0_0_0) shapeCasts_S1x2x12x24_S2x12x24) shapeCasts_S2x12x24_S24x24)
      (ix3 g o 0) = at2 (a := 48) (b := 24) Z g o := by
  pointwise []
  refine (at2_mk (a := 48) (b := 24) Z _ o).symm.trans (congrArg (fun k => at2 (a := 48) (b := 24) Z k o) ?_)
  dsimp only
  omega

theorem highRows24 (Z : Vec Ideal S48x24 .f32) (g o : Fin 24) :
    broadcastInDim S24x24x1 ![0, 1] bcast_S24x24_S24x24x1_0_1
      (shapeCast S24x24 (shapeCast S2x12x24 (extractStridedSlice S1x2x12x24 ![1, 0, 0, 0]
        (shapeCast S2x2x12x24 Z shapeCasts_S48x24_S2x2x12x24) slices_S2x2x12x24_S1x2x12x24_1_0_0_0) shapeCasts_S1x2x12x24_S2x12x24) shapeCasts_S2x12x24_S24x24)
      (ix3 g o 0) = at2 (a := 48) (b := 24) Z (24 + g) o := by
  pointwise []
  refine (at2_mk (a := 48) (b := 24) Z _ o).symm.trans (congrArg (fun k => at2 (a := 48) (b := 24) Z k o) ?_)
  dsimp only
  omega

theorem lowHalf48 (Z : Vec Ideal S96 .f32) (o : Fin 48) :
    broadcastInDim S48x1 ![0] bcast_S48_S48x1_0
      (shapeCast S48 (shapeCast S2x24 (extractStridedSlice S1x2x24 ![0, 0, 0]
        (shapeCast S2x2x24 Z shapeCasts_S96_S2x2x24) slices_S2x2x24_S1x2x24_0_0_0) shapeCasts_S1x2x24_S2x24) shapeCasts_S2x24_S48)
      (ix2 o 0) = at1 (a := 96) Z o := by
  pointwise []
  refine (at1_mk (a := 96) Z _).symm.trans (congrArg (at1 (a := 96) Z) ?_)
  dsimp only
  omega

theorem highHalf48 (Z : Vec Ideal S96 .f32) (o : Fin 48) :
    broadcastInDim S48x1 ![0] bcast_S48_S48x1_0
      (shapeCast S48 (shapeCast S2x24 (extractStridedSlice S1x2x24 ![1, 0, 0]
        (shapeCast S2x2x24 Z shapeCasts_S96_S2x2x24) slices_S2x2x24_S1x2x24_1_0_0) shapeCasts_S1x2x24_S2x24) shapeCasts_S2x24_S48)
      (ix2 o 0) = at1 (a := 96) Z (48 + o) := by
  pointwise []
  refine (at1_mk (a := 96) Z _).symm.trans (congrArg (at1 (a := 96) Z) ?_)
  dsimp only
  omega

theorem lowRows48 (Z : Vec Ideal S96x48 .f32) (g o : Fin 48) :
    broadcastInDim S48x48x1 ![0, 1] bcast_S48x48_S48x48x1_0_1
      (shapeCast S48x48 (shapeCast S2x24x48 (extractStridedSlice S1x2x24x48 ![0, 0, 0, 0]
        (shapeCast S2x2x24x48 Z shapeCasts_S96x48_S2x2x24x48) slices_S2x2x24x48_S1x2x24x48_0_0_0_0) shapeCasts_S1x2x24x48_S2x24x48) shapeCasts_S2x24x48_S48x48)
      (ix3 g o 0) = at2 (a := 96) (b := 48) Z g o := by
  pointwise []
  refine (at2_mk (a := 96) (b := 48) Z _ o).symm.trans (congrArg (fun k => at2 (a := 96) (b := 48) Z k o) ?_)
  dsimp only
  omega

theorem highRows48 (Z : Vec Ideal S96x48 .f32) (g o : Fin 48) :
    broadcastInDim S48x48x1 ![0, 1] bcast_S48x48_S48x48x1_0_1
      (shapeCast S48x48 (shapeCast S2x24x48 (extractStridedSlice S1x2x24x48 ![1, 0, 0, 0]
        (shapeCast S2x2x24x48 Z shapeCasts_S96x48_S2x2x24x48) slices_S2x2x24x48_S1x2x24x48_1_0_0_0) shapeCasts_S1x2x24x48_S2x24x48) shapeCasts_S2x24x48_S48x48)
      (ix3 g o 0) = at2 (a := 96) (b := 48) Z (48 + g) o := by
  pointwise []
  refine (at2_mk (a := 96) (b := 48) Z _ o).symm.trans (congrArg (fun k => at2 (a := 96) (b := 48) Z k o) ?_)
  dsimp only
  omega

theorem pat1 (l : Fin 384) :
    StableHlo.after (hostOps1_4 (F := Ideal)) U (Proc.devRef .tc main_v13) (ix1 l) = IntOp.cmpi .eq (U (Proc.devRef .tc main_v11) (ix1 l)) 0#32 := by
  unfold hostOps1_4
  after_reads_at

theorem pat1_4 (l : Fin 384) :
    StableHlo.after (hostOps1_4 (F := Ideal)) U (Proc.devRef .tc main_v15) (ix2 0 l) = IntOp.cmpi .eq (U (Proc.devRef .tc main_v11) (ix1 l)) 0#32 := by
  unfold hostOps1_4
  after_reads_at
theorem lo1_4 (o : Fin 24) :
    StableHlo.after (hostOps1_4 (F := Ideal)) U (Proc.devRef .tc main_v19) (ix2 o 0) = at1 (a := 48) (U (Proc.devRef .tc main_arg9)) o := by
  unfold hostOps1_4
  after_reads_simp
  exact lowHalf24 _ o
theorem hi1_4 (o : Fin 24) :
    StableHlo.after (hostOps1_4 (F := Ideal)) U (Proc.devRef .tc main_v23) (ix2 o 0) = at1 (a := 48) (U (Proc.devRef .tc main_arg9)) (24 + o) := by
  unfold hostOps1_4
  after_reads_simp
  exact highHalf24 _ o
theorem sel1_5 (o : Fin 24) (l : Fin 384) :
    StableHlo.after (hostOps1_5 (F := Ideal)) U (Proc.devRef .tc main_v24) (ix2 o l)
      = Scalar.select (U (Proc.devRef .tc main_v15) (ix2 0 l)) (U (Proc.devRef .tc main_v19) (ix2 o 0)) (U (Proc.devRef .tc main_v23) (ix2 o 0)) := by
  unfold hostOps1_5
  after_reads_at

theorem pat1_6 (l : Fin 384) :
    StableHlo.after (hostOps1_6 (F := Ideal)) U (Proc.devRef .tc main_v26) (ix2 0 l) = U (Proc.devRef .tc main_v13) (ix1 l) := by
  unfold hostOps1_6
  after_reads_at
theorem lo1_6 (o : Fin 24) :
    StableHlo.after (hostOps1_6 (F := Ideal)) U (Proc.devRef .tc main_v30) (ix2 o 0) = at1 (a := 48) (U (Proc.devRef .tc main_arg10)) o := by
  unfold hostOps1_6
  after_reads_simp
  exact lowHalf24 _ o
theorem hi1_6 (o : Fin 24) :
    StableHlo.after (hostOps1_6 (F := Ideal)) U (Proc.devRef .tc main_v34) (ix2 o 0) = at1 (a := 48) (U (Proc.devRef .tc main_arg10)) (24 + o) := by
  unfold hostOps1_6
  after_reads_simp
  exact highHalf24 _ o
theorem sel1_7 (o : Fin 24) (l : Fin 384) :
    StableHlo.after (hostOps1_7 (F := Ideal)) U (Proc.devRef .tc main_v35) (ix2 o l)
      = Scalar.select (U (Proc.devRef .tc main_v26) (ix2 0 l)) (U (Proc.devRef .tc main_v30) (ix2 o 0)) (U (Proc.devRef .tc main_v34) (ix2 o 0)) := by
  unfold hostOps1_7
  after_reads_at

theorem pat1_8 (l : Fin 384) :
    StableHlo.after (hostOps1_8 (F := Ideal)) U (Proc.devRef .tc main_v37) (ix3 0 0 l) = U (Proc.devRef .tc main_v13) (ix1 l) := by
  unfold hostOps1_8
  after_reads_at
theorem lo1_8 (g o : Fin 24) :
    StableHlo.after (hostOps1_8 (F := Ideal)) U (Proc.devRef .tc main_v41) (ix3 g o 0) = at2 (a := 48) (b := 24) (U (Proc.devRef .tc main_arg11)) g o := by
  unfold hostOps1_8
  after_reads_simp
  exact lowRows24 _ g o
theorem hi1_8 (g o : Fin 24) :
    StableHlo.after (hostOps1_8 (F := Ideal)) U (Proc.devRef .tc main_v45) (ix3 g o 0) = at2 (a := 48) (b := 24) (U (Proc.devRef .tc main_arg11)) (24 + g) o := by
  unfold hostOps1_8
  after_reads_simp
  exact highRows24 _ g o
theorem sel1_9 (g o : Fin 24) (l : Fin 384) :
    StableHlo.after (hostOps1_9 (F := Ideal)) U (Proc.devRef .tc main_v46) (ix3 g o l)
      = Scalar.select (U (Proc.devRef .tc main_v37) (ix3 0 0 l)) (U (Proc.devRef .tc main_v41) (ix3 g o 0)) (U (Proc.devRef .tc main_v45) (ix3 g o 0)) := by
  unfold hostOps1_9
  after_reads_at

theorem pat2 (l : Fin 384) :
    StableHlo.after (hostOps2_4 (F := Ideal)) U (Proc.devRef .tc main_v52) (ix1 l) = IntOp.cmpi .eq (U (Proc.devRef .tc main_v50) (ix1 l)) 0#32 := by
  unfold hostOps2_4
  after_reads_at

theorem pat2_4 (l : Fin 384) :
    StableHlo.after (hostOps2_4 (F := Ideal)) U (Proc.devRef .tc main_v54) (ix2 0 l) = IntOp.cmpi .eq (U (Proc.devRef .tc main_v50) (ix1 l)) 0#32 := by
  unfold hostOps2_4
  after_reads_at
theorem lo2_4 (o : Fin 48) :
    StableHlo.after (hostOps2_4 (F := Ideal)) U (Proc.devRef .tc main_v58) (ix2 o 0) = at1 (a := 96) (U (Proc.devRef .tc main_arg12)) o := by
  unfold hostOps2_4
  after_reads_simp
  exact lowHalf48 _ o
theorem hi2_4 (o : Fin 48) :
    StableHlo.after (hostOps2_4 (F := Ideal)) U (Proc.devRef .tc main_v62) (ix2 o 0) = at1 (a := 96) (U (Proc.devRef .tc main_arg12)) (48 + o) := by
  unfold hostOps2_4
  after_reads_simp
  exact highHalf48 _ o
theorem sel2_5 (o : Fin 48) (l : Fin 384) :
    StableHlo.after (hostOps2_5 (F := Ideal)) U (Proc.devRef .tc main_v63) (ix2 o l)
      = Scalar.select (U (Proc.devRef .tc main_v54) (ix2 0 l)) (U (Proc.devRef .tc main_v58) (ix2 o 0)) (U (Proc.devRef .tc main_v62) (ix2 o 0)) := by
  unfold hostOps2_5
  after_reads_at

theorem pat2_6 (l : Fin 384) :
    StableHlo.after (hostOps2_6 (F := Ideal)) U (Proc.devRef .tc main_v65) (ix2 0 l) = U (Proc.devRef .tc main_v52) (ix1 l) := by
  unfold hostOps2_6
  after_reads_at
theorem lo2_6 (o : Fin 48) :
    StableHlo.after (hostOps2_6 (F := Ideal)) U (Proc.devRef .tc main_v69) (ix2 o 0) = at1 (a := 96) (U (Proc.devRef .tc main_arg13)) o := by
  unfold hostOps2_6
  after_reads_simp
  exact lowHalf48 _ o
theorem hi2_6 (o : Fin 48) :
    StableHlo.after (hostOps2_6 (F := Ideal)) U (Proc.devRef .tc main_v73) (ix2 o 0) = at1 (a := 96) (U (Proc.devRef .tc main_arg13)) (48 + o) := by
  unfold hostOps2_6
  after_reads_simp
  exact highHalf48 _ o
theorem sel2_7 (o : Fin 48) (l : Fin 384) :
    StableHlo.after (hostOps2_7 (F := Ideal)) U (Proc.devRef .tc main_v74) (ix2 o l)
      = Scalar.select (U (Proc.devRef .tc main_v65) (ix2 0 l)) (U (Proc.devRef .tc main_v69) (ix2 o 0)) (U (Proc.devRef .tc main_v73) (ix2 o 0)) := by
  unfold hostOps2_7
  after_reads_at

theorem pat2_8 (l : Fin 384) :
    StableHlo.after (hostOps2_8 (F := Ideal)) U (Proc.devRef .tc main_v76) (ix3 0 0 l) = U (Proc.devRef .tc main_v52) (ix1 l) := by
  unfold hostOps2_8
  after_reads_at
theorem lo2_8 (g o : Fin 48) :
    StableHlo.after (hostOps2_8 (F := Ideal)) U (Proc.devRef .tc main_v80) (ix3 g o 0) = at2 (a := 96) (b := 48) (U (Proc.devRef .tc main_arg14)) g o := by
  unfold hostOps2_8
  after_reads_simp
  exact lowRows48 _ g o
theorem hi2_8 (g o : Fin 48) :
    StableHlo.after (hostOps2_8 (F := Ideal)) U (Proc.devRef .tc main_v84) (ix3 g o 0) = at2 (a := 96) (b := 48) (U (Proc.devRef .tc main_arg14)) (48 + g) o := by
  unfold hostOps2_8
  after_reads_simp
  exact highRows48 _ g o
theorem sel2_9 (g o : Fin 48) (l : Fin 384) :
    StableHlo.after (hostOps2_9 (F := Ideal)) U (Proc.devRef .tc main_v85) (ix3 g o l)
      = Scalar.select (U (Proc.devRef .tc main_v76) (ix3 0 0 l)) (U (Proc.devRef .tc main_v80) (ix3 g o 0)) (U (Proc.devRef .tc main_v84) (ix3 g o 0)) := by
  unfold hostOps2_9
  after_reads_at

end Cert.Val.Host

end
-- ==== Proof.Val.Operands.lean ====
/-
  The operands of the nine calls as the program's arguments give them: no call and no host stretch writes an argument,
  and each call reads its operands whole.
-/
module

public import proofs.«01_k».proof.Proof.Val.Host

@[expose] public section

set_option maxRecDepth 16384

noncomputable section

namespace Cert.Val.Operands

open Cert.KernelIdeal Cert.KernelIdeal.Gen Cert.KernelIdeal.Launch
open Idealize.ShloMosaic Idealize.ShloMosaic.TcCoe Idealize.ShloMosaic.Tactic
open Idealize.SL.Sem

/-! ## Each window is its array -/

section Whole

variable (V : Dev nD → Valuation τ sig (Elt Ideal)) (c : Dev nD)

theorem whole0_0 : Call0.in0 V c = V c main_v1 := by
  funext y
  show V c main_v1 _ = V c main_v1 y
  congr 1
  funext a
  apply Fin.ext
  simp
  left
  fin_cases a <;> rfl
theorem whole0_1 : Call0.in1 V c = V c main_v5 := by
  funext y
  show V c main_v5 _ = V c main_v5 y
  congr 1
  funext a
  apply Fin.ext
  simp
  left
  fin_cases a <;> rfl
theorem whole0_2 : Call0.in2 V c = V c main_v7 := by
  funext y
  show V c main_v7 _ = V c main_v7 y
  congr 1
  funext a
  apply Fin.ext
  simp
  left
  fin_cases a <;> rfl
theorem whole1_0 : Call1.in0 V c = V c main_v8 := by
  funext y
  show V c main_v8 _ = V c main_v8 y
  congr 1
  funext a
  apply Fin.ext
  simp
  left
  fin_cases a <;> rfl
theorem whole1_1 : Call1.in1 V c = V c main_v24 := by
  funext y
  show V c main_v24 _ = V c main_v24 y
  congr 1
  funext a
  apply Fin.ext
  simp
  left
  fin_cases a <;> rfl
theorem whole1_2 : Call1.in2 V c = V c main_v35 := by
  funext y
  show V c main_v35 _ = V c main_v35 y
  congr 1
  funext a
  apply Fin.ext
  simp
  left
  fin_cases a <;> rfl
theorem whole1_3 : Call1.in3 V c = V c main_v46 := by
  funext y
  show V c main_v46 _ = V c main_v46 y
  congr 1
  funext a
  apply Fin.ext
  simp
  left
  fin_cases a <;> rfl
theorem whole2_0 : Call2.in0 V c = V c main_v47 := by
  funext y
  show V c main_v47 _ = V c main_v47 y
  congr 1
  funext a
  apply Fin.ext
  simp
  left
  fin_cases a <;> rfl
theorem whole2_1 : Call2.in1 V c = V c main_v63 := by
  funext y
  show V c main_v63 _ = V c main_v63 y
  congr 1
  funext a
  apply Fin.ext
  simp
  left
  fin_cases a <;> rfl
theorem whole2_2 : Call2.in2 V c = V c main_v74 := by
  funext y
  show V c main_v74 _ = V c main_v74 y
  congr 1
  funext a
  apply Fin.ext
  simp
  left
  fin_cases a <;> rfl
theorem whole2_3 : Call2.in3 V c = V c main_v85 := by
  funext y
  show V c main_v85 _ = V c main_v85 y
  congr 1
  funext a
  apply Fin.ext
  simp
  left
  fin_cases a <;> rfl
theorem whole3_0 : Call3.in0 V c = V c main_v86 := by
  funext y
  show V c main_v86 _ = V c main_v86 y
  congr 1
  funext a
  apply Fin.ext
  simp
  left
  fin_cases a <;> rfl
theorem whole3_1 : Call3.in1 V c = V c main_v90 := by
  funext y
  show V c main_v90 _ = V c main_v90 y
  congr 1
  funext a
  apply Fin.ext
  simp
  left
  fin_cases a <;> rfl
theorem whole3_2 : Call3.in2 V c = V c main_v92 := by
  funext y
  show V c main_v92 _ = V c main_v92 y
  congr 1
  funext a
  apply Fin.ext
  simp
  left
  fin_cases a <;> rfl
theorem whole4_0 : Call4.in0 V c = V c main_v93 := by
  funext y
  show V c main_v93 _ = V c main_v93 y
  congr 1
  funext a
  apply Fin.ext
  simp
  left
  fin_cases a <;> rfl
theorem whole4_1 : Call4.in1 V c = V c main_v97 := by
  funext y
  show V c main_v97 _ = V c main_v97 y
  congr 1
  funext a
  apply Fin.ext
  simp
  left
  fin_cases a <;> rfl
theorem whole4_2 : Call4.in2 V c = V c main_v99 := by
  funext y
  show V c main_v99 _ = V c main_v99 y
  congr 1
  funext a
  apply Fin.ext
  simp
  left
  fin_cases a <;> rfl
theorem whole5_0 : Call5.in0 V c = V c main_v100 := by
  funext y
  show V c main_v100 _ = V c main_v100 y
  congr 1
  funext a
  apply Fin.ext
  simp
  left
  fin_cases a <;> rfl
theorem whole5_1 : Call5.in1 V c = V c main_v104 := by
  funext y
  show V c main_v104 _ = V c main_v104 y
  congr 1
  funext a
  apply Fin.ext
  simp
  left
  fin_cases a <;> rfl
theorem whole5_2 : Call5.in2 V c = V c main_v106 := by
  funext y
  show V c main_v106 _ = V c main_v106 y
  congr 1
  funext a
  apply Fin.ext
  simp
  left
  fin_cases a <;> rfl
theorem whole6_0 : Call6.in0 V c = V c main_v107 := by
  funext y
  show V c main_v107 _ = V c main_v107 y
  congr 1
  funext a
  apply Fin.ext
  simp
  left
  fin_cases a <;> rfl
theorem whole6_1 : Call6.in1 V c = V c main_v111 := by
  funext y
  show V c main_v111 _ = V c main_v111 y
  congr 1
  funext a
  apply Fin.ext
  simp
  left
  fin_cases a <;> rfl
theorem whole6_2 : Call6.in2 V c = V c main_v113 := by
  funext y
  show V c main_v113 _ = V c main_v113 y
  congr 1
  funext a
  apply Fin.ext
  simp
  left
  fin_cases a <;> rfl
theorem whole7_0 : Call7.in0 V c = V c main_v114 := by
  funext y
  show V c main_v114 _ = V c main_v114 y
  congr 1
  funext a
  apply Fin.ext
  simp
  left
  fin_cases a <;> rfl
theorem whole7_1 : Call7.in1 V c = V c main_v118 := by
  funext y
  show V c main_v118 _ = V c main_v118 y
  congr 1
  funext a
  apply Fin.ext
  simp
  left
  fin_cases a <;> rfl
theorem whole7_2 : Call7.in2 V c = V c main_v120 := by
  funext y
  show V c main_v120 _ = V c main_v120 y
  congr 1
  funext a
  apply Fin.ext
  simp
  left
  fin_cases a <;> rfl
theorem whole8_0 : Call8.in0 V c = V c main_v121 := by
  funext y
  show V c main_v121 _ = V c main_v121 y
  congr 1
  funext a
  apply Fin.ext
  simp
  left
  fin_cases a <;> rfl
theorem whole8_1 : Call8.in1 V c = V c main_v125 := by
  funext y
  show V c main_v125 _ = V c main_v125 y
  congr 1
  funext a
  apply Fin.ext
  simp
  left
  fin_cases a <;> rfl
theorem whole8_2 : Call8.in2 V c = V c main_v127 := by
  funext y
  show V c main_v127 _ = V c main_v127 y
  congr 1
  funext a
  apply Fin.ext
  simp
  left
  fin_cases a <;> rfl

end Whole

variable (m : (ℓ : Loc nD τ sig) → Buf (Elt Ideal) ℓ) (c : Dev nD)

/-! ## No argument is written -/

/-- What the host stretches and the calls write, in order. -/
def written : List (List (Ref sig .tc)) :=
  [hostOps0_W, hostOps0_1_W, hostOps0_2_W, [main_v8], hostOps1_W, hostOps1_1_W, hostOps1_2_W, hostOps1_3_W, hostOps1_4_W, hostOps1_5_W, hostOps1_6_W, hostOps1_7_W, hostOps1_8_W, hostOps1_9_W, [main_v47], hostOps2_W, hostOps2_1_W, hostOps2_2_W, hostOps2_3_W, hostOps2_4_W, hostOps2_5_W, hostOps2_6_W, hostOps2_7_W, hostOps2_8_W, hostOps2_9_W, [main_v86], hostOps3_W, [main_v93], hostOps4_W, [main_v100], hostOps5_W, [main_v107], hostOps6_W, [main_v114], hostOps7_W, [main_v121], hostOps8_W, [main_v128]]

section Keep

variable (r : Ref sig .tc) (h : ∀ W ∈ written, r ∉ W)
include h

theorem keep1 : V1 m c r = m ((c : Thread nD τ).loc r) := (V1_of m c r (h _ (by simp [written]))).trans rfl
theorem keep2 : V2 m c r = m ((c : Thread nD τ).loc r) := (V2_of m c r (h _ (by simp [written]))).trans (keep1 m c r h)
theorem keep3 : V3 m c r = m ((c : Thread nD τ).loc r) := (V3_of m c r (h _ (by simp [written]))).trans (keep2 m c r h)
theorem keep4 : V4 m (outs m) c r = m ((c : Thread nD τ).loc r) := (V4_of m (outs m) c r (h _ (by simp [written]))).trans (keep3 m c r h)
theorem keep5 : V5 m (outs m) c r = m ((c : Thread nD τ).loc r) := (V5_of m (outs m) c r (h _ (by simp [written]))).trans (keep4 m c r h)
theorem keep6 : V6 m (outs m) c r = m ((c : Thread nD τ).loc r) := (V6_of m (outs m) c r (h _ (by simp [written]))).trans (keep5 m c r h)
theorem keep7 : V7 m (outs m) c r = m ((c : Thread nD τ).loc r) := (V7_of m (outs m) c r (h _ (by simp [written]))).trans (keep6 m c r h)
theorem keep8 : V8 m (outs m) c r = m ((c : Thread nD τ).loc r) := (V8_of m (outs m) c r (h _ (by simp [written]))).trans (keep7 m c r h)
theorem keep9 : V9 m (outs m) c r = m ((c : Thread nD τ).loc r) := (V9_of m (outs m) c r (h _ (by simp [written]))).trans (keep8 m c r h)
theorem keep10 : V10 m (outs m) c r = m ((c : Thread nD τ).loc r) := (V10_of m (outs m) c r (h _ (by simp [written]))).trans (keep9 m c r h)
theorem keep11 : V11 m (outs m) c r = m ((c : Thread nD τ).loc r) := (V11_of m (outs m) c r (h _ (by simp [written]))).trans (keep10 m c r h)
theorem keep12 : V12 m (outs m) c r = m ((c : Thread nD τ).loc r) := (V12_of m (outs m) c r (h _ (by simp [written]))).trans (keep11 m c r h)
theorem keep13 : V13 m (outs m) c r = m ((c : Thread nD τ).loc r) := (V13_of m (outs m) c r (h _ (by simp [written]))).trans (keep12 m c r h)
theorem keep14 : V14 m (outs m) c r = m ((c : Thread nD τ).loc r) := (V14_of m (outs m) c r (h _ (by simp [written]))).trans (keep13 m c r h)
theorem keep15 : V15 m (outs m) c r = m ((c : Thread nD τ).loc r) := (V15_of m (outs m) c r (h _ (by simp [written]))).trans (keep14 m c r h)
theorem keep16 : V16 m (outs m) c r = m ((c : Thread nD τ).loc r) := (V16_of m (outs m) c r (h _ (by simp [written]))).trans (keep15 m c r h)
theorem keep17 : V17 m (outs m) c r = m ((c : Thread nD τ).loc r) := (V17_of m (outs m) c r (h _ (by simp [written]))).trans (keep16 m c r h)
theorem keep18 : V18 m (outs m) c r = m ((c : Thread nD τ).loc r) := (V18_of m (outs m) c r (h _ (by simp [written]))).trans (keep17 m c r h)
theorem keep19 : V19 m (outs m) c r = m ((c : Thread nD τ).loc r) := (V19_of m (outs m) c r (h _ (by simp [written]))).trans (keep18 m c r h)
theorem keep20 : V20 m (outs m) c r = m ((c : Thread nD τ).loc r) := (V20_of m (outs m) c r (h _ (by simp [written]))).trans (keep19 m c r h)
theorem keep21 : V21 m (outs m) c r = m ((c : Thread nD τ).loc r) := (V21_of m (outs m) c r (h _ (by simp [written]))).trans (keep20 m c r h)
theorem keep22 : V22 m (outs m) c r = m ((c : Thread nD τ).loc r) := (V22_of m (outs m) c r (h _ (by simp [written]))).trans (keep21 m c r h)
theorem keep23 : V23 m (outs m) c r = m ((c : Thread nD τ).loc r) := (V23_of m (outs m) c r (h _ (by simp [written]))).trans (keep22 m c r h)
theorem keep24 : V24 m (outs m) c r = m ((c : Thread nD τ).loc r) := (V24_of m (outs m) c r (h _ (by simp [written]))).trans (keep23 m c r h)
theorem keep25 : V25 m (outs m) c r = m ((c : Thread nD τ).loc r) := (V25_of m (outs m) c r (h _ (by simp [written]))).trans (keep24 m c r h)
theorem keep26 : V26 m (outs m) c r = m ((c : Thread nD τ).loc r) := (V26_of m (outs m) c r (h _ (by simp [written]))).trans (keep25 m c r h)
theorem keep27 : V27 m (outs m) c r = m ((c : Thread nD τ).loc r) := (V27_of m (outs m) c r (h _ (by simp [written]))).trans (keep26 m c r h)
theorem keep28 : V28 m (outs m) c r = m ((c : Thread nD τ).loc r) := (V28_of m (outs m) c r (h _ (by simp [written]))).trans (keep27 m c r h)
theorem keep29 : V29 m (outs m) c r = m ((c : Thread nD τ).loc r) := (V29_of m (outs m) c r (h _ (by simp [written]))).trans (keep28 m c r h)
theorem keep30 : V30 m (outs m) c r = m ((c : Thread nD τ).loc r) := (V30_of m (outs m) c r (h _ (by simp [written]))).trans (keep29 m c r h)
theorem keep31 : V31 m (outs m) c r = m ((c : Thread nD τ).loc r) := (V31_of m (outs m) c r (h _ (by simp [written]))).trans (keep30 m c r h)
theorem keep32 : V32 m (outs m) c r = m ((c : Thread nD τ).loc r) := (V32_of m (outs m) c r (h _ (by simp [written]))).trans (keep31 m c r h)
theorem keep33 : V33 m (outs m) c r = m ((c : Thread nD τ).loc r) := (V33_of m (outs m) c r (h _ (by simp [written]))).trans (keep32 m c r h)
theorem keep34 : V34 m (outs m) c r = m ((c : Thread nD τ).loc r) := (V34_of m (outs m) c r (h _ (by simp [written]))).trans (keep33 m c r h)
theorem keep35 : V35 m (outs m) c r = m ((c : Thread nD τ).loc r) := (V35_of m (outs m) c r (h _ (by simp [written]))).trans (keep34 m c r h)
theorem keep36 : V36 m (outs m) c r = m ((c : Thread nD τ).loc r) := (V36_of m (outs m) c r (h _ (by simp [written]))).trans (keep35 m c r h)

end Keep

theorem arg0 : ∀ W ∈ written, main_arg0 ∉ W := by decide
theorem arg1 : ∀ W ∈ written, main_arg1 ∉ W := by decide
theorem arg2 : ∀ W ∈ written, main_arg2 ∉ W := by decide
theorem arg3 : ∀ W ∈ written, main_arg3 ∉ W := by decide
theorem arg4 : ∀ W ∈ written, main_arg4 ∉ W := by decide
theorem arg5 : ∀ W ∈ written, main_arg5 ∉ W := by decide
theorem arg6 : ∀ W ∈ written, main_arg6 ∉ W := by decide
theorem arg7 : ∀ W ∈ written, main_arg7 ∉ W := by decide
theorem arg8 : ∀ W ∈ written, main_arg8 ∉ W := by decide
theorem arg9 : ∀ W ∈ written, main_arg9 ∉ W := by decide
theorem arg10 : ∀ W ∈ written, main_arg10 ∉ W := by decide
theorem arg11 : ∀ W ∈ written, main_arg11 ∉ W := by decide
theorem arg12 : ∀ W ∈ written, main_arg12 ∉ W := by decide
theorem arg13 : ∀ W ∈ written, main_arg13 ∉ W := by decide
theorem arg14 : ∀ W ∈ written, main_arg14 ∉ W := by decide
theorem arg15 : ∀ W ∈ written, main_arg15 ∉ W := by decide
theorem arg16 : ∀ W ∈ written, main_arg16 ∉ W := by decide
theorem arg17 : ∀ W ∈ written, main_arg17 ∉ W := by decide
theorem arg18 : ∀ W ∈ written, main_arg18 ∉ W := by decide

/-! ## The plain operands -/

theorem w0 (x p q o l : ℕ) (hx : x < 12) (hp : p < 3) (hq : q < 3) (ho : o < 12) (hl : l < 384) :
    at3 (a := 108) (b := 12) (c := 384) (Call0.in1 (in0 m) c) (9 * x + 3 * p + q) o l
      = at4 (a := 12) (b := 12) (c := 3) (d := 3) (m ((c : Thread nD τ).loc main_arg1)) o x p q := by
  rw [whole0_1, ← V3_eq]
  have e := Host.w0_2 (V2 m c) ⟨9 * x + 3 * p + q, by omega⟩ ⟨o, ho⟩ ⟨l, hl⟩
  rw [keep2 m c main_arg1 arg1] at e
  refine (at3_mk (a := 108) (b := 12) (c := 384) _ ⟨9 * x + 3 * p + q, by omega⟩ ⟨o, ho⟩ ⟨l, hl⟩).trans (e.trans ?_)
  dsimp only
  rw [show (9 * x + 3 * p + q) / 9 = x by omega, show (9 * x + 3 * p + q) / 3 % 3 = p by omega, show (9 * x + 3 * p + q) % 3 = q by omega]
theorem b0 (o l : ℕ) (ho : o < 12) (hl : l < 384) :
    at2 (a := 12) (b := 384) (Call0.in2 (in0 m) c) o l = at1 (a := 12) (m ((c : Thread nD τ).loc main_arg2)) o := by
  rw [whole0_2, ← V3_eq]
  have e := Host.b0_2 (V2 m c) ⟨o, ho⟩ ⟨l, hl⟩
  rw [keep2 m c main_arg2 arg2] at e
  exact (at2_mk (a := 12) (b := 384) _ ⟨o, ho⟩ ⟨l, hl⟩).trans e

theorem w4 (x p q o l : ℕ) (hx : x < 24) (hp : p < 3) (hq : q < 3) (ho : o < 24) (hl : l < 384) :
    at3 (a := 216) (b := 24) (c := 384) (Call4.in1 (in4 m) c) (9 * x + 3 * p + q) o l
      = at4 (a := 24) (b := 24) (c := 3) (d := 3) (m ((c : Thread nD τ).loc main_arg3)) o x p q := by
  rw [whole4_1, ← V29_eq]
  have e := Host.w4 (V28 m (outs m) c) ⟨9 * x + 3 * p + q, by omega⟩ ⟨o, ho⟩ ⟨l, hl⟩
  rw [keep28 m c main_arg3 arg3] at e
  refine (at3_mk (a := 216) (b := 24) (c := 384) _ ⟨9 * x + 3 * p + q, by omega⟩ ⟨o, ho⟩ ⟨l, hl⟩).trans (e.trans ?_)
  dsimp only
  rw [show (9 * x + 3 * p + q) / 9 = x by omega, show (9 * x + 3 * p + q) / 3 % 3 = p by omega, show (9 * x + 3 * p + q) % 3 = q by omega]
theorem b4 (o l : ℕ) (ho : o < 24) (hl : l < 384) :
    at2 (a := 24) (b := 384) (Call4.in2 (in4 m) c) o l = at1 (a := 24) (m ((c : Thread nD τ).loc main_arg4)) o := by
  rw [whole4_2, ← V29_eq]
  have e := Host.b4 (V28 m (outs m) c) ⟨o, ho⟩ ⟨l, hl⟩
  rw [keep28 m c main_arg4 arg4] at e
  exact (at2_mk (a := 24) (b := 384) _ ⟨o, ho⟩ ⟨l, hl⟩).trans e

theorem w6 (x p q o l : ℕ) (hx : x < 12) (hp : p < 3) (hq : q < 3) (ho : o < 12) (hl : l < 384) :
    at3 (a := 108) (b := 12) (c := 384) (Call6.in1 (in6 m) c) (9 * x + 3 * p + q) o l
      = at4 (a := 12) (b := 12) (c := 3) (d := 3) (m ((c : Thread nD τ).loc main_arg5)) o x p q := by
  rw [whole6_1, ← V33_eq]
  have e := Host.w6 (V32 m (outs m) c) ⟨9 * x + 3 * p + q, by omega⟩ ⟨o, ho⟩ ⟨l, hl⟩
  rw [keep32 m c main_arg5 arg5] at e
  refine (at3_mk (a := 108) (b := 12) (c := 384) _ ⟨9 * x + 3 * p + q, by omega⟩ ⟨o, ho⟩ ⟨l, hl⟩).trans (e.trans ?_)
  dsimp only
  rw [show (9 * x + 3 * p + q) / 9 = x by omega, show (9 * x + 3 * p + q) / 3 % 3 = p by omega, show (9 * x + 3 * p + q) % 3 = q by omega]
theorem b6 (o l : ℕ) (ho : o < 12) (hl : l < 384) :
    at2 (a := 12) (b := 384) (Call6.in2 (in6 m) c) o l = at1 (a := 12) (m ((c : Thread nD τ).loc main_arg6)) o := by
  rw [whole6_2, ← V33_eq]
  have e := Host.b6 (V32 m (outs m) c) ⟨o, ho⟩ ⟨l, hl⟩
  rw [keep32 m c main_arg6 arg6] at e
  exact (at2_mk (a := 12) (b := 384) _ ⟨o, ho⟩ ⟨l, hl⟩).trans e

theorem w7 (x p q o l : ℕ) (hx : x < 12) (hp : p < 3) (hq : q < 3) (ho : o < 12) (hl : l < 384) :
    at3 (a := 108) (b := 12) (c := 384) (Call7.in1 (in7 m) c) (9 * x + 3 * p + q) o l
      = at4 (a := 12) (b := 12) (c := 3) (d := 3) (m ((c : Thread nD τ).loc main_arg5)) o x p q := by
  rw [whole7_1, ← V35_eq]
  have e := Host.w7 (V34 m (outs m) c) ⟨9 * x + 3 * p + q, by omega⟩ ⟨o, ho⟩ ⟨l, hl⟩
  rw [keep34 m c main_arg5 arg5] at e
  refine (at3_mk (a := 108) (b := 12) (c := 384) _ ⟨9 * x + 3 * p + q, by omega⟩ ⟨o, ho⟩ ⟨l, hl⟩).trans (e.trans ?_)
  dsimp only
  rw [show (9 * x + 3 * p + q) / 9 = x by omega, show (9 * x + 3 * p + q) / 3 % 3 = p by omega, show (9 * x + 3 * p + q) % 3 = q by omega]
theorem b7 (o l : ℕ) (ho : o < 12) (hl : l < 384) :
    at2 (a := 12) (b := 384) (Call7.in2 (in7 m) c) o l = at1 (a := 12) (m ((c : Thread nD τ).loc main_arg6)) o := by
  rw [whole7_2, ← V35_eq]
  have e := Host.b7 (V34 m (outs m) c) ⟨o, ho⟩ ⟨l, hl⟩
  rw [keep34 m c main_arg6 arg6] at e
  exact (at2_mk (a := 12) (b := 384) _ ⟨o, ho⟩ ⟨l, hl⟩).trans e

theorem w8 (x p q o l : ℕ) (hx : x < 12) (hp : p < 3) (hq : q < 3) (ho : o < 1) (hl : l < 384) :
    at3 (a := 108) (b := 1) (c := 384) (Call8.in1 (in8 m) c) (9 * x + 3 * p + q) o l
      = at4 (a := 1) (b := 12) (c := 3) (d := 3) (m ((c : Thread nD τ).loc main_arg7)) o x p q := by
  rw [whole8_1, ← V37_eq]
  have e := Host.w8 (V36 m (outs m) c) ⟨9 * x + 3 * p + q, by omega⟩ ⟨o, ho⟩ ⟨l, hl⟩
  rw [keep36 m c main_arg7 arg7] at e
  refine (at3_mk (a := 108) (b := 1) (c := 384) _ ⟨9 * x + 3 * p + q, by omega⟩ ⟨o, ho⟩ ⟨l, hl⟩).trans (e.trans ?_)
  dsimp only
  rw [show (9 * x + 3 * p + q) / 9 = x by omega, show (9 * x + 3 * p + q) / 3 % 3 = p by omega, show (9 * x + 3 * p + q) % 3 = q by omega]
theorem b8 (o l : ℕ) (ho : o < 1) (hl : l < 384) :
    at2 (a := 1) (b := 384) (Call8.in2 (in8 m) c) o l = at1 (a := 1) (m ((c : Thread nD τ).loc main_arg8)) o := by
  rw [whole8_2, ← V37_eq]
  have e := Host.b8 (V36 m (outs m) c) ⟨o, ho⟩ ⟨l, hl⟩
  rw [keep36 m c main_arg8 arg8] at e
  exact (at2_mk (a := 1) (b := 384) _ ⟨o, ho⟩ ⟨l, hl⟩).trans e

theorem w3 (x o l : ℕ) (hx : x < 48) (ho : o < 96) (hl : l < 384) :
    at3 (a := 48) (b := 96) (c := 384) (Call3.in1 (in3 m) c) x o l
      = at4 (a := 96) (b := 48) (c := 1) (d := 1) (m ((c : Thread nD τ).loc main_arg15)) o x 0 0 := by
  rw [whole3_1, ← V27_eq]
  have e := Host.w3 (V26 m (outs m) c) ⟨x, hx⟩ ⟨o, ho⟩ ⟨l, hl⟩
  rw [keep26 m c main_arg15 arg15] at e
  exact (at3_mk (a := 48) (b := 96) (c := 384) _ ⟨x, hx⟩ ⟨o, ho⟩ ⟨l, hl⟩).trans e
theorem b3 (o l : ℕ) (ho : o < 96) (hl : l < 384) :
    at2 (a := 96) (b := 384) (Call3.in2 (in3 m) c) o l = at1 (a := 96) (m ((c : Thread nD τ).loc main_arg16)) o := by
  rw [whole3_2, ← V27_eq]
  have e := Host.b3 (V26 m (outs m) c) ⟨o, ho⟩ ⟨l, hl⟩
  rw [keep26 m c main_arg16 arg16] at e
  exact (at2_mk (a := 96) (b := 384) _ ⟨o, ho⟩ ⟨l, hl⟩).trans e

theorem w5 (x o l : ℕ) (hx : x < 24) (ho : o < 48) (hl : l < 384) :
    at3 (a := 24) (b := 48) (c := 384) (Call5.in1 (in5 m) c) x o l
      = at4 (a := 48) (b := 24) (c := 1) (d := 1) (m ((c : Thread nD τ).loc main_arg17)) o x 0 0 := by
  rw [whole5_1, ← V31_eq]
  have e := Host.w5 (V30 m (outs m) c) ⟨x, hx⟩ ⟨o, ho⟩ ⟨l, hl⟩
  rw [keep30 m c main_arg17 arg17] at e
  exact (at3_mk (a := 24) (b := 48) (c := 384) _ ⟨x, hx⟩ ⟨o, ho⟩ ⟨l, hl⟩).trans e
theorem b5 (o l : ℕ) (ho : o < 48) (hl : l < 384) :
    at2 (a := 48) (b := 384) (Call5.in2 (in5 m) c) o l = at1 (a := 48) (m ((c : Thread nD τ).loc main_arg18)) o := by
  rw [whole5_2, ← V31_eq]
  have e := Host.b5 (V30 m (outs m) c) ⟨o, ho⟩ ⟨l, hl⟩
  rw [keep30 m c main_arg18 arg18] at e
  exact (at2_mk (a := 48) (b := 384) _ ⟨o, ho⟩ ⟨l, hl⟩).trans e

theorem x0 (o i l : ℕ) (ho : o < 12) (hi : i < 400) (hl : l < 386) :
    at3 (a := 12) (b := 400) (c := 386) (Call0.in0 (in0 m) c) o i l
      = if (8 ≤ i ∧ i - 8 < 384) ∧ 1 ≤ l ∧ l - 1 < 384
        then at4 (a := 1) (b := 12) (c := 384) (d := 384) (m ((c : Thread nD τ).loc main_arg0)) 0 o (i - 8) (l - 1) else 0 := by
  rw [whole0_0, ← V3_eq, V3_of m c main_v1 (by decide)]
  exact (at3_mk (a := 12) (b := 400) (c := 386) _ ⟨o, ho⟩ ⟨i, hi⟩ ⟨l, hl⟩).trans (Host.x0 (V0 m c) ⟨o, ho⟩ ⟨i, hi⟩ ⟨l, hl⟩)

/-! ## The merges' weights -/

theorem lane1 (l : Fin 384) :
    IntOp.cmpi .eq ((V8 m (outs m) c) (Proc.devRef .tc main_v11) (ix1 l)) 0#32 = if l.val / 1 % 2 = 0 then 1#1 else 0#1 := by
  have e := Host.rem1 (V6 m (outs m) c) ⟨l.val / 1, by omega⟩ l (Host.quot1 (V4 m (outs m) c) l)
  refine (congrArg (fun b => IntOp.cmpi .eq b 0#32) e).trans ?_
  clear e
  revert l
  decide +kernel
theorem pattern1 (l : Fin 384) : (V9 m (outs m) c) (Proc.devRef .tc main_v13) (ix1 l) = if l.val / 1 % 2 = 0 then 1#1 else 0#1 :=
  (Host.pat1 (V8 m (outs m) c) l).trans (lane1 m c l)

theorem g1_1 (o l : ℕ) (ho : o < 24) (hl : l < 384) :
    at2 (a := 24) (b := 384) (Call1.in1 (in1 m) c) o l
      = at1 (a := 48) (m ((c : Thread nD τ).loc main_arg9)) (if l / 1 % 2 = 0 then o else 24 + o) := by
  rw [whole1_1, ← V14_eq, V14_of m (outs m) c main_v24 (by decide), V13_of m (outs m) c main_v24 (by decide), V12_of m (outs m) c main_v24 (by decide), V11_of m (outs m) c main_v24 (by decide)]
  have e := Host.sel1_5 (V9 m (outs m) c) ⟨o, ho⟩ ⟨l, hl⟩
  have elo : (V9 m (outs m) c) (Proc.devRef .tc main_v19) (ix2 ⟨o, ho⟩ 0) = _ := Host.lo1_4 (V8 m (outs m) c) ⟨o, ho⟩
  have ehi : (V9 m (outs m) c) (Proc.devRef .tc main_v23) (ix2 ⟨o, ho⟩ 0) = _ := Host.hi1_4 (V8 m (outs m) c) ⟨o, ho⟩
  have ep : (V9 m (outs m) c) (Proc.devRef .tc main_v15) (ix2 0 ⟨l, hl⟩) = if l / 1 % 2 = 0 then 1#1 else 0#1 := (Host.pat1_4 (V8 m (outs m) c) ⟨l, hl⟩).trans (lane1 m c ⟨l, hl⟩)
  rw [keep8 m c main_arg9 arg9] at elo ehi
  refine (at2_mk (a := 24) (b := 384) _ ⟨o, ho⟩ ⟨l, hl⟩).trans (e.trans ?_)
  rw [ep, elo, ehi]
  by_cases h : l / 1 % 2 = 0
  · rw [if_pos h, if_pos h]; exact select_one _ _
  · rw [if_neg h, if_neg h]; exact select_zero _ _
theorem g1_2 (o l : ℕ) (ho : o < 24) (hl : l < 384) :
    at2 (a := 24) (b := 384) (Call1.in2 (in1 m) c) o l
      = at1 (a := 48) (m ((c : Thread nD τ).loc main_arg10)) (if l / 1 % 2 = 0 then o else 24 + o) := by
  rw [whole1_2, ← V14_eq, V14_of m (outs m) c main_v35 (by decide), V13_of m (outs m) c main_v35 (by decide)]
  have e := Host.sel1_7 (V11 m (outs m) c) ⟨o, ho⟩ ⟨l, hl⟩
  have elo : (V11 m (outs m) c) (Proc.devRef .tc main_v30) (ix2 ⟨o, ho⟩ 0) = _ := Host.lo1_6 (V10 m (outs m) c) ⟨o, ho⟩
  have ehi : (V11 m (outs m) c) (Proc.devRef .tc main_v34) (ix2 ⟨o, ho⟩ 0) = _ := Host.hi1_6 (V10 m (outs m) c) ⟨o, ho⟩
  have ep : (V11 m (outs m) c) (Proc.devRef .tc main_v26) (ix2 0 ⟨l, hl⟩) = if l / 1 % 2 = 0 then 1#1 else 0#1 := (Host.pat1_6 (V10 m (outs m) c) ⟨l, hl⟩).trans ((congrFun (((V10_of m (outs m) c main_v13 (by decide)))) (ix1 ⟨l, hl⟩)).trans (pattern1 m c ⟨l, hl⟩))
  rw [keep10 m c main_arg10 arg10] at elo ehi
  refine (at2_mk (a := 24) (b := 384) _ ⟨o, ho⟩ ⟨l, hl⟩).trans (e.trans ?_)
  rw [ep, elo, ehi]
  by_cases h : l / 1 % 2 = 0
  · rw [if_pos h, if_pos h]; exact select_one _ _
  · rw [if_neg h, if_neg h]; exact select_zero _ _
theorem g1_3 (g o l : ℕ) (hg : g < 24) (ho : o < 24) (hl : l < 384) :
    at3 (a := 24) (b := 24) (c := 384) (Call1.in3 (in1 m) c) g o l
      = at2 (a := 48) (b := 24) (m ((c : Thread nD τ).loc main_arg11)) (if l / 1 % 2 = 0 then g else 24 + g) o := by
  rw [whole1_3, ← V14_eq]
  have e := Host.sel1_9 (V13 m (outs m) c) ⟨g, hg⟩ ⟨o, ho⟩ ⟨l, hl⟩
  have elo : (V13 m (outs m) c) (Proc.devRef .tc main_v41) (ix3 ⟨g, hg⟩ ⟨o, ho⟩ 0) = _ := Host.lo1_8 (V12 m (outs m) c) ⟨g, hg⟩ ⟨o, ho⟩
  have ehi : (V13 m (outs m) c) (Proc.devRef .tc main_v45) (ix3 ⟨g, hg⟩ ⟨o, ho⟩ 0) = _ := Host.hi1_8 (V12 m (outs m) c) ⟨g, hg⟩ ⟨o, ho⟩
  have ep : (V13 m (outs m) c) (Proc.devRef .tc main_v37) (ix3 0 0 ⟨l, hl⟩) = if l / 1 % 2 = 0 then 1#1 else 0#1 := (Host.pat1_8 (V12 m (outs m) c) ⟨l, hl⟩).trans ((congrFun (((V12_of m (outs m) c main_v13 (by decide)).trans ((V11_of m (outs m) c main_v13 (by decide)).trans ((V10_of m (outs m) c main_v13 (by decide)))))) (ix1 ⟨l, hl⟩)).trans (pattern1 m c ⟨l, hl⟩))
  rw [keep12 m c main_arg11 arg11] at elo ehi
  refine (at3_mk (a := 24) (b := 24) (c := 384) _ ⟨g, hg⟩ ⟨o, ho⟩ ⟨l, hl⟩).trans (e.trans ?_)
  rw [ep, elo, ehi]
  by_cases h : l / 1 % 2 = 0
  · rw [if_pos h, if_pos h]; exact select_one _ _
  · rw [if_neg h, if_neg h]; exact select_zero _ _

theorem lane2 (l : Fin 384) :
    IntOp.cmpi .eq ((V19 m (outs m) c) (Proc.devRef .tc main_v50) (ix1 l)) 0#32 = if l.val / 2 % 2 = 0 then 1#1 else 0#1 := by
  have e := Host.rem2 (V17 m (outs m) c) ⟨l.val / 2, by omega⟩ l (Host.quot2 (V15 m (outs m) c) l)
  refine (congrArg (fun b => IntOp.cmpi .eq b 0#32) e).trans ?_
  clear e
  revert l
  decide +kernel
theorem pattern2 (l : Fin 384) : (V20 m (outs m) c) (Proc.devRef .tc main_v52) (ix1 l) = if l.val / 2 % 2 = 0 then 1#1 else 0#1 :=
  (Host.pat2 (V19 m (outs m) c) l).trans (lane2 m c l)

theorem g2_1 (o l : ℕ) (ho : o < 48) (hl : l < 384) :
    at2 (a := 48) (b := 384) (Call2.in1 (in2 m) c) o l
      = at1 (a := 96) (m ((c : Thread nD τ).loc main_arg12)) (if l / 2 % 2 = 0 then o else 48 + o) := by
  rw [whole2_1, ← V25_eq, V25_of m (outs m) c main_v63 (by decide), V24_of m (outs m) c main_v63 (by decide), V23_of m (outs m) c main_v63 (by decide), V22_of m (outs m) c main_v63 (by decide)]
  have e := Host.sel2_5 (V20 m (outs m) c) ⟨o, ho⟩ ⟨l, hl⟩
  have elo : (V20 m (outs m) c) (Proc.devRef .tc main_v58) (ix2 ⟨o, ho⟩ 0) = _ := Host.lo2_4 (V19 m (outs m) c) ⟨o, ho⟩
  have ehi : (V20 m (outs m) c) (Proc.devRef .tc main_v62) (ix2 ⟨o, ho⟩ 0) = _ := Host.hi2_4 (V19 m (outs m) c) ⟨o, ho⟩
  have ep : (V20 m (outs m) c) (Proc.devRef .tc main_v54) (ix2 0 ⟨l, hl⟩) = if l / 2 % 2 = 0 then 1#1 else 0#1 := (Host.pat2_4 (V19 m (outs m) c) ⟨l, hl⟩).trans (lane2 m c ⟨l, hl⟩)
  rw [keep19 m c main_arg12 arg12] at elo ehi
  refine (at2_mk (a := 48) (b := 384) _ ⟨o, ho⟩ ⟨l, hl⟩).trans (e.trans ?_)
  rw [ep, elo, ehi]
  by_cases h : l / 2 % 2 = 0
  · rw [if_pos h, if_pos h]; exact select_one _ _
  · rw [if_neg h, if_neg h]; exact select_zero _ _
theorem g2_2 (o l : ℕ) (ho : o < 48) (hl : l < 384) :
    at2 (a := 48) (b := 384) (Call2.in2 (in2 m) c) o l
      = at1 (a := 96) (m ((c : Thread nD τ).loc main_arg13)) (if l / 2 % 2 = 0 then o else 48 + o) := by
  rw [whole2_2, ← V25_eq, V25_of m (outs m) c main_v74 (by decide), V24_of m (outs m) c main_v74 (by decide)]
  have e := Host.sel2_7 (V22 m (outs m) c) ⟨o, ho⟩ ⟨l, hl⟩
  have elo : (V22 m (outs m) c) (Proc.devRef .tc main_v69) (ix2 ⟨o, ho⟩ 0) = _ := Host.lo2_6 (V21 m (outs m) c) ⟨o, ho⟩
  have ehi : (V22 m (outs m) c) (Proc.devRef .tc main_v73) (ix2 ⟨o, ho⟩ 0) = _ := Host.hi2_6 (V21 m (outs m) c) ⟨o, ho⟩
  have ep : (V22 m (outs m) c) (Proc.devRef .tc main_v65) (ix2 0 ⟨l, hl⟩) = if l / 2 % 2 = 0 then 1#1 else 0#1 := (Host.pat2_6 (V21 m (outs m) c) ⟨l, hl⟩).trans ((congrFun (((V21_of m (outs m) c main_v52 (by decide)))) (ix1 ⟨l, hl⟩)).trans (pattern2 m c ⟨l, hl⟩))
  rw [keep21 m c main_arg13 arg13] at elo ehi
  refine (at2_mk (a := 48) (b := 384) _ ⟨o, ho⟩ ⟨l, hl⟩).trans (e.trans ?_)
  rw [ep, elo, ehi]
  by_cases h : l / 2 % 2 = 0
  · rw [if_pos h, if_pos h]; exact select_one _ _
  · rw [if_neg h, if_neg h]; exact select_zero _ _
theorem g2_3 (g o l : ℕ) (hg : g < 48) (ho : o < 48) (hl : l < 384) :
    at3 (a := 48) (b := 48) (c := 384) (Call2.in3 (in2 m) c) g o l
      = at2 (a := 96) (b := 48) (m ((c : Thread nD τ).loc main_arg14)) (if l / 2 % 2 = 0 then g else 48 + g) o := by
  rw [whole2_3, ← V25_eq]
  have e := Host.sel2_9 (V24 m (outs m) c) ⟨g, hg⟩ ⟨o, ho⟩ ⟨l, hl⟩
  have elo : (V24 m (outs m) c) (Proc.devRef .tc main_v80) (ix3 ⟨g, hg⟩ ⟨o, ho⟩ 0) = _ := Host.lo2_8 (V23 m (outs m) c) ⟨g, hg⟩ ⟨o, ho⟩
  have ehi : (V24 m (outs m) c) (Proc.devRef .tc main_v84) (ix3 ⟨g, hg⟩ ⟨o, ho⟩ 0) = _ := Host.hi2_8 (V23 m (outs m) c) ⟨g, hg⟩ ⟨o, ho⟩
  have ep : (V24 m (outs m) c) (Proc.devRef .tc main_v76) (ix3 0 0 ⟨l, hl⟩) = if l / 2 % 2 = 0 then 1#1 else 0#1 := (Host.pat2_8 (V23 m (outs m) c) ⟨l, hl⟩).trans ((congrFun (((V23_of m (outs m) c main_v52 (by decide)).trans ((V22_of m (outs m) c main_v52 (by decide)).trans ((V21_of m (outs m) c main_v52 (by decide)))))) (ix1 ⟨l, hl⟩)).trans (pattern2 m c ⟨l, hl⟩))
  rw [keep23 m c main_arg14 arg14] at elo ehi
  refine (at3_mk (a := 48) (b := 48) (c := 384) _ ⟨g, hg⟩ ⟨o, ho⟩ ⟨l, hl⟩).trans (e.trans ?_)
  rw [ep, elo, ehi]
  by_cases h : l / 2 % 2 = 0
  · rw [if_pos h, if_pos h]; exact select_one _ _
  · rw [if_neg h, if_neg h]; exact select_zero _ _

/-! ## Each call's first operand -/

theorem x1 : Call1.in0 (in1 m) c = Call0.res (in0 m) c := by
  rw [whole1_0, ← V14_eq, V14_of m (outs m) c main_v8 (by decide), V13_of m (outs m) c main_v8 (by decide), V12_of m (outs m) c main_v8 (by decide), V11_of m (outs m) c main_v8 (by decide), V10_of m (outs m) c main_v8 (by decide), V9_of m (outs m) c main_v8 (by decide), V8_of m (outs m) c main_v8 (by decide), V7_of m (outs m) c main_v8 (by decide), V6_of m (outs m) c main_v8 (by decide), V5_of m (outs m) c main_v8 (by decide), V4_eq]
  exact Function.update_self _ _ _
theorem x2 : Call2.in0 (in2 m) c = Call1.res (in1 m) c := by
  rw [whole2_0, ← V25_eq, V25_of m (outs m) c main_v47 (by decide), V24_of m (outs m) c main_v47 (by decide), V23_of m (outs m) c main_v47 (by decide), V22_of m (outs m) c main_v47 (by decide), V21_of m (outs m) c main_v47 (by decide), V20_of m (outs m) c main_v47 (by decide), V19_of m (outs m) c main_v47 (by decide), V18_of m (outs m) c main_v47 (by decide), V17_of m (outs m) c main_v47 (by decide), V16_of m (outs m) c main_v47 (by decide), V15_eq]
  exact Function.update_self _ _ _
theorem x3 : Call3.in0 (in3 m) c = Call2.res (in2 m) c := by
  rw [whole3_0, ← V27_eq, V27_of m (outs m) c main_v86 (by decide), V26_eq]
  exact Function.update_self _ _ _
theorem x4 : Call4.in0 (in4 m) c = Call3.res (in3 m) c := by
  rw [whole4_0, ← V29_eq, V29_of m (outs m) c main_v93 (by decide), V28_eq]
  exact Function.update_self _ _ _
theorem x5 : Call5.in0 (in5 m) c = Call4.res (in4 m) c := by
  rw [whole5_0, ← V31_eq, V31_of m (outs m) c main_v100 (by decide), V30_eq]
  exact Function.update_self _ _ _
theorem x6 : Call6.in0 (in6 m) c = Call5.res (in5 m) c := by
  rw [whole6_0, ← V33_eq, V33_of m (outs m) c main_v107 (by decide), V32_eq]
  exact Function.update_self _ _ _
theorem x7 : Call7.in0 (in7 m) c = Call6.res (in6 m) c := by
  rw [whole7_0, ← V35_eq, V35_of m (outs m) c main_v114 (by decide), V34_eq]
  exact Function.update_self _ _ _
theorem x8 : Call8.in0 (in8 m) c = Call7.res (in7 m) c := by
  rw [whole8_0, ← V37_eq, V37_of m (outs m) c main_v121 (by decide), V36_eq]
  exact Function.update_self _ _ _

end Cert.Val.Operands

end
-- ==== Proof.Val.Call0.lean ====
module

public import proofs.«01_k».proof.Proof.KI.Call0
public import proofs.«01_k».proof.Proof.Val.Basic

@[expose] public section

set_option maxRecDepth 16384

noncomputable section

namespace Cert.Val.Call0

open Cert.KernelIdeal Cert.KernelIdeal.Gen Cert.KernelIdeal.Body0
open Idealize.ShloMosaic Idealize.ShloMosaic.TcCoe Idealize.ShloMosaic.Tactic Idealize.SL.Sem
open Cert.Pieces

variable (c : Dev nD) (X0 : Vec Ideal S12x400x386 .f32) (X1 : Vec Ideal S108x12x384 .f32) (X2 : Vec Ideal S12x384 .f32)

/-- The whole of the scratch, as a box of it. -/
abbrev box : Rect S12x48x384 := Rect.unit ![0, 0, 0] S12x48x384.size inb_S12x48x384_S12x48x384_0_0_0

/-- What the trips over the input channels write into the scratch. -/
abbrev pb (k1 : Fin k0_t1_loop.trips) (v1 : BitVec 32) (G : BufTy.Contents (Elt Ideal) (Memref.whole cc0_scratch0).view.ty) (n : ℕ) :
    List (View.Piece (Elt Ideal) S12x48x384 .f32) :=
  pb_k0_t2 (F := Ideal) Variants.none c none (stage0_0 0) (hstage0_0 0) (stage0_1 0) (hstage0_1 0) (stage0_2 0) (hstage0_2 0) (stage0_3 0) (hstage0_3 0) (Memref.whole cc0_scratch0) (Memref.isWhole_whole _) k1 v1 X0 X1 G n

/-- What the scratch holds at an entry. -/
abbrev rd (f : BufTy.Contents (Elt Ideal) (Memref.whole cc0_scratch0).view.ty) (x : S12x48x384.Idx) : EReal :=
  (View.whole cc0_scratch0).read (Elt Ideal) f x

set_option maxHeartbeats 2000000 in
/-- A trip over four input channels: adds their products to what the scratch holds. -/
theorem inner (k1 : Fin k0_t1_loop.trips) (v1 : BitVec 32) (k : Fin k0_t2_loop.trips) (f : BufTy.Contents (Elt Ideal) (Memref.whole cc0_scratch0).view.ty) :
    ∃ w, tripL_k0_t2 (F := Ideal) Variants.none c none (stage0_0 0) (hstage0_0 0) (stage0_1 0) (hstage0_1 0) (stage0_2 0) (hstage0_2 0) (stage0_3 0) (hstage0_3 0) (Memref.whole cc0_scratch0) (Memref.isWhole_whole _) k1 v1 X0 X1 k f = [⟨box, w⟩] ∧
      ∀ (o : Fin 12) (r : Fin 48) (l : Fin 384), w (ix3 o r l) = rd f (box.emb (ix3 o r l))
        + conv4 (a := 108) (b := 12) (c := 384) (a' := 12) (b' := 400) (c' := 386) X1 X0 1 o (48 * k1 + r) l k := by
  unfold tripL_k0_t2 trip_k0_t2
  sl_unfold_run_names
  refine ⟨_, rfl, fun o r l => ?_⟩
  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24]
  refine congrArg₂ (· + ·) rfl ?_
  simp only [conv4_row, Fin.sum_univ_four, Fin.sum_univ_three]
  simp only [load3]
  simp only [← add_assoc (G := EReal)]
  simp [ClosedOff.form]

/-- The scratch after all trips: what it started with and all the channels' products. -/
theorem sums (k1 : Fin k0_t1_loop.trips) (v1 : BitVec 32) (w0 : box.shape.Idx → EReal) (o : Fin 12) (r : Fin 48) (l : Fin 384) :
    (View.whole cc0_scratch0).readCov (pb c X0 X1 k1 v1 ((View.whole cc0_scratch0).writes (Elt Ideal) (View.whole cc0_scratch0).junk [⟨box, w0⟩]) 3
        ++ [⟨box, w0⟩]) box.toLoadRect (ix3 o r l)
      = w0 (ix3 o r l) + ∑ j ∈ Finset.range 3, conv4 (a := 108) (b := 12) (c := 384) (a' := 12) (b' := 400) (c' := 386) X1 X0 1 o (48 * k1 + r) l j := by
  have h := read_sum (v := View.whole cc0_scratch0) ((View.whole cc0_scratch0).writes (Elt Ideal) (View.whole cc0_scratch0).junk [⟨box, w0⟩])
    box (pb c X0 X1 k1 v1 ((View.whole cc0_scratch0).writes (Elt Ideal) (View.whole cc0_scratch0).junk [⟨box, w0⟩])) (ix3 o r l)
    (fun j => conv4 (a := 108) (b := 12) (c := 384) (a' := 12) (b' := 400) (c' := 386) X1 X0 1 o (48 * k1 + r) l j) 3 rfl
    (fun k hk => by
      obtain ⟨w, hw, hv⟩ := inner c X0 X1 k1 v1 ⟨k, hk⟩ ((View.whole cc0_scratch0).writes (Elt Ideal) ((View.whole cc0_scratch0).writes (Elt Ideal) (View.whole cc0_scratch0).junk [⟨box, w0⟩]) (pb c X0 X1 k1 v1 ((View.whole cc0_scratch0).writes (Elt Ideal) (View.whole cc0_scratch0).junk [⟨box, w0⟩]) k))
      refine ⟨w, ?_, hv o r l⟩
      refine (pb_k0_t2_succ Variants.none c none (stage0_0 0) (hstage0_0 0) (stage0_1 0) (hstage0_1 0) (stage0_2 0) (hstage0_2 0) (stage0_3 0) (hstage0_3 0) (Memref.whole cc0_scratch0) (Memref.isWhole_whole _) k1 v1 X0 X1 _ ⟨k, hk⟩).trans ?_
      rw [hw]; rfl) 3 le_rfl
  rw [View.read_writes_cons_emb] at h
  refine Eq.trans ?_ h
  unfold View.readCov
  rw [View.writes_append]
  rfl

/-- An entry of the convolution, lanes counted without a border. -/
def entry (o y l : ℕ) : EReal :=
  finMask (at2 (a := 12) (b := 384) X2 o l + ∑ j ∈ Finset.range 3, conv4 (a := 108) (b := 12) (c := 384) (a' := 12) (b' := 400) (c' := 386) X1 X0 1 o y l j)

/-- A strip's box of the result. -/
abbrev rows (k : Fin k0_t1_loop.trips) : Rect S12x384x384 := Rect.unit (s := S12x384x384) (k0_off3 k) S12x48x384.size (k0_off3_inb k)

set_option maxHeartbeats 2000000 in
/-- A strip: one box of rows of the convolution. -/
theorem strip (k : Fin k0_t1_loop.trips) :
    ∃ w, tripL (F := Ideal) c (stage0_0 0) (hstage0_0 0) (stage0_1 0) (hstage0_1 0) (stage0_2 0) (hstage0_2 0) (stage0_3 0) (hstage0_3 0) (Memref.whole cc0_scratch0) (Memref.isWhole_whole _) X0 X1 X2 k = [⟨rows k, w⟩] ∧
      ∀ (o : Fin 12) (r : Fin 48) (l : Fin 384), w (ix3 o r l) = entry X0 X1 X2 o (48 * k + r) l := by
  unfold tripL trip
  sl_unfold_run_names
  refine ⟨_, rfl, fun o r l => ?_⟩
  pointwise [k0_pay3]
  refine Eq.trans (congrArg finMask (sums c X0 X1 k _ _ o r l)) ?_
  unfold entry
  congr 2
  pointwise [k0_pay1]
  simp [load2, ClosedOff.form]

/-- An entry of the result. -/
def out (V : (c : Dev nD) → Valuation τ sig (Elt Ideal)) (y : S12x384x384.Idx) : EReal :=
  entry (KernelIdeal.Call0.in0 V c) (KernelIdeal.Call0.in1 V c) (KernelIdeal.Call0.in2 V c) (y 0) (y 1) (y 2)

/-- What the call leaves in its result, entry by entry. -/
theorem value (V : (c : Dev nD) → Valuation τ sig (Elt Ideal)) (y : S12x384x384.Idx) :
    KernelIdeal.Call0.res V c y = out c V y := by
  unfold KernelIdeal.Call0.res
  refine View.canon_apply_of_pieces (Val := Elt Ideal) (e := .f32) (out c V) _ ?_ y (run_cover ..)
  intro p hp x
  rw [KernelIdeal.Call0.pieces, run_list, mem_gather] at hp
  obtain ⟨k, -, hp⟩ := hp
  obtain ⟨w, hw, hv⟩ := strip c (KernelIdeal.Call0.in0 V c) (KernelIdeal.Call0.in1 V c) (KernelIdeal.Call0.in2 V c) k
  rw [hw, List.mem_singleton] at hp
  subst hp
  have hx : x = ix3 (x 0 : Fin 12) (x 1 : Fin 48) (x 2 : Fin 384) := eq_ix3 x
  refine (congrArg w hx).trans ((hv (x 0) (x 1) (x 2)).trans ?_)
  have e0 : ((rows k).emb x 0).val = (x 0).val := by
    show k0_off3 k 0 + 1 * (x 0).val = _; rw [k0_off3_eq]; simp
  have e1 : ((rows k).emb x 1).val = 48 * k.val + (x 1).val := by
    show k0_off3 k 1 + 1 * (x 1).val = _; rw [k0_off3_eq]; simp
  have e2 : ((rows k).emb x 2).val = (x 2).val := by
    show k0_off3 k 2 + 1 * (x 2).val = _; rw [k0_off3_eq]; simp
  unfold out
  rw [e0, e1, e2]

end Cert.Val.Call0

end
-- ==== Proof.Val.Call1.lean ====
module

public import proofs.«01_k».proof.Proof.KI.Call1
public import proofs.«01_k».proof.Proof.Val.Basic

@[expose] public section

set_option maxRecDepth 16384

noncomputable section

namespace Cert.Val.Call1

open Cert.KernelIdeal Cert.KernelIdeal.Gen Cert.KernelIdeal.Body1
open Idealize.ShloMosaic Idealize.ShloMosaic.TcCoe Idealize.ShloMosaic.Tactic Idealize.SL.Sem
open Cert.Pieces

variable (c : Dev nD) (X0 : Vec Ideal S12x384x384 .f32) (X1 X2 : Vec Ideal S24x384 .f32) (X3 : Vec Ideal S24x24x384 .f32)

/-- One over the number of entries a patch normalises over, and the number under the root. -/
abbrev inv : EReal := Named.named (F := Ideal) κ "inv_48" (φ := .f32) 0x3CAAAAAB#32
abbrev eps : EReal := Ideal.ofBits .f32 925353388#32

set_option maxHeartbeats 2000000 in
/-- Whether a lane is the first of its pair. -/
theorem half (r : Fin 24) (l : Fin 384) : (k1_pay10 2#32 k1_pay7 k1_pay8 k1_pay9) (ix2 r l) = if l.val / 1 % 2 = 0 then 1#1 else 0#1 := by
  pointwise [k1_pay10, k1_pay9, k1_pay8, k1_pay7]
  revert l
  decide +kernel

/-- What the strip's start reads. -/
abbrev rows (k : Fin k1_t1_loop.trips) : Vec Ideal S12x48x384 .f32 :=
  (stage1_0 0).view.readAt (Elt Ideal) (Rect.unit (s := S12x384x384) (k1_off1 k) S12x48x384.size (k1_off1_inb k)).toLoadRect X0
abbrev gam : Vec Ideal S24x384 .f32 :=
  (stage1_1 0).view.readAt (Elt Ideal) (Rect.unit (s := S24x384) ![0, 0] S24x384.size inb_S24x384_S24x384_0_0).toLoadRect X1
abbrev bet : Vec Ideal S24x384 .f32 :=
  (stage1_2 0).view.readAt (Elt Ideal) (Rect.unit (s := S24x384) ![0, 0] S24x384.size inb_S24x384_S24x384_0_0).toLoadRect X2

/-- The normalised patches of a strip. -/
abbrev nrm (k : Fin k1_t1_loop.trips) : Vec Ideal S24x24x384 .f32 :=
  k1_pay1 (k1_pay11 (k1_pay6 (rows X0 k)) 2#32 k1_pay7 k1_pay8 k1_pay9 (gam X1)) (bet X2)

theorem rows_eq (k : Fin k1_t1_loop.trips) (x : Fin 12) (r : Fin 48) (l : Fin 384) :
    rows X0 k (ix3 x r l) = at3 (a := 12) (b := 384) (c := 384) X0 x (48 * k + r) l := by
  refine (load3 (a := 12) (b := 384) (c := 384) (View.whole cc1_stg0_0) (k1_off1 k) (k1_off1_inb k) X0 x r l).trans ?_
  simp [ClosedOff.form]

set_option maxHeartbeats 4000000 in
theorem nrm_eq (k : Fin k1_t1_loop.trips) (o : Fin 24) (r : Fin 24) (l : Fin 384) :
    nrm X0 X1 X2 k (ix3 o r l) = normed 12 1 inv eps (at3 (a := 12) (b := 384) (c := 384) X0) (at2 (a := 24) (b := 384) X1) (at2 (a := 24) (b := 384) X2) o (24 * k + r) l := by
  have hB := rows_eq X0 k
  have hg := load2 (a := 24) (b := 384) (d := 24) (e := 384) (View.whole cc1_stg1_0) ![0, 0] inb_S24x384_S24x384_0_0 X1 o l
  have hb := load2 (a := 24) (b := 384) (d := 24) (e := 384) (View.whole cc1_stg2_0) ![0, 0] inb_S24x384_S24x384_0_0 X2 o l
  have hg : gam X1 (ix2 o l) = at2 (a := 24) (b := 384) X1 o l := by simpa [ClosedOff.form] using hg
  have hb : bet X2 (ix2 o l) = at2 (a := 24) (b := 384) X2 o l := by simpa [ClosedOff.form] using hb
  unfold nrm
  generalize rows X0 k = B at hB ⊢
  generalize gam X1 = g at hg ⊢
  generalize bet X2 = b at hb ⊢
  pointwise [k1_pay1, k1_pay11, k1_pay6]
  have bl := l.isLt
  have hr : (24 * k.val + r.val) * 2 = 48 * k.val + r.val * 2 := by omega
  have hc : l.val / 1 % 2 = 0 → l.val < 383 := by omega
  have hd : ¬ l.val / 1 % 2 = 0 → ¬ l.val < 1 := by omega
  simp only [half, hB, hg, hb, normed, mean, var, pairSum, rowSum, partner, inv, eps, hr, Nat.add_assoc]
  by_cases hl : l.val / 1 % 2 = 0
  · simp only [if_pos hl, dif_pos (hc hl), select_one, dite_eq_ite]
  · simp only [if_neg hl, dif_neg (hd hl), select_zero, dite_eq_ite]

/-- What the result's staging buffer holds at an entry. -/
abbrev rd (f : BufTy.Contents (Elt Ideal) (stage1_4 0).view.ty) (x : S24x192x384.Idx) : EReal := (stage1_4 0).view.read (Elt Ideal) f x

/-- What the trips over the normalised channels write. -/
abbrev pb (k : Fin k1_t1_loop.trips) (X5 : BufTy.Contents (Elt Ideal) (Memref.whole cc1_scratch0).view.ty) (G : BufTy.Contents (Elt Ideal) (stage1_4 0).view.ty) (n : ℕ) :
    List (View.Piece (Elt Ideal) S24x192x384 .f32) :=
  pb_k1_t2 (F := Ideal) Variants.none c none (stage1_0 0) (hstage1_0 0) (stage1_1 0) (hstage1_1 0) (stage1_2 0) (hstage1_2 0) (stage1_3 0) (hstage1_3 0) (stage1_4 0) (hstage1_4 0) (Memref.whole cc1_scratch0) (Memref.isWhole_whole _) k X3 X5 G n

/-- What four normalised channels add to an entry. -/
def add4 (N : S24x24x384.Idx → EReal) (o r l j : ℕ) : EReal :=
  ∑ i : Fin 4, (at3 (a := 24) (b := 24) (c := 384) X3) (4 * j + i) o l * at3 (a := 24) (b := 24) (c := 384) N (4 * j + i) r l

set_option maxHeartbeats 2000000 in
theorem inner (k : Fin k1_t1_loop.trips) (X5 : BufTy.Contents (Elt Ideal) (Memref.whole cc1_scratch0).view.ty) (i : Fin k1_t2_loop.trips)
    (f : BufTy.Contents (Elt Ideal) (stage1_4 0).view.ty) :
    ∃ w, tripL_k1_t2 (F := Ideal) Variants.none c none (stage1_0 0) (hstage1_0 0) (stage1_1 0) (hstage1_1 0) (stage1_2 0) (hstage1_2 0) (stage1_3 0) (hstage1_3 0) (stage1_4 0) (hstage1_4 0) (Memref.whole cc1_scratch0) (Memref.isWhole_whole _) k X3 X5 i f = [⟨blk k, w⟩] ∧
      ∀ (o : Fin 24) (r : Fin 24) (l : Fin 384), w (ix3 o r l) = rd f ((blk k).emb (ix3 o r l)) + add4 X3 ((Memref.whole cc1_scratch0).view.read (Elt Ideal) X5) o r l i := by
  unfold tripL_k1_t2 trip_k1_t2
  sl_unfold_run_names
  refine ⟨_, rfl, fun o r l => ?_⟩
  pointwise [k1_pay3, k1_pay5]
  refine congrArg₂ (· + ·) rfl ?_
  simp only [add4, Fin.sum_univ_four]
  simp only [load3]
  simp [ClosedOff.form, Nat.add_assoc]

/-- The scratch with the normalised patches in it. -/
abbrev scr (k : Fin k1_t1_loop.trips) : BufTy.Contents (Elt Ideal) (Memref.whole cc1_scratch0).view.ty :=
  (Memref.whole cc1_scratch0).view.writes (Elt Ideal) (Memref.whole cc1_scratch0).view.junk [⟨Rect.unit (s := S24x24x384) ![0, 0, 0] ![24, 24, 384] inb_S24x24x384_S24x24x384_0_0_0, nrm X0 X1 X2 k⟩]

theorem scr_eq (k : Fin k1_t1_loop.trips) (g i l : ℕ) (hg : g < 24) (hi : i < 24) (hl : l < 384) :
    at3 (a := 24) (b := 24) (c := 384) ((Memref.whole cc1_scratch0).view.read (Elt Ideal) (scr X0 X1 X2 k)) g i l = normed 12 1 inv eps (at3 (a := 12) (b := 384) (c := 384) X0) (at2 (a := 24) (b := 384) X1) (at2 (a := 24) (b := 384) X2) g (24 * k + i) l := by
  refine Eq.trans ?_ (nrm_eq X0 X1 X2 k ⟨g, hg⟩ ⟨i, hi⟩ ⟨l, hl⟩)
  refine (at3_mk _ (⟨g, hg⟩ : Fin 24) (⟨i, hi⟩ : Fin 24) (⟨l, hl⟩ : Fin 384)).trans ?_
  refine Eq.trans ?_ (View.read_writes_cons_emb (Val := Elt Ideal) (v := (Memref.whole cc1_scratch0).view) (f := (Memref.whole cc1_scratch0).view.junk) (Rect.unit (s := S24x24x384) ![0, 0, 0] ![24, 24, 384] inb_S24x24x384_S24x24x384_0_0_0) (nrm X0 X1 X2 k) [] (ix3 (⟨g, hg⟩ : Fin 24) (⟨i, hi⟩ : Fin 24) (⟨l, hl⟩ : Fin 384)))
  refine congrArg ((Memref.whole cc1_scratch0).view.read (Elt Ideal) _) (funext fun a => Fin.ext ?_)
  fin_cases a
  · show g = 0 + 1 * g; omega
  · show i = 0 + 1 * i; omega
  · show l = 0 + 1 * l; omega

/-- One column's part of an entry. -/
def mid (o i l : ℕ) : EReal := mixed 12 1 inv eps (at3 (a := 12) (b := 384) (c := 384) X0) (at2 (a := 24) (b := 384) X1) (at2 (a := 24) (b := 384) X2) (at3 (a := 24) (b := 24) (c := 384) X3) 6 o i l

/-- The strip's rows after all trips. -/
theorem sums (k : Fin k1_t1_loop.trips) (f : BufTy.Contents (Elt Ideal) (stage1_4 0).view.ty) (o : Fin 24) (r : Fin 24) (l : Fin 384) :
    (stage1_4 0).view.readAt (Elt Ideal) (blk k).toLoadRect ((stage1_4 0).view.writes (Elt Ideal) f
        (pb c X3 k (scr X0 X1 X2 k) ((stage1_4 0).view.writes (Elt Ideal) f [⟨blk k, k1_pay2 (F := Ideal)⟩]) 6 ++ [⟨blk k, k1_pay2 (F := Ideal)⟩])) (ix3 o r l)
      = mid X0 X1 X2 X3 o (24 * k + r) l := by
  have h := read_sum (v := (stage1_4 0).view) ((stage1_4 0).view.writes (Elt Ideal) f [⟨blk k, k1_pay2 (F := Ideal)⟩]) (blk k)
    (pb c X3 k (scr X0 X1 X2 k) ((stage1_4 0).view.writes (Elt Ideal) f [⟨blk k, k1_pay2 (F := Ideal)⟩])) (ix3 o r l)
    (fun j => add4 X3 ((Memref.whole cc1_scratch0).view.read (Elt Ideal) (scr X0 X1 X2 k)) o r l j) 6 rfl
    (fun i hi => by
      obtain ⟨w, hw, hv⟩ := inner c X3 k (scr X0 X1 X2 k) ⟨i, hi⟩ ((stage1_4 0).view.writes (Elt Ideal) ((stage1_4 0).view.writes (Elt Ideal) f [⟨blk k, k1_pay2 (F := Ideal)⟩])
        (pb c X3 k (scr X0 X1 X2 k) ((stage1_4 0).view.writes (Elt Ideal) f [⟨blk k, k1_pay2 (F := Ideal)⟩]) i))
      refine ⟨w, ?_, hv o r l⟩
      refine (pb_k1_t2_succ Variants.none c none (stage1_0 0) (hstage1_0 0) (stage1_1 0) (hstage1_1 0) (stage1_2 0) (hstage1_2 0) (stage1_3 0) (hstage1_3 0) (stage1_4 0) (hstage1_4 0) (Memref.whole cc1_scratch0) (Memref.isWhole_whole _) k X3 (scr X0 X1 X2 k) _ ⟨i, hi⟩).trans ?_
      rw [hw]; rfl) 6 le_rfl
  rw [View.read_writes_cons_emb] at h
  rw [View.writes_append]
  refine h.trans ?_
  have hz : k1_pay2 (F := Ideal) (ix3 o r l) = 0 := by
    pointwise [k1_pay2]
  rw [hz, zero_add]
  unfold mid mixed add4
  refine Finset.sum_congr rfl fun j hj => Finset.sum_congr rfl fun i _ => ?_
  have hj := Finset.mem_range.mp hj
  rw [scr_eq X0 X1 X2 k _ _ _ (by omega) r.isLt l.isLt]

/-- An entry of the result: the two columns' parts. -/
def outOf (y : S24x192x384.Idx) : EReal := pairSum 1 (mid X0 X1 X2 X3 (y 0) (y 1)) (y 2)

set_option maxHeartbeats 2000000 in
/-- The last step of a strip adds the two columns' parts. -/
theorem last (k : Fin k1_t1_loop.trips) (T : Vec Ideal S24x24x384 .f32)
    (hT : ∀ (o : Fin 24) (r : Fin 24) (l : Fin 384), T (ix3 o r l) = mid X0 X1 X2 X3 o (24 * k + r) l)
    (o : Fin 24) (r : Fin 24) (l : Fin 384) :
    k1_pay4 (k1_pay10 2#32 k1_pay7 k1_pay8 k1_pay9) T (ix3 o r l) = outOf X0 X1 X2 X3 ((blk k).emb (ix3 o r l)) := by
  have e0 : ((blk k).emb (ix3 o r l) 0).val = o.val := by
    show k1_off5 k 0 + 1 * o.val = _; rw [k1_off5_eq]; simp
  have e1 : ((blk k).emb (ix3 o r l) 1).val = 24 * k.val + r.val := by
    show k1_off5 k 1 + 1 * r.val = _; rw [k1_off5_eq]; simp
  have e2 : ((blk k).emb (ix3 o r l) 2).val = l.val := by
    show k1_off5 k 2 + 1 * l.val = _; rw [k1_off5_eq]; simp
  unfold outOf
  rw [e0, e1, e2]
  pointwise [k1_pay4]
  have bl := l.isLt
  have hc : l.val / 1 % 2 = 0 → l.val < 383 := by omega
  have hd : ¬ l.val / 1 % 2 = 0 → ¬ l.val < 1 := by omega
  simp only [half, hT, pairSum, partner]
  by_cases hl : l.val / 1 % 2 = 0
  · simp only [if_pos hl, dif_pos (hc hl), select_one, dite_eq_ite]
  · simp only [if_neg hl, dif_neg (hd hl), select_zero, dite_eq_ite]

set_option maxHeartbeats 2000000 in
/-- A strip's entries. -/
theorem strip (k : Fin k1_t1_loop.trips) (x : (blk k).shape.Idx) :
    val (F := Ideal) c (stage1_0 0) (hstage1_0 0) (stage1_1 0) (hstage1_1 0) (stage1_2 0) (hstage1_2 0) (stage1_3 0) (hstage1_3 0) (stage1_4 0) (hstage1_4 0) (Memref.whole cc1_scratch0) (Memref.isWhole_whole _) X0 X1 X2 X3 k x = outOf X0 X1 X2 X3 ((blk k).emb x) := by
  have h : ∃ L, (trip (F := Ideal) c (stage1_0 0) (hstage1_0 0) (stage1_1 0) (hstage1_1 0) (stage1_2 0) (hstage1_2 0) (stage1_3 0) (hstage1_3 0) (stage1_4 0) (hstage1_4 0) (Memref.whole cc1_scratch0) (Memref.isWhole_whole _) X0 X1 X2 X3 k).1 (stage1_4 0).view.junk
      = ⟨blk k, k1_pay4 (k1_pay10 2#32 k1_pay7 k1_pay8 k1_pay9) ((stage1_4 0).view.readAt (Elt Ideal) (blk k).toLoadRect ((stage1_4 0).view.writes (Elt Ideal) (stage1_4 0).view.junk
        (pb c X3 k (scr X0 X1 X2 k) ((stage1_4 0).view.writes (Elt Ideal) (stage1_4 0).view.junk [⟨blk k, k1_pay2 (F := Ideal)⟩]) 6 ++ [⟨blk k, k1_pay2 (F := Ideal)⟩])))⟩ :: L := by
    unfold trip
    sl_unfold_run_names
    exact ⟨_, rfl⟩
  obtain ⟨L, h⟩ := h
  unfold val
  rw [h, View.canon_cons_emb]
  obtain ⟨o, r, l, rfl⟩ : ∃ (o : Fin 24) (r : Fin 24) (l : Fin 384), x = ix3 o r l := ⟨x 0, x 1, x 2, eq_ix3 x⟩
  exact last X0 X1 X2 X3 k _ (sums c X0 X1 X2 X3 k _) o r l

/-- An entry of the result. -/
def out (V : (c : Dev nD) → Valuation τ sig (Elt Ideal)) (y : S24x192x384.Idx) : EReal :=
  outOf (KernelIdeal.Call1.in0 V c) (KernelIdeal.Call1.in1 V c) (KernelIdeal.Call1.in2 V c) (KernelIdeal.Call1.in3 V c) y

/-- What the call leaves in its result, entry by entry. -/
theorem value (V : (c : Dev nD) → Valuation τ sig (Elt Ideal)) (y : S24x192x384.Idx) :
    KernelIdeal.Call1.res V c y = out c V y := by
  unfold KernelIdeal.Call1.res
  refine View.canon_apply_of_pieces (Val := Elt Ideal) (e := .f32) (out c V) _ ?_ y (run_cover ..)
  intro p hp x
  rw [KernelIdeal.Call1.pieces, run_list, mem_gather] at hp
  obtain ⟨k, -, hp⟩ := hp
  rw [List.mem_singleton] at hp
  subst hp
  exact strip c _ _ _ _ k x

end Cert.Val.Call1

end
-- ==== Proof.Val.Call2.lean ====
module

public import proofs.«01_k».proof.Proof.KI.Call2
public import proofs.«01_k».proof.Proof.Val.Basic

@[expose] public section

set_option maxRecDepth 16384

noncomputable section

namespace Cert.Val.Call2

open Cert.KernelIdeal Cert.KernelIdeal.Gen Cert.KernelIdeal.Body2
open Idealize.ShloMosaic Idealize.ShloMosaic.TcCoe Idealize.ShloMosaic.Tactic Idealize.SL.Sem
open Cert.Pieces

variable (c : Dev nD) (X0 : Vec Ideal S24x192x384 .f32) (X1 X2 : Vec Ideal S48x384 .f32) (X3 : Vec Ideal S48x48x384 .f32)

/-- One over the number of entries a patch normalises over, and the number under the root. -/
abbrev inv : EReal := Named.named (F := Ideal) κ "inv_96" (φ := .f32) 0x3C2AAAAB#32
abbrev eps : EReal := Ideal.ofBits .f32 925353388#32

set_option maxHeartbeats 2000000 in
/-- Whether a lane is the first of its pair. -/
theorem half (r : Fin 16) (l : Fin 384) : (k2_pay10 2#32 k2_pay7 k2_pay8 k2_pay9) (ix2 r l) = if l.val / 2 % 2 = 0 then 1#1 else 0#1 := by
  pointwise [k2_pay10, k2_pay9, k2_pay8, k2_pay7]
  revert l
  decide +kernel

/-- What the strip's start reads. -/
abbrev rows (k : Fin k2_t1_loop.trips) : Vec Ideal S24x32x384 .f32 :=
  (stage2_0 0).view.readAt (Elt Ideal) (Rect.unit (s := S24x192x384) (k2_off1 k) S24x32x384.size (k2_off1_inb k)).toLoadRect X0
abbrev gam : Vec Ideal S48x384 .f32 :=
  (stage2_1 0).view.readAt (Elt Ideal) (Rect.unit (s := S48x384) ![0, 0] S48x384.size inb_S48x384_S48x384_0_0).toLoadRect X1
abbrev bet : Vec Ideal S48x384 .f32 :=
  (stage2_2 0).view.readAt (Elt Ideal) (Rect.unit (s := S48x384) ![0, 0] S48x384.size inb_S48x384_S48x384_0_0).toLoadRect X2

/-- The normalised patches of a strip. -/
abbrev nrm (k : Fin k2_t1_loop.trips) : Vec Ideal S48x16x384 .f32 :=
  k2_pay1 (k2_pay11 (k2_pay6 (rows X0 k)) 2#32 k2_pay7 k2_pay8 k2_pay9 (gam X1)) (bet X2)

theorem rows_eq (k : Fin k2_t1_loop.trips) (x : Fin 24) (r : Fin 32) (l : Fin 384) :
    rows X0 k (ix3 x r l) = at3 (a := 24) (b := 192) (c := 384) X0 x (32 * k + r) l := by
  refine (load3 (a := 24) (b := 192) (c := 384) (View.whole cc2_stg0_0) (k2_off1 k) (k2_off1_inb k) X0 x r l).trans ?_
  simp [ClosedOff.form]

set_option maxHeartbeats 4000000 in
theorem nrm_eq (k : Fin k2_t1_loop.trips) (o : Fin 48) (r : Fin 16) (l : Fin 384) :
    nrm X0 X1 X2 k (ix3 o r l) = normed 24 2 inv eps (at3 (a := 24) (b := 192) (c := 384) X0) (at2 (a := 48) (b := 384) X1) (at2 (a := 48) (b := 384) X2) o (16 * k + r) l := by
  have hB := rows_eq X0 k
  have hg := load2 (a := 48) (b := 384) (d := 48) (e := 384) (View.whole cc2_stg1_0) ![0, 0] inb_S48x384_S48x384_0_0 X1 o l
  have hb := load2 (a := 48) (b := 384) (d := 48) (e := 384) (View.whole cc2_stg2_0) ![0, 0] inb_S48x384_S48x384_0_0 X2 o l
  have hg : gam X1 (ix2 o l) = at2 (a := 48) (b := 384) X1 o l := by simpa [ClosedOff.form] using hg
  have hb : bet X2 (ix2 o l) = at2 (a := 48) (b := 384) X2 o l := by simpa [ClosedOff.form] using hb
  unfold nrm
  generalize rows X0 k = B at hB ⊢
  generalize gam X1 = g at hg ⊢
  generalize bet X2 = b at hb ⊢
  pointwise [k2_pay1, k2_pay11, k2_pay6]
  have bl := l.isLt
  have hr : (16 * k.val + r.val) * 2 = 32 * k.val + r.val * 2 := by omega
  have hc : l.val / 2 % 2 = 0 → l.val < 382 := by omega
  have hd : ¬ l.val / 2 % 2 = 0 → ¬ l.val < 2 := by omega
  simp only [half, hB, hg, hb, normed, mean, var, pairSum, rowSum, partner, inv, eps, hr, Nat.add_assoc]
  by_cases hl : l.val / 2 % 2 = 0
  · simp only [if_pos hl, dif_pos (hc hl), select_one, dite_eq_ite]
  · simp only [if_neg hl, dif_neg (hd hl), select_zero, dite_eq_ite]

/-- What the result's staging buffer holds at an entry. -/
abbrev rd (f : BufTy.Contents (Elt Ideal) (stage2_4 0).view.ty) (x : S48x96x384.Idx) : EReal := (stage2_4 0).view.read (Elt Ideal) f x

/-- What the trips over the normalised channels write. -/
abbrev pb (k : Fin k2_t1_loop.trips) (X5 : BufTy.Contents (Elt Ideal) (Memref.whole cc2_scratch0).view.ty) (G : BufTy.Contents (Elt Ideal) (stage2_4 0).view.ty) (n : ℕ) :
    List (View.Piece (Elt Ideal) S48x96x384 .f32) :=
  pb_k2_t2 (F := Ideal) Variants.none c none (stage2_0 0) (hstage2_0 0) (stage2_1 0) (hstage2_1 0) (stage2_2 0) (hstage2_2 0) (stage2_3 0) (hstage2_3 0) (stage2_4 0) (hstage2_4 0) (Memref.whole cc2_scratch0) (Memref.isWhole_whole _) k X3 X5 G n

/-- What four normalised channels add to an entry. -/
def add4 (N : S48x16x384.Idx → EReal) (o r l j : ℕ) : EReal :=
  ∑ i : Fin 4, (at3 (a := 48) (b := 48) (c := 384) X3) (4 * j + i) o l * at3 (a := 48) (b := 16) (c := 384) N (4 * j + i) r l

set_option maxHeartbeats 2000000 in
theorem inner (k : Fin k2_t1_loop.trips) (X5 : BufTy.Contents (Elt Ideal) (Memref.whole cc2_scratch0).view.ty) (i : Fin k2_t2_loop.trips)
    (f : BufTy.Contents (Elt Ideal) (stage2_4 0).view.ty) :
    ∃ w, tripL_k2_t2 (F := Ideal) Variants.none c none (stage2_0 0) (hstage2_0 0) (stage2_1 0) (hstage2_1 0) (stage2_2 0) (hstage2_2 0) (stage2_3 0) (hstage2_3 0) (stage2_4 0) (hstage2_4 0) (Memref.whole cc2_scratch0) (Memref.isWhole_whole _) k X3 X5 i f = [⟨blk k, w⟩] ∧
      ∀ (o : Fin 48) (r : Fin 16) (l : Fin 384), w (ix3 o r l) = rd f ((blk k).emb (ix3 o r l)) + add4 X3 ((Memref.whole cc2_scratch0).view.read (Elt Ideal) X5) o r l i := by
  unfold tripL_k2_t2 trip_k2_t2
  sl_unfold_run_names
  refine ⟨_, rfl, fun o r l => ?_⟩
  pointwise [k2_pay3, k2_pay5]
  refine congrArg₂ (· + ·) rfl ?_
  simp only [add4, Fin.sum_univ_four]
  simp only [load3]
  simp [ClosedOff.form, Nat.add_assoc]

/-- The scratch with the normalised patches in it. -/
abbrev scr (k : Fin k2_t1_loop.trips) : BufTy.Contents (Elt Ideal) (Memref.whole cc2_scratch0).view.ty :=
  (Memref.whole cc2_scratch0).view.writes (Elt Ideal) (Memref.whole cc2_scratch0).view.junk [⟨Rect.unit (s := S48x16x384) ![0, 0, 0] ![48, 16, 384] inb_S48x16x384_S48x16x384_0_0_0, nrm X0 X1 X2 k⟩]

theorem scr_eq (k : Fin k2_t1_loop.trips) (g i l : ℕ) (hg : g < 48) (hi : i < 16) (hl : l < 384) :
    at3 (a := 48) (b := 16) (c := 384) ((Memref.whole cc2_scratch0).view.read (Elt Ideal) (scr X0 X1 X2 k)) g i l = normed 24 2 inv eps (at3 (a := 24) (b := 192) (c := 384) X0) (at2 (a := 48) (b := 384) X1) (at2 (a := 48) (b := 384) X2) g (16 * k + i) l := by
  refine Eq.trans ?_ (nrm_eq X0 X1 X2 k ⟨g, hg⟩ ⟨i, hi⟩ ⟨l, hl⟩)
  refine (at3_mk _ (⟨g, hg⟩ : Fin 48) (⟨i, hi⟩ : Fin 16) (⟨l, hl⟩ : Fin 384)).trans ?_
  refine Eq.trans ?_ (View.read_writes_cons_emb (Val := Elt Ideal) (v := (Memref.whole cc2_scratch0).view) (f := (Memref.whole cc2_scratch0).view.junk) (Rect.unit (s := S48x16x384) ![0, 0, 0] ![48, 16, 384] inb_S48x16x384_S48x16x384_0_0_0) (nrm X0 X1 X2 k) [] (ix3 (⟨g, hg⟩ : Fin 48) (⟨i, hi⟩ : Fin 16) (⟨l, hl⟩ : Fin 384)))
  refine congrArg ((Memref.whole cc2_scratch0).view.read (Elt Ideal) _) (funext fun a => Fin.ext ?_)
  fin_cases a
  · show g = 0 + 1 * g; omega
  · show i = 0 + 1 * i; omega
  · show l = 0 + 1 * l; omega

/-- One column's part of an entry. -/
def mid (o i l : ℕ) : EReal := mixed 24 2 inv eps (at3 (a := 24) (b := 192) (c := 384) X0) (at2 (a := 48) (b := 384) X1) (at2 (a := 48) (b := 384) X2) (at3 (a := 48) (b := 48) (c := 384) X3) 12 o i l

/-- The strip's rows after all trips. -/
theorem sums (k : Fin k2_t1_loop.trips) (f : BufTy.Contents (Elt Ideal) (stage2_4 0).view.ty) (o : Fin 48) (r : Fin 16) (l : Fin 384) :
    (stage2_4 0).view.readAt (Elt Ideal) (blk k).toLoadRect ((stage2_4 0).view.writes (Elt Ideal) f
        (pb c X3 k (scr X0 X1 X2 k) ((stage2_4 0).view.writes (Elt Ideal) f [⟨blk k, k2_pay2 (F := Ideal)⟩]) 12 ++ [⟨blk k, k2_pay2 (F := Ideal)⟩])) (ix3 o r l)
      = mid X0 X1 X2 X3 o (16 * k + r) l := by
  have h := read_sum (v := (stage2_4 0).view) ((stage2_4 0).view.writes (Elt Ideal) f [⟨blk k, k2_pay2 (F := Ideal)⟩]) (blk k)
    (pb c X3 k (scr X0 X1 X2 k) ((stage2_4 0).view.writes (Elt Ideal) f [⟨blk k, k2_pay2 (F := Ideal)⟩])) (ix3 o r l)
    (fun j => add4 X3 ((Memref.whole cc2_scratch0).view.read (Elt Ideal) (scr X0 X1 X2 k)) o r l j) 12 rfl
    (fun i hi => by
      obtain ⟨w, hw, hv⟩ := inner c X3 k (scr X0 X1 X2 k) ⟨i, hi⟩ ((stage2_4 0).view.writes (Elt Ideal) ((stage2_4 0).view.writes (Elt Ideal) f [⟨blk k, k2_pay2 (F := Ideal)⟩])
        (pb c X3 k (scr X0 X1 X2 k) ((stage2_4 0).view.writes (Elt Ideal) f [⟨blk k, k2_pay2 (F := Ideal)⟩]) i))
      refine ⟨w, ?_, hv o r l⟩
      refine (pb_k2_t2_succ Variants.none c none (stage2_0 0) (hstage2_0 0) (stage2_1 0) (hstage2_1 0) (stage2_2 0) (hstage2_2 0) (stage2_3 0) (hstage2_3 0) (stage2_4 0) (hstage2_4 0) (Memref.whole cc2_scratch0) (Memref.isWhole_whole _) k X3 (scr X0 X1 X2 k) _ ⟨i, hi⟩).trans ?_
      rw [hw]; rfl) 12 le_rfl
  rw [View.read_writes_cons_emb] at h
  rw [View.writes_append]
  refine h.trans ?_
  have hz : k2_pay2 (F := Ideal) (ix3 o r l) = 0 := by
    pointwise [k2_pay2]
  rw [hz, zero_add]
  unfold mid mixed add4
  refine Finset.sum_congr rfl fun j hj => Finset.sum_congr rfl fun i _ => ?_
  have hj := Finset.mem_range.mp hj
  rw [scr_eq X0 X1 X2 k _ _ _ (by omega) r.isLt l.isLt]

/-- An entry of the result: the two columns' parts. -/
def outOf (y : S48x96x384.Idx) : EReal := pairSum 2 (mid X0 X1 X2 X3 (y 0) (y 1)) (y 2)

set_option maxHeartbeats 2000000 in
/-- The last step of a strip adds the two columns' parts. -/
theorem last (k : Fin k2_t1_loop.trips) (T : Vec Ideal S48x16x384 .f32)
    (hT : ∀ (o : Fin 48) (r : Fin 16) (l : Fin 384), T (ix3 o r l) = mid X0 X1 X2 X3 o (16 * k + r) l)
    (o : Fin 48) (r : Fin 16) (l : Fin 384) :
    k2_pay4 (k2_pay10 2#32 k2_pay7 k2_pay8 k2_pay9) T (ix3 o r l) = outOf X0 X1 X2 X3 ((blk k).emb (ix3 o r l)) := by
  have e0 : ((blk k).emb (ix3 o r l) 0).val = o.val := by
    show k2_off7 k 0 + 1 * o.val = _; rw [k2_off7_eq]; simp
  have e1 : ((blk k).emb (ix3 o r l) 1).val = 16 * k.val + r.val := by
    show k2_off7 k 1 + 1 * r.val = _; rw [k2_off7_eq]; simp
  have e2 : ((blk k).emb (ix3 o r l) 2).val = l.val := by
    show k2_off7 k 2 + 1 * l.val = _; rw [k2_off7_eq]; simp
  unfold outOf
  rw [e0, e1, e2]
  pointwise [k2_pay4]
  have bl := l.isLt
  have hc : l.val / 2 % 2 = 0 → l.val < 382 := by omega
  have hd : ¬ l.val / 2 % 2 = 0 → ¬ l.val < 2 := by omega
  simp only [half, hT, pairSum, partner]
  by_cases hl : l.val / 2 % 2 = 0
  · simp only [if_pos hl, dif_pos (hc hl), select_one, dite_eq_ite]
  · simp only [if_neg hl, dif_neg (hd hl), select_zero, dite_eq_ite]

set_option maxHeartbeats 2000000 in
/-- A strip's entries. -/
theorem strip (k : Fin k2_t1_loop.trips) (x : (blk k).shape.Idx) :
    val (F := Ideal) c (stage2_0 0) (hstage2_0 0) (stage2_1 0) (hstage2_1 0) (stage2_2 0) (hstage2_2 0) (stage2_3 0) (hstage2_3 0) (stage2_4 0) (hstage2_4 0) (Memref.whole cc2_scratch0) (Memref.isWhole_whole _) X0 X1 X2 X3 k x = outOf X0 X1 X2 X3 ((blk k).emb x) := by
  have h : ∃ L, (trip (F := Ideal) c (stage2_0 0) (hstage2_0 0) (stage2_1 0) (hstage2_1 0) (stage2_2 0) (hstage2_2 0) (stage2_3 0) (hstage2_3 0) (stage2_4 0) (hstage2_4 0) (Memref.whole cc2_scratch0) (Memref.isWhole_whole _) X0 X1 X2 X3 k).1 (stage2_4 0).view.junk
      = ⟨blk k, k2_pay4 (k2_pay10 2#32 k2_pay7 k2_pay8 k2_pay9) ((stage2_4 0).view.readAt (Elt Ideal) (blk k).toLoadRect ((stage2_4 0).view.writes (Elt Ideal) (stage2_4 0).view.junk
        (pb c X3 k (scr X0 X1 X2 k) ((stage2_4 0).view.writes (Elt Ideal) (stage2_4 0).view.junk [⟨blk k, k2_pay2 (F := Ideal)⟩]) 12 ++ [⟨blk k, k2_pay2 (F := Ideal)⟩])))⟩ :: L := by
    unfold trip
    sl_unfold_run_names
    exact ⟨_, rfl⟩
  obtain ⟨L, h⟩ := h
  unfold val
  rw [h, View.canon_cons_emb]
  obtain ⟨o, r, l, rfl⟩ : ∃ (o : Fin 48) (r : Fin 16) (l : Fin 384), x = ix3 o r l := ⟨x 0, x 1, x 2, eq_ix3 x⟩
  exact last X0 X1 X2 X3 k _ (sums c X0 X1 X2 X3 k _) o r l

/-- An entry of the result. -/
def out (V : (c : Dev nD) → Valuation τ sig (Elt Ideal)) (y : S48x96x384.Idx) : EReal :=
  outOf (KernelIdeal.Call2.in0 V c) (KernelIdeal.Call2.in1 V c) (KernelIdeal.Call2.in2 V c) (KernelIdeal.Call2.in3 V c) y

/-- What the call leaves in its result, entry by entry. -/
theorem value (V : (c : Dev nD) → Valuation τ sig (Elt Ideal)) (y : S48x96x384.Idx) :
    KernelIdeal.Call2.res V c y = out c V y := by
  unfold KernelIdeal.Call2.res
  refine View.canon_apply_of_pieces (Val := Elt Ideal) (e := .f32) (out c V) _ ?_ y (run_cover ..)
  intro p hp x
  rw [KernelIdeal.Call2.pieces, run_list, mem_gather] at hp
  obtain ⟨k, -, hp⟩ := hp
  rw [List.mem_singleton] at hp
  subst hp
  exact strip c _ _ _ _ k x

end Cert.Val.Call2

end
-- ==== Proof.Val.Call3.lean ====
module

public import proofs.«01_k».proof.Proof.KI.Call3
public import proofs.«01_k».proof.Proof.Val.Basic

@[expose] public section

set_option maxRecDepth 16384

noncomputable section

namespace Cert.Val.Call3

open Cert.KernelIdeal Cert.KernelIdeal.Gen Cert.KernelIdeal.Body3
open Idealize.ShloMosaic Idealize.ShloMosaic.TcCoe Idealize.ShloMosaic.Tactic Idealize.SL.Sem
open Cert.Pieces

variable (c : Dev nD) (X0 : Vec Ideal S48x96x384 .f32) (X1 : Vec Ideal S48x96x384 .f32) (X2 : Vec Ideal S96x384 .f32)

/-- The whole of the scratch, as a box of it. -/
abbrev box : Rect S96x16x384 := Rect.unit ![0, 0, 0] S96x16x384.size inb_S96x16x384_S96x16x384_0_0_0

/-- What the trips over the input channels write into the scratch. -/
abbrev pb (a b : BitVec 32) (k1 : Fin k3_t1_loop.trips) (v1 : BitVec 32) (G : BufTy.Contents (Elt Ideal) (Memref.whole cc3_scratch0).view.ty) (n : ℕ) :
    List (View.Piece (Elt Ideal) S96x16x384 .f32) :=
  pb_k3_t2 (F := Ideal) Variants.none c none (stage3_0 0) (hstage3_0 0) (stage3_1 0) (hstage3_1 0) (stage3_2 0) (hstage3_2 0) (stage3_3 0) (hstage3_3 0) (Memref.whole cc3_scratch0) (Memref.isWhole_whole _) a b k1 v1 X0 X1 G n

/-- What the scratch holds at an entry. -/
abbrev rd (f : BufTy.Contents (Elt Ideal) (Memref.whole cc3_scratch0).view.ty) (x : S96x16x384.Idx) : EReal :=
  (View.whole cc3_scratch0).read (Elt Ideal) f x

set_option maxHeartbeats 2000000 in
/-- A trip over four input channels: adds their products to what the scratch holds. -/
theorem inner (a b : BitVec 32) (k1 : Fin k3_t1_loop.trips) (v1 : BitVec 32) (k : Fin k3_t2_loop.trips) (f : BufTy.Contents (Elt Ideal) (Memref.whole cc3_scratch0).view.ty) :
    ∃ w, tripL_k3_t2 (F := Ideal) Variants.none c none (stage3_0 0) (hstage3_0 0) (stage3_1 0) (hstage3_1 0) (stage3_2 0) (hstage3_2 0) (stage3_3 0) (hstage3_3 0) (Memref.whole cc3_scratch0) (Memref.isWhole_whole _) a b k1 v1 X0 X1 k f = [⟨box, w⟩] ∧
      ∀ (o : Fin 96) (r : Fin 16) (l : Fin 384), w (ix3 o r l) = rd f (box.emb (ix3 o r l))
        + lin4 (a := 48) (b := 96) (c := 384) (a' := 48) (b' := 96) (c' := 384) X1 X0 o (16 * k1 + r) l k := by
  unfold tripL_k3_t2 trip_k3_t2
  sl_unfold_run_names
  refine ⟨_, rfl, fun o r l => ?_⟩
  pointwise [k3_pay6, k3_pay8]
  refine congrArg₂ (· + ·) rfl ?_
  simp only [lin4, Fin.sum_univ_four]
  simp only [load3]
  simp [ClosedOff.form, Nat.add_assoc]

/-- An entry of the 1x1 convolution. -/
def mid (o y l : ℕ) : EReal :=
  at2 (a := 96) (b := 384) X2 o l + ∑ j ∈ Finset.range 12, lin4 (a := 48) (b := 96) (c := 384) (a' := 48) (b' := 96) (c' := 384) X1 X0 o y l j

/-- The scratch after all trips: what it started with and all the channels' products. -/
theorem sums (a b : BitVec 32) (k1 : Fin k3_t1_loop.trips) (v1 : BitVec 32) (w0 : box.shape.Idx → EReal) (x : box.shape.Idx) :
    (View.whole cc3_scratch0).read (Elt Ideal) ((View.whole cc3_scratch0).writes (Elt Ideal) (View.whole cc3_scratch0).junk (pb c X0 X1 a b k1 v1 ((View.whole cc3_scratch0).writes (Elt Ideal) (View.whole cc3_scratch0).junk [⟨box, w0⟩]) 12
        ++ [⟨box, w0⟩])) (box.emb x)
      = w0 x + ∑ j ∈ Finset.range 12, lin4 (a := 48) (b := 96) (c := 384) (a' := 48) (b' := 96) (c' := 384) X1 X0 (x 0) (16 * k1 + (x 1)) (x 2) j := by
  have h := read_sum (v := View.whole cc3_scratch0) ((View.whole cc3_scratch0).writes (Elt Ideal) (View.whole cc3_scratch0).junk [⟨box, w0⟩])
    box (pb c X0 X1 a b k1 v1 ((View.whole cc3_scratch0).writes (Elt Ideal) (View.whole cc3_scratch0).junk [⟨box, w0⟩])) x
    (fun j => lin4 (a := 48) (b := 96) (c := 384) (a' := 48) (b' := 96) (c' := 384) X1 X0 (x 0) (16 * k1 + (x 1)) (x 2) j) 12 rfl
    (fun k hk => by
      obtain ⟨w, hw, hv⟩ := inner c X0 X1 a b k1 v1 ⟨k, hk⟩ ((View.whole cc3_scratch0).writes (Elt Ideal) ((View.whole cc3_scratch0).writes (Elt Ideal) (View.whole cc3_scratch0).junk [⟨box, w0⟩]) (pb c X0 X1 a b k1 v1 ((View.whole cc3_scratch0).writes (Elt Ideal) (View.whole cc3_scratch0).junk [⟨box, w0⟩]) k))
      refine ⟨w, ?_, ?_⟩
      · refine (pb_k3_t2_succ Variants.none c none (stage3_0 0) (hstage3_0 0) (stage3_1 0) (hstage3_1 0) (stage3_2 0) (hstage3_2 0) (stage3_3 0) (hstage3_3 0) (Memref.whole cc3_scratch0) (Memref.isWhole_whole _) a b k1 v1 X0 X1 _ ⟨k, hk⟩).trans ?_
        rw [hw]; rfl
      · have hx : x = ix3 (x 0 : Fin 96) (x 1 : Fin 16) (x 2 : Fin 384) := eq_ix3 x
        exact (congrArg w hx).trans ((hv (x 0) (x 1) (x 2)).trans (congrArg (fun z => rd _ (box.emb z) + _) hx.symm))) 12 le_rfl
  rw [View.read_writes_cons_emb] at h
  refine Eq.trans ?_ h
  rw [View.writes_append]

/-- The bias row, as the strip reads it. -/
abbrev bias : Vec Ideal S96x384 .f32 :=
  (View.whole cc3_stg2_0).readAt (Elt Ideal) (Rect.unit (s := S96x384) ![0, 0] ![96, 384] inb_S96x384_S96x384_0_0).toLoadRect X2

/-- One channel's rows of the scratch, as the strip's end reads them. -/
theorem cell (k : Fin k3_t1_loop.trips) (v1 : BitVec 32) (n : ℕ) (inb : ∀ a, (![n, 0, 0] : Fin 3 → ℕ) a + (![1, 16, 384] : Fin 3 → ℕ) a ≤ S96x16x384.size a)
    (r : Fin 16) (l : Fin 384) :
    (View.whole cc3_scratch0).readCov (pb c X0 X1 0#32 1#32 k v1 ((View.whole cc3_scratch0).writes (Elt Ideal) (View.whole cc3_scratch0).junk [⟨box, k3_pay7 (bias X2)⟩]) 12
        ++ [⟨box, k3_pay7 (bias X2)⟩])
      (Rect.unit (s := S96x16x384) ![n, 0, 0] ![1, 16, 384] inb).toLoadRect (ix3 0 r l)
      = mid X0 X1 X2 n (16 * k + r) l := by
  have hn : n < 96 := by have := inb 0; simp at this; omega
  have hp : k3_pay7 (F := Ideal) (bias X2)
      (ix3 ⟨n, hn⟩ r l) = at2 (a := 96) (b := 384) X2 n l := by
    pointwise [k3_pay7]
    have h2 := load2 (a := 96) (b := 384) (d := 96) (e := 384) (View.whole cc3_stg2_0) ![0, 0] inb_S96x384_S96x384_0_0 X2 ⟨n, hn⟩ l
    simpa [ClosedOff.form] using h2
  have h := sums c X0 X1 0#32 1#32 k v1 (k3_pay7 (bias X2)) (ix3 ⟨n, hn⟩ r l)
  rw [hp] at h
  refine Eq.trans ?_ h
  unfold View.readCov
  refine congrArg ((View.whole cc3_scratch0).read (Elt Ideal) _) (funext fun a => Fin.ext ?_)
  fin_cases a
  · show n + 1 * 0 = 0 + 1 * n; omega
  · rfl
  · rfl

set_option maxHeartbeats 2000000 in
/-- Whether a lane takes the first of two channels. -/
theorem half (r : Fin 16) (l : Fin 384) : k3_pay10 k3_pay9 2#32 (ix2 r l) = if l.val / 2 % 2 = 0 then 1#1 else 0#1 := by
  pointwise [k3_pay10, k3_pay9]
  revert l
  decide +kernel

/-- An entry of the result, lanes counted without a border. -/
def entry (o y l : ℕ) : EReal := mid X0 X1 X2 (4 * o + 2 * (y % 2) + l / 2 % 2) (y / 2) l

/-- An entry of the result, zero on the border. -/
def outOf (y : S24x208x388.Idx) : EReal :=
  open Classical in if inside y then entry X0 X1 X2 (y 0) ((y 1).val - 8) ((y 2).val - 2) else 0

set_option maxHeartbeats 2000000 in
/-- One output channel of a strip: four channels interleaved by row and by lane. -/
theorem band (k : Fin k3_t1_loop.trips) (co : ℕ) (off : Fin 3 → ℕ) (ho : off = ![co, 32 * k.val + 8, 2])
    (inb : ∀ a, off a + (![1, 32, 384] : Fin 3 → ℕ) a ≤ S24x208x388.size a) (A B C D : Vec Ideal S1x16x384 .f32)
    (hA : ∀ (r : Fin 16) (l : Fin 384), A (ix3 0 r l) = mid X0 X1 X2 (4 * co) (16 * k + r) l)
    (hB : ∀ (r : Fin 16) (l : Fin 384), B (ix3 0 r l) = mid X0 X1 X2 (4 * co + 1) (16 * k + r) l)
    (hC : ∀ (r : Fin 16) (l : Fin 384), C (ix3 0 r l) = mid X0 X1 X2 (4 * co + 2) (16 * k + r) l)
    (hD : ∀ (r : Fin 16) (l : Fin 384), D (ix3 0 r l) = mid X0 X1 X2 (4 * co + 3) (16 * k + r) l)
    (i : Fin 32) (l : Fin 384) :
    k3_pay36 (k3_pay10 k3_pay9 2#32) A B C D (ix3 0 i l)
      = outOf X0 X1 X2 ((Rect.unit (s := S24x208x388) off ![1, 32, 384] inb).emb (ix3 0 i l : S1x32x384.Idx)) := by
  subst ho
  have bi := i.isLt
  have bl := l.isLt
  have bk : k.val < 6 := strips ▸ k.isLt
  have e0 : ((Rect.unit (s := S24x208x388) ![co, 32 * k.val + 8, 2] ![1, 32, 384] inb).emb (ix3 0 i l : S1x32x384.Idx) 0).val = co := by
    show co + 1 * 0 = co; omega
  have e1 : ((Rect.unit (s := S24x208x388) ![co, 32 * k.val + 8, 2] ![1, 32, 384] inb).emb (ix3 0 i l : S1x32x384.Idx) 1).val
      = 32 * k.val + i.val + 8 := by
    show 32 * k.val + 8 + 1 * i.val = _; omega
  have e2 : ((Rect.unit (s := S24x208x388) ![co, 32 * k.val + 8, 2] ![1, 32, 384] inb).emb (ix3 0 i l : S1x32x384.Idx) 2).val
      = l.val + 2 := by
    show 2 + 1 * l.val = _; omega
  have hin : inside ((Rect.unit (s := S24x208x388) ![co, 32 * k.val + 8, 2] ![1, 32, 384] inb).emb (ix3 0 i l : S1x32x384.Idx)) := by
    unfold inside; omega
  unfold outOf
  rw [if_pos hin, e0, e1, e2, Nat.add_sub_cancel, Nat.add_sub_cancel]
  unfold entry
  have hy : (32 * k.val + i.val) / 2 = 16 * k.val + i.val / 2 := by omega
  have hm : (32 * k.val + i.val) % 2 = i.val % 2 := by omega
  rw [hy, hm]
  pointwise [k3_pay36]
  simp only [half]
  have hl := Nat.mod_two_eq_zero_or_one (l.val / 2)

  rcases Nat.mod_two_eq_zero_or_one i.val with hi | hi <;> rcases hl with hl | hl <;> simp [hi, hl, Scalar.select, hA, hB, hC, hD]

/-- What the strip's end reads of the scratch: one channel's rows. -/
abbrev chan (k : Fin k3_t1_loop.trips) (v1 : BitVec 32) (n : ℕ) (inb : ∀ a, (![n, 0, 0] : Fin 3 → ℕ) a + (![1, 16, 384] : Fin 3 → ℕ) a ≤ S96x16x384.size a) :
    Vec Ideal S1x16x384 .f32 :=
  (View.whole cc3_scratch0).readCov (pb c X0 X1 0#32 1#32 k v1 ((View.whole cc3_scratch0).writes (Elt Ideal) (View.whole cc3_scratch0).junk [⟨box, k3_pay7 (bias X2)⟩]) 12
        ++ [⟨box, k3_pay7 (bias X2)⟩])
      (Rect.unit (s := S96x16x384) ![n, 0, 0] ![1, 16, 384] inb).toLoadRect

/-- A piece whose entries are four channels of the scratch interleaved. -/
theorem piece (k : Fin k3_t1_loop.trips) (v1 : BitVec 32) (co : ℕ) (off : Fin 3 → ℕ) (ho : off = ![co, 32 * k.val + 8, 2])
    (inb : ∀ a, off a + (![1, 32, 384] : Fin 3 → ℕ) a ≤ S24x208x388.size a) (a0 a1 a2 a3 : ℕ) (i0 i1 i2 i3)
    (w : S1x32x384.Idx → EReal) (h0 : a0 = 4 * co) (h1 : a1 = 4 * co + 1) (h2 : a2 = 4 * co + 2) (h3 : a3 = 4 * co + 3)
    (hw : w = k3_pay36 (k3_pay10 k3_pay9 2#32) (chan c X0 X1 X2 k v1 a0 i0) (chan c X0 X1 X2 k v1 a1 i1)
      (chan c X0 X1 X2 k v1 a2 i2) (chan c X0 X1 X2 k v1 a3 i3)) :
    ∀ x, w x = outOf X0 X1 X2 ((Rect.unit (s := S24x208x388) off ![1, 32, 384] inb).emb x) := by
  intro x
  subst h0 h1 h2 h3 hw
  obtain ⟨z, i, l, rfl⟩ : ∃ (z : Fin 1) (i : Fin 32) (l : Fin 384), x = ix3 z i l := ⟨x 0, x 1, x 2, eq_ix3 x⟩
  obtain rfl : z = 0 := Subsingleton.elim _ _
  exact band X0 X1 X2 k co off ho inb _ _ _ _ (cell c X0 X1 X2 k v1 _ i0) (cell c X0 X1 X2 k v1 _ i1)
    (cell c X0 X1 X2 k v1 _ i2) (cell c X0 X1 X2 k v1 _ i3) i l

set_option maxHeartbeats 4000000 in
/-- A strip's pieces. -/
theorem strip (k : Fin k3_t1_loop.trips) :
    ∀ p ∈ tripL (F := Ideal) c (stage3_0 0) (hstage3_0 0) (stage3_1 0) (hstage3_1 0) (stage3_2 0) (hstage3_2 0) (stage3_3 0) (hstage3_3 0) (Memref.whole cc3_scratch0) (Memref.isWhole_whole _) X0 X1 X2 k, ∀ x, p.2 x = outOf X0 X1 X2 (p.1.emb x) := by
  unfold tripL trip
  sl_unfold_run_names
  dsimp only
  refine List.forall_mem_cons.mpr ⟨?_, ?_⟩
  · exact piece c X0 X1 X2 k (Scalar.muli (Scf.iv 0#32 1#32 k) 16#32) 23 _ (k3_off28_eq k) (k3_off28_inb k) 92 93 94 95 (by decide) (by decide) (by decide) (by decide) _ rfl rfl rfl rfl rfl
  refine List.forall_mem_cons.mpr ⟨?_, ?_⟩
  · exact piece c X0 X1 X2 k (Scalar.muli (Scf.iv 0#32 1#32 k) 16#32) 22 _ (k3_off27_eq k) (k3_off27_inb k) 88 89 90 91 (by decide) (by decide) (by decide) (by decide) _ rfl rfl rfl rfl rfl
  refine List.forall_mem_cons.mpr ⟨?_, ?_⟩
  · exact piece c X0 X1 X2 k (Scalar.muli (Scf.iv 0#32 1#32 k) 16#32) 21 _ (k3_off26_eq k) (k3_off26_inb k) 84 85 86 87 (by decide) (by decide) (by decide) (by decide) _ rfl rfl rfl rfl rfl
  refine List.forall_mem_cons.mpr ⟨?_, ?_⟩
  · exact piece c X0 X1 X2 k (Scalar.muli (Scf.iv 0#32 1#32 k) 16#32) 20 _ (k3_off25_eq k) (k3_off25_inb k) 80 81 82 83 (by decide) (by decide) (by decide) (by decide) _ rfl rfl rfl rfl rfl
  refine List.forall_mem_cons.mpr ⟨?_, ?_⟩
  · exact piece c X0 X1 X2 k (Scalar.muli (Scf.iv 0#32 1#32 k) 16#32) 19 _ (k3_off24_eq k) (k3_off24_inb k) 76 77 78 79 (by decide) (by decide) (by decide) (by decide) _ rfl rfl rfl rfl rfl
  refine List.forall_mem_cons.mpr ⟨?_, ?_⟩
  · exact piece c X0 X1 X2 k (Scalar.muli (Scf.iv 0#32 1#32 k) 16#32) 18 _ (k3_off23_eq k) (k3_off23_inb k) 72 73 74 75 (by decide) (by decide) (by decide) (by decide) _ rfl rfl rfl rfl rfl
  refine List.forall_mem_cons.mpr ⟨?_, ?_⟩
  · exact piece c X0 X1 X2 k (Scalar.muli (Scf.iv 0#32 1#32 k) 16#32) 17 _ (k3_off22_eq k) (k3_off22_inb k) 68 69 70 71 (by decide) (by decide) (by decide) (by decide) _ rfl rfl rfl rfl rfl
  refine List.forall_mem_cons.mpr ⟨?_, ?_⟩
  · exact piece c X0 X1 X2 k (Scalar.muli (Scf.iv 0#32 1#32 k) 16#32) 16 _ (k3_off21_eq k) (k3_off21_inb k) 64 65 66 67 (by decide) (by decide) (by decide) (by decide) _ rfl rfl rfl rfl rfl
  refine List.forall_mem_cons.mpr ⟨?_, ?_⟩
  · exact piece c X0 X1 X2 k (Scalar.muli (Scf.iv 0#32 1#32 k) 16#32) 15 _ (k3_off20_eq k) (k3_off20_inb k) 60 61 62 63 (by decide) (by decide) (by decide) (by decide) _ rfl rfl rfl rfl rfl
  refine List.forall_mem_cons.mpr ⟨?_, ?_⟩
  · exact piece c X0 X1 X2 k (Scalar.muli (Scf.iv 0#32 1#32 k) 16#32) 14 _ (k3_off19_eq k) (k3_off19_inb k) 56 57 58 59 (by decide) (by decide) (by decide) (by decide) _ rfl rfl rfl rfl rfl
  refine List.forall_mem_cons.mpr ⟨?_, ?_⟩
  · exact piece c X0 X1 X2 k (Scalar.muli (Scf.iv 0#32 1#32 k) 16#32) 13 _ (k3_off18_eq k) (k3_off18_inb k) 52 53 54 55 (by decide) (by decide) (by decide) (by decide) _ rfl rfl rfl rfl rfl
  refine List.forall_mem_cons.mpr ⟨?_, ?_⟩
  · exact piece c X0 X1 X2 k (Scalar.muli (Scf.iv 0#32 1#32 k) 16#32) 12 _ (k3_off17_eq k) (k3_off17_inb k) 48 49 50 51 (by decide) (by decide) (by decide) (by decide) _ rfl rfl rfl rfl rfl
  refine List.forall_mem_cons.mpr ⟨?_, ?_⟩
  · exact piece c X0 X1 X2 k (Scalar.muli (Scf.iv 0#32 1#32 k) 16#32) 11 _ (k3_off16_eq k) (k3_off16_inb k) 44 45 46 47 (by decide) (by decide) (by decide) (by decide) _ rfl rfl rfl rfl rfl
  refine List.forall_mem_cons.mpr ⟨?_, ?_⟩
  · exact piece c X0 X1 X2 k (Scalar.muli (Scf.iv 0#32 1#32 k) 16#32) 10 _ (k3_off15_eq k) (k3_off15_inb k) 40 41 42 43 (by decide) (by decide) (by decide) (by decide) _ rfl rfl rfl rfl rfl
  refine List.forall_mem_cons.mpr ⟨?_, ?_⟩
  · exact piece c X0 X1 X2 k (Scalar.muli (Scf.iv 0#32 1#32 k) 16#32) 9 _ (k3_off14_eq k) (k3_off14_inb k) 36 37 38 39 (by decide) (by decide) (by decide) (by decide) _ rfl rfl rfl rfl rfl
  refine List.forall_mem_cons.mpr ⟨?_, ?_⟩
  · exact piece c X0 X1 X2 k (Scalar.muli (Scf.iv 0#32 1#32 k) 16#32) 8 _ (k3_off13_eq k) (k3_off13_inb k) 32 33 34 35 (by decide) (by decide) (by decide) (by decide) _ rfl rfl rfl rfl rfl
  refine List.forall_mem_cons.mpr ⟨?_, ?_⟩
  · exact piece c X0 X1 X2 k (Scalar.muli (Scf.iv 0#32 1#32 k) 16#32) 7 _ (k3_off12_eq k) (k3_off12_inb k) 28 29 30 31 (by decide) (by decide) (by decide) (by decide) _ rfl rfl rfl rfl rfl
  refine List.forall_mem_cons.mpr ⟨?_, ?_⟩
  · exact piece c X0 X1 X2 k (Scalar.muli (Scf.iv 0#32 1#32 k) 16#32) 6 _ (k3_off11_eq k) (k3_off11_inb k) 24 25 26 27 (by decide) (by decide) (by decide) (by decide) _ rfl rfl rfl rfl rfl
  refine List.forall_mem_cons.mpr ⟨?_, ?_⟩
  · exact piece c X0 X1 X2 k (Scalar.muli (Scf.iv 0#32 1#32 k) 16#32) 5 _ (k3_off10_eq k) (k3_off10_inb k) 20 21 22 23 (by decide) (by decide) (by decide) (by decide) _ rfl rfl rfl rfl rfl
  refine List.forall_mem_cons.mpr ⟨?_, ?_⟩
  · exact piece c X0 X1 X2 k (Scalar.muli (Scf.iv 0#32 1#32 k) 16#32) 4 _ (k3_off9_eq k) (k3_off9_inb k) 16 17 18 19 (by decide) (by decide) (by decide) (by decide) _ rfl rfl rfl rfl rfl
  refine List.forall_mem_cons.mpr ⟨?_, ?_⟩
  · exact piece c X0 X1 X2 k (Scalar.muli (Scf.iv 0#32 1#32 k) 16#32) 3 _ (k3_off8_eq k) (k3_off8_inb k) 12 13 14 15 (by decide) (by decide) (by decide) (by decide) _ rfl rfl rfl rfl rfl
  refine List.forall_mem_cons.mpr ⟨?_, ?_⟩
  · exact piece c X0 X1 X2 k (Scalar.muli (Scf.iv 0#32 1#32 k) 16#32) 2 _ (k3_off7_eq k) (k3_off7_inb k) 8 9 10 11 (by decide) (by decide) (by decide) (by decide) _ rfl rfl rfl rfl rfl
  refine List.forall_mem_cons.mpr ⟨?_, ?_⟩
  · exact piece c X0 X1 X2 k (Scalar.muli (Scf.iv 0#32 1#32 k) 16#32) 1 _ (k3_off6_eq k) (k3_off6_inb k) 4 5 6 7 (by decide) (by decide) (by decide) (by decide) _ rfl rfl rfl rfl rfl
  refine List.forall_mem_cons.mpr ⟨?_, ?_⟩
  · exact piece c X0 X1 X2 k (Scalar.muli (Scf.iv 0#32 1#32 k) 16#32) 0 _ (k3_off5_eq k) (k3_off5_inb k) 0 1 2 3 (by decide) (by decide) (by decide) (by decide) _ rfl rfl rfl rfl rfl
  exact fun p hp => absurd hp List.not_mem_nil

/-- An entry of the result. -/
def out (V : (c : Dev nD) → Valuation τ sig (Elt Ideal)) (y : S24x208x388.Idx) : EReal :=
  outOf (KernelIdeal.Call3.in0 V c) (KernelIdeal.Call3.in1 V c) (KernelIdeal.Call3.in2 V c) y

/-- What the call leaves in its result, entry by entry. -/
theorem value (V : (c : Dev nD) → Valuation τ sig (Elt Ideal)) (y : S24x208x388.Idx) :
    KernelIdeal.Call3.res V c y = out c V y := by
  unfold KernelIdeal.Call3.res
  refine View.canon_apply_of_pieces (Val := Elt Ideal) (e := .f32) (out c V) _ ?_ y (run_cover ..)
  intro p hp x
  obtain ⟨B, hB, -, hz⟩ := run_list c (stage3_0 0) (hstage3_0 0) (stage3_1 0) (hstage3_1 0) (stage3_2 0) (hstage3_2 0) (stage3_3 0) (hstage3_3 0) (Memref.whole cc3_scratch0) (Memref.isWhole_whole _) (KernelIdeal.Call3.in0 V c) (KernelIdeal.Call3.in1 V c) (KernelIdeal.Call3.in2 V c)
  rw [KernelIdeal.Call3.pieces, hB, List.mem_append, mem_gather] at hp
  rcases hp with ⟨k, -, hp⟩ | hp
  · exact strip c _ _ _ k p hp x
  · rw [(hz p hp).2 x]
    unfold out outOf
    rw [if_neg ((hz p hp).1 _ (emb_mem _ _))]
    exact Ideal.ofBits_zero_f32

end Cert.Val.Call3

end
-- ==== Proof.Val.Call4.lean ====
module

public import proofs.«01_k».proof.Proof.KI.Call4
public import proofs.«01_k».proof.Proof.Val.Basic

@[expose] public section

set_option maxRecDepth 16384

noncomputable section

namespace Cert.Val.Call4

open Cert.KernelIdeal Cert.KernelIdeal.Gen Cert.KernelIdeal.Body4
open Idealize.ShloMosaic Idealize.ShloMosaic.TcCoe Idealize.ShloMosaic.Tactic Idealize.SL.Sem
open Cert.Pieces

variable (c : Dev nD) (X0 : Vec Ideal S24x208x388 .f32) (X1 : Vec Ideal S216x24x384 .f32) (X2 : Vec Ideal S24x384 .f32)

/-- The whole of the scratch, as a box of it. -/
abbrev box : Rect S24x24x384 := Rect.unit ![0, 0, 0] S24x24x384.size inb_S24x24x384_S24x24x384_0_0_0

/-- What the trips over the input channels write into the scratch. -/
abbrev pb (k1 : Fin k4_t1_loop.trips) (v1 : BitVec 32) (G : BufTy.Contents (Elt Ideal) (Memref.whole cc4_scratch0).view.ty) (n : ℕ) :
    List (View.Piece (Elt Ideal) S24x24x384 .f32) :=
  pb_k4_t2 (F := Ideal) Variants.none c none (stage4_0 0) (hstage4_0 0) (stage4_1 0) (hstage4_1 0) (stage4_2 0) (hstage4_2 0) (stage4_3 0) (hstage4_3 0) (Memref.whole cc4_scratch0) (Memref.isWhole_whole _) k1 v1 X0 X1 G n

/-- What the scratch holds at an entry. -/
abbrev rd (f : BufTy.Contents (Elt Ideal) (Memref.whole cc4_scratch0).view.ty) (x : S24x24x384.Idx) : EReal :=
  (View.whole cc4_scratch0).read (Elt Ideal) f x

set_option maxHeartbeats 2000000 in
/-- A trip over four input channels: adds their products to what the scratch holds. -/
theorem inner (k1 : Fin k4_t1_loop.trips) (v1 : BitVec 32) (k : Fin k4_t2_loop.trips) (f : BufTy.Contents (Elt Ideal) (Memref.whole cc4_scratch0).view.ty) :
    ∃ w, tripL_k4_t2 (F := Ideal) Variants.none c none (stage4_0 0) (hstage4_0 0) (stage4_1 0) (hstage4_1 0) (stage4_2 0) (hstage4_2 0) (stage4_3 0) (hstage4_3 0) (Memref.whole cc4_scratch0) (Memref.isWhole_whole _) k1 v1 X0 X1 k f = [⟨box, w⟩] ∧
      ∀ (o : Fin 24) (r : Fin 24) (l : Fin 384), w (ix3 o r l) = rd f (box.emb (ix3 o r l))
        + conv4 (a := 216) (b := 24) (c := 384) (a' := 24) (b' := 208) (c' := 388) X1 X0 2 o (24 * k1 + r) l k := by
  unfold tripL_k4_t2 trip_k4_t2
  sl_unfold_run_names
  refine ⟨_, rfl, fun o r l => ?_⟩
  pointwise [k4_pay2, k4_pay3, k4_pay4, k4_pay5, k4_pay6, k4_pay7, k4_pay8, k4_pay9, k4_pay10, k4_pay11, k4_pay12, k4_pay13, k4_pay14, k4_pay15, k4_pay16, k4_pay17, k4_pay18, k4_pay19, k4_pay20, k4_pay21, k4_pay22, k4_pay23]
  refine congrArg₂ (· + ·) rfl ?_
  simp only [conv4_row, Fin.sum_univ_four, Fin.sum_univ_three]
  simp only [load3]
  simp only [← add_assoc (G := EReal)]
  simp [ClosedOff.form]

/-- The scratch after all trips: what it started with and all the channels' products. -/
theorem sums (k1 : Fin k4_t1_loop.trips) (v1 : BitVec 32) (w0 : box.shape.Idx → EReal) (o : Fin 24) (r : Fin 24) (l : Fin 384) :
    (View.whole cc4_scratch0).readCov (pb c X0 X1 k1 v1 ((View.whole cc4_scratch0).writes (Elt Ideal) (View.whole cc4_scratch0).junk [⟨box, w0⟩]) 6
        ++ [⟨box, w0⟩]) box.toLoadRect (ix3 o r l)
      = w0 (ix3 o r l) + ∑ j ∈ Finset.range 6, conv4 (a := 216) (b := 24) (c := 384) (a' := 24) (b' := 208) (c' := 388) X1 X0 2 o (24 * k1 + r) l j := by
  have h := read_sum (v := View.whole cc4_scratch0) ((View.whole cc4_scratch0).writes (Elt Ideal) (View.whole cc4_scratch0).junk [⟨box, w0⟩])
    box (pb c X0 X1 k1 v1 ((View.whole cc4_scratch0).writes (Elt Ideal) (View.whole cc4_scratch0).junk [⟨box, w0⟩])) (ix3 o r l)
    (fun j => conv4 (a := 216) (b := 24) (c := 384) (a' := 24) (b' := 208) (c' := 388) X1 X0 2 o (24 * k1 + r) l j) 6 rfl
    (fun k hk => by
      obtain ⟨w, hw, hv⟩ := inner c X0 X1 k1 v1 ⟨k, hk⟩ ((View.whole cc4_scratch0).writes (Elt Ideal) ((View.whole cc4_scratch0).writes (Elt Ideal) (View.whole cc4_scratch0).junk [⟨box, w0⟩]) (pb c X0 X1 k1 v1 ((View.whole cc4_scratch0).writes (Elt Ideal) (View.whole cc4_scratch0).junk [⟨box, w0⟩]) k))
      refine ⟨w, ?_, hv o r l⟩
      refine (pb_k4_t2_succ Variants.none c none (stage4_0 0) (hstage4_0 0) (stage4_1 0) (hstage4_1 0) (stage4_2 0) (hstage4_2 0) (stage4_3 0) (hstage4_3 0) (Memref.whole cc4_scratch0) (Memref.isWhole_whole _) k1 v1 X0 X1 _ ⟨k, hk⟩).trans ?_
      rw [hw]; rfl) 6 le_rfl
  rw [View.read_writes_cons_emb] at h
  refine Eq.trans ?_ h
  unfold View.readCov
  rw [View.writes_append]
  rfl

/-- An entry of the convolution, lanes counted without a border. -/
def entry (o y l : ℕ) : EReal :=
  at2 (a := 24) (b := 384) X2 o l + ∑ j ∈ Finset.range 6, conv4 (a := 216) (b := 24) (c := 384) (a' := 24) (b' := 208) (c' := 388) X1 X0 2 o y l j

/-- A strip's box of the result. -/
abbrev rows (k : Fin k4_t1_loop.trips) : Rect S24x192x384 := Rect.unit (s := S24x192x384) (k4_off3 k) S24x24x384.size (k4_off3_inb k)

set_option maxHeartbeats 2000000 in
/-- A strip: one box of rows of the convolution. -/
theorem strip (k : Fin k4_t1_loop.trips) :
    ∃ w, tripL (F := Ideal) c (stage4_0 0) (hstage4_0 0) (stage4_1 0) (hstage4_1 0) (stage4_2 0) (hstage4_2 0) (stage4_3 0) (hstage4_3 0) (Memref.whole cc4_scratch0) (Memref.isWhole_whole _) X0 X1 X2 k = [⟨rows k, w⟩] ∧
      ∀ (o : Fin 24) (r : Fin 24) (l : Fin 384), w (ix3 o r l) = entry X0 X1 X2 o (24 * k + r) l := by
  unfold tripL trip
  sl_unfold_run_names
  refine ⟨_, rfl, fun o r l => ?_⟩
  refine Eq.trans (sums c X0 X1 k _ _ o r l) ?_
  unfold entry
  congr 1
  pointwise [k4_pay1]
  simp [load2, ClosedOff.form]

/-- An entry of the result. -/
def out (V : (c : Dev nD) → Valuation τ sig (Elt Ideal)) (y : S24x192x384.Idx) : EReal :=
  entry (KernelIdeal.Call4.in0 V c) (KernelIdeal.Call4.in1 V c) (KernelIdeal.Call4.in2 V c) (y 0) (y 1) (y 2)

/-- What the call leaves in its result, entry by entry. -/
theorem value (V : (c : Dev nD) → Valuation τ sig (Elt Ideal)) (y : S24x192x384.Idx) :
    KernelIdeal.Call4.res V c y = out c V y := by
  unfold KernelIdeal.Call4.res
  refine View.canon_apply_of_pieces (Val := Elt Ideal) (e := .f32) (out c V) _ ?_ y (run_cover ..)
  intro p hp x
  rw [KernelIdeal.Call4.pieces, run_list, mem_gather] at hp
  obtain ⟨k, -, hp⟩ := hp
  obtain ⟨w, hw, hv⟩ := strip c (KernelIdeal.Call4.in0 V c) (KernelIdeal.Call4.in1 V c) (KernelIdeal.Call4.in2 V c) k
  rw [hw, List.mem_singleton] at hp
  subst hp
  have hx : x = ix3 (x 0 : Fin 24) (x 1 : Fin 24) (x 2 : Fin 384) := eq_ix3 x
  refine (congrArg w hx).trans ((hv (x 0) (x 1) (x 2)).trans ?_)
  have e0 : ((rows k).emb x 0).val = (x 0).val := by
    show k4_off3 k 0 + 1 * (x 0).val = _; rw [k4_off3_eq]; simp
  have e1 : ((rows k).emb x 1).val = 24 * k.val + (x 1).val := by
    show k4_off3 k 1 + 1 * (x 1).val = _; rw [k4_off3_eq]; simp
  have e2 : ((rows k).emb x 2).val = (x 2).val := by
    show k4_off3 k 2 + 1 * (x 2).val = _; rw [k4_off3_eq]; simp
  unfold out
  rw [e0, e1, e2]

end Cert.Val.Call4

end
-- ==== Proof.Val.Call5.lean ====
module

public import proofs.«01_k».proof.Proof.KI.Call5
public import proofs.«01_k».proof.Proof.Val.Basic

@[expose] public section

set_option maxRecDepth 16384

noncomputable section

namespace Cert.Val.Call5

open Cert.KernelIdeal Cert.KernelIdeal.Gen Cert.KernelIdeal.Body5
open Idealize.ShloMosaic Idealize.ShloMosaic.TcCoe Idealize.ShloMosaic.Tactic Idealize.SL.Sem
open Cert.Pieces

variable (c : Dev nD) (X0 : Vec Ideal S24x192x384 .f32) (X1 : Vec Ideal S24x48x384 .f32) (X2 : Vec Ideal S48x384 .f32)

/-- The whole of the scratch, as a box of it. -/
abbrev box : Rect S48x24x384 := Rect.unit ![0, 0, 0] S48x24x384.size inb_S48x24x384_S48x24x384_0_0_0

/-- What the trips over the input channels write into the scratch. -/
abbrev pb (a b : BitVec 32) (k1 : Fin k5_t1_loop.trips) (v1 : BitVec 32) (G : BufTy.Contents (Elt Ideal) (Memref.whole cc5_scratch0).view.ty) (n : ℕ) :
    List (View.Piece (Elt Ideal) S48x24x384 .f32) :=
  pb_k5_t2 (F := Ideal) Variants.none c none (stage5_0 0) (hstage5_0 0) (stage5_1 0) (hstage5_1 0) (stage5_2 0) (hstage5_2 0) (stage5_3 0) (hstage5_3 0) (Memref.whole cc5_scratch0) (Memref.isWhole_whole _) a b k1 v1 X0 X1 G n

/-- What the scratch holds at an entry. -/
abbrev rd (f : BufTy.Contents (Elt Ideal) (Memref.whole cc5_scratch0).view.ty) (x : S48x24x384.Idx) : EReal :=
  (View.whole cc5_scratch0).read (Elt Ideal) f x

set_option maxHeartbeats 2000000 in
/-- A trip over four input channels: adds their products to what the scratch holds. -/
theorem inner (a b : BitVec 32) (k1 : Fin k5_t1_loop.trips) (v1 : BitVec 32) (k : Fin k5_t2_loop.trips) (f : BufTy.Contents (Elt Ideal) (Memref.whole cc5_scratch0).view.ty) :
    ∃ w, tripL_k5_t2 (F := Ideal) Variants.none c none (stage5_0 0) (hstage5_0 0) (stage5_1 0) (hstage5_1 0) (stage5_2 0) (hstage5_2 0) (stage5_3 0) (hstage5_3 0) (Memref.whole cc5_scratch0) (Memref.isWhole_whole _) a b k1 v1 X0 X1 k f = [⟨box, w⟩] ∧
      ∀ (o : Fin 48) (r : Fin 24) (l : Fin 384), w (ix3 o r l) = rd f (box.emb (ix3 o r l))
        + lin4 (a := 24) (b := 48) (c := 384) (a' := 24) (b' := 192) (c' := 384) X1 X0 o (24 * k1 + r) l k := by
  unfold tripL_k5_t2 trip_k5_t2
  sl_unfold_run_names
  refine ⟨_, rfl, fun o r l => ?_⟩
  pointwise [k5_pay6, k5_pay8]
  refine congrArg₂ (· + ·) rfl ?_
  simp only [lin4, Fin.sum_univ_four]
  simp only [load3]
  simp [ClosedOff.form, Nat.add_assoc]

/-- An entry of the 1x1 convolution. -/
def mid (o y l : ℕ) : EReal :=
  at2 (a := 48) (b := 384) X2 o l + ∑ j ∈ Finset.range 6, lin4 (a := 24) (b := 48) (c := 384) (a' := 24) (b' := 192) (c' := 384) X1 X0 o y l j

/-- The scratch after all trips: what it started with and all the channels' products. -/
theorem sums (a b : BitVec 32) (k1 : Fin k5_t1_loop.trips) (v1 : BitVec 32) (w0 : box.shape.Idx → EReal) (x : box.shape.Idx) :
    (View.whole cc5_scratch0).read (Elt Ideal) ((View.whole cc5_scratch0).writes (Elt Ideal) (View.whole cc5_scratch0).junk (pb c X0 X1 a b k1 v1 ((View.whole cc5_scratch0).writes (Elt Ideal) (View.whole cc5_scratch0).junk [⟨box, w0⟩]) 6
        ++ [⟨box, w0⟩])) (box.emb x)
      = w0 x + ∑ j ∈ Finset.range 6, lin4 (a := 24) (b := 48) (c := 384) (a' := 24) (b' := 192) (c' := 384) X1 X0 (x 0) (24 * k1 + (x 1)) (x 2) j := by
  have h := read_sum (v := View.whole cc5_scratch0) ((View.whole cc5_scratch0).writes (Elt Ideal) (View.whole cc5_scratch0).junk [⟨box, w0⟩])
    box (pb c X0 X1 a b k1 v1 ((View.whole cc5_scratch0).writes (Elt Ideal) (View.whole cc5_scratch0).junk [⟨box, w0⟩])) x
    (fun j => lin4 (a := 24) (b := 48) (c := 384) (a' := 24) (b' := 192) (c' := 384) X1 X0 (x 0) (24 * k1 + (x 1)) (x 2) j) 6 rfl
    (fun k hk => by
      obtain ⟨w, hw, hv⟩ := inner c X0 X1 a b k1 v1 ⟨k, hk⟩ ((View.whole cc5_scratch0).writes (Elt Ideal) ((View.whole cc5_scratch0).writes (Elt Ideal) (View.whole cc5_scratch0).junk [⟨box, w0⟩]) (pb c X0 X1 a b k1 v1 ((View.whole cc5_scratch0).writes (Elt Ideal) (View.whole cc5_scratch0).junk [⟨box, w0⟩]) k))
      refine ⟨w, ?_, ?_⟩
      · refine (pb_k5_t2_succ Variants.none c none (stage5_0 0) (hstage5_0 0) (stage5_1 0) (hstage5_1 0) (stage5_2 0) (hstage5_2 0) (stage5_3 0) (hstage5_3 0) (Memref.whole cc5_scratch0) (Memref.isWhole_whole _) a b k1 v1 X0 X1 _ ⟨k, hk⟩).trans ?_
        rw [hw]; rfl
      · have hx : x = ix3 (x 0 : Fin 48) (x 1 : Fin 24) (x 2 : Fin 384) := eq_ix3 x
        exact (congrArg w hx).trans ((hv (x 0) (x 1) (x 2)).trans (congrArg (fun z => rd _ (box.emb z) + _) hx.symm))) 6 le_rfl
  rw [View.read_writes_cons_emb] at h
  refine Eq.trans ?_ h
  rw [View.writes_append]

/-- The bias row, as the strip reads it. -/
abbrev bias : Vec Ideal S48x384 .f32 :=
  (View.whole cc5_stg2_0).readAt (Elt Ideal) (Rect.unit (s := S48x384) ![0, 0] ![48, 384] inb_S48x384_S48x384_0_0).toLoadRect X2

/-- One channel's rows of the scratch, as the strip's end reads them. -/
theorem cell (k : Fin k5_t1_loop.trips) (v1 : BitVec 32) (n : ℕ) (inb : ∀ a, (![n, 0, 0] : Fin 3 → ℕ) a + (![1, 24, 384] : Fin 3 → ℕ) a ≤ S48x24x384.size a)
    (r : Fin 24) (l : Fin 384) :
    (View.whole cc5_scratch0).readCov (pb c X0 X1 0#32 1#32 k v1 ((View.whole cc5_scratch0).writes (Elt Ideal) (View.whole cc5_scratch0).junk [⟨box, k5_pay7 (bias X2)⟩]) 6
        ++ [⟨box, k5_pay7 (bias X2)⟩])
      (Rect.unit (s := S48x24x384) ![n, 0, 0] ![1, 24, 384] inb).toLoadRect (ix3 0 r l)
      = mid X0 X1 X2 n (24 * k + r) l := by
  have hn : n < 48 := by have := inb 0; simp at this; omega
  have hp : k5_pay7 (F := Ideal) (bias X2)
      (ix3 ⟨n, hn⟩ r l) = at2 (a := 48) (b := 384) X2 n l := by
    pointwise [k5_pay7]
    have h2 := load2 (a := 48) (b := 384) (d := 48) (e := 384) (View.whole cc5_stg2_0) ![0, 0] inb_S48x384_S48x384_0_0 X2 ⟨n, hn⟩ l
    simpa [ClosedOff.form] using h2
  have h := sums c X0 X1 0#32 1#32 k v1 (k5_pay7 (bias X2)) (ix3 ⟨n, hn⟩ r l)
  rw [hp] at h
  refine Eq.trans ?_ h
  unfold View.readCov
  refine congrArg ((View.whole cc5_scratch0).read (Elt Ideal) _) (funext fun a => Fin.ext ?_)
  fin_cases a
  · show n + 1 * 0 = 0 + 1 * n; omega
  · rfl
  · rfl

set_option maxHeartbeats 2000000 in
/-- Whether a lane takes the first of two channels. -/
theorem half (r : Fin 24) (l : Fin 384) : k5_pay10 k5_pay9 2#32 (ix2 r l) = if l.val / 1 % 2 = 0 then 1#1 else 0#1 := by
  pointwise [k5_pay10, k5_pay9]
  revert l
  decide +kernel

/-- An entry of the result, lanes counted without a border. -/
def entry (o y l : ℕ) : EReal := mid X0 X1 X2 (4 * o + 2 * (y % 2) + l / 1 % 2) (y / 2) l

/-- An entry of the result, zero on the border. -/
def outOf (y : S12x400x386.Idx) : EReal :=
  open Classical in if inside y then entry X0 X1 X2 (y 0) ((y 1).val - 8) ((y 2).val - 1) else 0

set_option maxHeartbeats 2000000 in
/-- One output channel of a strip: four channels interleaved by row and by lane. -/
theorem band (k : Fin k5_t1_loop.trips) (co : ℕ) (off : Fin 3 → ℕ) (ho : off = ![co, 48 * k.val + 8, 1])
    (inb : ∀ a, off a + (![1, 48, 384] : Fin 3 → ℕ) a ≤ S12x400x386.size a) (A B C D : Vec Ideal S1x24x384 .f32)
    (hA : ∀ (r : Fin 24) (l : Fin 384), A (ix3 0 r l) = mid X0 X1 X2 (4 * co) (24 * k + r) l)
    (hB : ∀ (r : Fin 24) (l : Fin 384), B (ix3 0 r l) = mid X0 X1 X2 (4 * co + 1) (24 * k + r) l)
    (hC : ∀ (r : Fin 24) (l : Fin 384), C (ix3 0 r l) = mid X0 X1 X2 (4 * co + 2) (24 * k + r) l)
    (hD : ∀ (r : Fin 24) (l : Fin 384), D (ix3 0 r l) = mid X0 X1 X2 (4 * co + 3) (24 * k + r) l)
    (i : Fin 48) (l : Fin 384) :
    k5_pay25 (k5_pay10 k5_pay9 2#32) A B C D (ix3 0 i l)
      = outOf X0 X1 X2 ((Rect.unit (s := S12x400x386) off ![1, 48, 384] inb).emb (ix3 0 i l : S1x48x384.Idx)) := by
  subst ho
  have bi := i.isLt
  have bl := l.isLt
  have bk : k.val < 8 := strips ▸ k.isLt
  have e0 : ((Rect.unit (s := S12x400x386) ![co, 48 * k.val + 8, 1] ![1, 48, 384] inb).emb (ix3 0 i l : S1x48x384.Idx) 0).val = co := by
    show co + 1 * 0 = co; omega
  have e1 : ((Rect.unit (s := S12x400x386) ![co, 48 * k.val + 8, 1] ![1, 48, 384] inb).emb (ix3 0 i l : S1x48x384.Idx) 1).val
      = 48 * k.val + i.val + 8 := by
    show 48 * k.val + 8 + 1 * i.val = _; omega
  have e2 : ((Rect.unit (s := S12x400x386) ![co, 48 * k.val + 8, 1] ![1, 48, 384] inb).emb (ix3 0 i l : S1x48x384.Idx) 2).val
      = l.val + 1 := by
    show 1 + 1 * l.val = _; omega
  have hin : inside ((Rect.unit (s := S12x400x386) ![co, 48 * k.val + 8, 1] ![1, 48, 384] inb).emb (ix3 0 i l : S1x48x384.Idx)) := by
    unfold inside; omega
  unfold outOf
  rw [if_pos hin, e0, e1, e2, Nat.add_sub_cancel, Nat.add_sub_cancel]
  unfold entry
  have hy : (48 * k.val + i.val) / 2 = 24 * k.val + i.val / 2 := by omega
  have hm : (48 * k.val + i.val) % 2 = i.val % 2 := by omega
  rw [hy, hm]
  pointwise [k5_pay25]
  simp only [half]
  have hl := Nat.mod_two_eq_zero_or_one (l.val / 1)
  simp only [Nat.div_one] at hl ⊢
  rcases Nat.mod_two_eq_zero_or_one i.val with hi | hi <;> rcases hl with hl | hl <;> simp [hi, hl, Scalar.select, hA, hB, hC, hD]

/-- What the strip's end reads of the scratch: one channel's rows. -/
abbrev chan (k : Fin k5_t1_loop.trips) (v1 : BitVec 32) (n : ℕ) (inb : ∀ a, (![n, 0, 0] : Fin 3 → ℕ) a + (![1, 24, 384] : Fin 3 → ℕ) a ≤ S48x24x384.size a) :
    Vec Ideal S1x24x384 .f32 :=
  (View.whole cc5_scratch0).readCov (pb c X0 X1 0#32 1#32 k v1 ((View.whole cc5_scratch0).writes (Elt Ideal) (View.whole cc5_scratch0).junk [⟨box, k5_pay7 (bias X2)⟩]) 6
        ++ [⟨box, k5_pay7 (bias X2)⟩])
      (Rect.unit (s := S48x24x384) ![n, 0, 0] ![1, 24, 384] inb).toLoadRect

/-- A piece whose entries are four channels of the scratch interleaved. -/
theorem piece (k : Fin k5_t1_loop.trips) (v1 : BitVec 32) (co : ℕ) (off : Fin 3 → ℕ) (ho : off = ![co, 48 * k.val + 8, 1])
    (inb : ∀ a, off a + (![1, 48, 384] : Fin 3 → ℕ) a ≤ S12x400x386.size a) (a0 a1 a2 a3 : ℕ) (i0 i1 i2 i3)
    (w : S1x48x384.Idx → EReal) (h0 : a0 = 4 * co) (h1 : a1 = 4 * co + 1) (h2 : a2 = 4 * co + 2) (h3 : a3 = 4 * co + 3)
    (hw : w = k5_pay25 (k5_pay10 k5_pay9 2#32) (chan c X0 X1 X2 k v1 a0 i0) (chan c X0 X1 X2 k v1 a1 i1)
      (chan c X0 X1 X2 k v1 a2 i2) (chan c X0 X1 X2 k v1 a3 i3)) :
    ∀ x, w x = outOf X0 X1 X2 ((Rect.unit (s := S12x400x386) off ![1, 48, 384] inb).emb x) := by
  intro x
  subst h0 h1 h2 h3 hw
  obtain ⟨z, i, l, rfl⟩ : ∃ (z : Fin 1) (i : Fin 48) (l : Fin 384), x = ix3 z i l := ⟨x 0, x 1, x 2, eq_ix3 x⟩
  obtain rfl : z = 0 := Subsingleton.elim _ _
  exact band X0 X1 X2 k co off ho inb _ _ _ _ (cell c X0 X1 X2 k v1 _ i0) (cell c X0 X1 X2 k v1 _ i1)
    (cell c X0 X1 X2 k v1 _ i2) (cell c X0 X1 X2 k v1 _ i3) i l

set_option maxHeartbeats 4000000 in
/-- A strip's pieces. -/
theorem strip (k : Fin k5_t1_loop.trips) :
    ∀ p ∈ tripL (F := Ideal) c (stage5_0 0) (hstage5_0 0) (stage5_1 0) (hstage5_1 0) (stage5_2 0) (hstage5_2 0) (stage5_3 0) (hstage5_3 0) (Memref.whole cc5_scratch0) (Memref.isWhole_whole _) X0 X1 X2 k, ∀ x, p.2 x = outOf X0 X1 X2 (p.1.emb x) := by
  unfold tripL trip
  sl_unfold_run_names
  dsimp only
  refine List.forall_mem_cons.mpr ⟨?_, ?_⟩
  · exact piece c X0 X1 X2 k (Scalar.muli (Scf.iv 0#32 1#32 k) 24#32) 11 _ (k5_off16_eq k) (k5_off16_inb k) 44 45 46 47 (by decide) (by decide) (by decide) (by decide) _ rfl rfl rfl rfl rfl
  refine List.forall_mem_cons.mpr ⟨?_, ?_⟩
  · exact piece c X0 X1 X2 k (Scalar.muli (Scf.iv 0#32 1#32 k) 24#32) 10 _ (k5_off15_eq k) (k5_off15_inb k) 40 41 42 43 (by decide) (by decide) (by decide) (by decide) _ rfl rfl rfl rfl rfl
  refine List.forall_mem_cons.mpr ⟨?_, ?_⟩
  · exact piece c X0 X1 X2 k (Scalar.muli (Scf.iv 0#32 1#32 k) 24#32) 9 _ (k5_off14_eq k) (k5_off14_inb k) 36 37 38 39 (by decide) (by decide) (by decide) (by decide) _ rfl rfl rfl rfl rfl
  refine List.forall_mem_cons.mpr ⟨?_, ?_⟩
  · exact piece c X0 X1 X2 k (Scalar.muli (Scf.iv 0#32 1#32 k) 24#32) 8 _ (k5_off13_eq k) (k5_off13_inb k) 32 33 34 35 (by decide) (by decide) (by decide) (by decide) _ rfl rfl rfl rfl rfl
  refine List.forall_mem_cons.mpr ⟨?_, ?_⟩
  · exact piece c X0 X1 X2 k (Scalar.muli (Scf.iv 0#32 1#32 k) 24#32) 7 _ (k5_off12_eq k) (k5_off12_inb k) 28 29 30 31 (by decide) (by decide) (by decide) (by decide) _ rfl rfl rfl rfl rfl
  refine List.forall_mem_cons.mpr ⟨?_, ?_⟩
  · exact piece c X0 X1 X2 k (Scalar.muli (Scf.iv 0#32 1#32 k) 24#32) 6 _ (k5_off11_eq k) (k5_off11_inb k) 24 25 26 27 (by decide) (by decide) (by decide) (by decide) _ rfl rfl rfl rfl rfl
  refine List.forall_mem_cons.mpr ⟨?_, ?_⟩
  · exact piece c X0 X1 X2 k (Scalar.muli (Scf.iv 0#32 1#32 k) 24#32) 5 _ (k5_off10_eq k) (k5_off10_inb k) 20 21 22 23 (by decide) (by decide) (by decide) (by decide) _ rfl rfl rfl rfl rfl
  refine List.forall_mem_cons.mpr ⟨?_, ?_⟩
  · exact piece c X0 X1 X2 k (Scalar.muli (Scf.iv 0#32 1#32 k) 24#32) 4 _ (k5_off9_eq k) (k5_off9_inb k) 16 17 18 19 (by decide) (by decide) (by decide) (by decide) _ rfl rfl rfl rfl rfl
  refine List.forall_mem_cons.mpr ⟨?_, ?_⟩
  · exact piece c X0 X1 X2 k (Scalar.muli (Scf.iv 0#32 1#32 k) 24#32) 3 _ (k5_off8_eq k) (k5_off8_inb k) 12 13 14 15 (by decide) (by decide) (by decide) (by decide) _ rfl rfl rfl rfl rfl
  refine List.forall_mem_cons.mpr ⟨?_, ?_⟩
  · exact piece c X0 X1 X2 k (Scalar.muli (Scf.iv 0#32 1#32 k) 24#32) 2 _ (k5_off7_eq k) (k5_off7_inb k) 8 9 10 11 (by decide) (by decide) (by decide) (by decide) _ rfl rfl rfl rfl rfl
  refine List.forall_mem_cons.mpr ⟨?_, ?_⟩
  · exact piece c X0 X1 X2 k (Scalar.muli (Scf.iv 0#32 1#32 k) 24#32) 1 _ (k5_off6_eq k) (k5_off6_inb k) 4 5 6 7 (by decide) (by decide) (by decide) (by decide) _ rfl rfl rfl rfl rfl
  refine List.forall_mem_cons.mpr ⟨?_, ?_⟩
  · exact piece c X0 X1 X2 k (Scalar.muli (Scf.iv 0#32 1#32 k) 24#32) 0 _ (k5_off5_eq k) (k5_off5_inb k) 0 1 2 3 (by decide) (by decide) (by decide) (by decide) _ rfl rfl rfl rfl rfl
  exact fun p hp => absurd hp List.not_mem_nil

/-- An entry of the result. -/
def out (V : (c : Dev nD) → Valuation τ sig (Elt Ideal)) (y : S12x400x386.Idx) : EReal :=
  outOf (KernelIdeal.Call5.in0 V c) (KernelIdeal.Call5.in1 V c) (KernelIdeal.Call5.in2 V c) y

/-- What the call leaves in its result, entry by entry. -/
theorem value (V : (c : Dev nD) → Valuation τ sig (Elt Ideal)) (y : S12x400x386.Idx) :
    KernelIdeal.Call5.res V c y = out c V y := by
  unfold KernelIdeal.Call5.res
  refine View.canon_apply_of_pieces (Val := Elt Ideal) (e := .f32) (out c V) _ ?_ y (run_cover ..)
  intro p hp x
  obtain ⟨B, hB, -, hz⟩ := run_list c (stage5_0 0) (hstage5_0 0) (stage5_1 0) (hstage5_1 0) (stage5_2 0) (hstage5_2 0) (stage5_3 0) (hstage5_3 0) (Memref.whole cc5_scratch0) (Memref.isWhole_whole _) (KernelIdeal.Call5.in0 V c) (KernelIdeal.Call5.in1 V c) (KernelIdeal.Call5.in2 V c)
  rw [KernelIdeal.Call5.pieces, hB, List.mem_append, mem_gather] at hp
  rcases hp with ⟨k, -, hp⟩ | hp
  · exact strip c _ _ _ k p hp x
  · rw [(hz p hp).2 x]
    unfold out outOf
    rw [if_neg ((hz p hp).1 _ (emb_mem _ _))]
    exact Ideal.ofBits_zero_f32

end Cert.Val.Call5

end
-- ==== Proof.Val.Call6.lean ====
module

public import proofs.«01_k».proof.Proof.KI.Call6
public import proofs.«01_k».proof.Proof.Val.Basic

@[expose] public section

set_option maxRecDepth 16384

noncomputable section

namespace Cert.Val.Call6

open Cert.KernelIdeal Cert.KernelIdeal.Gen Cert.KernelIdeal.Body6
open Idealize.ShloMosaic Idealize.ShloMosaic.TcCoe Idealize.ShloMosaic.Tactic Idealize.SL.Sem
open Cert.Pieces

variable (c : Dev nD) (X0 : Vec Ideal S12x400x386 .f32) (X1 : Vec Ideal S108x12x384 .f32) (X2 : Vec Ideal S12x384 .f32)

/-- The whole of the scratch, as a box of it. -/
abbrev box : Rect S12x48x384 := Rect.unit ![0, 0, 0] S12x48x384.size inb_S12x48x384_S12x48x384_0_0_0

/-- What the trips over the input channels write into the scratch. -/
abbrev pb (k1 : Fin k6_t1_loop.trips) (v1 : BitVec 32) (G : BufTy.Contents (Elt Ideal) (Memref.whole cc6_scratch0).view.ty) (n : ℕ) :
    List (View.Piece (Elt Ideal) S12x48x384 .f32) :=
  pb_k6_t2 (F := Ideal) Variants.none c none (stage6_0 0) (hstage6_0 0) (stage6_1 0) (hstage6_1 0) (stage6_2 0) (hstage6_2 0) (stage6_3 0) (hstage6_3 0) (Memref.whole cc6_scratch0) (Memref.isWhole_whole _) k1 v1 X0 X1 G n

/-- What the scratch holds at an entry. -/
abbrev rd (f : BufTy.Contents (Elt Ideal) (Memref.whole cc6_scratch0).view.ty) (x : S12x48x384.Idx) : EReal :=
  (View.whole cc6_scratch0).read (Elt Ideal) f x

set_option maxHeartbeats 2000000 in
/-- A trip over four input channels: adds their products to what the scratch holds. -/
theorem inner (k1 : Fin k6_t1_loop.trips) (v1 : BitVec 32) (k : Fin k6_t2_loop.trips) (f : BufTy.Contents (Elt Ideal) (Memref.whole cc6_scratch0).view.ty) :
    ∃ w, tripL_k6_t2 (F := Ideal) Variants.none c none (stage6_0 0) (hstage6_0 0) (stage6_1 0) (hstage6_1 0) (stage6_2 0) (hstage6_2 0) (stage6_3 0) (hstage6_3 0) (Memref.whole cc6_scratch0) (Memref.isWhole_whole _) k1 v1 X0 X1 k f = [⟨box, w⟩] ∧
      ∀ (o : Fin 12) (r : Fin 48) (l : Fin 384), w (ix3 o r l) = rd f (box.emb (ix3 o r l))
        + conv4 (a := 108) (b := 12) (c := 384) (a' := 12) (b' := 400) (c' := 386) X1 X0 1 o (48 * k1 + r) l k := by
  unfold tripL_k6_t2 trip_k6_t2
  sl_unfold_run_names
  refine ⟨_, rfl, fun o r l => ?_⟩
  pointwise [k6_pay1, k6_pay2, k6_pay3, k6_pay4, k6_pay6, k6_pay7, k6_pay8, k6_pay9, k6_pay10, k6_pay11, k6_pay12, k6_pay13, k6_pay14, k6_pay15, k6_pay16, k6_pay17, k6_pay18, k6_pay19, k6_pay20, k6_pay21, k6_pay22, k6_pay23, k6_pay24, k6_pay25, k6_pay26, k6_pay27]
  refine congrArg₂ (· + ·) rfl ?_
  simp only [conv4_row, Fin.sum_univ_four, Fin.sum_univ_three]
  simp only [load3]
  simp only [← add_assoc (G := EReal)]
  simp [ClosedOff.form]

/-- The scratch after all trips: what it started with and all the channels' products. -/
theorem sums (k1 : Fin k6_t1_loop.trips) (v1 : BitVec 32) (w0 : box.shape.Idx → EReal) (o : Fin 12) (r : Fin 48) (l : Fin 384) :
    (View.whole cc6_scratch0).readCov (pb c X0 X1 k1 v1 ((View.whole cc6_scratch0).writes (Elt Ideal) (View.whole cc6_scratch0).junk [⟨box, w0⟩]) 3
        ++ [⟨box, w0⟩]) box.toLoadRect (ix3 o r l)
      = w0 (ix3 o r l) + ∑ j ∈ Finset.range 3, conv4 (a := 108) (b := 12) (c := 384) (a' := 12) (b' := 400) (c' := 386) X1 X0 1 o (48 * k1 + r) l j := by
  have h := read_sum (v := View.whole cc6_scratch0) ((View.whole cc6_scratch0).writes (Elt Ideal) (View.whole cc6_scratch0).junk [⟨box, w0⟩])
    box (pb c X0 X1 k1 v1 ((View.whole cc6_scratch0).writes (Elt Ideal) (View.whole cc6_scratch0).junk [⟨box, w0⟩])) (ix3 o r l)
    (fun j => conv4 (a := 108) (b := 12) (c := 384) (a' := 12) (b' := 400) (c' := 386) X1 X0 1 o (48 * k1 + r) l j) 3 rfl
    (fun k hk => by
      obtain ⟨w, hw, hv⟩ := inner c X0 X1 k1 v1 ⟨k, hk⟩ ((View.whole cc6_scratch0).writes (Elt Ideal) ((View.whole cc6_scratch0).writes (Elt Ideal) (View.whole cc6_scratch0).junk [⟨box, w0⟩]) (pb c X0 X1 k1 v1 ((View.whole cc6_scratch0).writes (Elt Ideal) (View.whole cc6_scratch0).junk [⟨box, w0⟩]) k))
      refine ⟨w, ?_, hv o r l⟩
      refine (pb_k6_t2_succ Variants.none c none (stage6_0 0) (hstage6_0 0) (stage6_1 0) (hstage6_1 0) (stage6_2 0) (hstage6_2 0) (stage6_3 0) (hstage6_3 0) (Memref.whole cc6_scratch0) (Memref.isWhole_whole _) k1 v1 X0 X1 _ ⟨k, hk⟩).trans ?_
      rw [hw]; rfl) 3 le_rfl
  rw [View.read_writes_cons_emb] at h
  refine Eq.trans ?_ h
  unfold View.readCov
  rw [View.writes_append]
  rfl

/-- An entry of the convolution, lanes counted without a border. -/
def entry (o y l : ℕ) : EReal :=
  at2 (a := 12) (b := 384) X2 o l + ∑ j ∈ Finset.range 3, conv4 (a := 108) (b := 12) (c := 384) (a' := 12) (b' := 400) (c' := 386) X1 X0 1 o y l j

/-- A strip's box of the result. -/
abbrev rows (k : Fin k6_t1_loop.trips) : Rect S12x400x386 := Rect.unit (s := S12x400x386) (k6_off3 k) S12x48x384.size (k6_off3_inb k)

set_option maxHeartbeats 2000000 in
/-- A strip: one box of rows of the convolution. -/
theorem strip (k : Fin k6_t1_loop.trips) :
    ∃ w, tripL (F := Ideal) c (stage6_0 0) (hstage6_0 0) (stage6_1 0) (hstage6_1 0) (stage6_2 0) (hstage6_2 0) (stage6_3 0) (hstage6_3 0) (Memref.whole cc6_scratch0) (Memref.isWhole_whole _) X0 X1 X2 k = [⟨rows k, w⟩] ∧
      ∀ (o : Fin 12) (r : Fin 48) (l : Fin 384), w (ix3 o r l) = entry X0 X1 X2 o (48 * k + r) l := by
  unfold tripL trip
  sl_unfold_run_names
  refine ⟨_, rfl, fun o r l => ?_⟩
  refine Eq.trans (sums c X0 X1 k _ _ o r l) ?_
  unfold entry
  congr 1
  pointwise [k6_pay5]
  simp [load2, ClosedOff.form]

/-- An entry of the result. -/
def out (V : (c : Dev nD) → Valuation τ sig (Elt Ideal)) (y : S12x400x386.Idx) : EReal :=
  open Classical in if inside y then entry (KernelIdeal.Call6.in0 V c) (KernelIdeal.Call6.in1 V c) (KernelIdeal.Call6.in2 V c) (y 0) ((y 1).val - 8) ((y 2).val - 1) else 0

/-- What the call leaves in its result, entry by entry. -/
theorem value (V : (c : Dev nD) → Valuation τ sig (Elt Ideal)) (y : S12x400x386.Idx) :
    KernelIdeal.Call6.res V c y = out c V y := by
  unfold KernelIdeal.Call6.res
  refine View.canon_apply_of_pieces (Val := Elt Ideal) (e := .f32) (out c V) _ ?_ y (run_cover ..)
  intro p hp x
  obtain ⟨B, hB, -, hz⟩ := run_list c (stage6_0 0) (hstage6_0 0) (stage6_1 0) (hstage6_1 0) (stage6_2 0) (hstage6_2 0) (stage6_3 0) (hstage6_3 0) (Memref.whole cc6_scratch0) (Memref.isWhole_whole _) (KernelIdeal.Call6.in0 V c) (KernelIdeal.Call6.in1 V c) (KernelIdeal.Call6.in2 V c)
  rw [KernelIdeal.Call6.pieces, hB, List.mem_append, mem_gather] at hp
  rcases hp with ⟨k, -, hp⟩ | hp
  swap
  · rw [(hz p hp).2 x]
    unfold out
    rw [if_neg ((hz p hp).1 _ (emb_mem _ _))]
    exact Ideal.ofBits_zero_f32
  obtain ⟨w, hw, hv⟩ := strip c (KernelIdeal.Call6.in0 V c) (KernelIdeal.Call6.in1 V c) (KernelIdeal.Call6.in2 V c) k
  rw [hw, List.mem_singleton] at hp
  subst hp
  have hx : x = ix3 (x 0 : Fin 12) (x 1 : Fin 48) (x 2 : Fin 384) := eq_ix3 x
  refine (congrArg w hx).trans ((hv (x 0) (x 1) (x 2)).trans ?_)
  have e0 : ((rows k).emb x 0).val = (x 0).val := by
    show k6_off3 k 0 + 1 * (x 0).val = _; rw [k6_off3_eq]; simp
  have e1 : ((rows k).emb x 1).val = 48 * k.val + (x 1).val + 8 := by
    show k6_off3 k 1 + 1 * (x 1).val = _; rw [k6_off3_eq]; simp; omega
  have e2 : ((rows k).emb x 2).val = (x 2).val + 1 := by
    show k6_off3 k 2 + 1 * (x 2).val = _; rw [k6_off3_eq]; simp; omega
  have b1 : (x 1).val < 48 := (x 1).isLt
  have b2 : (x 2).val < 384 := (x 2).isLt
  have bk : k.val < 8 := strips ▸ k.isLt
  have hin : inside ((rows k).emb x) := by unfold inside; omega
  unfold out
  rw [if_pos hin, e0, e1, e2, Nat.add_sub_cancel, Nat.add_sub_cancel]

end Cert.Val.Call6

end
-- ==== Proof.Val.Call7.lean ====
module

public import proofs.«01_k».proof.Proof.KI.Call7
public import proofs.«01_k».proof.Proof.Val.Basic

@[expose] public section

set_option maxRecDepth 16384

noncomputable section

namespace Cert.Val.Call7

open Cert.KernelIdeal Cert.KernelIdeal.Gen Cert.KernelIdeal.Body7
open Idealize.ShloMosaic Idealize.ShloMosaic.TcCoe Idealize.ShloMosaic.Tactic Idealize.SL.Sem
open Cert.Pieces

variable (c : Dev nD) (X0 : Vec Ideal S12x400x386 .f32) (X1 : Vec Ideal S108x12x384 .f32) (X2 : Vec Ideal S12x384 .f32)

/-- The whole of the scratch, as a box of it. -/
abbrev box : Rect S12x48x384 := Rect.unit ![0, 0, 0] S12x48x384.size inb_S12x48x384_S12x48x384_0_0_0

/-- What the trips over the input channels write into the scratch. -/
abbrev pb (k1 : Fin k7_t1_loop.trips) (v1 : BitVec 32) (G : BufTy.Contents (Elt Ideal) (Memref.whole cc7_scratch0).view.ty) (n : ℕ) :
    List (View.Piece (Elt Ideal) S12x48x384 .f32) :=
  pb_k7_t2 (F := Ideal) Variants.none c none (stage7_0 0) (hstage7_0 0) (stage7_1 0) (hstage7_1 0) (stage7_2 0) (hstage7_2 0) (stage7_3 0) (hstage7_3 0) (Memref.whole cc7_scratch0) (Memref.isWhole_whole _) k1 v1 X0 X1 G n

/-- What the scratch holds at an entry. -/
abbrev rd (f : BufTy.Contents (Elt Ideal) (Memref.whole cc7_scratch0).view.ty) (x : S12x48x384.Idx) : EReal :=
  (View.whole cc7_scratch0).read (Elt Ideal) f x

set_option maxHeartbeats 2000000 in
/-- A trip over four input channels: adds their products to what the scratch holds. -/
theorem inner (k1 : Fin k7_t1_loop.trips) (v1 : BitVec 32) (k : Fin k7_t2_loop.trips) (f : BufTy.Contents (Elt Ideal) (Memref.whole cc7_scratch0).view.ty) :
    ∃ w, tripL_k7_t2 (F := Ideal) Variants.none c none (stage7_0 0) (hstage7_0 0) (stage7_1 0) (hstage7_1 0) (stage7_2 0) (hstage7_2 0) (stage7_3 0) (hstage7_3 0) (Memref.whole cc7_scratch0) (Memref.isWhole_whole _) k1 v1 X0 X1 k f = [⟨box, w⟩] ∧
      ∀ (o : Fin 12) (r : Fin 48) (l : Fin 384), w (ix3 o r l) = rd f (box.emb (ix3 o r l))
        + conv4 (a := 108) (b := 12) (c := 384) (a' := 12) (b' := 400) (c' := 386) X1 X0 1 o (48 * k1 + r) l k := by
  unfold tripL_k7_t2 trip_k7_t2
  sl_unfold_run_names
  refine ⟨_, rfl, fun o r l => ?_⟩
  pointwise [k7_pay1, k7_pay2, k7_pay3, k7_pay4, k7_pay6, k7_pay7, k7_pay8, k7_pay9, k7_pay10, k7_pay11, k7_pay12, k7_pay13, k7_pay14, k7_pay15, k7_pay16, k7_pay17, k7_pay18, k7_pay19, k7_pay20, k7_pay21, k7_pay22, k7_pay23, k7_pay24, k7_pay25, k7_pay26, k7_pay27]
  refine congrArg₂ (· + ·) rfl ?_
  simp only [conv4_row, Fin.sum_univ_four, Fin.sum_univ_three]
  simp only [load3]
  simp only [← add_assoc (G := EReal)]
  simp [ClosedOff.form]

/-- The scratch after all trips: what it started with and all the channels' products. -/
theorem sums (k1 : Fin k7_t1_loop.trips) (v1 : BitVec 32) (w0 : box.shape.Idx → EReal) (o : Fin 12) (r : Fin 48) (l : Fin 384) :
    (View.whole cc7_scratch0).readCov (pb c X0 X1 k1 v1 ((View.whole cc7_scratch0).writes (Elt Ideal) (View.whole cc7_scratch0).junk [⟨box, w0⟩]) 3
        ++ [⟨box, w0⟩]) box.toLoadRect (ix3 o r l)
      = w0 (ix3 o r l) + ∑ j ∈ Finset.range 3, conv4 (a := 108) (b := 12) (c := 384) (a' := 12) (b' := 400) (c' := 386) X1 X0 1 o (48 * k1 + r) l j := by
  have h := read_sum (v := View.whole cc7_scratch0) ((View.whole cc7_scratch0).writes (Elt Ideal) (View.whole cc7_scratch0).junk [⟨box, w0⟩])
    box (pb c X0 X1 k1 v1 ((View.whole cc7_scratch0).writes (Elt Ideal) (View.whole cc7_scratch0).junk [⟨box, w0⟩])) (ix3 o r l)
    (fun j => conv4 (a := 108) (b := 12) (c := 384) (a' := 12) (b' := 400) (c' := 386) X1 X0 1 o (48 * k1 + r) l j) 3 rfl
    (fun k hk => by
      obtain ⟨w, hw, hv⟩ := inner c X0 X1 k1 v1 ⟨k, hk⟩ ((View.whole cc7_scratch0).writes (Elt Ideal) ((View.whole cc7_scratch0).writes (Elt Ideal) (View.whole cc7_scratch0).junk [⟨box, w0⟩]) (pb c X0 X1 k1 v1 ((View.whole cc7_scratch0).writes (Elt Ideal) (View.whole cc7_scratch0).junk [⟨box, w0⟩]) k))
      refine ⟨w, ?_, hv o r l⟩
      refine (pb_k7_t2_succ Variants.none c none (stage7_0 0) (hstage7_0 0) (stage7_1 0) (hstage7_1 0) (stage7_2 0) (hstage7_2 0) (stage7_3 0) (hstage7_3 0) (Memref.whole cc7_scratch0) (Memref.isWhole_whole _) k1 v1 X0 X1 _ ⟨k, hk⟩).trans ?_
      rw [hw]; rfl) 3 le_rfl
  rw [View.read_writes_cons_emb] at h
  refine Eq.trans ?_ h
  unfold View.readCov
  rw [View.writes_append]
  rfl

/-- An entry of the convolution, lanes counted without a border. -/
def entry (o y l : ℕ) : EReal :=
  at2 (a := 12) (b := 384) X2 o l + ∑ j ∈ Finset.range 3, conv4 (a := 108) (b := 12) (c := 384) (a' := 12) (b' := 400) (c' := 386) X1 X0 1 o y l j

/-- A strip's box of the result. -/
abbrev rows (k : Fin k7_t1_loop.trips) : Rect S12x400x386 := Rect.unit (s := S12x400x386) (k7_off3 k) S12x48x384.size (k7_off3_inb k)

set_option maxHeartbeats 2000000 in
/-- A strip: one box of rows of the convolution. -/
theorem strip (k : Fin k7_t1_loop.trips) :
    ∃ w, tripL (F := Ideal) c (stage7_0 0) (hstage7_0 0) (stage7_1 0) (hstage7_1 0) (stage7_2 0) (hstage7_2 0) (stage7_3 0) (hstage7_3 0) (Memref.whole cc7_scratch0) (Memref.isWhole_whole _) X0 X1 X2 k = [⟨rows k, w⟩] ∧
      ∀ (o : Fin 12) (r : Fin 48) (l : Fin 384), w (ix3 o r l) = entry X0 X1 X2 o (48 * k + r) l := by
  unfold tripL trip
  sl_unfold_run_names
  refine ⟨_, rfl, fun o r l => ?_⟩
  refine Eq.trans (sums c X0 X1 k _ _ o r l) ?_
  unfold entry
  congr 1
  pointwise [k7_pay5]
  simp [load2, ClosedOff.form]

/-- An entry of the result. -/
def out (V : (c : Dev nD) → Valuation τ sig (Elt Ideal)) (y : S12x400x386.Idx) : EReal :=
  open Classical in if inside y then entry (KernelIdeal.Call7.in0 V c) (KernelIdeal.Call7.in1 V c) (KernelIdeal.Call7.in2 V c) (y 0) ((y 1).val - 8) ((y 2).val - 1) else 0

/-- What the call leaves in its result, entry by entry. -/
theorem value (V : (c : Dev nD) → Valuation τ sig (Elt Ideal)) (y : S12x400x386.Idx) :
    KernelIdeal.Call7.res V c y = out c V y := by
  unfold KernelIdeal.Call7.res
  refine View.canon_apply_of_pieces (Val := Elt Ideal) (e := .f32) (out c V) _ ?_ y (run_cover ..)
  intro p hp x
  obtain ⟨B, hB, -, hz⟩ := run_list c (stage7_0 0) (hstage7_0 0) (stage7_1 0) (hstage7_1 0) (stage7_2 0) (hstage7_2 0) (stage7_3 0) (hstage7_3 0) (Memref.whole cc7_scratch0) (Memref.isWhole_whole _) (KernelIdeal.Call7.in0 V c) (KernelIdeal.Call7.in1 V c) (KernelIdeal.Call7.in2 V c)
  rw [KernelIdeal.Call7.pieces, hB, List.mem_append, mem_gather] at hp
  rcases hp with ⟨k, -, hp⟩ | hp
  swap
  · rw [(hz p hp).2 x]
    unfold out
    rw [if_neg ((hz p hp).1 _ (emb_mem _ _))]
    exact Ideal.ofBits_zero_f32
  obtain ⟨w, hw, hv⟩ := strip c (KernelIdeal.Call7.in0 V c) (KernelIdeal.Call7.in1 V c) (KernelIdeal.Call7.in2 V c) k
  rw [hw, List.mem_singleton] at hp
  subst hp
  have hx : x = ix3 (x 0 : Fin 12) (x 1 : Fin 48) (x 2 : Fin 384) := eq_ix3 x
  refine (congrArg w hx).trans ((hv (x 0) (x 1) (x 2)).trans ?_)
  have e0 : ((rows k).emb x 0).val = (x 0).val := by
    show k7_off3 k 0 + 1 * (x 0).val = _; rw [k7_off3_eq]; simp
  have e1 : ((rows k).emb x 1).val = 48 * k.val + (x 1).val + 8 := by
    show k7_off3 k 1 + 1 * (x 1).val = _; rw [k7_off3_eq]; simp; omega
  have e2 : ((rows k).emb x 2).val = (x 2).val + 1 := by
    show k7_off3 k 2 + 1 * (x 2).val = _; rw [k7_off3_eq]; simp; omega
  have b1 : (x 1).val < 48 := (x 1).isLt
  have b2 : (x 2).val < 384 := (x 2).isLt
  have bk : k.val < 8 := strips ▸ k.isLt
  have hin : inside ((rows k).emb x) := by unfold inside; omega
  unfold out
  rw [if_pos hin, e0, e1, e2, Nat.add_sub_cancel, Nat.add_sub_cancel]

end Cert.Val.Call7

end
-- ==== Proof.Val.Call8.lean ====
module

public import proofs.«01_k».proof.Proof.KI.Call8
public import proofs.«01_k».proof.Proof.Val.Basic

@[expose] public section

set_option maxRecDepth 16384

noncomputable section

namespace Cert.Val.Call8

open Cert.KernelIdeal Cert.KernelIdeal.Gen Cert.KernelIdeal.Body8
open Idealize.ShloMosaic Idealize.ShloMosaic.TcCoe Idealize.ShloMosaic.Tactic Idealize.SL.Sem
open Cert.Pieces

variable (c : Dev nD) (X0 : Vec Ideal S12x400x386 .f32) (X1 : Vec Ideal S108x1x384 .f32) (X2 : Vec Ideal S1x384 .f32)

/-- The whole of the scratch, as a box of it. -/
abbrev box : Rect S1x48x384 := Rect.unit ![0, 0, 0] S1x48x384.size inb_S1x48x384_S1x48x384_0_0_0

/-- What the trips over the input channels write into the scratch. -/
abbrev pb (k1 : Fin k8_t1_loop.trips) (v1 : BitVec 32) (G : BufTy.Contents (Elt Ideal) (Memref.whole cc8_scratch0).view.ty) (n : ℕ) :
    List (View.Piece (Elt Ideal) S1x48x384 .f32) :=
  pb_k8_t2 (F := Ideal) Variants.none c none (stage8_0 0) (hstage8_0 0) (stage8_1 0) (hstage8_1 0) (stage8_2 0) (hstage8_2 0) (stage8_3 0) (hstage8_3 0) (Memref.whole cc8_scratch0) (Memref.isWhole_whole _) k1 v1 X0 X1 G n

/-- What the scratch holds at an entry. -/
abbrev rd (f : BufTy.Contents (Elt Ideal) (Memref.whole cc8_scratch0).view.ty) (x : S1x48x384.Idx) : EReal :=
  (View.whole cc8_scratch0).read (Elt Ideal) f x

set_option maxHeartbeats 2000000 in
/-- A trip over four input channels: adds their products to what the scratch holds. -/
theorem inner (k1 : Fin k8_t1_loop.trips) (v1 : BitVec 32) (k : Fin k8_t2_loop.trips) (f : BufTy.Contents (Elt Ideal) (Memref.whole cc8_scratch0).view.ty) :
    ∃ w, tripL_k8_t2 (F := Ideal) Variants.none c none (stage8_0 0) (hstage8_0 0) (stage8_1 0) (hstage8_1 0) (stage8_2 0) (hstage8_2 0) (stage8_3 0) (hstage8_3 0) (Memref.whole cc8_scratch0) (Memref.isWhole_whole _) k1 v1 X0 X1 k f = [⟨box, w⟩] ∧
      ∀ (o : Fin 1) (r : Fin 48) (l : Fin 384), w (ix3 o r l) = rd f (box.emb (ix3 o r l))
        + conv4 (a := 108) (b := 1) (c := 384) (a' := 12) (b' := 400) (c' := 386) X1 X0 1 o (48 * k1 + r) l k := by
  unfold tripL_k8_t2 trip_k8_t2
  sl_unfold_run_names
  refine ⟨_, rfl, fun o r l => ?_⟩
  pointwise [k8_pay2, k8_pay3, k8_pay4, k8_pay5, k8_pay6, k8_pay7, k8_pay8, k8_pay9, k8_pay10, k8_pay11, k8_pay12, k8_pay13, k8_pay14, k8_pay15, k8_pay16, k8_pay17, k8_pay18, k8_pay19, k8_pay20, k8_pay21, k8_pay22]
  refine congrArg₂ (· + ·) rfl ?_
  simp only [conv4_row, Fin.sum_univ_four, Fin.sum_univ_three]
  simp only [load3]
  simp only [← add_assoc (G := EReal)]
  simp [ClosedOff.form]

/-- The scratch after all trips: what it started with and all the channels' products. -/
theorem sums (k1 : Fin k8_t1_loop.trips) (v1 : BitVec 32) (w0 : box.shape.Idx → EReal) (o : Fin 1) (r : Fin 48) (l : Fin 384) :
    (View.whole cc8_scratch0).readCov (pb c X0 X1 k1 v1 ((View.whole cc8_scratch0).writes (Elt Ideal) (View.whole cc8_scratch0).junk [⟨box, w0⟩]) 3
        ++ [⟨box, w0⟩]) box.toLoadRect (ix3 o r l)
      = w0 (ix3 o r l) + ∑ j ∈ Finset.range 3, conv4 (a := 108) (b := 1) (c := 384) (a' := 12) (b' := 400) (c' := 386) X1 X0 1 o (48 * k1 + r) l j := by
  have h := read_sum (v := View.whole cc8_scratch0) ((View.whole cc8_scratch0).writes (Elt Ideal) (View.whole cc8_scratch0).junk [⟨box, w0⟩])
    box (pb c X0 X1 k1 v1 ((View.whole cc8_scratch0).writes (Elt Ideal) (View.whole cc8_scratch0).junk [⟨box, w0⟩])) (ix3 o r l)
    (fun j => conv4 (a := 108) (b := 1) (c := 384) (a' := 12) (b' := 400) (c' := 386) X1 X0 1 o (48 * k1 + r) l j) 3 rfl
    (fun k hk => by
      obtain ⟨w, hw, hv⟩ := inner c X0 X1 k1 v1 ⟨k, hk⟩ ((View.whole cc8_scratch0).writes (Elt Ideal) ((View.whole cc8_scratch0).writes (Elt Ideal) (View.whole cc8_scratch0).junk [⟨box, w0⟩]) (pb c X0 X1 k1 v1 ((View.whole cc8_scratch0).writes (Elt Ideal) (View.whole cc8_scratch0).junk [⟨box, w0⟩]) k))
      refine ⟨w, ?_, hv o r l⟩
      refine (pb_k8_t2_succ Variants.none c none (stage8_0 0) (hstage8_0 0) (stage8_1 0) (hstage8_1 0) (stage8_2 0) (hstage8_2 0) (stage8_3 0) (hstage8_3 0) (Memref.whole cc8_scratch0) (Memref.isWhole_whole _) k1 v1 X0 X1 _ ⟨k, hk⟩).trans ?_
      rw [hw]; rfl) 3 le_rfl
  rw [View.read_writes_cons_emb] at h
  refine Eq.trans ?_ h
  unfold View.readCov
  rw [View.writes_append]
  rfl

/-- An entry of the convolution, lanes counted without a border. -/
def entry (o y l : ℕ) : EReal :=
  at2 (a := 1) (b := 384) X2 o l + ∑ j ∈ Finset.range 3, conv4 (a := 108) (b := 1) (c := 384) (a' := 12) (b' := 400) (c' := 386) X1 X0 1 o y l j

/-- A strip's box of the result. -/
abbrev rows (k : Fin k8_t1_loop.trips) : Rect S1x384x384 := Rect.unit (s := S1x384x384) (k8_off3 k) S1x48x384.size (k8_off3_inb k)

set_option maxHeartbeats 2000000 in
/-- A strip: one box of rows of the convolution. -/
theorem strip (k : Fin k8_t1_loop.trips) :
    ∃ w, tripL (F := Ideal) c (stage8_0 0) (hstage8_0 0) (stage8_1 0) (hstage8_1 0) (stage8_2 0) (hstage8_2 0) (stage8_3 0) (hstage8_3 0) (Memref.whole cc8_scratch0) (Memref.isWhole_whole _) X0 X1 X2 k = [⟨rows k, w⟩] ∧
      ∀ (o : Fin 1) (r : Fin 48) (l : Fin 384), w (ix3 o r l) = entry X0 X1 X2 o (48 * k + r) l := by
  unfold tripL trip
  sl_unfold_run_names
  refine ⟨_, rfl, fun o r l => ?_⟩
  refine Eq.trans (sums c X0 X1 k _ _ o r l) ?_
  unfold entry
  congr 1
  pointwise [k8_pay1]
  simp [load2, ClosedOff.form]

/-- An entry of the result. -/
def out (V : (c : Dev nD) → Valuation τ sig (Elt Ideal)) (y : S1x384x384.Idx) : EReal :=
  entry (KernelIdeal.Call8.in0 V c) (KernelIdeal.Call8.in1 V c) (KernelIdeal.Call8.in2 V c) (y 0) (y 1) (y 2)

/-- What the call leaves in its result, entry by entry. -/
theorem value (V : (c : Dev nD) → Valuation τ sig (Elt Ideal)) (y : S1x384x384.Idx) :
    KernelIdeal.Call8.res V c y = out c V y := by
  unfold KernelIdeal.Call8.res
  refine View.canon_apply_of_pieces (Val := Elt Ideal) (e := .f32) (out c V) _ ?_ y (run_cover ..)
  intro p hp x
  rw [KernelIdeal.Call8.pieces, run_list, mem_gather] at hp
  obtain ⟨k, -, hp⟩ := hp
  obtain ⟨w, hw, hv⟩ := strip c (KernelIdeal.Call8.in0 V c) (KernelIdeal.Call8.in1 V c) (KernelIdeal.Call8.in2 V c) k
  rw [hw, List.mem_singleton] at hp
  subst hp
  have hx : x = ix3 (x 0 : Fin 1) (x 1 : Fin 48) (x 2 : Fin 384) := eq_ix3 x
  refine (congrArg w hx).trans ((hv (x 0) (x 1) (x 2)).trans ?_)
  have e0 : ((rows k).emb x 0).val = (x 0).val := by
    show k8_off3 k 0 + 1 * (x 0).val = _; rw [k8_off3_eq]; simp
  have e1 : ((rows k).emb x 1).val = 48 * k.val + (x 1).val := by
    show k8_off3 k 1 + 1 * (x 1).val = _; rw [k8_off3_eq]; simp
  have e2 : ((rows k).emb x 2).val = (x 2).val := by
    show k8_off3 k 2 + 1 * (x 2).val = _; rw [k8_off3_eq]; simp
  unfold out
  rw [e0, e1, e2]

end Cert.Val.Call8

end
-- ==== Proof.Val.Stages.lean ====
/-
  Each call as a layer: if the array before it holds a layer's argument, its columns repeated, the call's result holds
  the layer's value.
-/
module

public import proofs.«01_k».proof.Proof.Val.Operands
public import proofs.«01_k».proof.Proof.Val.Consts
public import proofs.«01_k».proof.Proof.Val.Call0
public import proofs.«01_k».proof.Proof.Val.Call1
public import proofs.«01_k».proof.Proof.Val.Call2
public import proofs.«01_k».proof.Proof.Val.Call3
public import proofs.«01_k».proof.Proof.Val.Call4
public import proofs.«01_k».proof.Proof.Val.Call5
public import proofs.«01_k».proof.Proof.Val.Call6
public import proofs.«01_k».proof.Proof.Val.Call7
public import proofs.«01_k».proof.Proof.Val.Call8

@[expose] public section

set_option maxRecDepth 16384

noncomputable section

namespace Cert.Val.Stages

open Cert.KernelIdeal Cert.KernelIdeal.Gen Cert.KernelIdeal.Launch
open Idealize.ShloMosaic Idealize.ShloMosaic.TcCoe Idealize.ShloMosaic.Tactic
open Idealize.SL.Sem

variable (m : (ℓ : Loc nD τ sig) → Buf (Elt Ideal) ℓ) (c : Dev nD)

/-! ## The arguments -/

abbrev a0 : ℕ → ℕ → ℕ → ℕ → EReal := at4 (a := 1) (b := 12) (c := 384) (d := 384) (m ((c : Thread nD τ).loc main_arg0))
abbrev a1 : ℕ → ℕ → ℕ → ℕ → EReal := at4 (a := 12) (b := 12) (c := 3) (d := 3) (m ((c : Thread nD τ).loc main_arg1))
abbrev a2 : ℕ → EReal := at1 (a := 12) (m ((c : Thread nD τ).loc main_arg2))
abbrev a3 : ℕ → ℕ → ℕ → ℕ → EReal := at4 (a := 24) (b := 24) (c := 3) (d := 3) (m ((c : Thread nD τ).loc main_arg3))
abbrev a4 : ℕ → EReal := at1 (a := 24) (m ((c : Thread nD τ).loc main_arg4))
abbrev a5 : ℕ → ℕ → ℕ → ℕ → EReal := at4 (a := 12) (b := 12) (c := 3) (d := 3) (m ((c : Thread nD τ).loc main_arg5))
abbrev a6 : ℕ → EReal := at1 (a := 12) (m ((c : Thread nD τ).loc main_arg6))
abbrev a7 : ℕ → ℕ → ℕ → ℕ → EReal := at4 (a := 1) (b := 12) (c := 3) (d := 3) (m ((c : Thread nD τ).loc main_arg7))
abbrev a8 : ℕ → EReal := at1 (a := 1) (m ((c : Thread nD τ).loc main_arg8))
abbrev a9 : ℕ → EReal := at1 (a := 48) (m ((c : Thread nD τ).loc main_arg9))
abbrev a10 : ℕ → EReal := at1 (a := 48) (m ((c : Thread nD τ).loc main_arg10))
abbrev a11 : ℕ → ℕ → EReal := at2 (a := 48) (b := 24) (m ((c : Thread nD τ).loc main_arg11))
abbrev a12 : ℕ → EReal := at1 (a := 96) (m ((c : Thread nD τ).loc main_arg12))
abbrev a13 : ℕ → EReal := at1 (a := 96) (m ((c : Thread nD τ).loc main_arg13))
abbrev a14 : ℕ → ℕ → EReal := at2 (a := 96) (b := 48) (m ((c : Thread nD τ).loc main_arg14))
abbrev a15 : ℕ → ℕ → ℕ → ℕ → EReal := at4 (a := 96) (b := 48) (c := 1) (d := 1) (m ((c : Thread nD τ).loc main_arg15))
abbrev a16 : ℕ → EReal := at1 (a := 96) (m ((c : Thread nD τ).loc main_arg16))
abbrev a17 : ℕ → ℕ → ℕ → ℕ → EReal := at4 (a := 48) (b := 24) (c := 1) (d := 1) (m ((c : Thread nD τ).loc main_arg17))
abbrev a18 : ℕ → EReal := at1 (a := 48) (m ((c : Thread nD τ).loc main_arg18))

/-! ## The calls' results -/

abbrev k0 : ℕ → ℕ → ℕ → EReal := at3 (a := 12) (b := 384) (c := 384) (Call0.res (in0 m) c)
abbrev k1 : ℕ → ℕ → ℕ → EReal := at3 (a := 24) (b := 192) (c := 384) (Call1.res (in1 m) c)
abbrev k2 : ℕ → ℕ → ℕ → EReal := at3 (a := 48) (b := 96) (c := 384) (Call2.res (in2 m) c)
abbrev k3 : ℕ → ℕ → ℕ → EReal := at3 (a := 24) (b := 208) (c := 388) (Call3.res (in3 m) c)
abbrev k4 : ℕ → ℕ → ℕ → EReal := at3 (a := 24) (b := 192) (c := 384) (Call4.res (in4 m) c)
abbrev k5 : ℕ → ℕ → ℕ → EReal := at3 (a := 12) (b := 400) (c := 386) (Call5.res (in5 m) c)
abbrev k6 : ℕ → ℕ → ℕ → EReal := at3 (a := 12) (b := 400) (c := 386) (Call6.res (in6 m) c)
abbrev k7 : ℕ → ℕ → ℕ → EReal := at3 (a := 12) (b := 400) (c := 386) (Call7.res (in7 m) c)
abbrev k8 : ℕ → ℕ → ℕ → EReal := at3 (a := 1) (b := 384) (c := 384) (Call8.res (in8 m) c)

/-! ## The layers -/

theorem first (o i l : ℕ) (ho : o < 12) (hi : i < 386) (hl : l < 386) :
    at3 (a := 12) (b := 400) (c := 386) (Call0.in0 (in0 m) c) o (7 + i) l = padded 384 384 (a0 m c 0) o i l := by
  refine (Operands.x0 m c o (7 + i) l ho (by omega) hl).trans ?_
  unfold padded
  by_cases h : (1 ≤ i ∧ i - 1 < 384) ∧ 1 ≤ l ∧ l - 1 < 384
  · have h' : (8 ≤ 7 + i ∧ 7 + i - 8 < 384) ∧ 1 ≤ l ∧ l - 1 < 384 := by omega
    rw [if_pos h, if_pos h', show 7 + i - 8 = i - 1 by omega]
  · have h' : ¬ ((8 ≤ 7 + i ∧ 7 + i - 8 < 384) ∧ 1 ≤ l ∧ l - 1 < 384) := by omega
    rw [if_neg h, if_neg h']

section

variable (R : ℕ → ℕ → ℕ → EReal)

theorem s0 (hX : ∀ x < 12, ∀ i < 386, ∀ l < 386, at3 (a := 12) (b := 400) (c := 386) (Call0.in0 (in0 m) c) x (7 + i) l = R x i (l / 1)) (o y l : ℕ) (ho : o < 12) (hy : y < 384) (hl : l < 384) :
    k0 m c o y l = finMask (conv 12 (a1 m c) (a2 m c) R o y (l / 1)) := by
  refine (at3_mk (a := 12) (b := 384) (c := 384) _ ⟨o, ho⟩ ⟨y, hy⟩ ⟨l, hl⟩).trans ((Cert.Val.Call0.value c (in0 m) _).trans ?_)
  exact congrArg finMask (conv_match (n := 3) (b := 12) 12 1 384 rfl (by norm_num) (Call0.in1 (in0 m) c) (Call0.in0 (in0 m) c) (a1 m c) (a2 m c) (at2 (a := 12) (b := 384) (Call0.in2 (in0 m) c)) R o y l hy hl hX (fun x hx p hp q hq => Operands.w0 m c x p q o l hx hp hq ho hl) (Operands.b0 m c o l ho hl))

theorem inv1 : Cert.Val.Call1.inv = (((((4 * 12 : ℕ) : ℝ))⁻¹ : ℝ) : EReal) := by
  have e : Cert.Val.Call1.inv = ((((48 : ℝ))⁻¹ : ℝ) : EReal) := IdealRules.named_const.ideal_named_scalar _ _ _ _ rfl
  rw [e]
  norm_num
theorem s1 (hX : ∀ x < 12, ∀ r < 384, ∀ l < 384, k0 m c x r l = R x r (l / 1))
    (hR : ∀ x < 12, ∀ r < 384, ∀ j < 384, Finite (R x r j)) (o y l : ℕ) (ho : o < 24) (hy : y < 192) (hl : l < 384) :
    k1 m c o y l = merge 48 n48 eps (a9 m c) (a10 m c) (a11 m c) (patch 12 R y (l / 1 / 2)) o := by
  obtain ⟨e, he, hE⟩ := eps_eq
  refine (at3_mk (a := 24) (b := 192) (c := 384) _ ⟨o, ho⟩ ⟨y, hy⟩ ⟨l, hl⟩).trans ((Cert.Val.Call1.value c (in1 m) _).trans ?_)
  exact merge_match 12 6 1 192 (by norm_num) rfl (by norm_num) (by norm_num) (at3 (Call1.in0 (in1 m) c)) R y l hy hl
    (by rw [Operands.x1]; exact hX) (n48_eq.trans (by norm_num)) inv1 hE he hR
    (at2 (Call1.in1 (in1 m) c)) (at2 (Call1.in2 (in1 m) c)) (at3 (Call1.in3 (in1 m) c)) (a9 m c) (a10 m c) (a11 m c) o
    (fun g hg l hl => Operands.g1_1 m c g l hg hl) (fun g hg l hl => Operands.g1_2 m c g l hg hl)
    (fun g hg l hl => Operands.g1_3 m c g o l hg ho hl)

theorem inv2 : Cert.Val.Call2.inv = (((((4 * 24 : ℕ) : ℝ))⁻¹ : ℝ) : EReal) := by
  have e : Cert.Val.Call2.inv = ((((96 : ℝ))⁻¹ : ℝ) : EReal) := IdealRules.named_const.ideal_named_scalar _ _ _ _ rfl
  rw [e]
  norm_num
theorem s2 (hX : ∀ x < 24, ∀ r < 192, ∀ l < 384, k1 m c x r l = R x r (l / 2))
    (hR : ∀ x < 24, ∀ r < 192, ∀ j < 192, Finite (R x r j)) (o y l : ℕ) (ho : o < 48) (hy : y < 96) (hl : l < 384) :
    k2 m c o y l = merge 96 n96 eps (a12 m c) (a13 m c) (a14 m c) (patch 24 R y (l / 2 / 2)) o := by
  obtain ⟨e, he, hE⟩ := eps_eq
  refine (at3_mk (a := 48) (b := 96) (c := 384) _ ⟨o, ho⟩ ⟨y, hy⟩ ⟨l, hl⟩).trans ((Cert.Val.Call2.value c (in2 m) _).trans ?_)
  exact merge_match 24 12 2 96 (by norm_num) rfl (by norm_num) (by norm_num) (at3 (Call2.in0 (in2 m) c)) R y l hy hl
    (by rw [Operands.x2]; exact hX) (n96_eq.trans (by norm_num)) inv2 hE he hR
    (at2 (Call2.in1 (in2 m) c)) (at2 (Call2.in2 (in2 m) c)) (at3 (Call2.in3 (in2 m) c)) (a12 m c) (a13 m c) (a14 m c) o
    (fun g hg l hl => Operands.g2_1 m c g l hg hl) (fun g hg l hl => Operands.g2_2 m c g l hg hl)
    (fun g hg l hl => Operands.g2_3 m c g o l hg ho hl)

theorem s3 (hX : ∀ x < 48, ∀ i < 96, ∀ l < 384, k2 m c x i l = R x i (l / 2 / 2)) (o i l : ℕ) (ho : o < 24) (hi : i < 194) (hl : l < 388) :
    k3 m c o (7 + i) l = padded 192 192 (up 48 (fun x y => a15 m c x y 0 0) (a16 m c) R) o i (l / 2) := by
  refine (at3_mk (a := 24) (b := 208) (c := 388) _ ⟨o, ho⟩ ⟨7 + i, by omega⟩ ⟨l, hl⟩).trans ((Cert.Val.Call3.value c (in3 m) _).trans ?_)
  unfold padded
  by_cases h : (1 ≤ i ∧ i - 1 < 192) ∧ 1 ≤ l / 2 ∧ l / 2 - 1 < 192
  · refine (if_pos (?_ : _ ∧ _ ∧ _ ∧ _)).trans (Eq.trans ?_ (if_pos h).symm)
    · dsimp only [ix3]; omega
    · obtain ⟨i, rfl⟩ : ∃ i', i = i' + 1 := ⟨i - 1, by omega⟩
      obtain ⟨l, rfl⟩ : ∃ l', l = l' + 2 := ⟨l - 2, by omega⟩
      have hy : i / 2 < 96 := by omega
      have hl : l < 384 := by omega
      have hs : 4 * o + 2 * (i % 2) + l / 2 % 2 < 96 := by omega
      have e1 : 7 + (i + 1) - 8 = i := by omega
      have e2 : i + 1 - 1 = i := by omega
      have e3 : (l + 2) / 2 - 1 = l / 2 := by omega
      have e4 : l + 2 - 2 = l := by omega
      rw [e2, e3]
      have e := up_match (n := 12) (b := 96) 48 2 96 rfl (by norm_num) (Call3.in1 (in3 m) c) (Call3.in0 (in3 m) c) (fun x y => a15 m c x y 0 0) (a16 m c) (at2 (a := 96) (b := 384) (Call3.in2 (in3 m) c)) R o i l hy hl (by rw [Operands.x3]; exact hX) (fun x hx => Operands.w3 m c x _ l hx hs hl) (Operands.b3 m c _ l hs hl)
      rw [← e]
      show Cert.Val.Call3.entry (Call3.in0 (in3 m) c) (Call3.in1 (in3 m) c) (Call3.in2 (in3 m) c) o (7 + (i + 1) - 8) (l + 2 - 2) = _
      rw [e1, e4]
      rfl
  · refine (if_neg (?_ : ¬ (_ ∧ _ ∧ _ ∧ _))).trans (if_neg h).symm
    dsimp only [ix3]; omega

theorem s4 (hX : ∀ x < 24, ∀ i < 194, ∀ l < 388, k3 m c x (7 + i) l = R x i (l / 2)) (o y l : ℕ) (ho : o < 24) (hy : y < 192) (hl : l < 384) :
    k4 m c o y l = conv 24 (a3 m c) (a4 m c) R o y (l / 2) := by
  refine (at3_mk (a := 24) (b := 192) (c := 384) _ ⟨o, ho⟩ ⟨y, hy⟩ ⟨l, hl⟩).trans ((Cert.Val.Call4.value c (in4 m) _).trans ?_)
  exact conv_match (n := 6) (b := 24) 24 2 192 rfl (by norm_num) (Call4.in1 (in4 m) c) (Call4.in0 (in4 m) c) (a3 m c) (a4 m c) (at2 (a := 24) (b := 384) (Call4.in2 (in4 m) c)) R o y l hy hl (by rw [Operands.x4]; exact hX) (fun x hx p hp q hq => Operands.w4 m c x p q o l hx hp hq ho hl) (Operands.b4 m c o l ho hl)

theorem s5 (hX : ∀ x < 24, ∀ i < 192, ∀ l < 384, k4 m c x i l = R x i (l / 1 / 2)) (o i l : ℕ) (ho : o < 12) (hi : i < 386) (hl : l < 386) :
    k5 m c o (7 + i) l = padded 384 384 (up 24 (fun x y => a17 m c x y 0 0) (a18 m c) R) o i (l / 1) := by
  refine (at3_mk (a := 12) (b := 400) (c := 386) _ ⟨o, ho⟩ ⟨7 + i, by omega⟩ ⟨l, hl⟩).trans ((Cert.Val.Call5.value c (in5 m) _).trans ?_)
  unfold padded
  by_cases h : (1 ≤ i ∧ i - 1 < 384) ∧ 1 ≤ l / 1 ∧ l / 1 - 1 < 384
  · refine (if_pos (?_ : _ ∧ _ ∧ _ ∧ _)).trans (Eq.trans ?_ (if_pos h).symm)
    · dsimp only [ix3]; omega
    · obtain ⟨i, rfl⟩ : ∃ i', i = i' + 1 := ⟨i - 1, by omega⟩
      obtain ⟨l, rfl⟩ : ∃ l', l = l' + 1 := ⟨l - 1, by omega⟩
      have hy : i / 2 < 192 := by omega
      have hl : l < 384 := by omega
      have hs : 4 * o + 2 * (i % 2) + l / 1 % 2 < 48 := by omega
      have e1 : 7 + (i + 1) - 8 = i := by omega
      have e2 : i + 1 - 1 = i := by omega
      have e3 : (l + 1) / 1 - 1 = l / 1 := by omega
      have e4 : l + 1 - 1 = l := by omega
      rw [e2, e3]
      have e := up_match (n := 6) (b := 48) 24 1 192 rfl (by norm_num) (Call5.in1 (in5 m) c) (Call5.in0 (in5 m) c) (fun x y => a17 m c x y 0 0) (a18 m c) (at2 (a := 48) (b := 384) (Call5.in2 (in5 m) c)) R o i l hy hl (by rw [Operands.x5]; exact hX) (fun x hx => Operands.w5 m c x _ l hx hs hl) (Operands.b5 m c _ l hs hl)
      rw [← e]
      show Cert.Val.Call5.entry (Call5.in0 (in5 m) c) (Call5.in1 (in5 m) c) (Call5.in2 (in5 m) c) o (7 + (i + 1) - 8) (l + 1 - 1) = _
      rw [e1, e4]
      rfl
  · refine (if_neg (?_ : ¬ (_ ∧ _ ∧ _ ∧ _))).trans (if_neg h).symm
    dsimp only [ix3]; omega

theorem s6 (hX : ∀ x < 12, ∀ i < 386, ∀ l < 386, k5 m c x (7 + i) l = R x i (l / 1)) (o i l : ℕ) (ho : o < 12) (hi : i < 386) (hl : l < 386) :
    k6 m c o (7 + i) l = padded 384 384 (conv 12 (a5 m c) (a6 m c) R) o i (l / 1) := by
  refine (at3_mk (a := 12) (b := 400) (c := 386) _ ⟨o, ho⟩ ⟨7 + i, by omega⟩ ⟨l, hl⟩).trans ((Cert.Val.Call6.value c (in6 m) _).trans ?_)
  unfold padded
  by_cases h : (1 ≤ i ∧ i - 1 < 384) ∧ 1 ≤ l / 1 ∧ l / 1 - 1 < 384
  · refine (if_pos (?_ : _ ∧ _ ∧ _ ∧ _)).trans (Eq.trans ?_ (if_pos h).symm)
    · dsimp only [ix3]; omega
    · obtain ⟨i, rfl⟩ : ∃ i', i = i' + 1 := ⟨i - 1, by omega⟩
      obtain ⟨l, rfl⟩ : ∃ l', l = l' + 1 := ⟨l - 1, by omega⟩
      have hy : i < 384 := by omega
      have hl : l < 384 := by omega
      have e1 : 7 + (i + 1) - 8 = i := by omega
      have e2 : i + 1 - 1 = i := by omega
      have e3 : (l + 1) / 1 - 1 = l / 1 := by omega
      have e4 : l + 1 - 1 = l := by omega
      rw [e2, e3]
      have e := conv_match (n := 3) (b := 12) 12 1 384 rfl (by norm_num) (Call6.in1 (in6 m) c) (Call6.in0 (in6 m) c) (a5 m c) (a6 m c) (at2 (a := 12) (b := 384) (Call6.in2 (in6 m) c)) R o i l hy hl (by rw [Operands.x6]; exact hX) (fun x hx p hp q hq => Operands.w6 m c x p q o l hx hp hq ho hl) (Operands.b6 m c o l ho hl)
      rw [← e]
      show Cert.Val.Call6.entry (Call6.in0 (in6 m) c) (Call6.in1 (in6 m) c) (Call6.in2 (in6 m) c) o (7 + (i + 1) - 8) (l + 1 - 1) = _
      rw [e1, e4]
      rfl
  · refine (if_neg (?_ : ¬ (_ ∧ _ ∧ _ ∧ _))).trans (if_neg h).symm
    dsimp only [ix3]; omega

theorem s7 (hX : ∀ x < 12, ∀ i < 386, ∀ l < 386, k6 m c x (7 + i) l = R x i (l / 1)) (o i l : ℕ) (ho : o < 12) (hi : i < 386) (hl : l < 386) :
    k7 m c o (7 + i) l = padded 384 384 (conv 12 (a5 m c) (a6 m c) R) o i (l / 1) := by
  refine (at3_mk (a := 12) (b := 400) (c := 386) _ ⟨o, ho⟩ ⟨7 + i, by omega⟩ ⟨l, hl⟩).trans ((Cert.Val.Call7.value c (in7 m) _).trans ?_)
  unfold padded
  by_cases h : (1 ≤ i ∧ i - 1 < 384) ∧ 1 ≤ l / 1 ∧ l / 1 - 1 < 384
  · refine (if_pos (?_ : _ ∧ _ ∧ _ ∧ _)).trans (Eq.trans ?_ (if_pos h).symm)
    · dsimp only [ix3]; omega
    · obtain ⟨i, rfl⟩ : ∃ i', i = i' + 1 := ⟨i - 1, by omega⟩
      obtain ⟨l, rfl⟩ : ∃ l', l = l' + 1 := ⟨l - 1, by omega⟩
      have hy : i < 384 := by omega
      have hl : l < 384 := by omega
      have e1 : 7 + (i + 1) - 8 = i := by omega
      have e2 : i + 1 - 1 = i := by omega
      have e3 : (l + 1) / 1 - 1 = l / 1 := by omega
      have e4 : l + 1 - 1 = l := by omega
      rw [e2, e3]
      have e := conv_match (n := 3) (b := 12) 12 1 384 rfl (by norm_num) (Call7.in1 (in7 m) c) (Call7.in0 (in7 m) c) (a5 m c) (a6 m c) (at2 (a := 12) (b := 384) (Call7.in2 (in7 m) c)) R o i l hy hl (by rw [Operands.x7]; exact hX) (fun x hx p hp q hq => Operands.w7 m c x p q o l hx hp hq ho hl) (Operands.b7 m c o l ho hl)
      rw [← e]
      show Cert.Val.Call7.entry (Call7.in0 (in7 m) c) (Call7.in1 (in7 m) c) (Call7.in2 (in7 m) c) o (7 + (i + 1) - 8) (l + 1 - 1) = _
      rw [e1, e4]
      rfl
  · refine (if_neg (?_ : ¬ (_ ∧ _ ∧ _ ∧ _))).trans (if_neg h).symm
    dsimp only [ix3]; omega

theorem s8 (hX : ∀ x < 12, ∀ i < 386, ∀ l < 386, k7 m c x (7 + i) l = R x i (l / 1)) (o y l : ℕ) (ho : o < 1) (hy : y < 384) (hl : l < 384) :
    k8 m c o y l = conv 12 (a7 m c) (a8 m c) R o y (l / 1) := by
  refine (at3_mk (a := 1) (b := 384) (c := 384) _ ⟨o, ho⟩ ⟨y, hy⟩ ⟨l, hl⟩).trans ((Cert.Val.Call8.value c (in8 m) _).trans ?_)
  exact conv_match (n := 3) (b := 1) 12 1 384 rfl (by norm_num) (Call8.in1 (in8 m) c) (Call8.in0 (in8 m) c) (a7 m c) (a8 m c) (at2 (a := 1) (b := 384) (Call8.in2 (in8 m) c)) R o y l hy hl (by rw [Operands.x8]; exact hX) (fun x hx p hp q hq => Operands.w8 m c x p q o l hx hp hq ho hl) (Operands.b8 m c o l ho hl)

end

end Cert.Val.Stages

end
-- ==== Proof.Val.Ref.lean ====
/-
  The reference, layer by layer: what each named intermediate holds, entry by entry.
-/
module

public import proofs.«01_k».proof.Proof.Val.Spec
public import proofs.«01_k».proof.Proof.Val.Consts
public import proofs.«01_k».proof.Proof.Gen.ReferenceIdeal.Run

@[expose] public section

set_option maxRecDepth 16384

noncomputable section

namespace Cert.Val.Ref

open Cert.ReferenceIdeal Cert.ReferenceIdeal.Gen Cert.ReferenceIdeal.Value
open Idealize.ShloMosaic Idealize.ShloMosaic.TcCoe Idealize.ShloMosaic.Tactic Idealize.SL.Sem

variable (V : Valuation τ sig (Elt Ideal))

/-! ## The arguments -/

abbrev a1 : ℕ → ℕ → ℕ → ℕ → EReal := at4 (a := 12) (b := 12) (c := 3) (d := 3) (V (Proc.devRef .tc main_arg1))
theorem a1_mk (i : Fin 12) (j : Fin 12) (k : Fin 3) (l : Fin 3) : V (Proc.devRef .tc main_arg1) (ix4 i j k l) = a1 V i j k l := (at4_mk _ i j k l).symm
abbrev a2 : ℕ → EReal := at1 (a := 12) (V (Proc.devRef .tc main_arg2))
theorem a2_mk (i : Fin 12) : V (Proc.devRef .tc main_arg2) (ix1 i) = a2 V i := (at1_mk _ i).symm
abbrev a3 : ℕ → ℕ → ℕ → ℕ → EReal := at4 (a := 24) (b := 24) (c := 3) (d := 3) (V (Proc.devRef .tc main_arg3))
theorem a3_mk (i : Fin 24) (j : Fin 24) (k : Fin 3) (l : Fin 3) : V (Proc.devRef .tc main_arg3) (ix4 i j k l) = a3 V i j k l := (at4_mk _ i j k l).symm
abbrev a4 : ℕ → EReal := at1 (a := 24) (V (Proc.devRef .tc main_arg4))
theorem a4_mk (i : Fin 24) : V (Proc.devRef .tc main_arg4) (ix1 i) = a4 V i := (at1_mk _ i).symm
abbrev a5 : ℕ → ℕ → ℕ → ℕ → EReal := at4 (a := 12) (b := 12) (c := 3) (d := 3) (V (Proc.devRef .tc main_arg5))
theorem a5_mk (i : Fin 12) (j : Fin 12) (k : Fin 3) (l : Fin 3) : V (Proc.devRef .tc main_arg5) (ix4 i j k l) = a5 V i j k l := (at4_mk _ i j k l).symm
abbrev a6 : ℕ → EReal := at1 (a := 12) (V (Proc.devRef .tc main_arg6))
theorem a6_mk (i : Fin 12) : V (Proc.devRef .tc main_arg6) (ix1 i) = a6 V i := (at1_mk _ i).symm
abbrev a7 : ℕ → ℕ → ℕ → ℕ → EReal := at4 (a := 1) (b := 12) (c := 3) (d := 3) (V (Proc.devRef .tc main_arg7))
theorem a7_mk (i : Fin 1) (j : Fin 12) (k : Fin 3) (l : Fin 3) : V (Proc.devRef .tc main_arg7) (ix4 i j k l) = a7 V i j k l := (at4_mk _ i j k l).symm
abbrev a8 : ℕ → EReal := at1 (a := 1) (V (Proc.devRef .tc main_arg8))
theorem a8_mk (i : Fin 1) : V (Proc.devRef .tc main_arg8) (ix1 i) = a8 V i := (at1_mk _ i).symm
abbrev a9 : ℕ → EReal := at1 (a := 48) (V (Proc.devRef .tc main_arg9))
theorem a9_mk (i : Fin 48) : V (Proc.devRef .tc main_arg9) (ix1 i) = a9 V i := (at1_mk _ i).symm
abbrev a10 : ℕ → EReal := at1 (a := 48) (V (Proc.devRef .tc main_arg10))
theorem a10_mk (i : Fin 48) : V (Proc.devRef .tc main_arg10) (ix1 i) = a10 V i := (at1_mk _ i).symm
abbrev a11 : ℕ → ℕ → EReal := at2 (a := 48) (b := 24) (V (Proc.devRef .tc main_arg11))
theorem a11_mk (i : Fin 48) (j : Fin 24) : V (Proc.devRef .tc main_arg11) (ix2 i j) = a11 V i j := (at2_mk _ i j).symm
abbrev a12 : ℕ → EReal := at1 (a := 96) (V (Proc.devRef .tc main_arg12))
theorem a12_mk (i : Fin 96) : V (Proc.devRef .tc main_arg12) (ix1 i) = a12 V i := (at1_mk _ i).symm
abbrev a13 : ℕ → EReal := at1 (a := 96) (V (Proc.devRef .tc main_arg13))
theorem a13_mk (i : Fin 96) : V (Proc.devRef .tc main_arg13) (ix1 i) = a13 V i := (at1_mk _ i).symm
abbrev a14 : ℕ → ℕ → EReal := at2 (a := 96) (b := 48) (V (Proc.devRef .tc main_arg14))
theorem a14_mk (i : Fin 96) (j : Fin 48) : V (Proc.devRef .tc main_arg14) (ix2 i j) = a14 V i j := (at2_mk _ i j).symm
abbrev a15 : ℕ → ℕ → ℕ → ℕ → EReal := at4 (a := 96) (b := 48) (c := 1) (d := 1) (V (Proc.devRef .tc main_arg15))
theorem a15_mk (i : Fin 96) (j : Fin 48) (k : Fin 1) (l : Fin 1) : V (Proc.devRef .tc main_arg15) (ix4 i j k l) = a15 V i j k l := (at4_mk _ i j k l).symm
abbrev a16 : ℕ → EReal := at1 (a := 96) (V (Proc.devRef .tc main_arg16))
theorem a16_mk (i : Fin 96) : V (Proc.devRef .tc main_arg16) (ix1 i) = a16 V i := (at1_mk _ i).symm
abbrev a17 : ℕ → ℕ → ℕ → ℕ → EReal := at4 (a := 48) (b := 24) (c := 1) (d := 1) (V (Proc.devRef .tc main_arg17))
theorem a17_mk (i : Fin 48) (j : Fin 24) (k : Fin 1) (l : Fin 1) : V (Proc.devRef .tc main_arg17) (ix4 i j k l) = a17 V i j k l := (at4_mk _ i j k l).symm
abbrev a18 : ℕ → EReal := at1 (a := 48) (V (Proc.devRef .tc main_arg18))
theorem a18_mk (i : Fin 48) : V (Proc.devRef .tc main_arg18) (ix1 i) = a18 V i := (at1_mk _ i).symm

/-! ## The intermediates -/

abbrev r0 : ℕ → ℕ → ℕ → EReal := at3 (a := 12) (b := 386) (c := 386) (res_main_v1 V)
theorem r0_mk (i : Fin 12) (j : Fin 386) (k : Fin 386) : res_main_v1 V (ix3 i j k) = r0 V i j k := (at3_mk _ i j k).symm
abbrev c1 : ℕ → ℕ → ℕ → EReal := at3 (a := 12) (b := 384) (c := 384) (res_main_v50 V)
theorem c1_mk (i : Fin 12) (j : Fin 384) (k : Fin 384) : res_main_v50 V (ix3 i j k) = c1 V i j k := (at3_mk _ i j k).symm
abbrev r1 : ℕ → ℕ → ℕ → EReal := at3 (a := 12) (b := 384) (c := 384) (res_main_v52 V)
theorem r1_mk (i : Fin 12) (j : Fin 384) (k : Fin 384) : res_main_v52 V (ix3 i j k) = r1 V i j k := (at3_mk _ i j k).symm
abbrev p1 : ℕ → ℕ → ℕ → EReal := at3 (a := 192) (b := 192) (c := 48) (res_main_v58 V)
theorem p1_mk (i : Fin 192) (j : Fin 192) (k : Fin 48) : res_main_v58 V (ix3 i j k) = p1 V i j k := (at3_mk _ i j k).symm
abbrev q1 : ℕ → ℕ → ℕ → EReal := at3 (a := 192) (b := 192) (c := 48) (res_main_call3_v5 V)
theorem q1_mk (i : Fin 192) (j : Fin 192) (k : Fin 48) : res_main_call3_v5 V (ix3 i j k) = q1 V i j k := (at3_mk _ i j k).symm
abbrev r2 : ℕ → ℕ → ℕ → EReal := at3 (a := 24) (b := 192) (c := 192) (res_main_v78 V)
theorem r2_mk (i : Fin 24) (j : Fin 192) (k : Fin 192) : res_main_v78 V (ix3 i j k) = r2 V i j k := (at3_mk _ i j k).symm
abbrev p2 : ℕ → ℕ → ℕ → EReal := at3 (a := 96) (b := 96) (c := 96) (res_main_v84 V)
theorem p2_mk (i : Fin 96) (j : Fin 96) (k : Fin 96) : res_main_v84 V (ix3 i j k) = p2 V i j k := (at3_mk _ i j k).symm
abbrev q2 : ℕ → ℕ → ℕ → EReal := at3 (a := 96) (b := 96) (c := 96) (res_main_call4_v5 V)
theorem q2_mk (i : Fin 96) (j : Fin 96) (k : Fin 96) : res_main_call4_v5 V (ix3 i j k) = q2 V i j k := (at3_mk _ i j k).symm
abbrev r3 : ℕ → ℕ → ℕ → EReal := at3 (a := 24) (b := 194) (c := 194) (res_main_v116 V)
theorem r3_mk (i : Fin 24) (j : Fin 194) (k : Fin 194) : res_main_v116 V (ix3 i j k) = r3 V i j k := (at3_mk _ i j k).symm
abbrev u4 : ℕ → ℕ → ℕ → EReal := at3 (a := 12) (b := 384) (c := 384) (res_main_v176 V)
theorem u4_mk (i : Fin 12) (j : Fin 384) (k : Fin 384) : res_main_v176 V (ix3 i j k) = u4 V i j k := (at3_mk _ i j k).symm
abbrev r4 : ℕ → ℕ → ℕ → EReal := at3 (a := 12) (b := 386) (c := 386) (res_main_v177 V)
theorem r4_mk (i : Fin 12) (j : Fin 386) (k : Fin 386) : res_main_v177 V (ix3 i j k) = r4 V i j k := (at3_mk _ i j k).symm
abbrev r5 : ℕ → ℕ → ℕ → EReal := at3 (a := 12) (b := 386) (c := 386) (res_main_v227 V)
theorem r5_mk (i : Fin 12) (j : Fin 386) (k : Fin 386) : res_main_v227 V (ix3 i j k) = r5 V i j k := (at3_mk _ i j k).symm
abbrev r6 : ℕ → ℕ → ℕ → EReal := at3 (a := 12) (b := 386) (c := 386) (res_main_v277 V)
theorem r6_mk (i : Fin 12) (j : Fin 386) (k : Fin 386) : res_main_v277 V (ix3 i j k) = r6 V i j k := (at3_mk _ i j k).symm

theorem c1_eq (o : Fin 12) (i j : Fin 384) : c1 V o i j = conv 12 (a1 V) (a2 V) (r0 V) o i j := by
  refine (c1_mk V o i j).symm.trans ?_
  pointwise [res_main_v50]
  simp [a1_mk, a2_mk, r0_mk, conv, tap]

/-- The first convolution, its infinities replaced by zero. -/
theorem r1_eq (o : Fin 12) (i j : Fin 384) : r1 V o i j = finMask (conv 12 (a1 V) (a2 V) (r0 V) o i j) := by
  rw [← c1_eq]
  refine (r1_mk V o i j).symm.trans ?_
  pointwise [res_main_v52]
  rw [c1_mk]
  unfold finMask
  simp [constant]

theorem p1_eq (i j : Fin 192) (g : Fin 48) : p1 V i j g = patch 12 (r1 V) i j g := by
  refine (p1_mk V i j g).symm.trans ?_
  pointwise [res_main_v58]
  simp [r1_mk, patch]

theorem q1_eq (i j : Fin 192) (g : Fin 48) : q1 V i j g = centred 48 n48 (patch 12 (r1 V) i j) g := by
  refine (q1_mk V i j g).symm.trans ?_
  pointwise [res_main_call3_v5]
  simp [p1_mk, p1_eq, centred]

theorem count1 : res_main_call3_v8 V ix0 = n48 := by
  pointwise [res_main_call3_v8]
  exact n48_sub

/-- The first merge. -/
theorem r2_eq (o : Fin 24) (i j : Fin 192) : r2 V o i j = merge 48 n48 eps (a9 V) (a10 V) (a11 V) (patch 12 (r1 V) i j) o := by
  refine (r2_mk V o i j).symm.trans ?_
  pointwise [res_main_v78]
  rw [count1, if_pos n48_pos]
  simp only [p1_mk, p1_eq, q1_mk, q1_eq, a9_mk, a10_mk, a11_mk, merge, centred, eps, n48]

theorem p2_eq (i j g : Fin 96) : p2 V i j g = patch 24 (r2 V) i j g := by
  refine (p2_mk V i j g).symm.trans ?_
  pointwise [res_main_v84]
  simp [r2_mk, patch]

theorem q2_eq (i j g : Fin 96) : q2 V i j g = centred 96 n96 (patch 24 (r2 V) i j) g := by
  refine (q2_mk V i j g).symm.trans ?_
  pointwise [res_main_call4_v5]
  simp [p2_mk, p2_eq, centred]

theorem count2 : res_main_call4_v8 V ix0 = n96 := by
  pointwise [res_main_call4_v8]
  exact n96_sub

theorem p2_val (i j g : Fin 96) : res_main_v84 V (ix3 i j g) = patch 24 (r2 V) i j g := (p2_mk V i j g).trans (p2_eq V i j g)
theorem q2_val (i j g : Fin 96) : res_main_call4_v5 V (ix3 i j g) = centred 96 n96 (patch 24 (r2 V) i j) g :=
  (q2_mk V i j g).trans (q2_eq V i j g)

/-- The second merge. -/
def m2 (o i j : ℕ) : EReal := merge 96 n96 eps (a12 V) (a13 V) (a14 V) (patch 24 (r2 V) i j) o

/-- The second merge upsampled and padded. -/
theorem r3_eq (o : Fin 24) (i j : Fin 194) : r3 V o i j = padded 192 192 (up 48 (fun x y => a15 V x y 0 0) (a16 V) (m2 V)) o i j := by
  refine (r3_mk V o i j).symm.trans ?_
  pointwise [res_main_v116]
  unfold padded
  by_cases h : (1 ≤ i.val ∧ i.val - 1 < 192) ∧ 1 ≤ j.val ∧ j.val - 1 < 192
  · have h' : (i.val - 1) / 2 < 96 ∧ (j.val - 1) / 2 < 96 := by omega
    refine Eq.trans ?_ (if_pos h).symm
    rw [dif_pos h]
    simp only [count2, if_pos n96_pos]
    simp only [dif_pos h', p2_val, q2_val, a12_mk, a13_mk, a14_mk, a15_mk, a16_mk, up, m2, merge, centred, eps, n96, Fin.val_zero]
  · refine Eq.trans ?_ (if_neg h).symm
    rw [dif_neg h]
    exact zero_word

theorem u4_eq (o : Fin 12) (i j : Fin 384) : u4 V o i j = up 24 (fun x y => a17 V x y 0 0) (a18 V) (conv 24 (a3 V) (a4 V) (r3 V)) o i j := by
  refine (u4_mk V o i j).symm.trans ?_
  pointwise [res_main_v176]
  have h' : i.val / 2 < 192 ∧ j.val / 2 < 192 := by omega
  simp only [dif_pos h', a17_mk, a18_mk, a3_mk, a4_mk, r3_mk]
  simp [up, conv, tap]

theorem pad_eq (Z : Vec Ideal S12x384x384 .f32) (o : Fin 12) (i j : Fin 386) :
    pad S12x386x386 ![0, 1, 1] ![0, 1, 1] ![0, 0, 0] Z (sitofp (F := Ideal) .f32 (constantI S_ 32 0#32) : FVec Ideal S_ .f32) pads_S12x384x384_S12x386x386_000_110_110 h_S_ (ix3 o i j)
      = padded 384 384 (at3 (a := 12) (b := 384) (c := 384) Z) o i j := by
  pointwise []
  unfold padded
  by_cases h : (1 ≤ i.val ∧ i.val - 1 < 384) ∧ 1 ≤ j.val ∧ j.val - 1 < 384
  · refine Eq.trans ?_ (if_pos h).symm
    rw [dif_pos h]
    exact (at3_mk Z o ⟨i.val - 1, h.1.2⟩ ⟨j.val - 1, h.2.2⟩).symm
  · refine Eq.trans ?_ (if_neg h).symm
    rw [dif_neg h]
    exact zero_word

theorem r4_eq (o : Fin 12) (i j : Fin 386) : r4 V o i j = padded 384 384 (up 24 (fun x y => a17 V x y 0 0) (a18 V) (conv 24 (a3 V) (a4 V) (r3 V))) o i j := by
  refine (r4_mk V o i j).symm.trans ?_
  unfold res_main_v177
  refine (pad_eq (res_main_v176 V) o i j).trans ?_
  unfold padded
  by_cases h : (1 ≤ i.val ∧ i.val - 1 < 384) ∧ 1 ≤ j.val ∧ j.val - 1 < 384
  · refine (if_pos h).trans (Eq.trans ?_ (if_pos h).symm)
    exact u4_eq V o ⟨i.val - 1, h.1.2⟩ ⟨j.val - 1, h.2.2⟩
  · exact (if_neg h).trans (if_neg h).symm

theorem r5_eq (o : Fin 12) (i j : Fin 386) : r5 V o i j = padded 384 384 (conv 12 (a5 V) (a6 V) (r4 V)) o i j := by
  refine (r5_mk V o i j).symm.trans ?_
  pointwise [res_main_v227]
  unfold padded
  by_cases h : (1 ≤ i.val ∧ i.val - 1 < 384) ∧ 1 ≤ j.val ∧ j.val - 1 < 384
  · rw [dif_pos h, if_pos h]
    simp [a5_mk, a6_mk, r4_mk, conv, tap]
  · refine Eq.trans ?_ (if_neg h).symm
    rw [dif_neg h]
    exact zero_word

theorem r6_eq (o : Fin 12) (i j : Fin 386) : r6 V o i j = padded 384 384 (conv 12 (a5 V) (a6 V) (r5 V)) o i j := by
  refine (r6_mk V o i j).symm.trans ?_
  pointwise [res_main_v277]
  unfold padded
  by_cases h : (1 ≤ i.val ∧ i.val - 1 < 384) ∧ 1 ≤ j.val ∧ j.val - 1 < 384
  · rw [dif_pos h, if_pos h]
    simp [a5_mk, a6_mk, r5_mk, conv, tap]
  · refine Eq.trans ?_ (if_neg h).symm
    rw [dif_neg h]
    exact zero_word

abbrev a0 : ℕ → ℕ → ℕ → ℕ → EReal := at4 (a := 1) (b := 12) (c := 384) (d := 384) (V (Proc.devRef .tc main_arg0))

theorem r0_eq (o : Fin 12) (i j : Fin 386) : r0 V o i j = padded 384 384 (a0 V 0) o i j := by
  refine (r0_mk V o i j).symm.trans ?_
  unfold res_main_v1
  refine (pad_eq _ o i j).trans ?_
  unfold padded
  by_cases h : (1 ≤ i.val ∧ i.val - 1 < 384) ∧ 1 ≤ j.val ∧ j.val - 1 < 384
  · refine (if_pos h).trans (Eq.trans ?_ (if_pos h).symm)
    refine (at3_mk _ o ⟨i.val - 1, h.1.2⟩ ⟨j.val - 1, h.2.2⟩).trans ?_
    pointwise []
    exact (at4_mk _ 0 o ⟨i.val - 1, h.1.2⟩ ⟨j.val - 1, h.2.2⟩).symm
  · exact (if_neg h).trans (if_neg h).symm

theorem r7_eq (i j : Fin 384) : val6 V (no_index (Proc.devRef .tc main_v327)) (ix4 0 0 i j) = conv 12 (a7 V) (a8 V) (r6 V) 0 i j := by
  rw [val6_main_v327]
  pointwise []
  simp [a7_mk, a8_mk, r6_mk, conv, tap]

end Cert.Val.Ref

end
-- ==== Proof.Val.Algebraic.lean ====
/-
  The idealized kernel and the reference compute the same result: the nine calls, one after the other, hold the
  reference's layers, given that the first merge's weights are numbers.
-/
module

public import proofs.«01_k».proof.Defs
public import proofs.«01_k».proof.Proof.Frames
public import proofs.«01_k».proof.Proof.Val.Stages
public import proofs.«01_k».proof.Proof.Val.Ref

@[expose] public section

set_option maxRecDepth 16384

noncomputable section

/-- The precondition's two shape relations. -/
instance Cert.Proof.preFacts : Cert.Pre_merge_weights_finite.Facts where
  bcast_S_S48 := by decide
  bcast_S_S48x24 := by decide

namespace Cert.Val

open Idealize.ShloMosaic Idealize.ShloMosaic.TcCoe Idealize.ShloMosaic.Tactic Idealize.SL.Sem

/-! ## What the precondition says, and what the first convolution guards -/

theorem finite_of_ne {x : EReal} (h : max x (-x) ≠ ⊤) : Finite x := by
  induction x with
  | bot => exact absurd (by simp) h
  | top => exact absurd (by simp) h
  | coe r => exact ⟨r, rfl⟩

theorem finite_of_olt {x : EReal} (h : Ideal.cmp .olt (max x (-x)) (Ideal.ofBits .f32 2139095040#32) = 1#1) : Finite x := by
  refine finite_of_ne fun e => ?_
  rw [inf_eq, e] at h
  simp [Ideal.cmp] at h

theorem finMask_finite (v : EReal) : Finite (finMask v) := by
  unfold finMask
  split
  · exact ⟨0, rfl⟩
  · next h =>
    refine finite_of_ne fun e => h ?_
    rw [inf_eq]
    exact e

namespace Algebraic

open Stages

variable (m : (ℓ : Loc KernelIdeal.nD KernelIdeal.τ KernelIdeal.sig) → Buf (Elt Ideal) ℓ) (c : Dev KernelIdeal.nD)
  (V : Valuation ReferenceIdeal.τ ReferenceIdeal.sig (Elt Ideal))

/-- The reference's arguments are the kernel's. -/
structure Same : Prop where
  h0 : Ref.a0 V = a0 m c
  h1 : Ref.a1 V = a1 m c
  h2 : Ref.a2 V = a2 m c
  h3 : Ref.a3 V = a3 m c
  h4 : Ref.a4 V = a4 m c
  h5 : Ref.a5 V = a5 m c
  h6 : Ref.a6 V = a6 m c
  h7 : Ref.a7 V = a7 m c
  h8 : Ref.a8 V = a8 m c
  h9 : Ref.a9 V = a9 m c
  h10 : Ref.a10 V = a10 m c
  h11 : Ref.a11 V = a11 m c
  h12 : Ref.a12 V = a12 m c
  h13 : Ref.a13 V = a13 m c
  h14 : Ref.a14 V = a14 m c
  h15 : Ref.a15 V = a15 m c
  h16 : Ref.a16 V = a16 m c
  h17 : Ref.a17 V = a17 m c
  h18 : Ref.a18 V = a18 m c

/-- The first merge's weights are numbers. -/
structure Numbers : Prop where
  gamma : ∀ g < 48, Finite (a9 m c g)
  beta : ∀ g < 48, Finite (a10 m c g)
  lin : ∀ g < 48, ∀ o < 24, Finite (a11 m c g o)

variable {m c V} (S : Same m c V) (N : Numbers m c)

/-! ## The calls, one after the other -/

include S

theorem t0 (o y l : ℕ) (ho : o < 12) (hy : y < 384) (hl : l < 384) : k0 m c o y l = Ref.r1 V o y l := by
  refine (s0 m c (Ref.r0 V) (fun x hx i hi l hl => ?_) o y l ho hy hl).trans ?_
  · rw [Nat.div_one, first m c x i l hx hi hl, ← S.h0]
    exact (Ref.r0_eq V ⟨x, hx⟩ ⟨i, hi⟩ ⟨l, hl⟩).symm
  · rw [Nat.div_one, ← S.h1, ← S.h2]
    exact (Ref.r1_eq V ⟨o, ho⟩ ⟨y, hy⟩ ⟨l, hl⟩).symm

omit S in
theorem finite1 (x : ℕ) (hx : x < 12) (r : ℕ) (hr : r < 384) (j : ℕ) (hj : j < 384) : Finite (Ref.r1 V x r j) := by
  rw [Ref.r1_eq V ⟨x, hx⟩ ⟨r, hr⟩ ⟨j, hj⟩]
  exact finMask_finite _

theorem t1 (o y l : ℕ) (ho : o < 24) (hy : y < 192) (hl : l < 384) : k1 m c o y l = Ref.r2 V o y (l / 2) := by
  refine (s1 m c (Ref.r1 V) (fun x hx r hr l hl => ?_) (fun x hx r hr j hj => ?_) o y l ho hy hl).trans ?_
  · rw [Nat.div_one]; exact t0 S x r l hx hr hl
  · exact finite1 x hx r hr j (by omega)
  · rw [Nat.div_one, ← S.h9, ← S.h10, ← S.h11]
    exact (Ref.r2_eq V ⟨o, ho⟩ ⟨y, hy⟩ ⟨l / 2, by omega⟩).symm

include N in
theorem finite2 (x : ℕ) (hx : x < 24) (r : ℕ) (hr : r < 192) (j : ℕ) (hj : j < 192) : Finite (Ref.r2 V x r j) := by
  obtain ⟨e, he, hE⟩ := eps_eq
  rw [Ref.r2_eq V ⟨x, hx⟩ ⟨r, hr⟩ ⟨j, hj⟩, S.h9, S.h10, S.h11]
  refine merge_finite 48 (by norm_num) (n48_eq.trans (by norm_num)) hE he _ _ _ _ _ (fun g hg => ?_) N.gamma N.beta
    (fun g hg => N.lin g hg x hx)
  dsimp only
  unfold patch
  split
  · exact finite1 _ (by omega) _ (by omega) _ (by omega)
  split
  · exact finite1 _ (by omega) _ (by omega) _ (by omega)
  split
  · exact finite1 _ (by omega) _ (by omega) _ (by omega)
  · exact finite1 _ (by omega) _ (by omega) _ (by omega)

include N

theorem t2 (o y l : ℕ) (ho : o < 48) (hy : y < 96) (hl : l < 384) : k2 m c o y l = Ref.m2 V o y (l / 2 / 2) := by
  refine (s2 m c (Ref.r2 V) (fun x hx r hr l hl => t1 S x r l hx hr hl) (fun x hx r hr j hj => finite2 S N x hx r hr j (by omega))
    o y l ho hy hl).trans ?_
  rw [← S.h12, ← S.h13, ← S.h14]
  rfl

theorem t3 (o i l : ℕ) (ho : o < 24) (hi : i < 194) (hl : l < 388) : k3 m c o (7 + i) l = Ref.r3 V o i (l / 2) := by
  refine (s3 m c (Ref.m2 V) (fun x hx i hi l hl => t2 S N x i l hx hi hl) o i l ho hi hl).trans ?_
  rw [← S.h15, ← S.h16]
  exact (Ref.r3_eq V ⟨o, ho⟩ ⟨i, hi⟩ ⟨l / 2, by omega⟩).symm

theorem t4 (o y l : ℕ) (ho : o < 24) (hy : y < 192) (hl : l < 384) :
    k4 m c o y l = conv 24 (Ref.a3 V) (Ref.a4 V) (Ref.r3 V) o y (l / 2) := by
  refine (s4 m c (Ref.r3 V) (fun x hx i hi l hl => t3 S N x i l hx hi hl) o y l ho hy hl).trans ?_
  rw [← S.h3, ← S.h4]

theorem t5 (o i l : ℕ) (ho : o < 12) (hi : i < 386) (hl : l < 386) : k5 m c o (7 + i) l = Ref.r4 V o i l := by
  refine (s5 m c (conv 24 (Ref.a3 V) (Ref.a4 V) (Ref.r3 V)) (fun x hx i hi l hl => ?_) o i l ho hi hl).trans ?_
  · rw [Nat.div_one]; exact t4 S N x i l hx hi hl
  · rw [Nat.div_one, ← S.h17, ← S.h18]
    exact (Ref.r4_eq V ⟨o, ho⟩ ⟨i, hi⟩ ⟨l, hl⟩).symm

theorem t6 (o i l : ℕ) (ho : o < 12) (hi : i < 386) (hl : l < 386) : k6 m c o (7 + i) l = Ref.r5 V o i l := by
  refine (s6 m c (Ref.r4 V) (fun x hx i hi l hl => ?_) o i l ho hi hl).trans ?_
  · rw [Nat.div_one]; exact t5 S N x i l hx hi hl
  · rw [Nat.div_one, ← S.h5, ← S.h6]
    exact (Ref.r5_eq V ⟨o, ho⟩ ⟨i, hi⟩ ⟨l, hl⟩).symm

theorem t7 (o i l : ℕ) (ho : o < 12) (hi : i < 386) (hl : l < 386) : k7 m c o (7 + i) l = Ref.r6 V o i l := by
  refine (s7 m c (Ref.r5 V) (fun x hx i hi l hl => ?_) o i l ho hi hl).trans ?_
  · rw [Nat.div_one]; exact t6 S N x i l hx hi hl
  · rw [Nat.div_one, ← S.h5, ← S.h6]
    exact (Ref.r6_eq V ⟨o, ho⟩ ⟨i, hi⟩ ⟨l, hl⟩).symm

theorem t8 (i j : Fin 384) : k8 m c 0 i j = ReferenceIdeal.Value.val6 V (Proc.devRef .tc ReferenceIdeal.main_v327) (ix4 0 0 i j) := by
  refine (s8 m c (Ref.r6 V) (fun x hx i hi l hl => ?_) 0 i j (by norm_num) i.2 j.2).trans ?_
  · rw [Nat.div_one]; exact t7 S N x i l hx hi hl
  · rw [Nat.div_one, ← S.h7, ← S.h8]
    exact (Ref.r7_eq V i j).symm

omit S N in
/-- The last host line gives the last call's result a leading axis. -/
theorem result (i j : Fin 384) : KernelIdeal.Launch.last m c KernelIdeal.main_v129 (ix4 0 0 i j) = k8 m c 0 i j := by
  have e : KernelIdeal.Launch.out8 m c KernelIdeal.main_v128 = KernelIdeal.Call8.res (KernelIdeal.Launch.in8 m) c := Function.update_self _ _ _
  refine Eq.trans ?_ (at3_mk (a := 1) (b := 384) (c := 384) _ 0 i j).symm
  rw [← e]
  show StableHlo.after KernelIdeal.Gen.hostOps9 (KernelIdeal.Launch.out8 m c) (Proc.devRef .tc KernelIdeal.main_v129) (ix4 0 0 i j) = _
  unfold KernelIdeal.Gen.hostOps9
  after_reads_at

theorem equal : KernelIdeal.Launch.last m c KernelIdeal.main_v129
    = ReferenceIdeal.Value.val6 V (Proc.devRef .tc ReferenceIdeal.main_v327) := by
  funext y
  have h : y = ix4 0 0 (y 2) (y 3) := by
    funext a
    fin_cases a
    · exact Subsingleton.elim (α := Fin 1) _ _
    · exact Subsingleton.elim (α := Fin 1) _ _
    · rfl
    · rfl
  rw [h]
  exact (result (y 2) (y 3)).trans (t8 S N (y 2) (y 3))

end Algebraic

end Cert.Val

namespace Cert.Proof

open Idealize.ShloMosaic Idealize.ShloMosaic.TcCoe Idealize.ShloMosaic.Tactic Idealize.SL.Sem
open Cert.Val

theorem numbers {m : (ℓ : Loc KernelIdeal.nD KernelIdeal.τ KernelIdeal.sig) → Buf (Elt Ideal) ℓ}
    (h : Cert.Pre_KernelIdeal_merge_weights_finite m) (c : Dev KernelIdeal.nD) : Algebraic.Numbers m c := by
  obtain ⟨h1, h2, h3⟩ := h c
  refine ⟨fun g hg => ?_, fun g hg => ?_, fun g hg o ho => ?_⟩
  · have e := congrFun h1 (ix1 ⟨g, hg⟩)
    rw [show Stages.a9 m c g = _ from at1_mk (a := 48) _ ⟨g, hg⟩]
    exact finite_of_olt e
  · have e := congrFun h2 (ix1 ⟨g, hg⟩)
    rw [show Stages.a10 m c g = _ from at1_mk (a := 48) _ ⟨g, hg⟩]
    exact finite_of_olt e
  · have e := congrFun h3 (ix2 ⟨g, hg⟩ ⟨o, ho⟩)
    rw [show Stages.a11 m c g o = _ from at2_mk (a := 48) (b := 24) _ ⟨g, hg⟩ ⟨o, ho⟩]
    exact finite_of_olt e

theorem algebraic : Cert.algebraic_KernelIdeal_ReferenceIdeal_pre_merge_weights_finite := by
  intro m ρ m' ρ' hpre hagree
  refine ⟨fun c => KernelIdeal.Launch.last m c KernelIdeal.main_v129,
    (θ_run Cert.KernelIdeal.defs _ _).mono (fun _ h c => ⟨h.1 c KernelIdeal.main_v129 (KernelIdeal.Launch.uc _ (by decide)), KernelIdeal.Launch.args m h.1 c⟩)
      (KernelIdeal.Launch.run_main (F := Ideal) m ρ), ?_⟩
  refine (θ_run Cert.ReferenceIdeal.defs _ _).mono (fun _ h c => ⟨(h c).1.trans ?_, (h c).2⟩) (ReferenceIdeal.Value.run (F := Ideal) m' ρ')
  obtain ⟨e0, e1, e2, e3, e4, e5, e6, e7, e8, e9, e10, e11, e12, e13, e14, e15, e16, e17, e18⟩ := hagree c
  refine (ReferenceIdeal.Value.val6_main_v327 (StableHlo.launchContents m' c)).symm.trans (Algebraic.equal ⟨?_, ?_, ?_, ?_, ?_, ?_, ?_, ?_, ?_, ?_, ?_, ?_, ?_, ?_, ?_, ?_, ?_, ?_, ?_⟩ (numbers hpre c)).symm
  · exact congrArg (at4 (a := 1) (b := 12) (c := 384) (d := 384)) e0
  · exact congrArg (at4 (a := 12) (b := 12) (c := 3) (d := 3)) e1
  · exact congrArg (at1 (a := 12)) e2
  · exact congrArg (at4 (a := 24) (b := 24) (c := 3) (d := 3)) e3
  · exact congrArg (at1 (a := 24)) e4
  · exact congrArg (at4 (a := 12) (b := 12) (c := 3) (d := 3)) e5
  · exact congrArg (at1 (a := 12)) e6
  · exact congrArg (at4 (a := 1) (b := 12) (c := 3) (d := 3)) e7
  · exact congrArg (at1 (a := 1)) e8
  · exact congrArg (at1 (a := 48)) e9
  · exact congrArg (at1 (a := 48)) e10
  · exact congrArg (at2 (a := 48) (b := 24)) e11
  · exact congrArg (at1 (a := 96)) e12
  · exact congrArg (at1 (a := 96)) e13
  · exact congrArg (at2 (a := 96) (b := 48)) e14
  · exact congrArg (at4 (a := 96) (b := 48) (c := 1) (d := 1)) e15
  · exact congrArg (at1 (a := 96)) e16
  · exact congrArg (at4 (a := 48) (b := 24) (c := 1) (d := 1)) e17
  · exact congrArg (at1 (a := 48)) e18

end Cert.Proof

end
-- ==== Proof.lean ====
/-
  The certificate: the frames, the named constants and the equality of the results put together.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Val.Algebraic

@[expose] public section

noncomputable section

namespace Cert.Proof

theorem claim : Cert.Claim :=
  ⟨Cert.Kernel.Gen.facts, Cert.KernelIdeal.Gen.facts, Cert.ReferenceIdeal.Gen.facts, preFacts,
    frame_kernel, frame_ideal, fun m ρ _ => frame_ideal m ρ trivial, frame_reference, fun m ρ _ => frame_reference m ρ trivial,
    preserves, algebraic⟩

end Cert.Proof

end
